-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_OutMm (m : (ℓ : Loc Cert.OutMm.nD Cert.OutMm.τ Cert.OutMm.sig) → Buf (Elt Bits) ℓ) : Prop :=
  True

def Pre_OutMmIdeal (m : (ℓ : Loc Cert.OutMmIdeal.nD Cert.OutMmIdeal.τ Cert.OutMmIdeal.sig) → Buf (Elt Ideal) ℓ) : Prop :=
  True

def Pre_OutMmReferenceIdeal (m : (ℓ : Loc Cert.OutMmReferenceIdeal.nD Cert.OutMmReferenceIdeal.τ Cert.OutMmReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxReferenceIdeal (m : (ℓ : Loc Cert.BranchDxReferenceIdeal.nD Cert.BranchDxReferenceIdeal.τ Cert.BranchDxReferenceIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwReferenceIdeal (m : (ℓ : Loc Cert.BranchDwReferenceIdeal.nD Cert.BranchDwReferenceIdeal.τ Cert.BranchDwReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2)
      ∧ r.2.mem ((c.tc : Thread Cert.UpDwReferenceIdeal.nD Cert.UpDwReferenceIdeal.τ).loc Cert.UpDwReferenceIdeal.main_arg3) = m ((c.tc : Thread Cert.UpDwReferenceIdeal.nD Cert.UpDwReferenceIdeal.τ).loc Cert.UpDwReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_OutMm [hOutMm : Cert.OutMm.Facts] : Prop :=
  ∀ (m : (ℓ : Loc Cert.OutMm.nD Cert.OutMm.τ Cert.OutMm.sig) → Buf (Elt Bits) ℓ) (g : Dev Cert.OutMm.nD → PrngReg), Pre_OutMm m →
    θ_run (Cert.OutMm.defs (F := Bits)) (onTc (τ := Cert.OutMm.τ) (Cert.OutMm.main (F := Bits))) ⟨m, fun _ => 0, g⟩ (fun r => (∀ c : Dev Cert.OutMm.nD,
      r.2.mem ((c.tc : Thread Cert.OutMm.nD Cert.OutMm.τ).loc Cert.OutMm.main_arg0) = m ((c.tc : Thread Cert.OutMm.nD Cert.OutMm.τ).loc Cert.OutMm.main_arg0)
      ∧ r.2.mem ((c.tc : Thread Cert.OutMm.nD Cert.OutMm.τ).loc Cert.OutMm.main_arg1) = m ((c.tc : Thread Cert.OutMm.nD Cert.OutMm.τ).loc Cert.OutMm.main_arg1))
      ∧ r.2.sem = fun _ => 0)

def quiescent_OutMmIdeal [hOutMmIdeal : Cert.OutMmIdeal.Facts] : Prop :=
  ∀ (m : (ℓ : Loc Cert.OutMmIdeal.nD Cert.OutMmIdeal.τ Cert.OutMmIdeal.sig) → Buf (Elt Ideal) ℓ) (g : Dev Cert.OutMmIdeal.nD → PrngReg), Pre_OutMmIdeal m →
    θ_run (Cert.OutMmIdeal.defs (F := Ideal)) (onTc (τ := Cert.OutMmIdeal.τ) (Cert.OutMmIdeal.main (F := Ideal))) ⟨m, fun _ => 0, g⟩ (fun r => (∀ c : Dev Cert.OutMmIdeal.nD,
      r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
      ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ r.2.sem = fun _ => 0)

def quiescent_OutMmReferenceIdeal [hOutMmReferenceIdeal : Cert.OutMmReferenceIdeal.Facts] : Prop :=
  ∀ (m : (ℓ : Loc Cert.OutMmReferenceIdeal.nD Cert.OutMmReferenceIdeal.τ Cert.OutMmReferenceIdeal.sig) → Buf (Elt Ideal) ℓ) (g : Dev Cert.OutMmReferenceIdeal.nD → PrngReg), Pre_OutMmReferenceIdeal m →
    θ_run (Cert.OutMmReferenceIdeal.defs (F := Ideal)) (onTc (τ := Cert.OutMmReferenceIdeal.τ) (Cert.OutMmReferenceIdeal.main (F := Ideal))) ⟨m, fun _ => 0, g⟩ (fun r => (∀ c : Dev Cert.OutMmReferenceIdeal.nD,
      r.2.mem ((c.tc : Thread Cert.OutMmReferenceIdeal.nD Cert.OutMmReferenceIdeal.τ).loc Cert.OutMmReferenceIdeal.main_arg0) = m ((c.tc : Thread Cert.OutMmReferenceIdeal.nD Cert.OutMmReferenceIdeal.τ).loc Cert.OutMmReferenceIdeal.main_arg0)
      ∧ r.2.mem ((c.tc : Thread Cert.OutMmReferenceIdeal.nD Cert.OutMmReferenceIdeal.τ).loc Cert.OutMmReferenceIdeal.main_arg1) = m ((c.tc : Thread Cert.OutMmReferenceIdeal.nD Cert.OutMmReferenceIdeal.τ).loc Cert.OutMmReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1)
      ∧ r.2.mem ((c.tc : Thread Cert.BranchDx.nD Cert.BranchDx.τ).loc Cert.BranchDx.main_arg2) = m ((c.tc : Thread Cert.BranchDx.nD Cert.BranchDx.τ).loc Cert.BranchDx.main_arg2))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
      ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ r.2.sem = fun _ => 0)

def quiescent_BranchDxReferenceIdeal [hBranchDxReferenceIdeal : Cert.BranchDxReferenceIdeal.Facts] : Prop :=
  ∀ (m : (ℓ : Loc Cert.BranchDxReferenceIdeal.nD Cert.BranchDxReferenceIdeal.τ Cert.BranchDxReferenceIdeal.sig) → Buf (Elt Ideal) ℓ) (g : Dev Cert.BranchDxReferenceIdeal.nD → PrngReg), Pre_BranchDxReferenceIdeal m →
    θ_run (Cert.BranchDxReferenceIdeal.defs (F := Ideal)) (onTc (τ := Cert.BranchDxReferenceIdeal.τ) (Cert.BranchDxReferenceIdeal.main (F := Ideal))) ⟨m, fun _ => 0, g⟩ (fun r => (∀ c : Dev Cert.BranchDxReferenceIdeal.nD,
      r.2.mem ((c.tc : Thread Cert.BranchDxReferenceIdeal.nD Cert.BranchDxReferenceIdeal.τ).loc Cert.BranchDxReferenceIdeal.main_arg0) = m ((c.tc : Thread Cert.BranchDxReferenceIdeal.nD Cert.BranchDxReferenceIdeal.τ).loc Cert.BranchDxReferenceIdeal.main_arg0)
      ∧ r.2.mem ((c.tc : Thread Cert.BranchDxReferenceIdeal.nD Cert.BranchDxReferenceIdeal.τ).loc Cert.BranchDxReferenceIdeal.main_arg1) = m ((c.tc : Thread Cert.BranchDxReferenceIdeal.nD Cert.BranchDxReferenceIdeal.τ).loc Cert.BranchDxReferenceIdeal.main_arg1)
      ∧ r.2.mem ((c.tc : Thread Cert.BranchDxReferenceIdeal.nD Cert.BranchDxReferenceIdeal.τ).loc Cert.BranchDxReferenceIdeal.main_arg2) = m ((c.tc : Thread Cert.BranchDxReferenceIdeal.nD Cert.BranchDxReferenceIdeal.τ).loc Cert.BranchDxReferenceIdeal.main_arg2))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1)
      ∧ r.2.mem ((c.tc : Thread Cert.BranchDw.nD Cert.BranchDw.τ).loc Cert.BranchDw.main_arg2) = m ((c.tc : Thread Cert.BranchDw.nD Cert.BranchDw.τ).loc Cert.BranchDw.main_arg2))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
      ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ r.2.sem = fun _ => 0)

def quiescent_BranchDwReferenceIdeal [hBranchDwReferenceIdeal : Cert.BranchDwReferenceIdeal.Facts] : Prop :=
  ∀ (m : (ℓ : Loc Cert.BranchDwReferenceIdeal.nD Cert.BranchDwReferenceIdeal.τ Cert.BranchDwReferenceIdeal.sig) → Buf (Elt Ideal) ℓ) (g : Dev Cert.BranchDwReferenceIdeal.nD → PrngReg), Pre_BranchDwReferenceIdeal m →
    θ_run (Cert.BranchDwReferenceIdeal.defs (F := Ideal)) (onTc (τ := Cert.BranchDwReferenceIdeal.τ) (Cert.BranchDwReferenceIdeal.main (F := Ideal))) ⟨m, fun _ => 0, g⟩ (fun r => (∀ c : Dev Cert.BranchDwReferenceIdeal.nD,
      r.2.mem ((c.tc : Thread Cert.BranchDwReferenceIdeal.nD Cert.BranchDwReferenceIdeal.τ).loc Cert.BranchDwReferenceIdeal.main_arg0) = m ((c.tc : Thread Cert.BranchDwReferenceIdeal.nD Cert.BranchDwReferenceIdeal.τ).loc Cert.BranchDwReferenceIdeal.main_arg0)
      ∧ r.2.mem ((c.tc : Thread Cert.BranchDwReferenceIdeal.nD Cert.BranchDwReferenceIdeal.τ).loc Cert.BranchDwReferenceIdeal.main_arg1) = m ((c.tc : Thread Cert.BranchDwReferenceIdeal.nD Cert.BranchDwReferenceIdeal.τ).loc Cert.BranchDwReferenceIdeal.main_arg1)
      ∧ r.2.mem ((c.tc : Thread Cert.BranchDwReferenceIdeal.nD Cert.BranchDwReferenceIdeal.τ).loc Cert.BranchDwReferenceIdeal.main_arg2) = m ((c.tc : Thread Cert.BranchDwReferenceIdeal.nD Cert.BranchDwReferenceIdeal.τ).loc Cert.BranchDwReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1)
      ∧ r.2.mem ((c.tc : Thread Cert.InDwReferenceIdeal.nD Cert.InDwReferenceIdeal.τ).loc Cert.InDwReferenceIdeal.main_arg2) = m ((c.tc : Thread Cert.InDwReferenceIdeal.nD Cert.InDwReferenceIdeal.τ).loc Cert.InDwReferenceIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31)
      ∧ r.2.mem ((c.tc : Thread Cert.Small.nD Cert.Small.τ).loc Cert.Small.main_arg32) = m ((c.tc : Thread Cert.Small.nD Cert.Small.τ).loc Cert.Small.main_arg32)
      ∧ r.2.mem ((c.tc : Thread Cert.Small.nD Cert.Small.τ).loc Cert.Small.main_arg33) = m ((c.tc : Thread Cert.Small.nD Cert.Small.τ).loc Cert.Small.main_arg33)
      ∧ r.2.mem ((c.tc : Thread Cert.Small.nD Cert.Small.τ).loc Cert.Small.main_arg34) = m ((c.tc : Thread Cert.Small.nD Cert.Small.τ).loc Cert.Small.main_arg34)
      ∧ r.2.mem ((c.tc : Thread Cert.Small.nD Cert.Small.τ).loc Cert.Small.main_arg35) = m ((c.tc : Thread Cert.Small.nD Cert.Small.τ).loc Cert.Small.main_arg35))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
      ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
      ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
      ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
      ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29)
      ∧ r.2.mem ((c.tc : Thread Cert.SmallReferenceIdeal.nD Cert.SmallReferenceIdeal.τ).loc Cert.SmallReferenceIdeal.main_arg30) = m ((c.tc : Thread Cert.SmallReferenceIdeal.nD Cert.SmallReferenceIdeal.τ).loc Cert.SmallReferenceIdeal.main_arg30)
      ∧ r.2.mem ((c.tc : Thread Cert.SmallReferenceIdeal.nD Cert.SmallReferenceIdeal.τ).loc Cert.SmallReferenceIdeal.main_arg31) = m ((c.tc : Thread Cert.SmallReferenceIdeal.nD Cert.SmallReferenceIdeal.τ).loc Cert.SmallReferenceIdeal.main_arg31)
      ∧ r.2.mem ((c.tc : Thread Cert.SmallReferenceIdeal.nD Cert.SmallReferenceIdeal.τ).loc Cert.SmallReferenceIdeal.main_arg32) = m ((c.tc : Thread Cert.SmallReferenceIdeal.nD Cert.SmallReferenceIdeal.τ).loc Cert.SmallReferenceIdeal.main_arg32)
      ∧ r.2.mem ((c.tc : Thread Cert.SmallReferenceIdeal.nD Cert.SmallReferenceIdeal.τ).loc Cert.SmallReferenceIdeal.main_arg33) = m ((c.tc : Thread Cert.SmallReferenceIdeal.nD Cert.SmallReferenceIdeal.τ).loc Cert.SmallReferenceIdeal.main_arg33)
      ∧ r.2.mem ((c.tc : Thread Cert.SmallReferenceIdeal.nD Cert.SmallReferenceIdeal.τ).loc Cert.SmallReferenceIdeal.main_arg34) = m ((c.tc : Thread Cert.SmallReferenceIdeal.nD Cert.SmallReferenceIdeal.τ).loc Cert.SmallReferenceIdeal.main_arg34)
      ∧ r.2.mem ((c.tc : Thread Cert.SmallReferenceIdeal.nD Cert.SmallReferenceIdeal.τ).loc Cert.SmallReferenceIdeal.main_arg35) = m ((c.tc : Thread Cert.SmallReferenceIdeal.nD Cert.SmallReferenceIdeal.τ).loc Cert.SmallReferenceIdeal.main_arg35))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)
      ∧ m' ((c.tc : Thread Cert.UpDxReferenceIdeal.nD Cert.UpDxReferenceIdeal.τ).loc Cert.UpDxReferenceIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v5)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v4) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)
      ∧ m' ((c.tc : Thread Cert.UpDwReferenceIdeal.nD Cert.UpDwReferenceIdeal.τ).loc Cert.UpDwReferenceIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v3)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v3) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v6) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2)
          ∧ r.2.mem ((c.tc : Thread Cert.UpDwReferenceIdeal.nD Cert.UpDwReferenceIdeal.τ).loc Cert.UpDwReferenceIdeal.main_arg3) = m' ((c.tc : Thread Cert.UpDwReferenceIdeal.nD Cert.UpDwReferenceIdeal.τ).loc Cert.UpDwReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v1) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_OutMm_OutMmIdeal : Prop :=
  True

def algebraic_OutMmIdeal_OutMmReferenceIdeal [hOutMmIdeal : Cert.OutMmIdeal.Facts] [hOutMmReferenceIdeal : Cert.OutMmReferenceIdeal.Facts] : Prop :=
  ∀ (m : (ℓ : Loc Cert.OutMmIdeal.nD Cert.OutMmIdeal.τ Cert.OutMmIdeal.sig) → Buf (Elt Ideal) ℓ) (g : Dev Cert.OutMmIdeal.nD → PrngReg)
    (m' : (ℓ : Loc Cert.OutMmReferenceIdeal.nD Cert.OutMmReferenceIdeal.τ Cert.OutMmReferenceIdeal.sig) → Buf (Elt Ideal) ℓ) (g' : Dev Cert.OutMmReferenceIdeal.nD → PrngReg), Pre_OutMmIdeal m →
    (∀ c : Dev Cert.OutMmIdeal.nD,
      m' ((c.tc : Thread Cert.OutMmReferenceIdeal.nD Cert.OutMmReferenceIdeal.τ).loc Cert.OutMmReferenceIdeal.main_arg0) = m ((c.tc : Thread Cert.OutMmIdeal.nD Cert.OutMmIdeal.τ).loc Cert.OutMmIdeal.main_arg0)
      ∧ m' ((c.tc : Thread Cert.OutMmReferenceIdeal.nD Cert.OutMmReferenceIdeal.τ).loc Cert.OutMmReferenceIdeal.main_arg1) = m ((c.tc : Thread Cert.OutMmIdeal.nD Cert.OutMmIdeal.τ).loc Cert.OutMmIdeal.main_arg1)) →
    ∃ (v0 : (c : Dev Cert.OutMmIdeal.nD) → Buf (Elt Ideal) ((c.tc : Thread Cert.OutMmIdeal.nD Cert.OutMmIdeal.τ).loc Cert.OutMmIdeal.main_v2)),
      θ_run (Cert.OutMmIdeal.defs (F := Ideal)) (onTc (τ := Cert.OutMmIdeal.τ) (Cert.OutMmIdeal.main (F := Ideal))) ⟨m, fun _ => 0, g⟩ (fun r => ∀ c : Dev Cert.OutMmIdeal.nD,
          r.2.mem ((c.tc : Thread Cert.OutMmIdeal.nD Cert.OutMmIdeal.τ).loc Cert.OutMmIdeal.main_v2) = v0 c
          ∧ r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
          ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ θ_run (Cert.OutMmReferenceIdeal.defs (F := Ideal)) (onTc (τ := Cert.OutMmReferenceIdeal.τ) (Cert.OutMmReferenceIdeal.main (F := Ideal))) ⟨m', fun _ => 0, g'⟩ (fun r => ∀ c : Dev Cert.OutMmReferenceIdeal.nD,
          r.2.mem ((c.tc : Thread Cert.OutMmReferenceIdeal.nD Cert.OutMmReferenceIdeal.τ).loc Cert.OutMmReferenceIdeal.main_v0) = v0 c
          ∧ r.2.mem ((c.tc : Thread Cert.OutMmReferenceIdeal.nD Cert.OutMmReferenceIdeal.τ).loc Cert.OutMmReferenceIdeal.main_arg0) = m' ((c.tc : Thread Cert.OutMmReferenceIdeal.nD Cert.OutMmReferenceIdeal.τ).loc Cert.OutMmReferenceIdeal.main_arg0)
          ∧ r.2.mem ((c.tc : Thread Cert.OutMmReferenceIdeal.nD Cert.OutMmReferenceIdeal.τ).loc Cert.OutMmReferenceIdeal.main_arg1) = m' ((c.tc : Thread Cert.OutMmReferenceIdeal.nD Cert.OutMmReferenceIdeal.τ).loc Cert.OutMmReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v1) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v4)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v4) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v0) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_BranchDx_BranchDxIdeal : Prop :=
  True

def algebraic_BranchDxIdeal_BranchDxReferenceIdeal [hBranchDxIdeal : Cert.BranchDxIdeal.Facts] [hBranchDxReferenceIdeal : Cert.BranchDxReferenceIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxReferenceIdeal.nD Cert.BranchDxReferenceIdeal.τ Cert.BranchDxReferenceIdeal.sig) → Buf (Elt Ideal) ℓ) (g' : Dev Cert.BranchDxReferenceIdeal.nD → PrngReg), Pre_BranchDxIdeal m →
    (∀ c : Dev Cert.BranchDxIdeal.nD,
      m' ((c.tc : Thread Cert.BranchDxReferenceIdeal.nD Cert.BranchDxReferenceIdeal.τ).loc Cert.BranchDxReferenceIdeal.main_arg0) = m ((c.tc : Thread Cert.BranchDxIdeal.nD Cert.BranchDxIdeal.τ).loc Cert.BranchDxIdeal.main_arg0)
      ∧ m' ((c.tc : Thread Cert.BranchDxReferenceIdeal.nD Cert.BranchDxReferenceIdeal.τ).loc Cert.BranchDxReferenceIdeal.main_arg1) = m ((c.tc : Thread Cert.BranchDxIdeal.nD Cert.BranchDxIdeal.τ).loc Cert.BranchDxIdeal.main_arg1)
      ∧ m' ((c.tc : Thread Cert.BranchDxReferenceIdeal.nD Cert.BranchDxReferenceIdeal.τ).loc Cert.BranchDxReferenceIdeal.main_arg2) = m ((c.tc : Thread Cert.BranchDxIdeal.nD Cert.BranchDxIdeal.τ).loc Cert.BranchDxIdeal.main_arg2)) →
    ∃ (v0 : (c : Dev Cert.BranchDxIdeal.nD) → Buf (Elt Ideal) ((c.tc : Thread Cert.BranchDxIdeal.nD Cert.BranchDxIdeal.τ).loc Cert.BranchDxIdeal.main_v4)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v4) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1)
          ∧ r.2.mem ((c.tc : Thread Cert.BranchDxIdeal.nD Cert.BranchDxIdeal.τ).loc Cert.BranchDxIdeal.main_arg2) = m ((c.tc : Thread Cert.BranchDxIdeal.nD Cert.BranchDxIdeal.τ).loc Cert.BranchDxIdeal.main_arg2))
      ∧ θ_run (Cert.BranchDxReferenceIdeal.defs (F := Ideal)) (onTc (τ := Cert.BranchDxReferenceIdeal.τ) (Cert.BranchDxReferenceIdeal.main (F := Ideal))) ⟨m', fun _ => 0, g'⟩ (fun r => ∀ c : Dev Cert.BranchDxReferenceIdeal.nD,
          r.2.mem ((c.tc : Thread Cert.BranchDxReferenceIdeal.nD Cert.BranchDxReferenceIdeal.τ).loc Cert.BranchDxReferenceIdeal.main_v1) = v0 c
          ∧ r.2.mem ((c.tc : Thread Cert.BranchDxReferenceIdeal.nD Cert.BranchDxReferenceIdeal.τ).loc Cert.BranchDxReferenceIdeal.main_arg0) = m' ((c.tc : Thread Cert.BranchDxReferenceIdeal.nD Cert.BranchDxReferenceIdeal.τ).loc Cert.BranchDxReferenceIdeal.main_arg0)
          ∧ r.2.mem ((c.tc : Thread Cert.BranchDxReferenceIdeal.nD Cert.BranchDxReferenceIdeal.τ).loc Cert.BranchDxReferenceIdeal.main_arg1) = m' ((c.tc : Thread Cert.BranchDxReferenceIdeal.nD Cert.BranchDxReferenceIdeal.τ).loc Cert.BranchDxReferenceIdeal.main_arg1)
          ∧ r.2.mem ((c.tc : Thread Cert.BranchDxReferenceIdeal.nD Cert.BranchDxReferenceIdeal.τ).loc Cert.BranchDxReferenceIdeal.main_arg2) = m' ((c.tc : Thread Cert.BranchDxReferenceIdeal.nD Cert.BranchDxReferenceIdeal.τ).loc Cert.BranchDxReferenceIdeal.main_arg2))

def preserves_BranchDw_BranchDwIdeal : Prop :=
  True

def algebraic_BranchDwIdeal_BranchDwReferenceIdeal [hBranchDwIdeal : Cert.BranchDwIdeal.Facts] [hBranchDwReferenceIdeal : Cert.BranchDwReferenceIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwReferenceIdeal.nD Cert.BranchDwReferenceIdeal.τ Cert.BranchDwReferenceIdeal.sig) → Buf (Elt Ideal) ℓ) (g' : Dev Cert.BranchDwReferenceIdeal.nD → PrngReg), Pre_BranchDwIdeal m →
    (∀ c : Dev Cert.BranchDwIdeal.nD,
      m' ((c.tc : Thread Cert.BranchDwReferenceIdeal.nD Cert.BranchDwReferenceIdeal.τ).loc Cert.BranchDwReferenceIdeal.main_arg0) = m ((c.tc : Thread Cert.BranchDwIdeal.nD Cert.BranchDwIdeal.τ).loc Cert.BranchDwIdeal.main_arg0)
      ∧ m' ((c.tc : Thread Cert.BranchDwReferenceIdeal.nD Cert.BranchDwReferenceIdeal.τ).loc Cert.BranchDwReferenceIdeal.main_arg1) = m ((c.tc : Thread Cert.BranchDwIdeal.nD Cert.BranchDwIdeal.τ).loc Cert.BranchDwIdeal.main_arg1)
      ∧ m' ((c.tc : Thread Cert.BranchDwReferenceIdeal.nD Cert.BranchDwReferenceIdeal.τ).loc Cert.BranchDwReferenceIdeal.main_arg2) = m ((c.tc : Thread Cert.BranchDwIdeal.nD Cert.BranchDwIdeal.τ).loc Cert.BranchDwIdeal.main_arg2)) →
    ∃ (v0 : (c : Dev Cert.BranchDwIdeal.nD) → Buf (Elt Ideal) ((c.tc : Thread Cert.BranchDwIdeal.nD Cert.BranchDwIdeal.τ).loc Cert.BranchDwIdeal.main_v2)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v2) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
          ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ θ_run (Cert.BranchDwReferenceIdeal.defs (F := Ideal)) (onTc (τ := Cert.BranchDwReferenceIdeal.τ) (Cert.BranchDwReferenceIdeal.main (F := Ideal))) ⟨m', fun _ => 0, g'⟩ (fun r => ∀ c : Dev Cert.BranchDwReferenceIdeal.nD,
          r.2.mem ((c.tc : Thread Cert.BranchDwReferenceIdeal.nD Cert.BranchDwReferenceIdeal.τ).loc Cert.BranchDwReferenceIdeal.main_v3) = v0 c
          ∧ r.2.mem ((c.tc : Thread Cert.BranchDwReferenceIdeal.nD Cert.BranchDwReferenceIdeal.τ).loc Cert.BranchDwReferenceIdeal.main_arg0) = m' ((c.tc : Thread Cert.BranchDwReferenceIdeal.nD Cert.BranchDwReferenceIdeal.τ).loc Cert.BranchDwReferenceIdeal.main_arg0)
          ∧ r.2.mem ((c.tc : Thread Cert.BranchDwReferenceIdeal.nD Cert.BranchDwReferenceIdeal.τ).loc Cert.BranchDwReferenceIdeal.main_arg1) = m' ((c.tc : Thread Cert.BranchDwReferenceIdeal.nD Cert.BranchDwReferenceIdeal.τ).loc Cert.BranchDwReferenceIdeal.main_arg1)
          ∧ r.2.mem ((c.tc : Thread Cert.BranchDwReferenceIdeal.nD Cert.BranchDwReferenceIdeal.τ).loc Cert.BranchDwReferenceIdeal.main_arg2) = m' ((c.tc : Thread Cert.BranchDwReferenceIdeal.nD Cert.BranchDwReferenceIdeal.τ).loc Cert.BranchDwReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v26)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v26) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v11) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v51)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v51) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v1) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)
      ∧ m' ((c.tc : Thread Cert.InDwReferenceIdeal.nD Cert.InDwReferenceIdeal.τ).loc Cert.InDwReferenceIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v27)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v27) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v15) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1)
          ∧ r.2.mem ((c.tc : Thread Cert.InDwReferenceIdeal.nD Cert.InDwReferenceIdeal.τ).loc Cert.InDwReferenceIdeal.main_arg2) = m' ((c.tc : Thread Cert.InDwReferenceIdeal.nD Cert.InDwReferenceIdeal.τ).loc Cert.InDwReferenceIdeal.main_arg2))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)
      ∧ m' ((c.tc : Thread Cert.AdaReferenceIdeal.nD Cert.AdaReferenceIdeal.τ).loc Cert.AdaReferenceIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v3_0)) (v1 : (c : Dev Cert.AdaIdeal.nD) → Buf (Elt Ideal) ((c.tc : Thread Cert.AdaIdeal.nD Cert.AdaIdeal.τ).loc Cert.AdaIdeal.main_v3_1)) (v2 : (c : Dev Cert.AdaIdeal.nD) → Buf (Elt Ideal) ((c.tc : Thread Cert.AdaIdeal.nD Cert.AdaIdeal.τ).loc Cert.AdaIdeal.main_v3_2)) (v3 : (c : Dev Cert.AdaIdeal.nD) → Buf (Elt Ideal) ((c.tc : Thread Cert.AdaIdeal.nD Cert.AdaIdeal.τ).loc Cert.AdaIdeal.main_v3_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3_0) = v0 c
          ∧ r.2.mem ((c.tc : Thread Cert.AdaIdeal.nD Cert.AdaIdeal.τ).loc Cert.AdaIdeal.main_v3_1) = v1 c
          ∧ r.2.mem ((c.tc : Thread Cert.AdaIdeal.nD Cert.AdaIdeal.τ).loc Cert.AdaIdeal.main_v3_2) = v2 c
          ∧ r.2.mem ((c.tc : Thread Cert.AdaIdeal.nD Cert.AdaIdeal.τ).loc Cert.AdaIdeal.main_v3_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_v31) = v1 c
          ∧ r.2.mem ((c.tc : Thread Cert.AdaReferenceIdeal.nD Cert.AdaReferenceIdeal.τ).loc Cert.AdaReferenceIdeal.main_v12) = v2 c
          ∧ r.2.mem ((c.tc : Thread Cert.AdaReferenceIdeal.nD Cert.AdaReferenceIdeal.τ).loc Cert.AdaReferenceIdeal.main_v18) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)
      ∧ m' ((c.tc : Thread Cert.SmallReferenceIdeal.nD Cert.SmallReferenceIdeal.τ).loc Cert.SmallReferenceIdeal.main_arg4) = m ((c.tc : Thread Cert.SmallIdeal.nD Cert.SmallIdeal.τ).loc Cert.SmallIdeal.main_arg4)
      ∧ m' ((c.tc : Thread Cert.SmallReferenceIdeal.nD Cert.SmallReferenceIdeal.τ).loc Cert.SmallReferenceIdeal.main_arg5) = m ((c.tc : Thread Cert.SmallIdeal.nD Cert.SmallIdeal.τ).loc Cert.SmallIdeal.main_arg5)
      ∧ m' ((c.tc : Thread Cert.SmallReferenceIdeal.nD Cert.SmallReferenceIdeal.τ).loc Cert.SmallReferenceIdeal.main_arg6) = m ((c.tc : Thread Cert.SmallIdeal.nD Cert.SmallIdeal.τ).loc Cert.SmallIdeal.main_arg6)
      ∧ m' ((c.tc : Thread Cert.SmallReferenceIdeal.nD Cert.SmallReferenceIdeal.τ).loc Cert.SmallReferenceIdeal.main_arg7) = m ((c.tc : Thread Cert.SmallIdeal.nD Cert.SmallIdeal.τ).loc Cert.SmallIdeal.main_arg7)
      ∧ m' ((c.tc : Thread Cert.SmallReferenceIdeal.nD Cert.SmallReferenceIdeal.τ).loc Cert.SmallReferenceIdeal.main_arg8) = m ((c.tc : Thread Cert.SmallIdeal.nD Cert.SmallIdeal.τ).loc Cert.SmallIdeal.main_arg8)
      ∧ m' ((c.tc : Thread Cert.SmallReferenceIdeal.nD Cert.SmallReferenceIdeal.τ).loc Cert.SmallReferenceIdeal.main_arg9) = m ((c.tc : Thread Cert.SmallIdeal.nD Cert.SmallIdeal.τ).loc Cert.SmallIdeal.main_arg9)
      ∧ m' ((c.tc : Thread Cert.SmallReferenceIdeal.nD Cert.SmallReferenceIdeal.τ).loc Cert.SmallReferenceIdeal.main_arg10) = m ((c.tc : Thread Cert.SmallIdeal.nD Cert.SmallIdeal.τ).loc Cert.SmallIdeal.main_arg10)
      ∧ m' ((c.tc : Thread Cert.SmallReferenceIdeal.nD Cert.SmallReferenceIdeal.τ).loc Cert.SmallReferenceIdeal.main_arg11) = m ((c.tc : Thread Cert.SmallIdeal.nD Cert.SmallIdeal.τ).loc Cert.SmallIdeal.main_arg11)
      ∧ m' ((c.tc : Thread Cert.SmallReferenceIdeal.nD Cert.SmallReferenceIdeal.τ).loc Cert.SmallReferenceIdeal.main_arg12) = m ((c.tc : Thread Cert.SmallIdeal.nD Cert.SmallIdeal.τ).loc Cert.SmallIdeal.main_arg12)
      ∧ m' ((c.tc : Thread Cert.SmallReferenceIdeal.nD Cert.SmallReferenceIdeal.τ).loc Cert.SmallReferenceIdeal.main_arg13) = m ((c.tc : Thread Cert.SmallIdeal.nD Cert.SmallIdeal.τ).loc Cert.SmallIdeal.main_arg13)
      ∧ m' ((c.tc : Thread Cert.SmallReferenceIdeal.nD Cert.SmallReferenceIdeal.τ).loc Cert.SmallReferenceIdeal.main_arg14) = m ((c.tc : Thread Cert.SmallIdeal.nD Cert.SmallIdeal.τ).loc Cert.SmallIdeal.main_arg14)
      ∧ m' ((c.tc : Thread Cert.SmallReferenceIdeal.nD Cert.SmallReferenceIdeal.τ).loc Cert.SmallReferenceIdeal.main_arg15) = m ((c.tc : Thread Cert.SmallIdeal.nD Cert.SmallIdeal.τ).loc Cert.SmallIdeal.main_arg15)
      ∧ m' ((c.tc : Thread Cert.SmallReferenceIdeal.nD Cert.SmallReferenceIdeal.τ).loc Cert.SmallReferenceIdeal.main_arg16) = m ((c.tc : Thread Cert.SmallIdeal.nD Cert.SmallIdeal.τ).loc Cert.SmallIdeal.main_arg16)
      ∧ m' ((c.tc : Thread Cert.SmallReferenceIdeal.nD Cert.SmallReferenceIdeal.τ).loc Cert.SmallReferenceIdeal.main_arg17) = m ((c.tc : Thread Cert.SmallIdeal.nD Cert.SmallIdeal.τ).loc Cert.SmallIdeal.main_arg17)
      ∧ m' ((c.tc : Thread Cert.SmallReferenceIdeal.nD Cert.SmallReferenceIdeal.τ).loc Cert.SmallReferenceIdeal.main_arg18) = m ((c.tc : Thread Cert.SmallIdeal.nD Cert.SmallIdeal.τ).loc Cert.SmallIdeal.main_arg18)
      ∧ m' ((c.tc : Thread Cert.SmallReferenceIdeal.nD Cert.SmallReferenceIdeal.τ).loc Cert.SmallReferenceIdeal.main_arg19) = m ((c.tc : Thread Cert.SmallIdeal.nD Cert.SmallIdeal.τ).loc Cert.SmallIdeal.main_arg19)
      ∧ m' ((c.tc : Thread Cert.SmallReferenceIdeal.nD Cert.SmallReferenceIdeal.τ).loc Cert.SmallReferenceIdeal.main_arg20) = m ((c.tc : Thread Cert.SmallIdeal.nD Cert.SmallIdeal.τ).loc Cert.SmallIdeal.main_arg20)
      ∧ m' ((c.tc : Thread Cert.SmallReferenceIdeal.nD Cert.SmallReferenceIdeal.τ).loc Cert.SmallReferenceIdeal.main_arg21) = m ((c.tc : Thread Cert.SmallIdeal.nD Cert.SmallIdeal.τ).loc Cert.SmallIdeal.main_arg21)
      ∧ m' ((c.tc : Thread Cert.SmallReferenceIdeal.nD Cert.SmallReferenceIdeal.τ).loc Cert.SmallReferenceIdeal.main_arg22) = m ((c.tc : Thread Cert.SmallIdeal.nD Cert.SmallIdeal.τ).loc Cert.SmallIdeal.main_arg22)
      ∧ m' ((c.tc : Thread Cert.SmallReferenceIdeal.nD Cert.SmallReferenceIdeal.τ).loc Cert.SmallReferenceIdeal.main_arg23) = m ((c.tc : Thread Cert.SmallIdeal.nD Cert.SmallIdeal.τ).loc Cert.SmallIdeal.main_arg23)
      ∧ m' ((c.tc : Thread Cert.SmallReferenceIdeal.nD Cert.SmallReferenceIdeal.τ).loc Cert.SmallReferenceIdeal.main_arg24) = m ((c.tc : Thread Cert.SmallIdeal.nD Cert.SmallIdeal.τ).loc Cert.SmallIdeal.main_arg24)
      ∧ m' ((c.tc : Thread Cert.SmallReferenceIdeal.nD Cert.SmallReferenceIdeal.τ).loc Cert.SmallReferenceIdeal.main_arg25) = m ((c.tc : Thread Cert.SmallIdeal.nD Cert.SmallIdeal.τ).loc Cert.SmallIdeal.main_arg25)
      ∧ m' ((c.tc : Thread Cert.SmallReferenceIdeal.nD Cert.SmallReferenceIdeal.τ).loc Cert.SmallReferenceIdeal.main_arg26) = m ((c.tc : Thread Cert.SmallIdeal.nD Cert.SmallIdeal.τ).loc Cert.SmallIdeal.main_arg26)
      ∧ m' ((c.tc : Thread Cert.SmallReferenceIdeal.nD Cert.SmallReferenceIdeal.τ).loc Cert.SmallReferenceIdeal.main_arg27) = m ((c.tc : Thread Cert.SmallIdeal.nD Cert.SmallIdeal.τ).loc Cert.SmallIdeal.main_arg27)
      ∧ m' ((c.tc : Thread Cert.SmallReferenceIdeal.nD Cert.SmallReferenceIdeal.τ).loc Cert.SmallReferenceIdeal.main_arg28) = m ((c.tc : Thread Cert.SmallIdeal.nD Cert.SmallIdeal.τ).loc Cert.SmallIdeal.main_arg28)
      ∧ m' ((c.tc : Thread Cert.SmallReferenceIdeal.nD Cert.SmallReferenceIdeal.τ).loc Cert.SmallReferenceIdeal.main_arg29) = m ((c.tc : Thread Cert.SmallIdeal.nD Cert.SmallIdeal.τ).loc Cert.SmallIdeal.main_arg29)
      ∧ m' ((c.tc : Thread Cert.SmallReferenceIdeal.nD Cert.SmallReferenceIdeal.τ).loc Cert.SmallReferenceIdeal.main_arg30) = m ((c.tc : Thread Cert.SmallIdeal.nD Cert.SmallIdeal.τ).loc Cert.SmallIdeal.main_arg30)
      ∧ m' ((c.tc : Thread Cert.SmallReferenceIdeal.nD Cert.SmallReferenceIdeal.τ).loc Cert.SmallReferenceIdeal.main_arg31) = m ((c.tc : Thread Cert.SmallIdeal.nD Cert.SmallIdeal.τ).loc Cert.SmallIdeal.main_arg31)
      ∧ m' ((c.tc : Thread Cert.SmallReferenceIdeal.nD Cert.SmallReferenceIdeal.τ).loc Cert.SmallReferenceIdeal.main_arg32) = m ((c.tc : Thread Cert.SmallIdeal.nD Cert.SmallIdeal.τ).loc Cert.SmallIdeal.main_arg32)
      ∧ m' ((c.tc : Thread Cert.SmallReferenceIdeal.nD Cert.SmallReferenceIdeal.τ).loc Cert.SmallReferenceIdeal.main_arg33) = m ((c.tc : Thread Cert.SmallIdeal.nD Cert.SmallIdeal.τ).loc Cert.SmallIdeal.main_arg33)
      ∧ m' ((c.tc : Thread Cert.SmallReferenceIdeal.nD Cert.SmallReferenceIdeal.τ).loc Cert.SmallReferenceIdeal.main_arg34) = m ((c.tc : Thread Cert.SmallIdeal.nD Cert.SmallIdeal.τ).loc Cert.SmallIdeal.main_arg34)
      ∧ m' ((c.tc : Thread Cert.SmallReferenceIdeal.nD Cert.SmallReferenceIdeal.τ).loc Cert.SmallReferenceIdeal.main_arg35) = m ((c.tc : Thread Cert.SmallIdeal.nD Cert.SmallIdeal.τ).loc Cert.SmallIdeal.main_arg35)) →
    ∃ (v0 : (c : Dev Cert.SmallIdeal.nD) → Buf (Elt Ideal) ((c.tc : Thread Cert.SmallIdeal.nD Cert.SmallIdeal.τ).loc Cert.SmallIdeal.main_v25_0)) (v1 : (c : Dev Cert.SmallIdeal.nD) → Buf (Elt Ideal) ((c.tc : Thread Cert.SmallIdeal.nD Cert.SmallIdeal.τ).loc Cert.SmallIdeal.main_v25_1)) (v2 : (c : Dev Cert.SmallIdeal.nD) → Buf (Elt Ideal) ((c.tc : Thread Cert.SmallIdeal.nD Cert.SmallIdeal.τ).loc Cert.SmallIdeal.main_v25_2)) (v3 : (c : Dev Cert.SmallIdeal.nD) → Buf (Elt Ideal) ((c.tc : Thread Cert.SmallIdeal.nD Cert.SmallIdeal.τ).loc Cert.SmallIdeal.main_v25_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v25_0) = v0 c
          ∧ r.2.mem ((c.tc : Thread Cert.SmallIdeal.nD Cert.SmallIdeal.τ).loc Cert.SmallIdeal.main_v25_1) = v1 c
          ∧ r.2.mem ((c.tc : Thread Cert.SmallIdeal.nD Cert.SmallIdeal.τ).loc Cert.SmallIdeal.main_v25_2) = v2 c
          ∧ r.2.mem ((c.tc : Thread Cert.SmallIdeal.nD Cert.SmallIdeal.τ).loc Cert.SmallIdeal.main_v25_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31)
          ∧ r.2.mem ((c.tc : Thread Cert.SmallIdeal.nD Cert.SmallIdeal.τ).loc Cert.SmallIdeal.main_arg32) = m ((c.tc : Thread Cert.SmallIdeal.nD Cert.SmallIdeal.τ).loc Cert.SmallIdeal.main_arg32)
          ∧ r.2.mem ((c.tc : Thread Cert.SmallIdeal.nD Cert.SmallIdeal.τ).loc Cert.SmallIdeal.main_arg33) = m ((c.tc : Thread Cert.SmallIdeal.nD Cert.SmallIdeal.τ).loc Cert.SmallIdeal.main_arg33)
          ∧ r.2.mem ((c.tc : Thread Cert.SmallIdeal.nD Cert.SmallIdeal.τ).loc Cert.SmallIdeal.main_arg34) = m ((c.tc : Thread Cert.SmallIdeal.nD Cert.SmallIdeal.τ).loc Cert.SmallIdeal.main_arg34)
          ∧ r.2.mem ((c.tc : Thread Cert.SmallIdeal.nD Cert.SmallIdeal.τ).loc Cert.SmallIdeal.main_arg35) = m ((c.tc : Thread Cert.SmallIdeal.nD Cert.SmallIdeal.τ).loc Cert.SmallIdeal.main_arg35))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v20) = v0 c
          ∧ r.2.mem ((c.tc : Thread Cert.SmallReferenceIdeal.nD Cert.SmallReferenceIdeal.τ).loc Cert.SmallReferenceIdeal.main_v56) = v1 c
          ∧ r.2.mem ((c.tc : Thread Cert.SmallReferenceIdeal.nD Cert.SmallReferenceIdeal.τ).loc Cert.SmallReferenceIdeal.main_v37) = v2 c
          ∧ r.2.mem ((c.tc : Thread Cert.SmallReferenceIdeal.nD Cert.SmallReferenceIdeal.τ).loc Cert.SmallReferenceIdeal.main_v43) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29)
          ∧ r.2.mem ((c.tc : Thread Cert.SmallReferenceIdeal.nD Cert.SmallReferenceIdeal.τ).loc Cert.SmallReferenceIdeal.main_arg30) = m' ((c.tc : Thread Cert.SmallReferenceIdeal.nD Cert.SmallReferenceIdeal.τ).loc Cert.SmallReferenceIdeal.main_arg30)
          ∧ r.2.mem ((c.tc : Thread Cert.SmallReferenceIdeal.nD Cert.SmallReferenceIdeal.τ).loc Cert.SmallReferenceIdeal.main_arg31) = m' ((c.tc : Thread Cert.SmallReferenceIdeal.nD Cert.SmallReferenceIdeal.τ).loc Cert.SmallReferenceIdeal.main_arg31)
          ∧ r.2.mem ((c.tc : Thread Cert.SmallReferenceIdeal.nD Cert.SmallReferenceIdeal.τ).loc Cert.SmallReferenceIdeal.main_arg32) = m' ((c.tc : Thread Cert.SmallReferenceIdeal.nD Cert.SmallReferenceIdeal.τ).loc Cert.SmallReferenceIdeal.main_arg32)
          ∧ r.2.mem ((c.tc : Thread Cert.SmallReferenceIdeal.nD Cert.SmallReferenceIdeal.τ).loc Cert.SmallReferenceIdeal.main_arg33) = m' ((c.tc : Thread Cert.SmallReferenceIdeal.nD Cert.SmallReferenceIdeal.τ).loc Cert.SmallReferenceIdeal.main_arg33)
          ∧ r.2.mem ((c.tc : Thread Cert.SmallReferenceIdeal.nD Cert.SmallReferenceIdeal.τ).loc Cert.SmallReferenceIdeal.main_arg34) = m' ((c.tc : Thread Cert.SmallReferenceIdeal.nD Cert.SmallReferenceIdeal.τ).loc Cert.SmallReferenceIdeal.main_arg34)
          ∧ r.2.mem ((c.tc : Thread Cert.SmallReferenceIdeal.nD Cert.SmallReferenceIdeal.τ).loc Cert.SmallReferenceIdeal.main_arg35) = m' ((c.tc : Thread Cert.SmallReferenceIdeal.nD Cert.SmallReferenceIdeal.τ).loc Cert.SmallReferenceIdeal.main_arg35))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hUpDx : Cert.UpDx.Facts) (hUpDxIdeal : Cert.UpDxIdeal.Facts) (hUpDxReferenceIdeal : Cert.UpDxReferenceIdeal.Facts) (hUpDw : Cert.UpDw.Facts) (hUpDwIdeal : Cert.UpDwIdeal.Facts) (hUpDwReferenceIdeal : Cert.UpDwReferenceIdeal.Facts) (hDown : Cert.Down.Facts) (hDownIdeal : Cert.DownIdeal.Facts) (hDownReferenceIdeal : Cert.DownReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hOutMm : Cert.OutMm.Facts) (hOutMmIdeal : Cert.OutMmIdeal.Facts) (hOutMmReferenceIdeal : Cert.OutMmReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hBranch : Cert.Branch.Facts) (hBranchIdeal : Cert.BranchIdeal.Facts) (hBranchReferenceIdeal : Cert.BranchReferenceIdeal.Facts) (hBranchDx : Cert.BranchDx.Facts) (hBranchDxIdeal : Cert.BranchDxIdeal.Facts) (hBranchDxReferenceIdeal : Cert.BranchDxReferenceIdeal.Facts) (hBranchDw : Cert.BranchDw.Facts) (hBranchDwIdeal : Cert.BranchDwIdeal.Facts) (hBranchDwReferenceIdeal : Cert.BranchDwReferenceIdeal.Facts) (hIn : Cert.In.Facts) (hInIdeal : Cert.InIdeal.Facts) (hInReferenceIdeal : Cert.InReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hAda : Cert.Ada.Facts) (hAdaIdeal : Cert.AdaIdeal.Facts) (hAdaReferenceIdeal : Cert.AdaReferenceIdeal.Facts) (hSmall : Cert.Small.Facts) (hSmallIdeal : Cert.SmallIdeal.Facts) (hSmallReferenceIdeal : Cert.SmallReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_Down (hDown := hDown)
    ∧ quiescent_DownIdeal (hDownIdeal := hDownIdeal)
    ∧ quiescent_DownReferenceIdeal (hDownReferenceIdeal := hDownReferenceIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_OutMm (hOutMm := hOutMm)
    ∧ quiescent_OutMmIdeal (hOutMmIdeal := hOutMmIdeal)
    ∧ quiescent_OutMmReferenceIdeal (hOutMmReferenceIdeal := hOutMmReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_BranchDx (hBranchDx := hBranchDx)
    ∧ quiescent_BranchDxIdeal (hBranchDxIdeal := hBranchDxIdeal)
    ∧ quiescent_BranchDxReferenceIdeal (hBranchDxReferenceIdeal := hBranchDxReferenceIdeal)
    ∧ quiescent_BranchDw (hBranchDw := hBranchDw)
    ∧ quiescent_BranchDwIdeal (hBranchDwIdeal := hBranchDwIdeal)
    ∧ quiescent_BranchDwReferenceIdeal (hBranchDwReferenceIdeal := hBranchDwReferenceIdeal)
    ∧ quiescent_In (hIn := hIn)
    ∧ quiescent_InIdeal (hInIdeal := hInIdeal)
    ∧ quiescent_InReferenceIdeal (hInReferenceIdeal := hInReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_UpDx_UpDxIdeal
    ∧ algebraic_UpDxIdeal_UpDxReferenceIdeal (hUpDxIdeal := hUpDxIdeal) (hUpDxReferenceIdeal := hUpDxReferenceIdeal)
    ∧ preserves_UpDw_UpDwIdeal
    ∧ algebraic_UpDwIdeal_UpDwReferenceIdeal (hUpDwIdeal := hUpDwIdeal) (hUpDwReferenceIdeal := hUpDwReferenceIdeal)
    ∧ preserves_Down_DownIdeal
    ∧ algebraic_DownIdeal_DownReferenceIdeal (hDownIdeal := hDownIdeal) (hDownReferenceIdeal := hDownReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_OutMm_OutMmIdeal
    ∧ algebraic_OutMmIdeal_OutMmReferenceIdeal (hOutMmIdeal := hOutMmIdeal) (hOutMmReferenceIdeal := hOutMmReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Branch_BranchIdeal
    ∧ algebraic_BranchIdeal_BranchReferenceIdeal (hBranchIdeal := hBranchIdeal) (hBranchReferenceIdeal := hBranchReferenceIdeal)
    ∧ preserves_BranchDx_BranchDxIdeal
    ∧ algebraic_BranchDxIdeal_BranchDxReferenceIdeal (hBranchDxIdeal := hBranchDxIdeal) (hBranchDxReferenceIdeal := hBranchDxReferenceIdeal)
    ∧ preserves_BranchDw_BranchDwIdeal
    ∧ algebraic_BranchDwIdeal_BranchDwReferenceIdeal (hBranchDwIdeal := hBranchDwIdeal) (hBranchDwReferenceIdeal := hBranchDwReferenceIdeal)
    ∧ preserves_In_InIdeal
    ∧ algebraic_InIdeal_InReferenceIdeal (hInIdeal := hInIdeal) (hInReferenceIdeal := hInReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_Ada_AdaIdeal
    ∧ algebraic_AdaIdeal_AdaReferenceIdeal (hAdaIdeal := hAdaIdeal) (hAdaReferenceIdeal := hAdaReferenceIdeal)
    ∧ preserves_Small_SmallIdeal
    ∧ algebraic_SmallIdeal_SmallReferenceIdeal (hSmallIdeal := hSmallIdeal) (hSmallReferenceIdeal := hSmallReferenceIdeal)
-- ==== Pre_finite.lean ====
abbrev S2048x1024 : Shape := ⟨2, ![2048, 1024]⟩
abbrev S2048x8 : Shape := ⟨2, ![2048, 8]⟩
abbrev S8x32x128x128 : Shape := ⟨4, ![8, 32, 128, 128]⟩
abbrev S8x32x64x64 : Shape := ⟨4, ![8, 32, 64, 64]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S8x32x128x128 : S_.BroadcastsInDim S8x32x128x128 (![] : Fin 0 → Fin S8x32x128x128.rank)
  reducesTo_S8x32x128x128_S_d0_1_2_3 : S8x32x128x128.ReducesTo [0, 1, 2, 3] S_
  bcast_S_S8x32x64x64 : S_.BroadcastsInDim S8x32x64x64 (![] : Fin 0 → Fin S8x32x64x64.rank)
  reducesTo_S8x32x64x64_S_d0_1_2_3 : S8x32x64x64.ReducesTo [0, 1, 2, 3] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S2048x8 .f32) (main_arg5 : FVec F S8x32x128x128 .f32) (main_arg6 : FVec F S8x32x64x64 .f32) (main_arg7 : FVec F S2048x1024 .f32) (main_v3 : IVec S_ 1) (main_v7 : IVec S_ 1) (main_v11 : IVec S_ 1) (main_v15 : IVec S_ 1) : IVec S_ 1 :=
  let main_v16 : FVec F S2048x8 .f32 := Host.absf main_arg4
  let main_cst_6 : FVec F S_ .f32 := constant S_ .f32 0x7F800000#32
  let main_v17 : FVec F S2048x8 .f32 := broadcastInDim S2048x8 ![] bcast_S_S2048x8 main_cst_6
  let main_v18 : IVec S2048x8 1 := cmpf .olt main_v16 main_v17
  let main_c_7 : IVec S_ 1 := constantI S_ 1 1#1
  let main_v19 : IVec S_ 1 := (fun x v => Host.reduce IntOp.andi x v reducesTo_S2048x8_S_d0_1 h_S_) main_v18 main_c_7
  let main_v20 : FVec F S8x32x128x128 .f32 := Host.absf main_arg5
  let main_cst_8 : FVec F S_ .f32 := constant S_ .f32 0x7F800000#32
  let main_v21 : FVec F S8x32x128x128 .f32 := broadcastInDim S8x32x128x128 ![] bcast_S_S8x32x128x128 main_cst_8
  let main_v22 : IVec S8x32x128x128 1 := cmpf .olt main_v20 main_v21
  let main_c_9 : IVec S_ 1 := constantI S_ 1 1#1
  let main_v23 : IVec S_ 1 := (fun x v => Host.reduce IntOp.andi x v reducesTo_S8x32x128x128_S_d0_1_2_3 h_S_) main_v22 main_c_9
  let main_v24 : FVec F S8x32x64x64 .f32 := Host.absf main_arg6
  let main_cst_10 : FVec F S_ .f32 := constant S_ .f32 0x7F800000#32
  let main_v25 : FVec F S8x32x64x64 .f32 := broadcastInDim S8x32x64x64 ![] bcast_S_S8x32x64x64 main_cst_10
  let main_v26 : IVec S8x32x64x64 1 := cmpf .olt main_v24 main_v25
  let main_c_11 : IVec S_ 1 := constantI S_ 1 1#1
  let main_v27 : IVec S_ 1 := (fun x v => Host.reduce IntOp.andi x v reducesTo_S8x32x64x64_S_d0_1_2_3 h_S_) main_v26 main_c_11
  let main_v28 : FVec F S2048x1024 .f32 := Host.absf main_arg7
  let main_cst_12 : FVec F S_ .f32 := constant S_ .f32 0x7F800000#32
  let main_v29 : FVec F S2048x1024 .f32 := broadcastInDim S2048x1024 ![] bcast_S_S2048x1024 main_cst_12
  let main_v30 : IVec S2048x1024 1 := cmpf .olt main_v28 main_v29
  let main_c_13 : IVec S_ 1 := constantI S_ 1 1#1
  let main_v31 : IVec S_ 1 := (fun x v => Host.reduce IntOp.andi x v reducesTo_S2048x1024_S_d0_1 h_S_) main_v30 main_c_13
  fn_part2 (F := F) main_v3 main_v7 main_v11 main_v15 main_v19 main_v23 main_v27 main_v31

def fn {F : FTy → Type} [FloatOps F] (main_arg0 : FVec F S2048x1024 .f32) (main_arg1 : FVec F S2048x1024 .f32) (main_arg2 : FVec F S2048x1024 .f32) (main_arg3 : FVec F S2048x8 .f32) (main_arg4 : FVec F S2048x8 .f32) (main_arg5 : FVec F S8x32x128x128 .f32) (main_arg6 : FVec F S8x32x64x64 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S2048x8 .f32 := Host.absf main_arg3
  let main_cst_4 : FVec F S_ .f32 := constant S_ .f32 0x7F800000#32
  let main_v13 : FVec F S2048x8 .f32 := broadcastInDim S2048x8 ![] bcast_S_S2048x8 main_cst_4
  let main_v14 : IVec S2048x8 1 := cmpf .olt main_v12 main_v13
  let main_c_5 : IVec S_ 1 := constantI S_ 1 1#1
  let main_v15 : IVec S_ 1 := (fun x v => Host.reduce IntOp.andi x v reducesTo_S2048x8_S_d0_1 h_S_) main_v14 main_c_5
  fn_part1 (F := F) main_arg4 main_arg5 main_arg6 main_arg7 main_v3 main_v7 main_v11 main_v15
-- ==== Kernel.lean ====
abbrev S2048x1024 : Shape := ⟨2, ![2048, 1024]⟩
abbrev S2048x8 : Shape := ⟨2, ![2048, 8]⟩
abbrev S8x32x128x128 : Shape := ⟨4, ![8, 32, 128, 128]⟩
abbrev S8x32x64x64 : Shape := ⟨4, ![8, 32, 64, 64]⟩
abbrev S2048x3072 : Shape := ⟨2, ![2048, 3072]⟩
abbrev S8x2048 : Shape := ⟨2, ![8, 2048]⟩
abbrev S8x2048x1 : Shape := ⟨3, ![8, 2048, 1]⟩
abbrev S8x2048x128 : Shape := ⟨3, ![8, 2048, 128]⟩
abbrev S8x32x64 : Shape := ⟨3, ![8, 32, 64]⟩
abbrev S2048x256 : Shape := ⟨2, ![2048, 256]⟩
abbrev S2x2048x128 : Shape := ⟨3, ![2, 2048, 128]⟩
abbrev S2x32x64 : Shape := ⟨3, ![2, 32, 64]⟩
abbrev S2x32x128x128 : Shape := ⟨4, ![2, 32, 128, 128]⟩
abbrev S2x32x64x64 : Shape := ⟨4, ![2, 32, 64, 64]⟩
abbrev S64x64 : Shape := ⟨2, ![64, 64]⟩
abbrev S64x1 : Shape := ⟨2, ![64, 1]⟩
abbrev S8x128 : Shape := ⟨2, ![8, 128]⟩
abbrev S128x128 : Shape := ⟨2, ![128, 128]⟩
abbrev S64x128 : Shape := ⟨2, ![64, 128]⟩
abbrev S1x64x128 : Shape := ⟨3, ![1, 64, 128]⟩
abbrev S1x1x64x64 : Shape := ⟨4, ![1, 1, 64, 64]⟩
abbrev S1x1x128x128 : Shape := ⟨4, ![1, 1, 128, 128]⟩
abbrev S1x1x64 : Shape := ⟨3, ![1, 1, 64]⟩
abbrev S1x64 : Shape := ⟨2, ![1, 64]⟩
abbrev S1x128 : Shape := ⟨2, ![1, 128]⟩
abbrev S64 : Shape := ⟨1, ![64]⟩
abbrev S1 : Shape := ⟨1, ![1]⟩
abbrev S1x1 : Shape := ⟨2, ![1, 1]⟩
abbrev S128 : Shape := ⟨1, ![128]⟩
abbrev S128x1 : Shape := ⟨2, ![128, 1]⟩
abbrev S8x64 : Shape := ⟨2, ![8, 64]⟩

abbrev nBuf : Space → Nat
  | .hbm => 21
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8, .f32⟩
  | .hbm, ⟨4, _⟩ => ⟨S2048x8, .f32⟩
  | .hbm, ⟨5, _⟩ => ⟨S8x32x128x128, .f32⟩
  | .hbm, ⟨6, _⟩ => ⟨S8x32x64x64, .f32⟩
  | .hbm, ⟨7, _⟩ => ⟨S2048x1024, .f32⟩
  | .hbm, ⟨8, _⟩ => ⟨S2048x3072, .f32⟩
  | .hbm, ⟨9, _⟩ => ⟨S8x2048, .f32⟩
  | .hbm, ⟨10, _⟩ => ⟨S8x2048, .f32⟩
  | .hbm, ⟨11, _⟩ => ⟨S8x2048x1, .f32⟩
  | .hbm, ⟨12, _⟩ => ⟨S8x2048x128, .f32⟩
  | .hbm, ⟨13, _⟩ => ⟨S8x2048x1, .f32⟩
  | .hbm, ⟨14, _⟩ => ⟨S8x2048x128, .f32⟩
  | .hbm, ⟨15, _⟩ => ⟨S8x32x64, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S8x32x64, .f32⟩
  | .hbm, ⟨20, _⟩ => ⟨S8x32x64, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2x2048x128, .f32⟩
  | .local _ .vmem, ⟨7, _⟩ => ⟨S2x2048x128, .f32⟩
  | .local _ .vmem, ⟨8, _⟩ => ⟨S2x32x64, .f32⟩
  | .local _ .vmem, ⟨9, _⟩ => ⟨S2x32x64, .f32⟩
  | .local _ .vmem, ⟨10, _⟩ => ⟨S2x2048x128, .f32⟩
  | .local _ .vmem, ⟨11, _⟩ => ⟨S2x2048x128, .f32⟩
  | .local _ .vmem, ⟨12, _⟩ => ⟨S2x32x128x128, .f32⟩
  | .local _ .vmem, ⟨13, _⟩ => ⟨S2x32x128x128, .f32⟩
  | .local _ .vmem, ⟨14, _⟩ => ⟨S2x32x64x64, .f32⟩
  | .local _ .vmem, ⟨15, _⟩ => ⟨S2x32x64x64, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2x32x64, .f32⟩
  | .local _ .vmem, ⟨25, _⟩ => ⟨S2x32x64, .f32⟩
  | .local _ .vmem, ⟨26, _⟩ => ⟨S2x32x64, .f32⟩
  | .local _ .vmem, ⟨27, _⟩ => ⟨S2x32x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c31_i32 : BitVec 32 := 31#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let c64_i32 : BitVec 32 := 64#32
  let v18 : BitVec 32 := Scalar.muli v15 c64_i32
  v18
def k0_mult2 (k0_t1 : Fin k0_t1_loop.trips) : BitVec 32 :=
  let c30_i32 : BitVec 32 := 30#32
  let c2_i32_3 : BitVec 32 := 2#32
  let c0_i32 : BitVec 32 := 0#32
  let c1_i32 : BitVec 32 := 1#32
  let arg15 : BitVec 32 := Scf.iv c0_i32 c1_i32 k0_t1
  let v16 : BitVec 32 := Scalar.muli c2_i32_3 arg15
  let v17 : BitVec 32 := Scalar.subi c30_i32 v16
  let c64_i32_4 : BitVec 32 := 64#32
  let v20 : BitVec 32 := Scalar.muli v17 c64_i32_4
  v20
def k0_off1 (k0_t1 : Fin k0_t1_loop.trips) (c31_i32 : BitVec 32) : Fin 2 → Nat :=
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let c64_i32 : BitVec 32 := 64#32
  let v18 : BitVec 32 := Scalar.muli v15 c64_i32
  let v19 : BitVec 32 := v18
  let v22 : Index := Scalar.indexCast v19
  let c0 : Index := 0#32
  ![v22.toNat, 0]
def k0_off2 (k0_t1 : Fin k0_t1_loop.trips) (c31_i32 : BitVec 32) : Fin 2 → Nat :=
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let c64_i32 : BitVec 32 := 64#32
  let v18 : BitVec 32 := Scalar.muli v15 c64_i32
  let v19 : BitVec 32 := v18
  let v25 : Index := Scalar.indexCast v19
  let c128 : Index := 128#32
  ![v25.toNat, 128]
def k0_off3 (k0_t1 : Fin k0_t1_loop.trips) (c31_i32 : BitVec 32) : Fin 3 → Nat :=
  let c0_19 : Index := 0#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let c64_i32 : BitVec 32 := 64#32
  let v18 : BitVec 32 := Scalar.muli v15 c64_i32
  let v19 : BitVec 32 := v18
  let v66 : Index := Scalar.indexCast v19
  let c0_20 : Index := 0#32
  ![0, v66.toNat, 0]
def k0_off4 (k0_t1 : Fin k0_t1_loop.trips) (c31_i32 : BitVec 32) : Fin 3 → Nat :=
  let c1 : Index := 1#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let c64_i32 : BitVec 32 := 64#32
  let v18 : BitVec 32 := Scalar.muli v15 c64_i32
  let v19 : BitVec 32 := v18
  let v69 : Index := Scalar.indexCast v19
  let c0_21 : Index := 0#32
  ![1, v69.toNat, 0]
def k0_off5 (k0_t1 : Fin k0_t1_loop.trips) (c31_i32 : BitVec 32) : Fin 4 → Nat :=
  let c0_34 : Index := 0#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v90 : Index := Scalar.indexCast v15
  let c0_35 : Index := 0#32
  let c0_36 : Index := 0#32
  ![0, v90.toNat, 0, 0]
def k0_off6 (k0_t1 : Fin k0_t1_loop.trips) (c31_i32 : BitVec 32) : Fin 4 → Nat :=
  let c1_37 : Index := 1#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v93 : Index := Scalar.indexCast v15
  let c0_38 : Index := 0#32
  let c0_39 : Index := 0#32
  ![1, v93.toNat, 0, 0]
def k0_off7 (k0_t1 : Fin k0_t1_loop.trips) (c31_i32 : BitVec 32) : Fin 4 → Nat :=
  let c0_46 : Index := 0#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v102 : Index := Scalar.indexCast v15
  let c0_47 : Index := 0#32
  let c0_48 : Index := 0#32
  ![0, v102.toNat, 0, 0]
def k0_off8 (k0_t1 : Fin k0_t1_loop.trips) (c31_i32 : BitVec 32) : Fin 4 → Nat :=
  let c1_49 : Index := 1#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v105 : Index := Scalar.indexCast v15
  let c0_50 : Index := 0#32
  let c0_51 : Index := 0#32
  ![1, v105.toNat, 0, 0]
def k0_off9 (k0_t1 : Fin k0_t1_loop.trips) (c31_i32 : BitVec 32) : Fin 3 → Nat :=
  let c0_58 : Index := 0#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v115 : Index := Scalar.indexCast v15
  let c0_59 : Index := 0#32
  ![0, v115.toNat, 0]
def k0_off10 (k0_t1 : Fin k0_t1_loop.trips) (c31_i32 : BitVec 32) : Fin 3 → Nat :=
  let c1_60 : Index := 1#32
  let c2_i32 : BitVec 32 := 2#32
  let c0_i32 : BitVec 32 := 0#32
  let c1_i32 : BitVec 32 := 1#32
  let arg15 : BitVec 32 := Scf.iv c0_i32 c1_i32 k0_t1
  let v14 : BitVec 32 := Scalar.muli c2_i32 arg15
  let v15 : BitVec 32 := Scalar.subi c31_i32 v14
  let v121 : Index := Scalar.indexCast v15
  let c0_61 : Index := 0#32
  ![1, v121.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x32x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x32x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x1024 : Shape := ⟨2, ![2048, 1024]⟩
abbrev S2048x8 : Shape := ⟨2, ![2048, 8]⟩
abbrev S8x32x128x128 : Shape := ⟨4, ![8, 32, 128, 128]⟩
abbrev S8x32x64x64 : Shape := ⟨4, ![8, 32, 64, 64]⟩
abbrev S32x64x8x128 : Shape := ⟨4, ![32, 64, 8, 128]⟩
abbrev S32x8x64x128 : Shape := ⟨4, ![32, 8, 64, 128]⟩
abbrev S32x64x8 : Shape := ⟨3, ![32, 64, 8]⟩
abbrev S32x8x64 : Shape := ⟨3, ![32, 8, 64]⟩
abbrev S32x8x128x128 : Shape := ⟨4, ![32, 8, 128, 128]⟩
abbrev S32x8x64x64 : Shape := ⟨4, ![32, 8, 64, 64]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64 : Shape := ⟨3, ![1, 8, 64]⟩
abbrev S8x64 : Shape := ⟨2, ![8, 64]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S64x64 : Shape := ⟨2, ![64, 64]⟩
abbrev S8x64x1 : Shape := ⟨3, ![8, 64, 1]⟩
abbrev S8x1x64 : Shape := ⟨3, ![8, 1, 64]⟩
abbrev S1x64x64 : Shape := ⟨3, ![1, 64, 64]⟩
abbrev S8x64x256 : Shape := ⟨3, ![8, 64, 256]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩
abbrev S8x32x64 : Shape := ⟨3, ![8, 32, 64]⟩

abbrev nBuf : Space → Nat
  | .hbm => 359
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x8, .f32⟩
  | 4 => ⟨S2048x8, .f32⟩
  | 5 => ⟨S8x32x128x128, .f32⟩
  | 6 => ⟨S8x32x64x64, .f32⟩
  | 7 => ⟨S2048x1024, .f32⟩
  | 8 => ⟨S32x64x8x128, .f32⟩
  | 9 => ⟨S32x8x64x128, .f32⟩
  | 10 => ⟨S32x64x8x128, .f32⟩
  | 11 => ⟨S32x8x64x128, .f32⟩
  | 12 => ⟨S32x64x8x128, .f32⟩
  | 13 => ⟨S32x8x64x128, .f32⟩
  | 14 => ⟨S32x64x8, .f32⟩
  | 15 => ⟨S32x8x64, .f32⟩
  | 16 => ⟨S32x64x8, .f32⟩
  | 17 => ⟨S32x8x64, .f32⟩
  | 18 => ⟨S32x8x128x128, .f32⟩
  | 19 => ⟨S32x8x64x64, .f32⟩
  | 20 => ⟨S32x64x8x128, .f32⟩
  | 21 => ⟨S32x8x64x128, .f32⟩
  | 22 => ⟨S_, .f32⟩
  | 23 => ⟨S8x128x128, .f32⟩
  | 24 => ⟨S_, .f32⟩
  | 25 => ⟨S32x8x64x128, .f32⟩
  | 26 => ⟨S_, .f32⟩
  | 27 => ⟨S32x8x64x128, .f32⟩
  | 28 => ⟨S_, .f32⟩
  | 29 => ⟨S32x8x64x128, .f32⟩
  | 30 => ⟨S_, .f32⟩
  | 31 => ⟨S32x8x64, .f32⟩
  | 32 => ⟨S_, .f32⟩
  | 33 => ⟨S32x8x64, .f32⟩
  | 34 => ⟨S_, .i32⟩
  | 35 => ⟨S32x8x64x128, .f32⟩
  | 36 => ⟨S32x8x64x128, .f32⟩
  | 37 => ⟨S32x8x64x128, .f32⟩
  | 38 => ⟨S32x8x64, .f32⟩
  | 39 => ⟨S32x8x64, .f32⟩
  | 40 => ⟨S32x8x128x128, .f32⟩
  | 41 => ⟨S32x8x64x64, .f32⟩
  | 42 => ⟨S32x8x64x128, .f32⟩
  | 43 => ⟨S_, .i32⟩
  | 44 => ⟨S8x128x128, .f32⟩
  | 45 => ⟨S32x8x64x128, .f32⟩
  | 46 => ⟨S32x8x64x128, .f32⟩
  | 47 => ⟨S32x8x64x128, .f32⟩
  | 48 => ⟨S32x8x64, .f32⟩
  | 49 => ⟨S32x8x64, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S1x8x64, .f32⟩
  | 74 => ⟨S8x64, .f32⟩
  | 75 => ⟨S_, .i32⟩
  | 76 => ⟨S_, .i32⟩
  | 77 => ⟨S1x8x64, .f32⟩
  | 78 => ⟨S8x64, .f32⟩
  | 79 => ⟨S_, .i32⟩
  | 80 => ⟨S_, .i32⟩
  | 81 => ⟨S_, .i32⟩
  | 82 => ⟨S1x8x128x128, .f32⟩
  | 83 => ⟨S8x128x128, .f32⟩
  | 84 => ⟨S_, .i32⟩
  | 85 => ⟨S_, .i32⟩
  | 86 => ⟨S_, .i32⟩
  | 87 => ⟨S1x8x64x64, .f32⟩
  | 88 => ⟨S8x64x64, .f32⟩
  | 89 => ⟨S_, .i32⟩
  | 90 => ⟨S_, .i32⟩
  | 91 => ⟨S_, .i32⟩
  | 92 => ⟨S1x8x64x128, .f32⟩
  | 93 => ⟨S8x64x128, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S8x64x1, .f32⟩
  | 117 => ⟨S8x1x64, .f32⟩
  | 118 => ⟨S8x64x64, .f32⟩
  | 119 => ⟨S8x64x64, .f32⟩
  | 120 => ⟨S8x64x64, .f32⟩
  | 121 => ⟨S_, .f32⟩
  | 122 => ⟨S_, .f32⟩
  | 123 => ⟨S8x64x64, .i1⟩
  | 124 => ⟨S8x64x64, .f32⟩
  | 125 => ⟨S8x64x64, .f32⟩
  | 126 => ⟨S_, .f32⟩
  | 127 => ⟨S8x64x64, .f32⟩
  | _ => ⟨S2048x1024, .f32⟩

abbrev hbmTy0_1 (i : Nat) : BufTy := match i % 128 with
  | 0 => ⟨S8x64x64, .f32⟩
  | 1 => ⟨S_, .f32⟩
  | 2 => ⟨S_, .f32⟩
  | 3 => ⟨S8x64x64, .i1⟩
  | 4 => ⟨S8x64x64, .f32⟩
  | 5 => ⟨S8x64x64, .f32⟩
  | 6 => ⟨S_, .f32⟩
  | 7 => ⟨S8x64x64, .f32⟩
  | 8 => ⟨S8x64x1, .f32⟩
  | 9 => ⟨S8x64x128, .f32⟩
  | 10 => ⟨S8x64x128, .f32⟩
  | 11 => ⟨S8x64x64, .f32⟩
  | 12 => ⟨S8x64x64, .f32⟩
  | 13 => ⟨S_, .f32⟩
  | 14 => ⟨S_, .f32⟩
  | 15 => ⟨S8x64x64, .i1⟩
  | 16 => ⟨S8x64x64, .f32⟩
  | 17 => ⟨S8x64x64, .f32⟩
  | 18 => ⟨S_, .f32⟩
  | 19 => ⟨S8x64x64, .f32⟩
  | 20 => ⟨S64x64, .i32⟩
  | 21 => ⟨S64x64, .i32⟩
  | 22 => ⟨S_, .i32⟩
  | 23 => ⟨S64x64, .i32⟩
  | 24 => ⟨S64x64, .i32⟩
  | 25 => ⟨S64x64, .i1⟩
  | 26 => ⟨S64x64, .f32⟩
  | 27 => ⟨S1x64x64, .f32⟩
  | 28 => ⟨S8x64x64, .f32⟩
  | 29 => ⟨S8x64x64, .f32⟩
  | 30 => ⟨S8x64x1, .f32⟩
  | 31 => ⟨S8x64x128, .f32⟩
  | 32 => ⟨S8x64x128, .f32⟩
  | 33 => ⟨S8x64, .f32⟩
  | 34 => ⟨S8x64x1, .f32⟩
  | 35 => ⟨S8x64x128, .f32⟩
  | 36 => ⟨S8x64x128, .f32⟩
  | 37 => ⟨S8x64x256, .f32⟩
  | 38 => ⟨S8x64x256, .f32⟩
  | 39 => ⟨S8x64x256, .f32⟩
  | 40 => ⟨S8x64x128, .f32⟩
  | 41 => ⟨S8x64x128, .f32⟩
  | 42 => ⟨S8x64x64, .f32⟩
  | 43 => ⟨S8x64x64, .f32⟩
  | 44 => ⟨S8x64, .f32⟩
  | 45 => ⟨S8x64x1, .f32⟩
  | 46 => ⟨S8x64x128, .f32⟩
  | 47 => ⟨S8x64x128, .f32⟩
  | 48 => ⟨S8x1, .f32⟩
  | 49 => ⟨S8, .f32⟩
  | 50 => ⟨S8x1, .f32⟩
  | 51 => ⟨S8x64, .f32⟩
  | 52 => ⟨S8x64, .f32⟩
  | 53 => ⟨S8x64, .f32⟩
  | 54 => ⟨S8x64x1, .f32⟩
  | 55 => ⟨S8x64x128, .f32⟩
  | 56 => ⟨S8x64x128, .f32⟩
  | 57 => ⟨S8x64x128, .f32⟩
  | 58 => ⟨S8x64x128, .f32⟩
  | 59 => ⟨S8x64x128, .f32⟩
  | 60 => ⟨S8x64x128, .f32⟩
  | 61 => ⟨S8x64x128, .f32⟩
  | 62 => ⟨S8, .f32⟩
  | 63 => ⟨S8x1x1, .f32⟩
  | 64 => ⟨S8x128x128, .f32⟩
  | 65 => ⟨S8x128x128, .f32⟩
  | 66 => ⟨S8x128x128, .f32⟩
  | 67 => ⟨S8x128x128, .f32⟩
  | 68 => ⟨S8x128x64, .f32⟩
  | 69 => ⟨S8x64x128, .f32⟩
  | 70 => ⟨S8x128x64, .f32⟩
  | 71 => ⟨S8x64x128, .f32⟩
  | 72 => ⟨S8x128x128, .f32⟩
  | 73 => ⟨S_, .f32⟩
  | 74 => ⟨S8, .f32⟩
  | 75 => ⟨S8x1x1, .f32⟩
  | 76 => ⟨S8x128x128, .f32⟩
  | 77 => ⟨S8x128x128, .f32⟩
  | 78 => ⟨S_, .f32⟩
  | 79 => ⟨S8, .f32⟩
  | 80 => ⟨S8, .f32⟩
  | 81 => ⟨S8x128x64, .f32⟩
  | 82 => ⟨S8x64x128, .f32⟩
  | 83 => ⟨S8x64x128, .f32⟩
  | 84 => ⟨S8x64x64, .f32⟩
  | 85 => ⟨S8x128x128, .f32⟩
  | 86 => ⟨S8x128x128, .f32⟩
  | 87 => ⟨S8x128x128, .f32⟩
  | 88 => ⟨S8x64x128, .f32⟩
  | 89 => ⟨S8x64x128, .f32⟩
  | 90 => ⟨S8x128x128, .f32⟩
  | 91 => ⟨S8x128x128, .f32⟩
  | 92 => ⟨S8x128x128, .f32⟩
  | 93 => ⟨S8x64x128, .f32⟩
  | 94 => ⟨S8x64x128, .f32⟩
  | 95 => ⟨S_, .f32⟩
  | 96 => ⟨S8x64, .f32⟩
  | 97 => ⟨S8x64x1, .f32⟩
  | 98 => ⟨S8x64x128, .f32⟩
  | 99 => ⟨S8x64x128, .f32⟩
  | 100 => ⟨S_, .f32⟩
  | 101 => ⟨S8x64, .f32⟩
  | 102 => ⟨S8x64, .f32⟩
  | 103 => ⟨S_, .f32⟩
  | 104 => ⟨S8, .f32⟩
  | 105 => ⟨S8x1, .f32⟩
  | 106 => ⟨S8x64, .f32⟩
  | 107 => ⟨S_, .f32⟩
  | 108 => ⟨S8, .f32⟩
  | 109 => ⟨S8, .f32⟩
  | 110 => ⟨S8x1, .f32⟩
  | 111 => ⟨S_, .f32⟩
  | 112 => ⟨S8x64, .f32⟩
  | 113 => ⟨S8x64, .f32⟩
  | 114 => ⟨S8x64x128, .f32⟩
  | 115 => ⟨S_, .f32⟩
  | 116 => ⟨S8x64, .f32⟩
  | 117 => ⟨S8x64x1, .f32⟩
  | 118 => ⟨S8x64x128, .f32⟩
  | 119 => ⟨S8x64x128, .f32⟩
  | 120 => ⟨S_, .f32⟩
  | 121 => ⟨S8x64, .f32⟩
  | 122 => ⟨S8x64, .f32⟩
  | 123 => ⟨S8x64, .f32⟩
  | 124 => ⟨S8x64x64, .f32⟩
  | 125 => ⟨S8x64x64, .f32⟩
  | 126 => ⟨S8x64x128, .f32⟩
  | 127 => ⟨S8x64x128, .f32⟩
  | _ => ⟨S2048x1024, .f32⟩

abbrev hbmTy0_2 (i : Nat) : BufTy := match i % 128 with
  | 0 => ⟨S8x64x128, .f32⟩
  | 1 => ⟨S8x64x128, .f32⟩
  | 2 => ⟨S_, .f32⟩
  | 3 => ⟨S8x64x256, .f32⟩
  | 4 => ⟨S_, .f32⟩
  | 5 => ⟨S8x64x256, .f32⟩
  | 6 => ⟨S8x64x256, .f32⟩
  | 7 => ⟨S8x64x256, .f32⟩
  | 8 => ⟨S8x64x256, .f32⟩
  | 9 => ⟨S8x64x64, .f32⟩
  | 10 => ⟨S8x64x128, .f32⟩
  | 11 => ⟨S8x64x128, .f32⟩
  | 12 => ⟨S8x64x128, .f32⟩
  | 13 => ⟨S_, .f32⟩
  | 14 => ⟨S8x64, .f32⟩
  | 15 => ⟨S8x64x1, .f32⟩
  | 16 => ⟨S8x64x128, .f32⟩
  | 17 => ⟨S8x64x128, .f32⟩
  | 18 => ⟨S_, .f32⟩
  | 19 => ⟨S8x64, .f32⟩
  | 20 => ⟨S8x64, .f32⟩
  | 21 => ⟨S8x64, .f32⟩
  | 22 => ⟨S8x64x128, .f32⟩
  | 23 => ⟨S_, .f32⟩
  | 24 => ⟨S8x64, .f32⟩
  | 25 => ⟨S8x64x1, .f32⟩
  | 26 => ⟨S8x64x128, .f32⟩
  | 27 => ⟨S8x64x128, .f32⟩
  | 28 => ⟨S_, .f32⟩
  | 29 => ⟨S8x64, .f32⟩
  | 30 => ⟨S_, .f32⟩
  | 31 => ⟨S8x64x64, .f32⟩
  | 32 => ⟨S8x64x64, .f32⟩
  | 33 => ⟨S8x64x64, .f32⟩
  | 34 => ⟨S8x64x64, .f32⟩
  | 35 => ⟨S8x64x64, .f32⟩
  | 36 => ⟨S8x64x128, .f32⟩
  | 37 => ⟨S8x64x128, .f32⟩
  | 38 => ⟨S8x64x128, .f32⟩
  | 39 => ⟨S8x64x128, .f32⟩
  | 40 => ⟨S8x64x128, .f32⟩
  | 41 => ⟨S_, .f32⟩
  | 42 => ⟨S8x64, .f32⟩
  | 43 => ⟨S8x64x1, .f32⟩
  | 44 => ⟨S8x64x128, .f32⟩
  | 45 => ⟨S8x64x128, .f32⟩
  | 46 => ⟨S8x64x128, .f32⟩
  | 47 => ⟨S_, .f32⟩
  | 48 => ⟨S8x64, .f32⟩
  | 49 => ⟨S8x64, .f32⟩
  | 50 => ⟨S_, .f32⟩
  | 51 => ⟨S8x64x64, .f32⟩
  | 52 => ⟨S8x64x64, .f32⟩
  | 53 => ⟨S8x64x64, .f32⟩
  | 54 => ⟨S_, .f32⟩
  | 55 => ⟨S8x64x64, .f32⟩
  | 56 => ⟨S8x64x64, .f32⟩
  | 57 => ⟨S_, .f32⟩
  | 58 => ⟨S8x64, .f32⟩
  | 59 => ⟨S8x64x1, .f32⟩
  | 60 => ⟨S8x64x64, .f32⟩
  | 61 => ⟨S_, .f32⟩
  | 62 => ⟨S8x64, .f32⟩
  | 63 => ⟨S8x1x64, .f32⟩
  | 64 => ⟨S_, .f32⟩
  | 65 => ⟨S8x64, .f32⟩
  | 66 => ⟨S8x64, .f32⟩
  | 67 => ⟨S_, .f32⟩
  | 68 => ⟨S8x64, .f32⟩
  | 69 => ⟨S8x64, .f32⟩
  | 70 => ⟨S1x8x64x128, .f32⟩
  | 71 => ⟨S_, .i32⟩
  | 72 => ⟨S_, .i32⟩
  | 73 => ⟨S_, .i32⟩
  | 74 => ⟨S32x8x64x128, .f32⟩
  | 75 => ⟨S1x8x64x128, .f32⟩
  | 76 => ⟨S_, .i32⟩
  | 77 => ⟨S_, .i32⟩
  | 78 => ⟨S_, .i32⟩
  | 79 => ⟨S32x8x64x128, .f32⟩
  | 80 => ⟨S1x8x64x128, .f32⟩
  | 81 => ⟨S_, .i32⟩
  | 82 => ⟨S_, .i32⟩
  | 83 => ⟨S_, .i32⟩
  | 84 => ⟨S32x8x64x128, .f32⟩
  | 85 => ⟨S1x8x64, .f32⟩
  | 86 => ⟨S_, .i32⟩
  | 87 => ⟨S_, .i32⟩
  | 88 => ⟨S32x8x64, .f32⟩
  | 89 => ⟨S1x8x64, .f32⟩
  | 90 => ⟨S_, .i32⟩
  | 91 => ⟨S_, .i32⟩
  | 92 => ⟨S32x8x64, .f32⟩
  | 93 => ⟨S_, .i32⟩
  | 94 => ⟨S_, .i32⟩
  | 95 => ⟨S32x64x8x128, .f32⟩
  | 96 => ⟨S2048x1024, .f32⟩
  | 97 => ⟨S32x64x8x128, .f32⟩
  | 98 => ⟨S2048x1024, .f32⟩
  | 99 => ⟨S32x64x8x128, .f32⟩
  | 100 => ⟨S2048x1024, .f32⟩
  | 101 => ⟨S8x32x64, .f32⟩
  | 102 => ⟨S8x32x64, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev main_v20_6 : Ref sig .tc := ⟨.hbm, 41, rfl⟩
abbrev main_v20_7 : Ref sig .tc := ⟨.hbm, 42, rfl⟩
abbrev main_v20_8 : Ref sig .tc := ⟨.hbm, 43, rfl⟩
abbrev main_v20_9 : Ref sig .tc := ⟨.hbm, 44, rfl⟩
abbrev main_v20_10 : Ref sig .tc := ⟨.hbm, 45, rfl⟩
abbrev main_v20_11 : Ref sig .tc := ⟨.hbm, 46, rfl⟩
abbrev main_v20_12 : Ref sig .tc := ⟨.hbm, 47, rfl⟩
abbrev main_v20_13 : Ref sig .tc := ⟨.hbm, 48, rfl⟩
abbrev main_v20_14 : Ref sig .tc := ⟨.hbm, 49, rfl⟩
abbrev main_while0c_c_19 : Ref sig .tc := ⟨.hbm, 50, rfl⟩
abbrev main_while0c_v29 : Ref sig .tc := ⟨.hbm, 51, rfl⟩
abbrev main_while0b_c_19 : Ref sig .tc := ⟨.hbm, 52, rfl⟩
abbrev main_while0b_v29 : Ref sig .tc := ⟨.hbm, 53, rfl⟩
abbrev main_while0b_c_20 : Ref sig .tc := ⟨.hbm, 54, rfl⟩
abbrev main_while0b_v30 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v31 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v32 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v33 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_v0 : Ref sig .tc := ⟨.hbm, 73, rfl⟩
abbrev main_while0b_v34 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_v0 : Ref sig .tc := ⟨.hbm, 77, rfl⟩
abbrev main_while0b_v35 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_c_1 : Ref sig .tc := ⟨.hbm, 81, rfl⟩
abbrev main_while0b_call5_v0 : Ref sig .tc := ⟨.hbm, 82, rfl⟩
abbrev main_while0b_v36 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_v0 : Ref sig .tc := ⟨.hbm, 87, rfl⟩
abbrev main_while0b_v37 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_v0 : Ref sig .tc := ⟨.hbm, 92, rfl⟩
abbrev main_while0b_v38 : Ref sig .tc := ⟨.hbm, 93, rfl⟩
abbrev main_while0b_c_21 : Ref sig .tc := ⟨.hbm, 94, rfl⟩
abbrev main_while0b_v39 : Ref sig .tc := ⟨.hbm, 95, rfl⟩
abbrev main_while0b_call8_v0 : Ref sig .tc := ⟨.hbm, 96, rfl⟩
abbrev main_while0b_call8_c : Ref sig .tc := ⟨.hbm, 97, rfl⟩
abbrev main_while0b_call8_v1 : Ref sig .tc := ⟨.hbm, 98, rfl⟩
abbrev main_while0b_call8_v2 : Ref sig .tc := ⟨.hbm, 99, rfl⟩
abbrev main_while0b_call8_v3 : Ref sig .tc := ⟨.hbm, 100, rfl⟩
abbrev main_while0b_call8_v4 : Ref sig .tc := ⟨.hbm, 101, rfl⟩
abbrev main_while0b_call8_c_0 : Ref sig .tc := ⟨.hbm, 102, rfl⟩
abbrev main_while0b_call8_v5 : Ref sig .tc := ⟨.hbm, 103, rfl⟩
abbrev main_while0b_v40 : Ref sig .tc := ⟨.hbm, 104, rfl⟩
abbrev main_while0b_c_22 : Ref sig .tc := ⟨.hbm, 105, rfl⟩
abbrev main_while0b_v41 : Ref sig .tc := ⟨.hbm, 106, rfl⟩
abbrev main_while0b_call9_v0 : Ref sig .tc := ⟨.hbm, 107, rfl⟩
abbrev main_while0b_call9_c : Ref sig .tc := ⟨.hbm, 108, rfl⟩
abbrev main_while0b_call9_v1 : Ref sig .tc := ⟨.hbm, 109, rfl⟩
abbrev main_while0b_call9_v2 : Ref sig .tc := ⟨.hbm, 110, rfl⟩
abbrev main_while0b_call9_v3 : Ref sig .tc := ⟨.hbm, 111, rfl⟩
abbrev main_while0b_call9_v4 : Ref sig .tc := ⟨.hbm, 112, rfl⟩
abbrev main_while0b_call9_c_0 : Ref sig .tc := ⟨.hbm, 113, rfl⟩
abbrev main_while0b_call9_v5 : Ref sig .tc := ⟨.hbm, 114, rfl⟩
abbrev main_while0b_v42 : Ref sig .tc := ⟨.hbm, 115, rfl⟩
abbrev main_while0b_v43 : Ref sig .tc := ⟨.hbm, 116, rfl⟩
abbrev main_while0b_v44 : Ref sig .tc := ⟨.hbm, 117, rfl⟩
abbrev main_while0b_v45 : Ref sig .tc := ⟨.hbm, 118, rfl⟩
abbrev main_while0b_v46 : Ref sig .tc := ⟨.hbm, 119, rfl⟩
abbrev main_while0b_v47 : Ref sig .tc := ⟨.hbm, 120, rfl⟩
abbrev main_while0b_cst_23 : Ref sig .tc := ⟨.hbm, 121, rfl⟩
abbrev main_while0b_call10_v0 : Ref sig .tc := ⟨.hbm, 122, rfl⟩
abbrev main_while0b_v48_1 : Ref sig .tc := ⟨.hbm, 123, rfl⟩
abbrev main_while0b_call10_v2 : Ref sig .tc := ⟨.hbm, 124, rfl⟩
abbrev main_while0b_v48_0 : Ref sig .tc := ⟨.hbm, 125, rfl⟩
abbrev main_while0b_call10_cst : Ref sig .tc := ⟨.hbm, 126, rfl⟩
abbrev main_while0b_v48_2 : Ref sig .tc := ⟨.hbm, 127, rfl⟩
abbrev main_while0b_v49 : Ref sig .tc := ⟨.hbm, 128, rfl⟩
abbrev main_while0b_cst_24 : Ref sig .tc := ⟨.hbm, 129, rfl⟩
abbrev main_while0b_call11_v0 : Ref sig .tc := ⟨.hbm, 130, rfl⟩
abbrev main_while0b_v50_1 : Ref sig .tc := ⟨.hbm, 131, rfl⟩
abbrev main_while0b_call11_v2 : Ref sig .tc := ⟨.hbm, 132, rfl⟩
abbrev main_while0b_v50_0 : Ref sig .tc := ⟨.hbm, 133, rfl⟩
abbrev main_while0b_call11_cst : Ref sig .tc := ⟨.hbm, 134, rfl⟩
abbrev main_while0b_v50_2 : Ref sig .tc := ⟨.hbm, 135, rfl⟩
abbrev main_while0b_v51 : Ref sig .tc := ⟨.hbm, 136, rfl⟩
abbrev main_while0b_v52 : Ref sig .tc := ⟨.hbm, 137, rfl⟩
abbrev main_while0b_v53 : Ref sig .tc := ⟨.hbm, 138, rfl⟩
abbrev main_while0b_v54 : Ref sig .tc := ⟨.hbm, 139, rfl⟩
abbrev main_while0b_v55 : Ref sig .tc := ⟨.hbm, 140, rfl⟩
abbrev main_while0b_cst_25 : Ref sig .tc := ⟨.hbm, 141, rfl⟩
abbrev main_while0b_call12_v0 : Ref sig .tc := ⟨.hbm, 142, rfl⟩
abbrev main_while0b_v56_1 : Ref sig .tc := ⟨.hbm, 143, rfl⟩
abbrev main_while0b_call12_v2 : Ref sig .tc := ⟨.hbm, 144, rfl⟩
abbrev main_while0b_v56_0 : Ref sig .tc := ⟨.hbm, 145, rfl⟩
abbrev main_while0b_call12_cst : Ref sig .tc := ⟨.hbm, 146, rfl⟩
abbrev main_while0b_v56_2 : Ref sig .tc := ⟨.hbm, 147, rfl⟩
abbrev main_while0b_v57 : Ref sig .tc := ⟨.hbm, 148, rfl⟩
abbrev main_while0b_v58 : Ref sig .tc := ⟨.hbm, 149, rfl⟩
abbrev main_while0b_c_26 : Ref sig .tc := ⟨.hbm, 150, rfl⟩
abbrev main_while0b_v59 : Ref sig .tc := ⟨.hbm, 151, rfl⟩
abbrev main_while0b_v60 : Ref sig .tc := ⟨.hbm, 152, rfl⟩
abbrev main_while0b_v61 : Ref sig .tc := ⟨.hbm, 153, rfl⟩
abbrev main_while0b_v62 : Ref sig .tc := ⟨.hbm, 154, rfl⟩
abbrev main_while0b_v63 : Ref sig .tc := ⟨.hbm, 155, rfl⟩
abbrev main_while0b_v64 : Ref sig .tc := ⟨.hbm, 156, rfl⟩
abbrev main_while0b_v65 : Ref sig .tc := ⟨.hbm, 157, rfl⟩
abbrev main_while0b_v66 : Ref sig .tc := ⟨.hbm, 158, rfl⟩
abbrev main_while0b_v67 : Ref sig .tc := ⟨.hbm, 159, rfl⟩
abbrev main_while0b_v68 : Ref sig .tc := ⟨.hbm, 160, rfl⟩
abbrev main_while0b_v69 : Ref sig .tc := ⟨.hbm, 161, rfl⟩
abbrev main_while0b_v70 : Ref sig .tc := ⟨.hbm, 162, rfl⟩
abbrev main_while0b_v71 : Ref sig .tc := ⟨.hbm, 163, rfl⟩
abbrev main_while0b_v72 : Ref sig .tc := ⟨.hbm, 164, rfl⟩
abbrev main_while0b_v73 : Ref sig .tc := ⟨.hbm, 165, rfl⟩
abbrev main_while0b_v74 : Ref sig .tc := ⟨.hbm, 166, rfl⟩
abbrev main_while0b_v75 : Ref sig .tc := ⟨.hbm, 167, rfl⟩
abbrev main_while0b_v76 : Ref sig .tc := ⟨.hbm, 168, rfl⟩
abbrev main_while0b_v77 : Ref sig .tc := ⟨.hbm, 169, rfl⟩
abbrev main_while0b_v78 : Ref sig .tc := ⟨.hbm, 170, rfl⟩
abbrev main_while0b_v79 : Ref sig .tc := ⟨.hbm, 171, rfl⟩
abbrev main_while0b_v80 : Ref sig .tc := ⟨.hbm, 172, rfl⟩
abbrev main_while0b_v81 : Ref sig .tc := ⟨.hbm, 173, rfl⟩
abbrev main_while0b_v82 : Ref sig .tc := ⟨.hbm, 174, rfl⟩
abbrev main_while0b_v83 : Ref sig .tc := ⟨.hbm, 175, rfl⟩
abbrev main_while0b_v84 : Ref sig .tc := ⟨.hbm, 176, rfl⟩
abbrev main_while0b_v85 : Ref sig .tc := ⟨.hbm, 177, rfl⟩
abbrev main_while0b_v86 : Ref sig .tc := ⟨.hbm, 178, rfl⟩
abbrev main_while0b_v87 : Ref sig .tc := ⟨.hbm, 179, rfl⟩
abbrev main_while0b_v88 : Ref sig .tc := ⟨.hbm, 180, rfl⟩
abbrev main_while0b_v89 : Ref sig .tc := ⟨.hbm, 181, rfl⟩
abbrev main_while0b_v90 : Ref sig .tc := ⟨.hbm, 182, rfl⟩
abbrev main_while0b_v91 : Ref sig .tc := ⟨.hbm, 183, rfl⟩
abbrev main_while0b_v92 : Ref sig .tc := ⟨.hbm, 184, rfl⟩
abbrev main_while0b_v93 : Ref sig .tc := ⟨.hbm, 185, rfl⟩
abbrev main_while0b_v94 : Ref sig .tc := ⟨.hbm, 186, rfl⟩
abbrev main_while0b_v95 : Ref sig .tc := ⟨.hbm, 187, rfl⟩
abbrev main_while0b_v96 : Ref sig .tc := ⟨.hbm, 188, rfl⟩
abbrev main_while0b_v97 : Ref sig .tc := ⟨.hbm, 189, rfl⟩
abbrev main_while0b_v98 : Ref sig .tc := ⟨.hbm, 190, rfl⟩
abbrev main_while0b_v99 : Ref sig .tc := ⟨.hbm, 191, rfl⟩
abbrev main_while0b_v100 : Ref sig .tc := ⟨.hbm, 192, rfl⟩
abbrev main_while0b_v101 : Ref sig .tc := ⟨.hbm, 193, rfl⟩
abbrev main_while0b_v102 : Ref sig .tc := ⟨.hbm, 194, rfl⟩
abbrev main_while0b_v103 : Ref sig .tc := ⟨.hbm, 195, rfl⟩
abbrev main_while0b_v104 : Ref sig .tc := ⟨.hbm, 196, rfl⟩
abbrev main_while0b_v105 : Ref sig .tc := ⟨.hbm, 197, rfl⟩
abbrev main_while0b_v106 : Ref sig .tc := ⟨.hbm, 198, rfl⟩
abbrev main_while0b_v107 : Ref sig .tc := ⟨.hbm, 199, rfl⟩
abbrev main_while0b_v108 : Ref sig .tc := ⟨.hbm, 200, rfl⟩
abbrev main_while0b_cst_27 : Ref sig .tc := ⟨.hbm, 201, rfl⟩
abbrev main_while0b_v109 : Ref sig .tc := ⟨.hbm, 202, rfl⟩
abbrev main_while0b_v110 : Ref sig .tc := ⟨.hbm, 203, rfl⟩
abbrev main_while0b_v111 : Ref sig .tc := ⟨.hbm, 204, rfl⟩
abbrev main_while0b_v112 : Ref sig .tc := ⟨.hbm, 205, rfl⟩
abbrev main_while0b_cst_28 : Ref sig .tc := ⟨.hbm, 206, rfl⟩
abbrev main_while0b_v113 : Ref sig .tc := ⟨.hbm, 207, rfl⟩
abbrev main_while0b_v114 : Ref sig .tc := ⟨.hbm, 208, rfl⟩
abbrev main_while0b_v115 : Ref sig .tc := ⟨.hbm, 209, rfl⟩
abbrev main_while0b_v116 : Ref sig .tc := ⟨.hbm, 210, rfl⟩
abbrev main_while0b_v117 : Ref sig .tc := ⟨.hbm, 211, rfl⟩
abbrev main_while0b_v118 : Ref sig .tc := ⟨.hbm, 212, rfl⟩
abbrev main_while0b_v119 : Ref sig .tc := ⟨.hbm, 213, rfl⟩
abbrev main_while0b_v120 : Ref sig .tc := ⟨.hbm, 214, rfl⟩
abbrev main_while0b_v121 : Ref sig .tc := ⟨.hbm, 215, rfl⟩
abbrev main_while0b_v122 : Ref sig .tc := ⟨.hbm, 216, rfl⟩
abbrev main_while0b_v123 : Ref sig .tc := ⟨.hbm, 217, rfl⟩
abbrev main_while0b_v124 : Ref sig .tc := ⟨.hbm, 218, rfl⟩
abbrev main_while0b_v125 : Ref sig .tc := ⟨.hbm, 219, rfl⟩
abbrev main_while0b_v126 : Ref sig .tc := ⟨.hbm, 220, rfl⟩
abbrev main_while0b_v127 : Ref sig .tc := ⟨.hbm, 221, rfl⟩
abbrev main_while0b_v128 : Ref sig .tc := ⟨.hbm, 222, rfl⟩
abbrev main_while0b_cst_29 : Ref sig .tc := ⟨.hbm, 223, rfl⟩
abbrev main_while0b_v129 : Ref sig .tc := ⟨.hbm, 224, rfl⟩
abbrev main_while0b_v130 : Ref sig .tc := ⟨.hbm, 225, rfl⟩
abbrev main_while0b_v131 : Ref sig .tc := ⟨.hbm, 226, rfl⟩
abbrev main_while0b_v132 : Ref sig .tc := ⟨.hbm, 227, rfl⟩
abbrev main_while0b_cst_30 : Ref sig .tc := ⟨.hbm, 228, rfl⟩
abbrev main_while0b_v133 : Ref sig .tc := ⟨.hbm, 229, rfl⟩
abbrev main_while0b_v134 : Ref sig .tc := ⟨.hbm, 230, rfl⟩
abbrev main_while0b_cst_31 : Ref sig .tc := ⟨.hbm, 231, rfl⟩
abbrev main_while0b_v135 : Ref sig .tc := ⟨.hbm, 232, rfl⟩
abbrev main_while0b_v136 : Ref sig .tc := ⟨.hbm, 233, rfl⟩
abbrev main_while0b_v137 : Ref sig .tc := ⟨.hbm, 234, rfl⟩
abbrev main_while0b_cst_32 : Ref sig .tc := ⟨.hbm, 235, rfl⟩
abbrev main_while0b_v138 : Ref sig .tc := ⟨.hbm, 236, rfl⟩
abbrev main_while0b_v139 : Ref sig .tc := ⟨.hbm, 237, rfl⟩
abbrev main_while0b_v140 : Ref sig .tc := ⟨.hbm, 238, rfl⟩
abbrev main_while0b_cst_33 : Ref sig .tc := ⟨.hbm, 239, rfl⟩
abbrev main_while0b_v141 : Ref sig .tc := ⟨.hbm, 240, rfl⟩
abbrev main_while0b_v142 : Ref sig .tc := ⟨.hbm, 241, rfl⟩
abbrev main_while0b_v143 : Ref sig .tc := ⟨.hbm, 242, rfl⟩
abbrev main_while0b_cst_34 : Ref sig .tc := ⟨.hbm, 243, rfl⟩
abbrev main_while0b_v144 : Ref sig .tc := ⟨.hbm, 244, rfl⟩
abbrev main_while0b_v145 : Ref sig .tc := ⟨.hbm, 245, rfl⟩
abbrev main_while0b_v146 : Ref sig .tc := ⟨.hbm, 246, rfl⟩
abbrev main_while0b_v147 : Ref sig .tc := ⟨.hbm, 247, rfl⟩
abbrev main_while0b_cst_35 : Ref sig .tc := ⟨.hbm, 248, rfl⟩
abbrev main_while0b_v148 : Ref sig .tc := ⟨.hbm, 249, rfl⟩
abbrev main_while0b_v149 : Ref sig .tc := ⟨.hbm, 250, rfl⟩
abbrev main_while0b_v150 : Ref sig .tc := ⟨.hbm, 251, rfl⟩
abbrev main_while0b_v151 : Ref sig .tc := ⟨.hbm, 252, rfl⟩
abbrev main_while0b_v152 : Ref sig .tc := ⟨.hbm, 253, rfl⟩
abbrev main_while0b_v153 : Ref sig .tc := ⟨.hbm, 254, rfl⟩
abbrev main_while0b_v154 : Ref sig .tc := ⟨.hbm, 255, rfl⟩
abbrev main_while0b_v155 : Ref sig .tc := ⟨.hbm, 256, rfl⟩
abbrev main_while0b_v156 : Ref sig .tc := ⟨.hbm, 257, rfl⟩
abbrev main_while0b_cst_36 : Ref sig .tc := ⟨.hbm, 258, rfl⟩
abbrev main_while0b_v157 : Ref sig .tc := ⟨.hbm, 259, rfl⟩
abbrev main_while0b_cst_37 : Ref sig .tc := ⟨.hbm, 260, rfl⟩
abbrev main_while0b_v158 : Ref sig .tc := ⟨.hbm, 261, rfl⟩
abbrev main_while0b_v159 : Ref sig .tc := ⟨.hbm, 262, rfl⟩
abbrev main_while0b_v160 : Ref sig .tc := ⟨.hbm, 263, rfl⟩
abbrev main_while0b_v161 : Ref sig .tc := ⟨.hbm, 264, rfl⟩
abbrev main_while0b_v162 : Ref sig .tc := ⟨.hbm, 265, rfl⟩
abbrev main_while0b_v163 : Ref sig .tc := ⟨.hbm, 266, rfl⟩
abbrev main_while0b_v164 : Ref sig .tc := ⟨.hbm, 267, rfl⟩
abbrev main_while0b_v165 : Ref sig .tc := ⟨.hbm, 268, rfl⟩
abbrev main_while0b_cst_38 : Ref sig .tc := ⟨.hbm, 269, rfl⟩
abbrev main_while0b_v166 : Ref sig .tc := ⟨.hbm, 270, rfl⟩
abbrev main_while0b_v167 : Ref sig .tc := ⟨.hbm, 271, rfl⟩
abbrev main_while0b_v168 : Ref sig .tc := ⟨.hbm, 272, rfl⟩
abbrev main_while0b_v169 : Ref sig .tc := ⟨.hbm, 273, rfl⟩
abbrev main_while0b_cst_39 : Ref sig .tc := ⟨.hbm, 274, rfl⟩
abbrev main_while0b_v170 : Ref sig .tc := ⟨.hbm, 275, rfl⟩
abbrev main_while0b_v171 : Ref sig .tc := ⟨.hbm, 276, rfl⟩
abbrev main_while0b_v172 : Ref sig .tc := ⟨.hbm, 277, rfl⟩
abbrev main_while0b_v173 : Ref sig .tc := ⟨.hbm, 278, rfl⟩
abbrev main_while0b_cst_40 : Ref sig .tc := ⟨.hbm, 279, rfl⟩
abbrev main_while0b_v174 : Ref sig .tc := ⟨.hbm, 280, rfl⟩
abbrev main_while0b_v175 : Ref sig .tc := ⟨.hbm, 281, rfl⟩
abbrev main_while0b_v176 : Ref sig .tc := ⟨.hbm, 282, rfl⟩
abbrev main_while0b_v177 : Ref sig .tc := ⟨.hbm, 283, rfl⟩
abbrev main_while0b_cst_41 : Ref sig .tc := ⟨.hbm, 284, rfl⟩
abbrev main_while0b_v178 : Ref sig .tc := ⟨.hbm, 285, rfl⟩
abbrev main_while0b_call13_cst : Ref sig .tc := ⟨.hbm, 286, rfl⟩
abbrev main_while0b_call13_v0 : Ref sig .tc := ⟨.hbm, 287, rfl⟩
abbrev main_while0b_v179 : Ref sig .tc := ⟨.hbm, 288, rfl⟩
abbrev main_while0b_v180 : Ref sig .tc := ⟨.hbm, 289, rfl⟩
abbrev main_while0b_v181 : Ref sig .tc := ⟨.hbm, 290, rfl⟩
abbrev main_while0b_v182 : Ref sig .tc := ⟨.hbm, 291, rfl⟩
abbrev main_while0b_v183 : Ref sig .tc := ⟨.hbm, 292, rfl⟩
abbrev main_while0b_v184 : Ref sig .tc := ⟨.hbm, 293, rfl⟩
abbrev main_while0b_v185 : Ref sig .tc := ⟨.hbm, 294, rfl⟩
abbrev main_while0b_v186 : Ref sig .tc := ⟨.hbm, 295, rfl⟩
abbrev main_while0b_v187 : Ref sig .tc := ⟨.hbm, 296, rfl⟩
abbrev main_while0b_cst_42 : Ref sig .tc := ⟨.hbm, 297, rfl⟩
abbrev main_while0b_v188 : Ref sig .tc := ⟨.hbm, 298, rfl⟩
abbrev main_while0b_v189 : Ref sig .tc := ⟨.hbm, 299, rfl⟩
abbrev main_while0b_v190 : Ref sig .tc := ⟨.hbm, 300, rfl⟩
abbrev main_while0b_v191 : Ref sig .tc := ⟨.hbm, 301, rfl⟩
abbrev main_while0b_v192 : Ref sig .tc := ⟨.hbm, 302, rfl⟩
abbrev main_while0b_cst_43 : Ref sig .tc := ⟨.hbm, 303, rfl⟩
abbrev main_while0b_v193 : Ref sig .tc := ⟨.hbm, 304, rfl⟩
abbrev main_while0b_v194 : Ref sig .tc := ⟨.hbm, 305, rfl⟩
abbrev main_while0b_call14_cst : Ref sig .tc := ⟨.hbm, 306, rfl⟩
abbrev main_while0b_call14_v0 : Ref sig .tc := ⟨.hbm, 307, rfl⟩
abbrev main_while0b_v195 : Ref sig .tc := ⟨.hbm, 308, rfl⟩
abbrev main_while0b_v196 : Ref sig .tc := ⟨.hbm, 309, rfl⟩
abbrev main_while0b_call15_cst : Ref sig .tc := ⟨.hbm, 310, rfl⟩
abbrev main_while0b_call15_v0 : Ref sig .tc := ⟨.hbm, 311, rfl⟩
abbrev main_while0b_v197 : Ref sig .tc := ⟨.hbm, 312, rfl⟩
abbrev main_while0b_cst_44 : Ref sig .tc := ⟨.hbm, 313, rfl⟩
abbrev main_while0b_v198 : Ref sig .tc := ⟨.hbm, 314, rfl⟩
abbrev main_while0b_v199 : Ref sig .tc := ⟨.hbm, 315, rfl⟩
abbrev main_while0b_v200 : Ref sig .tc := ⟨.hbm, 316, rfl⟩
abbrev main_while0b_cst_45 : Ref sig .tc := ⟨.hbm, 317, rfl⟩
abbrev main_while0b_v201 : Ref sig .tc := ⟨.hbm, 318, rfl⟩
abbrev main_while0b_v202 : Ref sig .tc := ⟨.hbm, 319, rfl⟩
abbrev main_while0b_cst_46 : Ref sig .tc := ⟨.hbm, 320, rfl⟩
abbrev main_while0b_v203 : Ref sig .tc := ⟨.hbm, 321, rfl⟩
abbrev main_while0b_v204 : Ref sig .tc := ⟨.hbm, 322, rfl⟩
abbrev main_while0b_cst_47 : Ref sig .tc := ⟨.hbm, 323, rfl⟩
abbrev main_while0b_v205 : Ref sig .tc := ⟨.hbm, 324, rfl⟩
abbrev main_while0b_v206 : Ref sig .tc := ⟨.hbm, 325, rfl⟩
abbrev main_while0b_call16_v0 : Ref sig .tc := ⟨.hbm, 326, rfl⟩
abbrev main_while0b_call16_c : Ref sig .tc := ⟨.hbm, 327, rfl⟩
abbrev main_while0b_call16_c_0 : Ref sig .tc := ⟨.hbm, 328, rfl⟩
abbrev main_while0b_call16_c_1 : Ref sig .tc := ⟨.hbm, 329, rfl⟩
abbrev main_while0b_v207 : Ref sig .tc := ⟨.hbm, 330, rfl⟩
abbrev main_while0b_call17_v0 : Ref sig .tc := ⟨.hbm, 331, rfl⟩
abbrev main_while0b_call17_c : Ref sig .tc := ⟨.hbm, 332, rfl⟩
abbrev main_while0b_call17_c_0 : Ref sig .tc := ⟨.hbm, 333, rfl⟩
abbrev main_while0b_call17_c_1 : Ref sig .tc := ⟨.hbm, 334, rfl⟩
abbrev main_while0b_v208 : Ref sig .tc := ⟨.hbm, 335, rfl⟩
abbrev main_while0b_call18_v0 : Ref sig .tc := ⟨.hbm, 336, rfl⟩
abbrev main_while0b_call18_c : Ref sig .tc := ⟨.hbm, 337, rfl⟩
abbrev main_while0b_call18_c_0 : Ref sig .tc := ⟨.hbm, 338, rfl⟩
abbrev main_while0b_call18_c_1 : Ref sig .tc := ⟨.hbm, 339, rfl⟩
abbrev main_while0b_v209 : Ref sig .tc := ⟨.hbm, 340, rfl⟩
abbrev main_while0b_call19_v0 : Ref sig .tc := ⟨.hbm, 341, rfl⟩
abbrev main_while0b_call19_c : Ref sig .tc := ⟨.hbm, 342, rfl⟩
abbrev main_while0b_call19_c_0 : Ref sig .tc := ⟨.hbm, 343, rfl⟩
abbrev main_while0b_v210 : Ref sig .tc := ⟨.hbm, 344, rfl⟩
abbrev main_while0b_call20_v0 : Ref sig .tc := ⟨.hbm, 345, rfl⟩
abbrev main_while0b_call20_c : Ref sig .tc := ⟨.hbm, 346, rfl⟩
abbrev main_while0b_call20_c_0 : Ref sig .tc := ⟨.hbm, 347, rfl⟩
abbrev main_while0b_v211 : Ref sig .tc := ⟨.hbm, 348, rfl⟩
abbrev main_while0b_c_48 : Ref sig .tc := ⟨.hbm, 349, rfl⟩
abbrev main_while0b_v212 : Ref sig .tc := ⟨.hbm, 350, rfl⟩
abbrev main_v21 : Ref sig .tc := ⟨.hbm, 351, rfl⟩
abbrev main_v22 : Ref sig .tc := ⟨.hbm, 352, rfl⟩
abbrev main_v23 : Ref sig .tc := ⟨.hbm, 353, rfl⟩
abbrev main_v24 : Ref sig .tc := ⟨.hbm, 354, rfl⟩
abbrev main_v25 : Ref sig .tc := ⟨.hbm, 355, rfl⟩
abbrev main_v26 : Ref sig .tc := ⟨.hbm, 356, rfl⟩
abbrev main_v27 : Ref sig .tc := ⟨.hbm, 357, rfl⟩
abbrev main_v28 : Ref sig .tc := ⟨.hbm, 358, rfl⟩

abbrev nD : Nat := 1
abbrev τ : Topo := Topo.v7x

variable {F : FTy → Type} [FloatOps F]

abbrev main_while0_count : Scf.Loop 32 := ⟨0#32, 32#32, 1#32⟩
-- ==== Up.lean ====
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S2048x11264 : Shape := ⟨2, ![2048, 11264]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDx.lean ====
abbrev S2048x2048 : Shape := ⟨2, ![2048, 2048]⟩
abbrev S2048x11264 : Shape := ⟨2, ![2048, 11264]⟩
abbrev S2048x5632 : Shape := ⟨2, ![2048, 5632]⟩
abbrev S2048x8x1408 : Shape := ⟨3, ![2048, 8, 1408]⟩
abbrev S8x2048x1408 : Shape := ⟨3, ![8, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x5632, .f32⟩
  | .hbm, ⟨3, _⟩ => ⟨S2048x5632, .f32⟩
  | .hbm, ⟨4, _⟩ => ⟨S2048x11264, .bf16⟩
  | .hbm, ⟨5, _⟩ => ⟨S2048x8x1408, .bf16⟩
  | .hbm, ⟨6, _⟩ => ⟨S8x2048x1408, .bf16⟩
  | .hbm, ⟨7, _⟩ => ⟨S2048x5632, .bf16⟩
  | .hbm, ⟨8, _⟩ => ⟨S2048x5632, .bf16⟩
  | .hbm, ⟨9, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxReferenceIdeal.lean ====
abbrev S2048x2048 : Shape := ⟨2, ![2048, 2048]⟩
abbrev S2048x11264 : Shape := ⟨2, ![2048, 11264]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x5632, .f32⟩
  | .hbm, ⟨3, _⟩ => ⟨S2048x5632, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048x11264, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UpDw.lean ====
abbrev S2048x2048 : Shape := ⟨2, ![2048, 2048]⟩
abbrev S2048x11264 : Shape := ⟨2, ![2048, 11264]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x5632, .f32⟩
  | .hbm, ⟨3, _⟩ => ⟨S2048x5632, .f32⟩
  | .hbm, ⟨4, _⟩ => ⟨S2048x2048, .bf16⟩
  | .hbm, ⟨5, _⟩ => ⟨S2048x5632, .bf16⟩
  | .hbm, ⟨6, _⟩ => ⟨S2048x5632, .bf16⟩
  | .hbm, ⟨7, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwReferenceIdeal.lean ====
abbrev S2048x2048 : Shape := ⟨2, ![2048, 2048]⟩
abbrev S2048x11264 : Shape := ⟨2, ![2048, 11264]⟩
abbrev S2048x5632 : Shape := ⟨2, ![2048, 5632]⟩
abbrev S11264x2048 : Shape := ⟨2, ![11264, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x5632, .f32⟩
  | .hbm, ⟨3, _⟩ => ⟨S2048x5632, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048x11264, .f32⟩
  | .hbm, ⟨8, _⟩ => ⟨S11264x2048, .f32⟩
  | .hbm, ⟨9, _⟩ => ⟨S2048x11264, .f32⟩
  | .hbm, ⟨10, _⟩ => ⟨S2048x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S2048x5632 : Shape := ⟨2, ![2048, 5632]⟩
abbrev S5632x2048 : Shape := ⟨2, ![5632, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .bf16⟩
  | .hbm, ⟨4, _⟩ => ⟨S5632x2048, .bf16⟩
  | .hbm, ⟨5, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x5632, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DownDw.lean ====
abbrev S2048x5632 : Shape := ⟨2, ![2048, 5632]⟩
abbrev S5632x2048 : Shape := ⟨2, ![5632, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S2048x2048, .bf16⟩
  | .hbm, ⟨5, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutMm.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutMmReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2048x2048 : Shape := ⟨2, ![2048, 2048]⟩
abbrev S1024x1024 : Shape := ⟨2, ![1024, 1024]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchDx.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 8
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .bf16⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxReferenceIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== BranchDw.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwReferenceIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S2048x2048 : Shape := ⟨2, ![2048, 2048]⟩
abbrev S2048x10256 : Shape := ⟨2, ![2048, 10256]⟩
abbrev S10256x2048 : Shape := ⟨2, ![10256, 2048]⟩
abbrev S4096x2048 : Shape := ⟨2, ![4096, 2048]⟩
abbrev S128x2048 : Shape := ⟨2, ![128, 2048]⟩
abbrev S16x2048 : Shape := ⟨2, ![16, 2048]⟩
abbrev S_ : Shape := ⟨0, ![]⟩
abbrev S112x2048 : Shape := ⟨2, ![112, 2048]⟩
abbrev S9984x2048 : Shape := ⟨2, ![9984, 2048]⟩
abbrev S384x2048 : Shape := ⟨2, ![384, 2048]⟩
abbrev S10368x2048 : Shape := ⟨2, ![10368, 2048]⟩
abbrev S2048x10368 : Shape := ⟨2, ![2048, 10368]⟩
abbrev S1024x2048 : Shape := ⟨2, ![1024, 2048]⟩
abbrev S1152x2048 : Shape := ⟨2, ![1152, 2048]⟩
abbrev S1024x1152 : Shape := ⟨2, ![1024, 1152]⟩

abbrev nBuf : Space → Nat
  | .hbm => 30
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S10256x2048, .f32⟩
  | .hbm, ⟨3, _⟩ => ⟨S10256x2048, .bf16⟩
  | .hbm, ⟨4, _⟩ => ⟨S4096x2048, .bf16⟩
  | .hbm, ⟨5, _⟩ => ⟨S4096x2048, .bf16⟩
  | .hbm, ⟨6, _⟩ => ⟨S128x2048, .bf16⟩
  | .hbm, ⟨7, _⟩ => ⟨S128x2048, .bf16⟩
  | .hbm, ⟨8, _⟩ => ⟨S128x2048, .bf16⟩
  | .hbm, ⟨9, _⟩ => ⟨S128x2048, .bf16⟩
  | .hbm, ⟨10, _⟩ => ⟨S128x2048, .bf16⟩
  | .hbm, ⟨11, _⟩ => ⟨S128x2048, .bf16⟩
  | .hbm, ⟨12, _⟩ => ⟨S128x2048, .bf16⟩
  | .hbm, ⟨13, _⟩ => ⟨S128x2048, .bf16⟩
  | .hbm, ⟨14, _⟩ => ⟨S128x2048, .bf16⟩
  | .hbm, ⟨15, _⟩ => ⟨S128x2048, .bf16⟩
  | .hbm, ⟨16, _⟩ => ⟨S128x2048, .bf16⟩
  | .hbm, ⟨17, _⟩ => ⟨S128x2048, .bf16⟩
  | .hbm, ⟨18, _⟩ => ⟨S128x2048, .bf16⟩
  | .hbm, ⟨19, _⟩ => ⟨S128x2048, .bf16⟩
  | .hbm, ⟨20, _⟩ => ⟨S128x2048, .bf16⟩
  | .hbm, ⟨21, _⟩ => ⟨S128x2048, .bf16⟩
  | .hbm, ⟨22, _⟩ => ⟨S16x2048, .bf16⟩
  | .hbm, ⟨23, _⟩ => ⟨S_, .bf16⟩
  | .hbm, ⟨24, _⟩ => ⟨S112x2048, .bf16⟩
  | .hbm, ⟨25, _⟩ => ⟨S9984x2048, .bf16⟩
  | .hbm, ⟨26, _⟩ => ⟨S384x2048, .bf16⟩
  | .hbm, ⟨27, _⟩ => ⟨S10368x2048, .bf16⟩
  | .hbm, ⟨28, _⟩ => ⟨S2048x2048, .bf16⟩
  | .hbm, ⟨29, _⟩ => ⟨S2048x10368, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .f32⟩
  | .local _ .vmem, ⟨5, _⟩ => ⟨S1024x1152, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x2048 : Shape := ⟨2, ![2048, 2048]⟩
abbrev S2048x10256 : Shape := ⟨2, ![2048, 10256]⟩
abbrev S2048x4096 : Shape := ⟨2, ![2048, 4096]⟩
abbrev S2048x16 : Shape := ⟨2, ![2048, 16]⟩
abbrev S2048x1024 : Shape := ⟨2, ![2048, 1024]⟩
abbrev S2048x8x1x128 : Shape := ⟨4, ![2048, 8, 1, 128]⟩
abbrev S2048x8x2x128 : Shape := ⟨4, ![2048, 8, 2, 128]⟩
abbrev S_ : Shape := ⟨0, ![]⟩
abbrev S2048x10368 : Shape := ⟨2, ![2048, 10368]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S2048x10256, .f32⟩
  | .hbm, ⟨3, _⟩ => ⟨S2048x4096, .f32⟩
  | .hbm, ⟨4, _⟩ => ⟨S2048x16, .f32⟩
  | .hbm, ⟨5, _⟩ => ⟨S2048x1024, .f32⟩
  | .hbm, ⟨6, _⟩ => ⟨S2048x1024, .f32⟩
  | .hbm, ⟨7, _⟩ => ⟨S2048x4096, .f32⟩
  | .hbm, ⟨8, _⟩ => ⟨S2048x8x1x128, .f32⟩
  | .hbm, ⟨9, _⟩ => ⟨S2048x8x1x128, .f32⟩
  | .hbm, ⟨10, _⟩ => ⟨S2048x8x2x128, .f32⟩
  | .hbm, ⟨11, _⟩ => ⟨S2048x2048, .f32⟩
  | .hbm, ⟨12, _⟩ => ⟨S2048x10256, .f32⟩
  | .hbm, ⟨13, _⟩ => ⟨S_, .i32⟩
  | .hbm, ⟨14, _⟩ => ⟨S_, .f32⟩
  | .hbm, ⟨15, _⟩ => ⟨S2048x10368, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== InDx.lean ====
abbrev S2048x2048 : Shape := ⟨2, ![2048, 2048]⟩
abbrev S2048x10256 : Shape := ⟨2, ![2048, 10256]⟩
abbrev S10256x2048 : Shape := ⟨2, ![10256, 2048]⟩
abbrev S4096x2048 : Shape := ⟨2, ![4096, 2048]⟩
abbrev S128x2048 : Shape := ⟨2, ![128, 2048]⟩
abbrev S16x2048 : Shape := ⟨2, ![16, 2048]⟩
abbrev S_ : Shape := ⟨0, ![]⟩
abbrev S112x2048 : Shape := ⟨2, ![112, 2048]⟩
abbrev S9984x2048 : Shape := ⟨2, ![9984, 2048]⟩
abbrev S384x2048 : Shape := ⟨2, ![384, 2048]⟩
abbrev S10368x2048 : Shape := ⟨2, ![10368, 2048]⟩
abbrev S2048x10368 : Shape := ⟨2, ![2048, 10368]⟩
abbrev S2048x1152 : Shape := ⟨2, ![2048, 1152]⟩
abbrev S1152x1024 : Shape := ⟨2, ![1152, 1024]⟩
abbrev S2048x1024 : Shape := ⟨2, ![2048, 1024]⟩

abbrev nBuf : Space → Nat
  | .hbm => 57
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S2048x10256, .f32⟩
  | .hbm, ⟨3, _⟩ => ⟨S10256x2048, .f32⟩
  | .hbm, ⟨4, _⟩ => ⟨S10256x2048, .bf16⟩
  | .hbm, ⟨5, _⟩ => ⟨S4096x2048, .bf16⟩
  | .hbm, ⟨6, _⟩ => ⟨S4096x2048, .bf16⟩
  | .hbm, ⟨7, _⟩ => ⟨S128x2048, .bf16⟩
  | .hbm, ⟨8, _⟩ => ⟨S128x2048, .bf16⟩
  | .hbm, ⟨9, _⟩ => ⟨S128x2048, .bf16⟩
  | .hbm, ⟨10, _⟩ => ⟨S128x2048, .bf16⟩
  | .hbm, ⟨11, _⟩ => ⟨S128x2048, .bf16⟩
  | .hbm, ⟨12, _⟩ => ⟨S128x2048, .bf16⟩
  | .hbm, ⟨13, _⟩ => ⟨S128x2048, .bf16⟩
  | .hbm, ⟨14, _⟩ => ⟨S128x2048, .bf16⟩
  | .hbm, ⟨15, _⟩ => ⟨S128x2048, .bf16⟩
  | .hbm, ⟨16, _⟩ => ⟨S128x2048, .bf16⟩
  | .hbm, ⟨17, _⟩ => ⟨S128x2048, .bf16⟩
  | .hbm, ⟨18, _⟩ => ⟨S128x2048, .bf16⟩
  | .hbm, ⟨19, _⟩ => ⟨S128x2048, .bf16⟩
  | .hbm, ⟨20, _⟩ => ⟨S128x2048, .bf16⟩
  | .hbm, ⟨21, _⟩ => ⟨S128x2048, .bf16⟩
  | .hbm, ⟨22, _⟩ => ⟨S128x2048, .bf16⟩
  | .hbm, ⟨23, _⟩ => ⟨S16x2048, .bf16⟩
  | .hbm, ⟨24, _⟩ => ⟨S_, .bf16⟩
  | .hbm, ⟨25, _⟩ => ⟨S112x2048, .bf16⟩
  | .hbm, ⟨26, _⟩ => ⟨S9984x2048, .bf16⟩
  | .hbm, ⟨27, _⟩ => ⟨S384x2048, .bf16⟩
  | .hbm, ⟨28, _⟩ => ⟨S10368x2048, .bf16⟩
  | .hbm, ⟨29, _⟩ => ⟨S10256x2048, .f32⟩
  | .hbm, ⟨30, _⟩ => ⟨S10256x2048, .bf16⟩
  | .hbm, ⟨31, _⟩ => ⟨S4096x2048, .bf16⟩
  | .hbm, ⟨32, _⟩ => ⟨S4096x2048, .bf16⟩
  | .hbm, ⟨33, _⟩ => ⟨S128x2048, .bf16⟩
  | .hbm, ⟨34, _⟩ => ⟨S128x2048, .bf16⟩
  | .hbm, ⟨35, _⟩ => ⟨S128x2048, .bf16⟩
  | .hbm, ⟨36, _⟩ => ⟨S128x2048, .bf16⟩
  | .hbm, ⟨37, _⟩ => ⟨S128x2048, .bf16⟩
  | .hbm, ⟨38, _⟩ => ⟨S128x2048, .bf16⟩
  | .hbm, ⟨39, _⟩ => ⟨S128x2048, .bf16⟩
  | .hbm, ⟨40, _⟩ => ⟨S128x2048, .bf16⟩
  | .hbm, ⟨41, _⟩ => ⟨S128x2048, .bf16⟩
  | .hbm, ⟨42, _⟩ => ⟨S128x2048, .bf16⟩
  | .hbm, ⟨43, _⟩ => ⟨S128x2048, .bf16⟩
  | .hbm, ⟨44, _⟩ => ⟨S128x2048, .bf16⟩
  | .hbm, ⟨45, _⟩ => ⟨S128x2048, .bf16⟩
  | .hbm, ⟨46, _⟩ => ⟨S128x2048, .bf16⟩
  | .hbm, ⟨47, _⟩ => ⟨S128x2048, .bf16⟩
  | .hbm, ⟨48, _⟩ => ⟨S128x2048, .bf16⟩
  | .hbm, ⟨49, _⟩ => ⟨S16x2048, .bf16⟩
  | .hbm, ⟨50, _⟩ => ⟨S_, .bf16⟩
  | .hbm, ⟨51, _⟩ => ⟨S112x2048, .bf16⟩
  | .hbm, ⟨52, _⟩ => ⟨S9984x2048, .bf16⟩
  | .hbm, ⟨53, _⟩ => ⟨S384x2048, .bf16⟩
  | .hbm, ⟨54, _⟩ => ⟨S10368x2048, .bf16⟩
  | .hbm, ⟨55, _⟩ => ⟨S2048x10368, .bf16⟩
  | .hbm, ⟨56, _⟩ => ⟨S2048x2048, .f32⟩
  | .local _ .vmem, ⟨0, _⟩ => ⟨S2048x1152, .bf16⟩
  | .local _ .vmem, ⟨1, _⟩ => ⟨S2048x1152, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_0 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S2048x2048 : Shape := ⟨2, ![2048, 2048]⟩
abbrev S2048x10256 : Shape := ⟨2, ![2048, 10256]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S2048x10256, .f32⟩
  | .hbm, ⟨3, _⟩ => ⟨S2048x10256, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InDw.lean ====
abbrev S2048x2048 : Shape := ⟨2, ![2048, 2048]⟩
abbrev S2048x10256 : Shape := ⟨2, ![2048, 10256]⟩
abbrev S10256x2048 : Shape := ⟨2, ![10256, 2048]⟩
abbrev S4096x2048 : Shape := ⟨2, ![4096, 2048]⟩
abbrev S128x2048 : Shape := ⟨2, ![128, 2048]⟩
abbrev S16x2048 : Shape := ⟨2, ![16, 2048]⟩
abbrev S_ : Shape := ⟨0, ![]⟩
abbrev S112x2048 : Shape := ⟨2, ![112, 2048]⟩
abbrev S9984x2048 : Shape := ⟨2, ![9984, 2048]⟩
abbrev S384x2048 : Shape := ⟨2, ![384, 2048]⟩
abbrev S10368x2048 : Shape := ⟨2, ![10368, 2048]⟩
abbrev S2048x10368 : Shape := ⟨2, ![2048, 10368]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 32
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S2048x10256, .f32⟩
  | .hbm, ⟨3, _⟩ => ⟨S10256x2048, .f32⟩
  | .hbm, ⟨4, _⟩ => ⟨S10256x2048, .bf16⟩
  | .hbm, ⟨5, _⟩ => ⟨S4096x2048, .bf16⟩
  | .hbm, ⟨6, _⟩ => ⟨S4096x2048, .bf16⟩
  | .hbm, ⟨7, _⟩ => ⟨S128x2048, .bf16⟩
  | .hbm, ⟨8, _⟩ => ⟨S128x2048, .bf16⟩
  | .hbm, ⟨9, _⟩ => ⟨S128x2048, .bf16⟩
  | .hbm, ⟨10, _⟩ => ⟨S128x2048, .bf16⟩
  | .hbm, ⟨11, _⟩ => ⟨S128x2048, .bf16⟩
  | .hbm, ⟨12, _⟩ => ⟨S128x2048, .bf16⟩
  | .hbm, ⟨13, _⟩ => ⟨S128x2048, .bf16⟩
  | .hbm, ⟨14, _⟩ => ⟨S128x2048, .bf16⟩
  | .hbm, ⟨15, _⟩ => ⟨S128x2048, .bf16⟩
  | .hbm, ⟨16, _⟩ => ⟨S128x2048, .bf16⟩
  | .hbm, ⟨17, _⟩ => ⟨S128x2048, .bf16⟩
  | .hbm, ⟨18, _⟩ => ⟨S128x2048, .bf16⟩
  | .hbm, ⟨19, _⟩ => ⟨S128x2048, .bf16⟩
  | .hbm, ⟨20, _⟩ => ⟨S128x2048, .bf16⟩
  | .hbm, ⟨21, _⟩ => ⟨S128x2048, .bf16⟩
  | .hbm, ⟨22, _⟩ => ⟨S128x2048, .bf16⟩
  | .hbm, ⟨23, _⟩ => ⟨S16x2048, .bf16⟩
  | .hbm, ⟨24, _⟩ => ⟨S_, .bf16⟩
  | .hbm, ⟨25, _⟩ => ⟨S112x2048, .bf16⟩
  | .hbm, ⟨26, _⟩ => ⟨S9984x2048, .bf16⟩
  | .hbm, ⟨27, _⟩ => ⟨S384x2048, .bf16⟩
  | .hbm, ⟨28, _⟩ => ⟨S10368x2048, .bf16⟩
  | .hbm, ⟨29, _⟩ => ⟨S2048x10368, .bf16⟩
  | .hbm, ⟨30, _⟩ => ⟨S2048x2048, .bf16⟩
  | .hbm, ⟨31, _⟩ => ⟨S10368x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x2048 : Shape := ⟨2, ![2048, 2048]⟩
abbrev S2048x10256 : Shape := ⟨2, ![2048, 10256]⟩
abbrev S10256x2048 : Shape := ⟨2, ![10256, 2048]⟩
abbrev S2048x4096 : Shape := ⟨2, ![2048, 4096]⟩
abbrev S2048x16 : Shape := ⟨2, ![2048, 16]⟩
abbrev S2048x1024 : Shape := ⟨2, ![2048, 1024]⟩
abbrev S2048x8x1x128 : Shape := ⟨4, ![2048, 8, 1, 128]⟩
abbrev S2048x8x2x128 : Shape := ⟨4, ![2048, 8, 2, 128]⟩
abbrev S_ : Shape := ⟨0, ![]⟩
abbrev S2048x10368 : Shape := ⟨2, ![2048, 10368]⟩
abbrev S10368x2048 : Shape := ⟨2, ![10368, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x10256, .f32⟩
  | .hbm, ⟨2, _⟩ => ⟨S2048x10256, .f32⟩
  | .hbm, ⟨3, _⟩ => ⟨S2048x10256, .f32⟩
  | .hbm, ⟨4, _⟩ => ⟨S10256x2048, .f32⟩
  | .hbm, ⟨5, _⟩ => ⟨S2048x10256, .f32⟩
  | .hbm, ⟨6, _⟩ => ⟨S2048x4096, .f32⟩
  | .hbm, ⟨7, _⟩ => ⟨S2048x16, .f32⟩
  | .hbm, ⟨8, _⟩ => ⟨S2048x1024, .f32⟩
  | .hbm, ⟨9, _⟩ => ⟨S2048x1024, .f32⟩
  | .hbm, ⟨10, _⟩ => ⟨S2048x4096, .f32⟩
  | .hbm, ⟨11, _⟩ => ⟨S2048x8x1x128, .f32⟩
  | .hbm, ⟨12, _⟩ => ⟨S2048x8x1x128, .f32⟩
  | .hbm, ⟨13, _⟩ => ⟨S2048x8x2x128, .f32⟩
  | .hbm, ⟨14, _⟩ => ⟨S2048x2048, .f32⟩
  | .hbm, ⟨15, _⟩ => ⟨S2048x10256, .f32⟩
  | .hbm, ⟨16, _⟩ => ⟨S_, .i32⟩
  | .hbm, ⟨17, _⟩ => ⟨S_, .f32⟩
  | .hbm, ⟨18, _⟩ => ⟨S2048x10368, .f32⟩
  | .hbm, ⟨19, _⟩ => ⟨S10368x2048, .f32⟩
  | .hbm, ⟨20, _⟩ => ⟨S10368x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Ada.lean ====
abbrev S8x2048 : Shape := ⟨2, ![8, 2048]⟩
abbrev S8x1536 : Shape := ⟨2, ![8, 1536]⟩
abbrev S1x2048x1536 : Shape := ⟨3, ![1, 2048, 1536]⟩
abbrev S2048x1536 : Shape := ⟨2, ![2048, 1536]⟩
abbrev S8x256 : Shape := ⟨2, ![8, 256]⟩
abbrev S256x1536 : Shape := ⟨2, ![256, 1536]⟩

abbrev nBuf : Space → Nat
  | .hbm => 12
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaReferenceIdeal.lean ====
abbrev S8x2048 : Shape := ⟨2, ![8, 2048]⟩
abbrev S8x1536 : Shape := ⟨2, ![8, 1536]⟩
abbrev S1x2048x1536 : Shape := ⟨3, ![1, 2048, 1536]⟩
abbrev S2048x1536 : Shape := ⟨2, ![2048, 1536]⟩
abbrev S_ : Shape := ⟨0, ![]⟩
abbrev S1536x2048 : Shape := ⟨2, ![1536, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S2048x1536, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x1536, .f32⟩
  | .hbm, ⟨16, _⟩ => ⟨S1536x2048, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S_, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | .hbm, ⟨39, _⟩ => ⟨S_, .f32⟩
  | .hbm, ⟨40, _⟩ => ⟨S2048x1536, .f32⟩
  | .hbm, ⟨41, _⟩ => ⟨S2048x1536, .f32⟩
  | .hbm, ⟨42, _⟩ => ⟨S2048x1536, .f32⟩
  | .hbm, ⟨43, _⟩ => ⟨S_, .f32⟩
  | .hbm, ⟨44, _⟩ => ⟨S2048x1536, .f32⟩
  | .hbm, ⟨45, _⟩ => ⟨S2048x1536, .f32⟩
  | .hbm, ⟨46, _⟩ => ⟨S2048x1536, .f32⟩
  | .hbm, ⟨47, _⟩ => ⟨S_, .f32⟩
  | .hbm, ⟨48, _⟩ => ⟨S2048x1536, .f32⟩
  | .hbm, ⟨49, _⟩ => ⟨S2048x1536, .f32⟩
  | .hbm, ⟨50, _⟩ => ⟨S2048x1536, .f32⟩
  | .hbm, ⟨51, _⟩ => ⟨S_, .f32⟩
  | .hbm, ⟨52, _⟩ => ⟨S2048x1536, .f32⟩
  | .hbm, ⟨53, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Small.lean ====
abbrev S8x12288 : Shape := ⟨2, ![8, 12288]⟩
abbrev S8x2048 : Shape := ⟨2, ![8, 2048]⟩
abbrev S8x1024 : Shape := ⟨2, ![8, 1024]⟩
abbrev S8x128 : Shape := ⟨2, ![8, 128]⟩
abbrev S8x8 : Shape := ⟨2, ![8, 8]⟩
abbrev S1x12288 : Shape := ⟨2, ![1, 12288]⟩
abbrev S1x2048 : Shape := ⟨2, ![1, 2048]⟩
abbrev S2048 : Shape := ⟨1, ![2048]⟩
abbrev S1x1024 : Shape := ⟨2, ![1, 1024]⟩
abbrev S1x128 : Shape := ⟨2, ![1, 128]⟩
abbrev S1x8 : Shape := ⟨2, ![1, 8]⟩
abbrev S8x1x12288 : Shape := ⟨3, ![8, 1, 12288]⟩
abbrev S8x1x2048 : Shape := ⟨3, ![8, 1, 2048]⟩
abbrev S8x1x1024 : Shape := ⟨3, ![8, 1, 1024]⟩
abbrev S8x1x128 : Shape := ⟨3, ![8, 1, 128]⟩
abbrev S8x1x8 : Shape := ⟨3, ![8, 1, 8]⟩
abbrev S_ : Shape := ⟨0, ![]⟩
abbrev S8x1x20864 : Shape := ⟨3, ![8, 1, 20864]⟩
abbrev S8x20864 : Shape := ⟨2, ![8, 20864]⟩
abbrev S1x20864 : Shape := ⟨2, ![1, 20864]⟩

abbrev nBuf : Space → Nat
  | .hbm => 81
  | .vmem => 8
  | .smem => 0
  | _ => 0

abbrev bufTy : (tb : Table) → Fin (tcTables nBuf tb) → BufTy
  | .hbm, ⟨0, _⟩ => ⟨S8x12288, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x1024, .f32⟩
  | .hbm, ⟨5, _⟩ => ⟨S8x1024, .f32⟩
  | .hbm, ⟨6, _⟩ => ⟨S8x128, .f32⟩
  | .hbm, ⟨7, _⟩ => ⟨S8x8, .f32⟩
  | .hbm, ⟨8, _⟩ => ⟨S8x8, .f32⟩
  | .hbm, ⟨9, _⟩ => ⟨S1x12288, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S1x1024, .f32⟩
  | .hbm, ⟨14, _⟩ => ⟨S1x1024, .f32⟩
  | .hbm, ⟨15, _⟩ => ⟨S1x128, .f32⟩
  | .hbm, ⟨16, _⟩ => ⟨S1x8, .f32⟩
  | .hbm, ⟨17, _⟩ => ⟨S1x8, .f32⟩
  | .hbm, ⟨18, _⟩ => ⟨S1x12288, .f32⟩
  | .hbm, ⟨19, _⟩ => ⟨S1x2048, .f32⟩
  | .hbm, ⟨20, _⟩ => ⟨S1x2048, .f32⟩
  | .hbm, ⟨21, _⟩ => ⟨S2048, .f32⟩
  | .hbm, ⟨22, _⟩ => ⟨S1x1024, .f32⟩
  | .hbm, ⟨23, _⟩ => ⟨S1x1024, .f32⟩
  | .hbm, ⟨24, _⟩ => ⟨S1x128, .f32⟩
  | .hbm, ⟨25, _⟩ => ⟨S1x8, .f32⟩
  | .hbm, ⟨26, _⟩ => ⟨S1x8, .f32⟩
  | .hbm, ⟨27, _⟩ => ⟨S1x12288, .f32⟩
  | .hbm, ⟨28, _⟩ => ⟨S1x2048, .f32⟩
  | .hbm, ⟨29, _⟩ => ⟨S1x2048, .f32⟩
  | .hbm, ⟨30, _⟩ => ⟨S2048, .f32⟩
  | .hbm, ⟨31, _⟩ => ⟨S1x1024, .f32⟩
  | .hbm, ⟨32, _⟩ => ⟨S1x1024, .f32⟩
  | .hbm, ⟨33, _⟩ => ⟨S1x128, .f32⟩
  | .hbm, ⟨34, _⟩ => ⟨S1x8, .f32⟩
  | .hbm, ⟨35, _⟩ => ⟨S1x8, .f32⟩
  | .hbm, ⟨36, _⟩ => ⟨S8x1x12288, .f32⟩
  | .hbm, ⟨37, _⟩ => ⟨S8x1x2048, .f32⟩
  | .hbm, ⟨38, _⟩ => ⟨S8x1x2048, .f32⟩
  | .hbm, ⟨39, _⟩ => ⟨S8x1x2048, .f32⟩
  | .hbm, ⟨40, _⟩ => ⟨S8x1x1024, .f32⟩
  | .hbm, ⟨41, _⟩ => ⟨S8x1x1024, .f32⟩
  | .hbm, ⟨42, _⟩ => ⟨S8x1x128, .f32⟩
  | .hbm, ⟨43, _⟩ => ⟨S8x1x8, .f32⟩
  | .hbm, ⟨44, _⟩ => ⟨S_, .i32⟩
  | .hbm, ⟨45, _⟩ => ⟨S_, .f32⟩
  | .hbm, ⟨46, _⟩ => ⟨S8x1x128, .f32⟩
  | .hbm, ⟨47, _⟩ => ⟨S8x1x8, .f32⟩
  | .hbm, ⟨48, _⟩ => ⟨S_, .i32⟩
  | .hbm, ⟨49, _⟩ => ⟨S_, .f32⟩
  | .hbm, ⟨50, _⟩ => ⟨S8x1x128, .f32⟩
  | .hbm, ⟨51, _⟩ => ⟨S8x1x20864, .f32⟩
  | .hbm, ⟨52, _⟩ => ⟨S8x20864, .f32⟩
  | .hbm, ⟨53, _⟩ => ⟨S1x2048, .f32⟩
  | .hbm, ⟨54, _⟩ => ⟨S_, .i32⟩
  | .hbm, ⟨55, _⟩ => ⟨S_, .f32⟩
  | .hbm, ⟨56, _⟩ => ⟨S1x128, .f32⟩
  | .hbm, ⟨57, _⟩ => ⟨S_, .i32⟩
  | .hbm, ⟨58, _⟩ => ⟨S_, .f32⟩
  | .hbm, ⟨59, _⟩ => ⟨S1x128, .f32⟩
  | .hbm, ⟨60, _⟩ => ⟨S1x20864, .f32⟩
  | .hbm, ⟨61, _⟩ => ⟨S1x2048, .f32⟩
  | .hbm, ⟨62, _⟩ => ⟨S_, .i32⟩
  | .hbm, ⟨63, _⟩ => ⟨S_, .f32⟩
  | .hbm, ⟨64, _⟩ => ⟨S1x128, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S1x20864, .f32⟩
  | .hbm, ⟨69, _⟩ => ⟨S1x2048, .f32⟩
  | .hbm, ⟨70, _⟩ => ⟨S_, .i32⟩
  | .hbm, ⟨71, _⟩ => ⟨S_, .f32⟩
  | .hbm, ⟨72, _⟩ => ⟨S1x128, .f32⟩
  | .hbm, ⟨73, _⟩ => ⟨S_, .i32⟩
  | .hbm, ⟨74, _⟩ => ⟨S_, .f32⟩
  | .hbm, ⟨75, _⟩ => ⟨S1x128, .f32⟩
  | .hbm, ⟨76, _⟩ => ⟨S1x20864, .f32⟩
  | .hbm, ⟨77, _⟩ => ⟨S1x20864, .f32⟩
  | .hbm, ⟨78, _⟩ => ⟨S1x20864, .f32⟩
  | .hbm, ⟨79, _⟩ => ⟨S1x20864, .f32⟩
  | .hbm, ⟨80, _⟩ => ⟨S1x20864, .f32⟩
  | .local _ .vmem, ⟨0, _⟩ => ⟨S8x20864, .f32⟩
  | .local _ .vmem, ⟨1, _⟩ => ⟨S1x20864, .f32⟩
  | .local _ .vmem, ⟨2, _⟩ => ⟨S1x20864, .f32⟩
  | .local _ .vmem, ⟨3, _⟩ => ⟨S1x20864, .f32⟩
  | .local _ .vmem, ⟨4, _⟩ => ⟨S1x20864, .f32⟩
  | .local _ .vmem, ⟨5, _⟩ => ⟨S1x20864, .f32⟩
  | .local _ .vmem, ⟨6, _⟩ => ⟨S1x20864, .f32⟩
  | .local _ .vmem, ⟨7, _⟩ => ⟨S1x20864, .f32⟩
  | _, _ => ⟨S8x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_c : Ref sig .tc := ⟨.hbm, 44, rfl⟩
abbrev main_call0_v0 : Ref sig .tc := ⟨.hbm, 45, rfl⟩
abbrev main_v8 : Ref sig .tc := ⟨.hbm, 46, rfl⟩
abbrev main_v9 : Ref sig .tc := ⟨.hbm, 47, rfl⟩
abbrev main_c_0 : Ref sig .tc := ⟨.hbm, 48, rfl⟩
abbrev main_call1_v0 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_call2_v0 : Ref sig .tc := ⟨.hbm, 55, rfl⟩
abbrev main_v14 : Ref sig .tc := ⟨.hbm, 56, rfl⟩
abbrev main_c_2 : Ref sig .tc := ⟨.hbm, 57, rfl⟩
abbrev main_call3_v0 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_3 : Ref sig .tc := ⟨.hbm, 62, rfl⟩
abbrev main_call4_v0 : Ref sig .tc := ⟨.hbm, 63, rfl⟩
abbrev main_v18 : Ref sig .tc := ⟨.hbm, 64, rfl⟩
abbrev main_c_4 : Ref sig .tc := ⟨.hbm, 65, rfl⟩
abbrev main_call5_v0 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c_5 : Ref sig .tc := ⟨.hbm, 70, rfl⟩
abbrev main_call6_v0 : Ref sig .tc := ⟨.hbm, 71, rfl⟩
abbrev main_v22 : Ref sig .tc := ⟨.hbm, 72, rfl⟩
abbrev main_c_6 : Ref sig .tc := ⟨.hbm, 73, rfl⟩
abbrev main_call7_v0 : Ref sig .tc := ⟨.hbm, 74, rfl⟩
abbrev main_v23 : Ref sig .tc := ⟨.hbm, 75, rfl⟩
abbrev main_v24 : Ref sig .tc := ⟨.hbm, 76, rfl⟩
abbrev main_v25_0 : Ref sig .tc := ⟨.hbm, 77, rfl⟩
abbrev main_v25_1 : Ref sig .tc := ⟨.hbm, 78, rfl⟩
abbrev main_v25_2 : Ref sig .tc := ⟨.hbm, 79, rfl⟩
abbrev main_v25_3 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x20864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x20864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x20864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x20864 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x20864 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x20864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallReferenceIdeal.lean ====
abbrev S8x12288 : Shape := ⟨2, ![8, 12288]⟩
abbrev S8x2048 : Shape := ⟨2, ![8, 2048]⟩
abbrev S8x1024 : Shape := ⟨2, ![8, 1024]⟩
abbrev S8x128 : Shape := ⟨2, ![8, 128]⟩
abbrev S8x8 : Shape := ⟨2, ![8, 8]⟩
abbrev S1x12288 : Shape := ⟨2, ![1, 12288]⟩
abbrev S1x2048 : Shape := ⟨2, ![1, 2048]⟩
abbrev S2048 : Shape := ⟨1, ![2048]⟩
abbrev S1x1024 : Shape := ⟨2, ![1, 1024]⟩
abbrev S1x128 : Shape := ⟨2, ![1, 128]⟩
abbrev S1x8 : Shape := ⟨2, ![1, 8]⟩
abbrev S_ : Shape := ⟨0, ![]⟩
abbrev S12288 : Shape := ⟨1, ![12288]⟩
abbrev S1024 : Shape := ⟨1, ![1024]⟩
abbrev S128 : Shape := ⟨1, ![128]⟩
abbrev S8 : Shape := ⟨1, ![8]⟩
abbrev S1x20864 : Shape := ⟨2, ![1, 20864]⟩

abbrev nBuf : Space → Nat
  | .hbm => 127
  | .vmem => 0
  | .smem => 0
  | _ => 0

abbrev bufTy : (tb : Table) → Fin (tcTables nBuf tb) → BufTy
  | .hbm, ⟨0, _⟩ => ⟨S8x12288, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x1024, .f32⟩
  | .hbm, ⟨5, _⟩ => ⟨S8x1024, .f32⟩
  | .hbm, ⟨6, _⟩ => ⟨S8x128, .f32⟩
  | .hbm, ⟨7, _⟩ => ⟨S8x8, .f32⟩
  | .hbm, ⟨8, _⟩ => ⟨S8x8, .f32⟩
  | .hbm, ⟨9, _⟩ => ⟨S1x12288, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S1x1024, .f32⟩
  | .hbm, ⟨14, _⟩ => ⟨S1x1024, .f32⟩
  | .hbm, ⟨15, _⟩ => ⟨S1x128, .f32⟩
  | .hbm, ⟨16, _⟩ => ⟨S1x8, .f32⟩
  | .hbm, ⟨17, _⟩ => ⟨S1x8, .f32⟩
  | .hbm, ⟨18, _⟩ => ⟨S1x12288, .f32⟩
  | .hbm, ⟨19, _⟩ => ⟨S1x2048, .f32⟩
  | .hbm, ⟨20, _⟩ => ⟨S1x2048, .f32⟩
  | .hbm, ⟨21, _⟩ => ⟨S2048, .f32⟩
  | .hbm, ⟨22, _⟩ => ⟨S1x1024, .f32⟩
  | .hbm, ⟨23, _⟩ => ⟨S1x1024, .f32⟩
  | .hbm, ⟨24, _⟩ => ⟨S1x128, .f32⟩
  | .hbm, ⟨25, _⟩ => ⟨S1x8, .f32⟩
  | .hbm, ⟨26, _⟩ => ⟨S1x8, .f32⟩
  | .hbm, ⟨27, _⟩ => ⟨S1x12288, .f32⟩
  | .hbm, ⟨28, _⟩ => ⟨S1x2048, .f32⟩
  | .hbm, ⟨29, _⟩ => ⟨S1x2048, .f32⟩
  | .hbm, ⟨30, _⟩ => ⟨S2048, .f32⟩
  | .hbm, ⟨31, _⟩ => ⟨S1x1024, .f32⟩
  | .hbm, ⟨32, _⟩ => ⟨S1x1024, .f32⟩
  | .hbm, ⟨33, _⟩ => ⟨S1x128, .f32⟩
  | .hbm, ⟨34, _⟩ => ⟨S1x8, .f32⟩
  | .hbm, ⟨35, _⟩ => ⟨S1x8, .f32⟩
  | .hbm, ⟨36, _⟩ => ⟨S_, .f32⟩
  | .hbm, ⟨37, _⟩ => ⟨S12288, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S1x12288, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x1024, .f32⟩
  | .hbm, ⟨59, _⟩ => ⟨S1x1024, .f32⟩
  | .hbm, ⟨60, _⟩ => ⟨S1x128, .f32⟩
  | .hbm, ⟨61, _⟩ => ⟨S1x8, .f32⟩
  | .hbm, ⟨62, _⟩ => ⟨S1x8, .f32⟩
  | .hbm, ⟨63, _⟩ => ⟨S_, .i32⟩
  | .hbm, ⟨64, _⟩ => ⟨S_, .f32⟩
  | .hbm, ⟨65, _⟩ => ⟨S1x128, .f32⟩
  | .hbm, ⟨66, _⟩ => ⟨S_, .i32⟩
  | .hbm, ⟨67, _⟩ => ⟨S_, .f32⟩
  | .hbm, ⟨68, _⟩ => ⟨S1x128, .f32⟩
  | .hbm, ⟨69, _⟩ => ⟨S1x20864, .f32⟩
  | .hbm, ⟨70, _⟩ => ⟨S1x2048, .f32⟩
  | .hbm, ⟨71, _⟩ => ⟨S_, .i32⟩
  | .hbm, ⟨72, _⟩ => ⟨S_, .f32⟩
  | .hbm, ⟨73, _⟩ => ⟨S1x128, .f32⟩
  | .hbm, ⟨74, _⟩ => ⟨S_, .i32⟩
  | .hbm, ⟨75, _⟩ => ⟨S_, .f32⟩
  | .hbm, ⟨76, _⟩ => ⟨S1x128, .f32⟩
  | .hbm, ⟨77, _⟩ => ⟨S1x20864, .f32⟩
  | .hbm, ⟨78, _⟩ => ⟨S1x2048, .f32⟩
  | .hbm, ⟨79, _⟩ => ⟨S_, .i32⟩
  | .hbm, ⟨80, _⟩ => ⟨S_, .f32⟩
  | .hbm, ⟨81, _⟩ => ⟨S1x128, .f32⟩
  | .hbm, ⟨82, _⟩ => ⟨S_, .i32⟩
  | .hbm, ⟨83, _⟩ => ⟨S_, .f32⟩
  | .hbm, ⟨84, _⟩ => ⟨S1x128, .f32⟩
  | .hbm, ⟨85, _⟩ => ⟨S1x20864, .f32⟩
  | .hbm, ⟨86, _⟩ => ⟨S1x2048, .f32⟩
  | .hbm, ⟨87, _⟩ => ⟨S_, .i32⟩
  | .hbm, ⟨88, _⟩ => ⟨S_, .f32⟩
  | .hbm, ⟨89, _⟩ => ⟨S1x128, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S1x20864, .f32⟩
  | .hbm, ⟨94, _⟩ => ⟨S_, .f32⟩
  | .hbm, ⟨95, _⟩ => ⟨S1x20864, .f32⟩
  | .hbm, ⟨96, _⟩ => ⟨S1x20864, .f32⟩
  | .hbm, ⟨97, _⟩ => ⟨S_, .f32⟩
  | .hbm, ⟨98, _⟩ => ⟨S1x20864, .f32⟩
  | .hbm, ⟨99, _⟩ => ⟨S1x20864, .f32⟩
  | .hbm, ⟨100, _⟩ => ⟨S1x20864, .f32⟩
  | .hbm, ⟨101, _⟩ => ⟨S_, .f32⟩
  | .hbm, ⟨102, _⟩ => ⟨S1x20864, .f32⟩
  | .hbm, ⟨103, _⟩ => ⟨S1x20864, .f32⟩
  | .hbm, ⟨104, _⟩ => ⟨S1x20864, .f32⟩
  | .hbm, ⟨105, _⟩ => ⟨S_, .f32⟩
  | .hbm, ⟨106, _⟩ => ⟨S1x20864, .f32⟩
  | .hbm, ⟨107, _⟩ => ⟨S1x20864, .f32⟩
  | .hbm, ⟨108, _⟩ => ⟨S1x20864, .f32⟩
  | .hbm, ⟨109, _⟩ => ⟨S_, .f32⟩
  | .hbm, ⟨110, _⟩ => ⟨S1x20864, .f32⟩
  | .hbm, ⟨111, _⟩ => ⟨S1x20864, .f32⟩
  | .hbm, ⟨112, _⟩ => ⟨S_, .f32⟩
  | .hbm, ⟨113, _⟩ => ⟨S1x20864, .f32⟩
  | .hbm, ⟨114, _⟩ => ⟨S1x20864, .f32⟩
  | .hbm, ⟨115, _⟩ => ⟨S1x20864, .f32⟩
  | .hbm, ⟨116, _⟩ => ⟨S_, .f32⟩
  | .hbm, ⟨117, _⟩ => ⟨S1x20864, .f32⟩
  | .hbm, ⟨118, _⟩ => ⟨S1x20864, .f32⟩
  | .hbm, ⟨119, _⟩ => ⟨S1x20864, .f32⟩
  | .hbm, ⟨120, _⟩ => ⟨S_, .f32⟩
  | .hbm, ⟨121, _⟩ => ⟨S1x20864, .f32⟩
  | .hbm, ⟨122, _⟩ => ⟨S1x20864, .f32⟩
  | .hbm, ⟨123, _⟩ => ⟨S1x20864, .f32⟩
  | .hbm, ⟨124, _⟩ => ⟨S_, .f32⟩
  | .hbm, ⟨125, _⟩ => ⟨S1x20864, .f32⟩
  | .hbm, ⟨126, _⟩ => ⟨S1x20864, .f32⟩
  | _, _ => ⟨S8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_cst_0 : Ref sig .tc := ⟨.hbm, 38, rfl⟩
abbrev main_v1 : Ref sig .tc := ⟨.hbm, 39, rfl⟩
abbrev main_cst_1 : Ref sig .tc := ⟨.hbm, 40, rfl⟩
abbrev main_v2 : Ref sig .tc := ⟨.hbm, 41, rfl⟩
abbrev main_cst_2 : Ref sig .tc := ⟨.hbm, 42, rfl⟩
abbrev main_v3 : Ref sig .tc := ⟨.hbm, 43, rfl⟩
abbrev main_cst_3 : Ref sig .tc := ⟨.hbm, 44, rfl⟩
abbrev main_v4 : Ref sig .tc := ⟨.hbm, 45, rfl⟩
abbrev main_cst_4 : Ref sig .tc := ⟨.hbm, 46, rfl⟩
abbrev main_v5 : Ref sig .tc := ⟨.hbm, 47, rfl⟩
abbrev main_cst_5 : Ref sig .tc := ⟨.hbm, 48, rfl⟩
abbrev main_v6 : Ref sig .tc := ⟨.hbm, 49, rfl⟩
abbrev main_cst_6 : Ref sig .tc := ⟨.hbm, 50, rfl⟩
abbrev main_v7 : Ref sig .tc := ⟨.hbm, 51, rfl⟩
abbrev main_cst_7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_c : Ref sig .tc := ⟨.hbm, 63, rfl⟩
abbrev main_call0_v0 : Ref sig .tc := ⟨.hbm, 64, rfl⟩
abbrev main_v18 : Ref sig .tc := ⟨.hbm, 65, rfl⟩
abbrev main_c_8 : Ref sig .tc := ⟨.hbm, 66, rfl⟩
abbrev main_call1_v0 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_9 : Ref sig .tc := ⟨.hbm, 71, rfl⟩
abbrev main_call2_v0 : Ref sig .tc := ⟨.hbm, 72, rfl⟩
abbrev main_v22 : Ref sig .tc := ⟨.hbm, 73, rfl⟩
abbrev main_c_10 : Ref sig .tc := ⟨.hbm, 74, rfl⟩
abbrev main_call3_v0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_c_11 : Ref sig .tc := ⟨.hbm, 79, rfl⟩
abbrev main_call4_v0 : Ref sig .tc := ⟨.hbm, 80, rfl⟩
abbrev main_v26 : Ref sig .tc := ⟨.hbm, 81, rfl⟩
abbrev main_c_12 : Ref sig .tc := ⟨.hbm, 82, rfl⟩
abbrev main_call5_v0 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_c_13 : Ref sig .tc := ⟨.hbm, 87, rfl⟩
abbrev main_call6_v0 : Ref sig .tc := ⟨.hbm, 88, rfl⟩
abbrev main_v30 : Ref sig .tc := ⟨.hbm, 89, rfl⟩
abbrev main_c_14 : Ref sig .tc := ⟨.hbm, 90, rfl⟩
abbrev main_call7_v0 : Ref sig .tc := ⟨.hbm, 91, rfl⟩
abbrev main_v31 : Ref sig .tc := ⟨.hbm, 92, rfl⟩
abbrev main_v32 : Ref sig .tc := ⟨.hbm, 93, rfl⟩
abbrev main_cst_15 : Ref sig .tc := ⟨.hbm, 94, rfl⟩
abbrev main_v33 : Ref sig .tc := ⟨.hbm, 95, rfl⟩
abbrev main_v34 : Ref sig .tc := ⟨.hbm, 96, rfl⟩
abbrev main_cst_16 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_17 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_18 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_19 : Ref sig .tc := ⟨.hbm, 109, rfl⟩
abbrev main_v44 : Ref sig .tc := ⟨.hbm, 110, rfl⟩
abbrev main_v45 : Ref sig .tc := ⟨.hbm, 111, rfl⟩
abbrev main_cst_20 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_cst_21 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_22 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_cst_23 : Ref sig .tc := ⟨.hbm, 124, rfl⟩
abbrev main_v55 : Ref sig .tc := ⟨.hbm, 125, rfl⟩
abbrev main_v56 : Ref sig .tc := ⟨.hbm, 126, rfl⟩

abbrev nD : Nat := 1
abbrev τ : Topo := Topo.v7x

variable {F : FTy → Type} [FloatOps F]
-- ==== Proof.Spec.lean ====
/-
  The mathematics of one chunk of the gated delta rule's backward pass, over the real numbers: one head, one chunk of
  64 rows.  Nothing here mentions a program; both programs are shown to compute these matrices.
-/
module

public import Mathlib.Data.Matrix.Mul
public import Mathlib.Analysis.SpecialFunctions.Exp

@[expose] public section

noncomputable section

namespace Cert.Delta

open Matrix

/-- What one head's chunk is given: the rows of `q`, `k`, `v` and of the output's gradient `d`, the cumulative log
    decay `g`, the step sizes `b`, the inverse `T` of the chunk's triangular matrix, the state `S` the chunk starts
    from and the gradient `dS` of the state it ends in. -/
structure Chunk where
  q : Matrix (Fin 64) (Fin 128) ℝ
  k : Matrix (Fin 64) (Fin 128) ℝ
  v : Matrix (Fin 64) (Fin 128) ℝ
  d : Matrix (Fin 64) (Fin 128) ℝ
  g : Fin 64 → ℝ
  b : Fin 64 → ℝ
  T : Matrix (Fin 64) (Fin 64) ℝ
  S : Matrix (Fin 128) (Fin 128) ℝ
  dS : Matrix (Fin 128) (Fin 128) ℝ

/-- Each row of a matrix times its own factor. -/
def rows {m n : ℕ} (A : Matrix (Fin m) (Fin n) ℝ) (e : Fin m → ℝ) : Matrix (Fin m) (Fin n) ℝ :=
  Matrix.of fun i j => A i j * e i

/-- The sum of each row of the elementwise product of two matrices. -/
def rowDot {m n : ℕ} (A B : Matrix (Fin m) (Fin n) ℝ) : Fin m → ℝ := fun i => ∑ j, A i j * B i j

namespace Chunk

variable (c : Chunk)

/-- `exp g`, the decay from the chunk's start to a row. -/
def eg : Fin 64 → ℝ := fun i => Real.exp (c.g i)
/-- The decay over the whole chunk. -/
def egl : ℝ := Real.exp (c.g 63)
/-- The decay from a row to the chunk's end. -/
def ekd : Fin 64 → ℝ := fun i => Real.exp (c.g 63 - c.g i)
/-- The decay from row `j` to row `i`, for `j ≤ i`; zero above the diagonal. -/
def decay : Matrix (Fin 64) (Fin 64) ℝ := Matrix.of fun i j => if j ≤ i then Real.exp (c.g i - c.g j) else 0
/-- `β k`. -/
def kb : Matrix (Fin 64) (Fin 128) ℝ := rows c.k c.b
/-- `β v`. -/
def vb : Matrix (Fin 64) (Fin 128) ℝ := rows c.v c.b
/-- `β k e^g`. -/
def kbg : Matrix (Fin 64) (Fin 128) ℝ := rows c.kb c.eg
/-- `q e^g`. -/
def qg : Matrix (Fin 64) (Fin 128) ℝ := rows c.q c.eg
/-- `k`, decayed to the chunk's end. -/
def kd : Matrix (Fin 64) (Fin 128) ℝ := rows c.k c.ekd
/-- `(β k) kᵀ`. -/
def kk : Matrix (Fin 64) (Fin 64) ℝ := c.kb * c.kᵀ
/-- `q kᵀ`. -/
def qk : Matrix (Fin 64) (Fin 64) ℝ := c.q * c.kᵀ
/-- The chunk's updates `u = T (β v − (β k e^g) S)`. -/
def u : Matrix (Fin 64) (Fin 128) ℝ := c.T * (c.vb - c.kbg * c.S)
/-- The attention inside the chunk. -/
def attn : Matrix (Fin 64) (Fin 64) ℝ := Matrix.of fun i j => c.qk i j * c.decay i j
/-- The gradient of `u`. -/
def du : Matrix (Fin 64) (Fin 128) ℝ := c.attnᵀ * c.d + c.kd * c.dS
/-- The gradient of the right-hand side of the triangular system. -/
def dr : Matrix (Fin 64) (Fin 128) ℝ := c.Tᵀ * c.du
/-- The gradient of the state the chunk starts from. -/
def dSnew : Matrix (Fin 128) (Fin 128) ℝ := c.qgᵀ * c.d + c.egl • c.dS - c.kbgᵀ * c.dr
/-- The gradient of `q kᵀ`. -/
def dP : Matrix (Fin 64) (Fin 64) ℝ := Matrix.of fun i j => (c.d * c.uᵀ) i j * c.decay i j
/-- The gradient of `(β k) kᵀ`. -/
def dA : Matrix (Fin 64) (Fin 64) ℝ :=
  Matrix.of fun i j => (if j < i then -(c.dr * c.uᵀ) i j else 0) * c.decay i j
/-- The gradient of `q e^g`. -/
def dqg : Matrix (Fin 64) (Fin 128) ℝ := c.d * c.Sᵀ
/-- The gradient of `β k e^g`. -/
def dkbg : Matrix (Fin 64) (Fin 128) ℝ := -(c.dr * c.Sᵀ)
/-- The gradient of the decayed `k`. -/
def dkd : Matrix (Fin 64) (Fin 128) ℝ := c.u * c.dSᵀ
/-- The gradient of `β k`. -/
def dkb : Matrix (Fin 64) (Fin 128) ℝ := c.dA * c.k + rows c.dkbg c.eg
/-- The gradient of `k`. -/
def dk : Matrix (Fin 64) (Fin 128) ℝ := c.dAᵀ * c.kb + c.dPᵀ * c.q + rows c.dkd c.ekd + rows c.dkb c.b
/-- The gradient of `q`. -/
def dq : Matrix (Fin 64) (Fin 128) ℝ := c.dP * c.k + rows c.dqg c.eg
/-- The gradient of `v`. -/
def dv : Matrix (Fin 64) (Fin 128) ℝ := rows c.dr c.b
/-- What each row gives to the gradient of the last log decay. -/
def cd : Fin 64 → ℝ := rowDot c.dkd c.kd
/-- The gradient of the entries `g i − g j`. -/
def dD : Matrix (Fin 64) (Fin 64) ℝ := Matrix.of fun i j => c.dA i j * c.kk i j + c.dP i j * c.qk i j
/-- The gradient of the last log decay. -/
def dgl : ℝ := (∑ i, c.cd i) + c.egl * ∑ i, ∑ j, c.dS i j * c.S i j
/-- The gradient of `g`. -/
def dg : Fin 64 → ℝ := fun i =>
  (∑ j, c.dD i j) - (∑ j, c.dD j i) + rowDot c.dqg c.qg i + rowDot c.dkbg c.kbg i - c.cd i
    + (if i = 63 then c.dgl else 0)
/-- The gradient of the step sizes. -/
def db : Fin 64 → ℝ := fun i => rowDot c.dkb c.k i + rowDot c.dr c.v i

end Chunk

end Cert.Delta
-- ==== Proof.Grad.lean ====
/-
  The gradients over the whole arrays: eight heads, thirty-two chunks of 64 rows each, walked from the last chunk to the
  first with the gradient of the state carried along.
-/
module

public import proofs.«01_k».proof.Proof.Spec

@[expose] public section

noncomputable section

namespace Cert.Delta

/-- Row `i` of chunk `n`. -/
def row (n : Fin 32) (i : Fin 64) : Fin 2048 := ⟨64 * n.val + i.val, by omega⟩
/-- Lane `j` of head `h`. -/
def col (h : Fin 8) (j : Fin 128) : Fin 1024 := ⟨128 * h.val + j.val, by omega⟩
/-- The chunk a row lies in. -/
def chunkOf (r : Fin 2048) : Fin 32 := ⟨r.val / 64, by omega⟩
/-- A row's place in its chunk. -/
def rowIn (r : Fin 2048) : Fin 64 := ⟨r.val % 64, by omega⟩
/-- The head a column lies in. -/
def headOf (c : Fin 1024) : Fin 8 := ⟨c.val / 128, by omega⟩
/-- A column's lane in its head. -/
def laneIn (c : Fin 1024) : Fin 128 := ⟨c.val % 128, by omega⟩

/-- Row `i` of chunk `n` lies in chunk `n`. -/
theorem chunkOf_row (n : Fin 32) (i : Fin 64) : chunkOf (row n i) = n := Fin.ext (by simp only [chunkOf, row]; omega)
/-- Row `i` of a chunk is at place `i` of it. -/
theorem rowIn_row (n : Fin 32) (i : Fin 64) : rowIn (row n i) = i := Fin.ext (by simp only [rowIn, row]; omega)
/-- Lane `j` of head `h` lies in head `h`. -/
theorem headOf_col (h : Fin 8) (j : Fin 128) : headOf (col h j) = h := Fin.ext (by simp only [headOf, col]; omega)
/-- Lane `j` of a head is at place `j` of it. -/
theorem laneIn_col (h : Fin 8) (j : Fin 128) : laneIn (col h j) = j := Fin.ext (by simp only [laneIn, col]; omega)

/-- The arguments, as real arrays. -/
structure Args where
  q : Matrix (Fin 2048) (Fin 1024) ℝ
  k : Matrix (Fin 2048) (Fin 1024) ℝ
  v : Matrix (Fin 2048) (Fin 1024) ℝ
  g : Matrix (Fin 2048) (Fin 8) ℝ
  b : Matrix (Fin 2048) (Fin 8) ℝ
  S : Fin 8 → Fin 32 → Matrix (Fin 128) (Fin 128) ℝ
  T : Fin 8 → Fin 32 → Matrix (Fin 64) (Fin 64) ℝ
  d : Matrix (Fin 2048) (Fin 1024) ℝ

namespace Args

variable (a : Args)

/-- Chunk `n` of head `h`, given the gradient of the state it ends in. -/
def chunk (h : Fin 8) (n : Fin 32) (dS : Matrix (Fin 128) (Fin 128) ℝ) : Chunk where
  q := Matrix.of fun i j => a.q (row n i) (col h j)
  k := Matrix.of fun i j => a.k (row n i) (col h j)
  v := Matrix.of fun i j => a.v (row n i) (col h j)
  d := Matrix.of fun i j => a.d (row n i) (col h j)
  g := fun i => a.g (row n i) h
  b := fun i => a.b (row n i) h
  T := a.T h n
  S := a.S h n
  dS := dS

/-- The gradient of head `h`'s state carried into the `m`-th chunk from the end; zero at the end. -/
def dState (h : Fin 8) : ℕ → Matrix (Fin 128) (Fin 128) ℝ
  | 0 => 0
  | m + 1 => (a.chunk h ⟨31 - m, by omega⟩ (dState h m)).dSnew

/-- Chunk `n` of head `h` with the gradient of the state it ends in. -/
def part (h : Fin 8) (n : Fin 32) : Chunk := a.chunk h n (a.dState h (31 - n.val))

def dq : Matrix (Fin 2048) (Fin 1024) ℝ := Matrix.of fun r c => (a.part (headOf c) (chunkOf r)).dq (rowIn r) (laneIn c)
def dk : Matrix (Fin 2048) (Fin 1024) ℝ := Matrix.of fun r c => (a.part (headOf c) (chunkOf r)).dk (rowIn r) (laneIn c)
def dv : Matrix (Fin 2048) (Fin 1024) ℝ := Matrix.of fun r c => (a.part (headOf c) (chunkOf r)).dv (rowIn r) (laneIn c)
def dg : Fin 8 → Matrix (Fin 32) (Fin 64) ℝ := fun h => Matrix.of fun n i => (a.part h n).dg i
def db : Fin 8 → Matrix (Fin 32) (Fin 64) ℝ := fun h => Matrix.of fun n i => (a.part h n).db i

/-- The gradient of the state, one chunk further back. -/
theorem dState_succ (h : Fin 8) (n : Fin 32) (m : ℕ) (hn : n.val = 31 - m) :
    a.dState h (m + 1) = (a.chunk h n (a.dState h m)).dSnew := by
  have e : n = ⟨31 - m, by omega⟩ := Fin.ext hn
  rw [e]; rfl
/-- A chunk's part of the gradients, counted from the last chunk. -/
theorem part_eq (h : Fin 8) (n : Fin 32) (m : ℕ) (hn : n.val + m = 31) : a.part h n = a.chunk h n (a.dState h m) := by
  unfold part; rw [show 31 - n.val = m by omega]

end Args

end Cert.Delta
-- ==== Proof.Mat.lean ====
/-
  Vectors of real numbers, and what each vector operation of the kernel's body makes of them.  At the exact instance a
  float is an extended real; a vector whose every entry is a real number stays one under each of these operations, and
  the operation is the matrix operation of the same name.
-/
module

public import Idealize.ShloMosaic.Lib.Pointwise
public import Mathlib.Data.Matrix.Mul
public import proofs.«01_k».proof.Proof.Gen.KernelIdeal.Skeleton
public import proofs.«01_k».proof.Proof.Spec

@[expose] public section

noncomputable section

namespace Cert.Delta

open Idealize.ShloMosaic Cert.KernelIdeal Cert.KernelIdeal.Gen Matrix

/-- The vector with the real entries `A`. -/
def re1 {n : ℕ} (A : Fin n → ℝ) : (⟨1, ![n]⟩ : Shape).Idx → EReal := fun j => ((A (j 0) : ℝ) : EReal)
/-- The rank-two vector with the real entries `A`. -/
def re2 {m n : ℕ} (A : Matrix (Fin m) (Fin n) ℝ) : (⟨2, ![m, n]⟩ : Shape).Idx → EReal :=
  fun j => ((A (j 0) (j 1) : ℝ) : EReal)
/-- The rank-three vector with the real entries `A`. -/
def re3 {l m n : ℕ} (A : Fin l → Matrix (Fin m) (Fin n) ℝ) : (⟨3, ![l, m, n]⟩ : Shape).Idx → EReal :=
  fun j => ((A (j 0) (j 1) (j 2) : ℝ) : EReal)
/-- The rank-four vector with the real entries `A`. -/
def re4 {k l m n : ℕ} (A : Fin k → Fin l → Matrix (Fin m) (Fin n) ℝ) : (⟨4, ![k, l, m, n]⟩ : Shape).Idx → EReal :=
  fun j => ((A (j 0) (j 1) (j 2) (j 3) : ℝ) : EReal)

/-- An entry of a real vector. -/
theorem re1_ix {n : ℕ} (A : Fin n → ℝ) (i : Fin n) : re1 A (ix1 i) = ((A i : ℝ) : EReal) := rfl
/-- An entry of a real matrix. -/
theorem re2_ix {m n : ℕ} (A : Matrix (Fin m) (Fin n) ℝ) (i : Fin m) (j : Fin n) :
    re2 A (ix2 i j) = ((A i j : ℝ) : EReal) := rfl
/-- An entry of a real array of rank three. -/
theorem re3_ix {l m n : ℕ} (A : Fin l → Matrix (Fin m) (Fin n) ℝ) (h : Fin l) (i : Fin m) (j : Fin n) :
    re3 A (ix3 h i j) = ((A h i j : ℝ) : EReal) := rfl
/-- An entry of a real array of rank four. -/
theorem re4_ix {k l m n : ℕ} (A : Fin k → Fin l → Matrix (Fin m) (Fin n) ℝ) (e : Fin k) (h : Fin l) (i : Fin m)
    (j : Fin n) : re4 A (ix4 e h i j) = ((A e h i j : ℝ) : EReal) := rfl

/-- A finite sum of real numbers, read in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A vector with the entries of `A` is `A`. -/
theorem eq_re1 {n : ℕ} {x : (⟨1, ![n]⟩ : Shape).Idx → EReal} {A : Fin n → ℝ}
    (h : ∀ i, x (ix1 i) = ((A i : ℝ) : EReal)) : x = re1 A := by
  funext j; rw [eq_ix1 j]; exact h _
/-- A matrix with the entries of `A` is `A`. -/
theorem eq_re2 {m n : ℕ} {x : (⟨2, ![m, n]⟩ : Shape).Idx → EReal} {A : Matrix (Fin m) (Fin n) ℝ}
    (h : ∀ i j, x (ix2 i j) = ((A i j : ℝ) : EReal)) : x = re2 A := by
  funext j; rw [eq_ix2 j]; exact h _ _
/-- An array of rank three with the entries of `A` is `A`. -/
theorem eq_re3 {l m n : ℕ} {x : (⟨3, ![l, m, n]⟩ : Shape).Idx → EReal} {A : Fin l → Matrix (Fin m) (Fin n) ℝ}
    (h : ∀ e i j, x (ix3 e i j) = ((A e i j : ℝ) : EReal)) : x = re3 A := by
  funext j; rw [eq_ix3 j]; exact h _ _ _

section Ops
variable {m n k : ℕ} {φ : FTy}

/-- A sum of real matrices. -/
theorem addf_re2 (A B : Matrix (Fin m) (Fin n) ℝ) :
    addf (F := Ideal) (φ := φ) (re2 A) (re2 B) = re2 (A + B) :=
  eq_re2 fun i j => by pointwise [re2_ix]; simp
/-- A difference of real matrices. -/
theorem subf_re2 (A B : Matrix (Fin m) (Fin n) ℝ) :
    subf (F := Ideal) (φ := φ) (re2 A) (re2 B) = re2 (A - B) :=
  eq_re2 fun i j => by pointwise [re2_ix]; simp
/-- An elementwise product of real matrices. -/
theorem mulf_re2 (A B : Matrix (Fin m) (Fin n) ℝ) :
    mulf (F := Ideal) (φ := φ) (re2 A) (re2 B) = re2 (Matrix.of fun i j => A i j * B i j) :=
  eq_re2 fun i j => by pointwise [re2_ix]; simp
/-- The exponential of each entry of a real matrix. -/
theorem exp_re2 (A : Matrix (Fin m) (Fin n) ℝ) :
    exp (F := Ideal) (φ := φ) (re2 A) = re2 (Matrix.of fun i j => Real.exp (A i j)) :=
  eq_re2 fun i j => by pointwise [re2_ix]; simp
/-- A narrower format holds the same real matrix. -/
theorem truncf_re2 {ψ : FTy} (h : ψ.bits < φ.bits) (A : Matrix (Fin m) (Fin n) ℝ) :
    truncf (F := Ideal) (φ := φ) ψ (re2 A) h = re2 A := rfl
/-- The vector of the float zero. -/
theorem zero_re2 : broadcast (⟨2, ![m, n]⟩ : Shape) (Scalar.ofBits .f32 0x00000000#32 : Ideal .f32)
    = re2 (0 : Matrix (Fin m) (Fin n) ℝ) :=
  eq_re2 fun i j => by pointwise; simp
/-- The constant zero is the zero matrix. -/
theorem constant_re2 : constant (F := Ideal) (⟨2, ![m, n]⟩ : Shape) .f32 0x00000000#32
    = re2 (0 : Matrix (Fin m) (Fin n) ℝ) :=
  eq_re2 fun i j => by pointwise; simp
/-- A choice between two real vectors by a mask that holds exactly where `p` does. -/
theorem select_re2 (c : IVec (⟨2, ![m, n]⟩ : Shape) 1) (p : Fin m → Fin n → Prop) [∀ i j, Decidable (p i j)]
    (hc : ∀ i j, c (ix2 i j) = if p i j then 1#1 else 0#1) (A B : Matrix (Fin m) (Fin n) ℝ) :
    select (α := EReal) c (re2 A) (re2 B) = re2 (Matrix.of fun i j => if p i j then A i j else B i j) :=
  eq_re2 fun i j => by
    pointwise [hc, re2_ix]
    by_cases hp : p i j <;> simp [hp, Scalar.select]
end Ops

/-! ### The body's re-indexings -/

/-- A cast to the same shape. -/
theorem cast_64x128 (A : Matrix (Fin 64) (Fin 128) ℝ) :
    shapeCast (α := EReal) S64x128 (re2 A) shapeCasts_S64x128_S64x128 = re2 A :=
  eq_re2 fun i j => by pointwise [re2_ix]
/-- A slab alone is a matrix. -/
theorem cast_1x64x128 (A : Fin 1 → Matrix (Fin 64) (Fin 128) ℝ) :
    shapeCast (α := EReal) S64x128 (re3 A) shapeCasts_S1x64x128_S64x128 = re2 (A 0) :=
  eq_re2 fun i j => by pointwise [re3_ix]
/-- An inverse alone is a matrix. -/
theorem cast_1x1x64x64 (A : Fin 1 → Fin 1 → Matrix (Fin 64) (Fin 64) ℝ) :
    shapeCast (α := EReal) S64x64 (re4 A) shapeCasts_S1x1x64x64_S64x64 = re2 (A 0 0) :=
  eq_re2 fun i j => by pointwise [re4_ix]
/-- A state alone is a matrix. -/
theorem cast_1x1x128x128 (A : Fin 1 → Fin 1 → Matrix (Fin 128) (Fin 128) ℝ) :
    shapeCast (α := EReal) S128x128 (re4 A) shapeCasts_S1x1x128x128_S128x128 = re2 (A 0 0) :=
  eq_re2 fun i j => by pointwise [re4_ix]
/-- A line alone is a row. -/
theorem cast_1x1x64 (A : Fin 1 → Matrix (Fin 1) (Fin 64) ℝ) :
    shapeCast (α := EReal) S1x64 (re3 A) shapeCasts_S1x1x64_S1x64 = re2 (A 0) :=
  eq_re2 fun i j => by
    pointwise [re3_ix]
    rw [Fin.fin_one_eq_zero i]
/-- A row as an array of rank three. -/
theorem cast_1x64 (A : Matrix (Fin 1) (Fin 64) ℝ) :
    shapeCast (α := EReal) S1x1x64 (re2 A) shapeCasts_S1x64_S1x1x64 = re3 fun _ => A :=
  eq_re3 fun e i j => by
    pointwise [re2_ix]
    rw [Fin.fin_one_eq_zero i]
/-- A column, cast to its own shape. -/
theorem cast_64x1 (A : Matrix (Fin 64) (Fin 1) ℝ) :
    shapeCast (α := EReal) S64x1 (re2 A) shapeCasts_S64x1_S64x1 = re2 A :=
  eq_re2 fun i j => by pointwise [re2_ix]
/-- A single entry, cast to its own shape. -/
theorem cast_1x1 (A : Matrix (Fin 1) (Fin 1) ℝ) :
    shapeCast (α := EReal) S1x1 (re2 A) shapeCasts_S1x1_S1x1 = re2 A :=
  eq_re2 fun i j => by pointwise [re2_ix]
/-- A row of 64 entries, repeated. -/
theorem bcast_row64 (A : Matrix (Fin 1) (Fin 64) ℝ) :
    broadcastTo (α := EReal) S64x64 (re2 A) broadcasts_S1x64_S64x64 = re2 (Matrix.of fun _ j => A 0 j) :=
  eq_re2 fun i j => by pointwise [re2_ix]; simp
/-- A row of 128 entries, repeated over 64 rows. -/
theorem bcast_row128 (A : Matrix (Fin 1) (Fin 128) ℝ) :
    broadcastTo (α := EReal) S64x128 (re2 A) broadcasts_S1x128_S64x128 = re2 (Matrix.of fun _ j => A 0 j) :=
  eq_re2 fun i j => by pointwise [re2_ix]; simp
/-- A row of 128 entries, repeated over 128 rows. -/
theorem bcast_row128' (A : Matrix (Fin 1) (Fin 128) ℝ) :
    broadcastTo (α := EReal) S128x128 (re2 A) broadcasts_S1x128_S128x128 = re2 (Matrix.of fun _ j => A 0 j) :=
  eq_re2 fun i j => by pointwise [re2_ix]; simp
/-- A column, repeated over 128 lanes. -/
theorem bcast_col (A : Matrix (Fin 64) (Fin 1) ℝ) :
    broadcastTo (α := EReal) S64x128 (re2 A) broadcasts_S64x1_S64x128 = re2 (Matrix.of fun i _ => A i 0) :=
  eq_re2 fun i j => by pointwise [re2_ix]; simp
/-- A single entry, repeated down a column. -/
theorem bcast_one (A : Matrix (Fin 1) (Fin 1) ℝ) :
    broadcastTo (α := EReal) S64x1 (re2 A) broadcasts_S1x1_S64x1 = re2 (Matrix.of fun _ _ => A 0 0) :=
  eq_re2 fun i j => by pointwise [re2_ix]; simp
/-- The first 64 lanes. -/
theorem slice_left (A : Matrix (Fin 64) (Fin 128) ℝ) :
    extractStridedSlice (α := EReal) S64x64 ![0, 0] (re2 A) slices_S64x128_o0_0_S64x64
      = re2 (Matrix.of fun i j => A i ⟨j.val, by omega⟩) :=
  eq_re2 fun i j => by pointwise [re2_ix]; simp
/-- The last row. -/
theorem slice_last (A : Matrix (Fin 64) (Fin 128) ℝ) :
    extractStridedSlice (α := EReal) S1x128 ![63, 0] (re2 A) slices_S64x128_o63_0_S1x128
      = re2 (Matrix.of fun _ j => A 63 j) :=
  eq_re2 fun i j => by pointwise [re2_ix]; simp
/-- The first entry of a row. -/
theorem slice_first (A : Matrix (Fin 1) (Fin 128) ℝ) :
    extractStridedSlice (α := EReal) S1x1 ![0, 0] (re2 A) slices_S1x128_o0_0_S1x1
      = re2 (Matrix.of fun _ _ => A 0 0) :=
  eq_re2 fun i j => by pointwise [re2_ix]; simp
/-- The first row. -/
theorem slice_row (A : Matrix (Fin 8) (Fin 64) ℝ) :
    extractStridedSlice (α := EReal) S1x64 ![0, 0] (re2 A) slices_S8x64_o0_0_S1x64
      = re2 (Matrix.of fun _ j => A 0 j) :=
  eq_re2 fun i j => by pointwise [re2_ix]; simp

/-! ### The body's sums -/

/-- The row sums of a 64 by 128 matrix. -/
theorem rowSum_64x128 (A : Matrix (Fin 64) (Fin 128) ℝ) :
    shapeCast (α := EReal) S64x1 (multiReduction (F := Ideal) (φ := .f32) .add [1] S64 (re2 A) 0x00000000#32 reduces_S64x128_S64 (.inl rfl) rfl)
        shapeCasts_S64_S64x1 = re2 (Matrix.of fun i _ => ∑ j, A i j) :=
  eq_re2 fun i j => by pointwise [re2_ix]; simp [coe_sum, Fin.fin_one_eq_zero]
/-- The row sums of a 64 by 64 matrix. -/
theorem rowSum_64x64 (A : Matrix (Fin 64) (Fin 64) ℝ) :
    shapeCast (α := EReal) S64x1 (multiReduction (F := Ideal) (φ := .f32) .add [1] S64 (re2 A) 0x00000000#32 reduces_S64x64_S64 (.inl rfl) rfl)
        shapeCasts_S64_S64x1 = re2 (Matrix.of fun i _ => ∑ j, A i j) :=
  eq_re2 fun i j => by pointwise [re2_ix]; simp [coe_sum, Fin.fin_one_eq_zero]
/-- The row sums of a 128 by 128 matrix. -/
theorem rowSum_128x128 (A : Matrix (Fin 128) (Fin 128) ℝ) :
    shapeCast (α := EReal) S128x1 (multiReduction (F := Ideal) (φ := .f32) .add [1] S128 (re2 A) 0x00000000#32 reduces_S128x128_S128 (.inl rfl) rfl)
        shapeCasts_S128_S128x1 = re2 (Matrix.of fun i _ => ∑ j, A i j) :=
  eq_re2 fun i j => by pointwise [re2_ix]; simp [coe_sum, Fin.fin_one_eq_zero]
/-- The sum of a column of 64 entries. -/
theorem colSum_64x1 (A : Matrix (Fin 64) (Fin 1) ℝ) :
    shapeCast (α := EReal) S1x1 (multiReduction (F := Ideal) (φ := .f32) .add [0] S1 (re2 A) 0x00000000#32 reduces_S64x1_S1 (.inl rfl) rfl)
        shapeCasts_S1_S1x1 = re2 (Matrix.of fun _ j => ∑ i, A i j) :=
  eq_re2 fun i j => by pointwise [re2_ix]; simp [coe_sum, Fin.fin_one_eq_zero]
/-- The sum of a column of 128 entries. -/
theorem colSum_128x1 (A : Matrix (Fin 128) (Fin 1) ℝ) :
    shapeCast (α := EReal) S1x1 (multiReduction (F := Ideal) (φ := .f32) .add [0] S1 (re2 A) 0x00000000#32 reduces_S128x1_S1 (.inl rfl) rfl)
        shapeCasts_S1_S1x1 = re2 (Matrix.of fun _ j => ∑ i, A i j) :=
  eq_re2 fun i j => by pointwise [re2_ix]; simp [coe_sum, Fin.fin_one_eq_zero]

/-! ### The body's products: plain, by the right factor's transpose, by the left factor's transpose -/

section Products
variable (p : Option ContractPrecision) {φ₁ φ₂ : FTy}

/-- The product of a chunk's rows and a state. -/
theorem dot_SS (A : Matrix (Fin 64) (Fin 128) ℝ) (B : Matrix (Fin 128) (Fin 128) ℝ) :
    matmul (F := Ideal) (φ₁ := φ₁) (φ₂ := φ₂) dot_S64x128_S128x128_S64x128_1_0_0_1_n_n p (re2 A) (re2 B) (re2 0) = re2 (A * B) :=
  eq_re2 fun i j => by pointwise [re2_ix]; simp [coe_sum, Matrix.mul_apply]
/-- The product of a square matrix and a chunk's rows. -/
theorem dot_TS (A : Matrix (Fin 64) (Fin 64) ℝ) (B : Matrix (Fin 64) (Fin 128) ℝ) :
    matmul (F := Ideal) (φ₁ := φ₁) (φ₂ := φ₂) dot_S64x64_S64x128_S64x128_1_0_0_1_n_n p (re2 A) (re2 B) (re2 0) = re2 (A * B) :=
  eq_re2 fun i j => by pointwise [re2_ix]; simp [coe_sum, Matrix.mul_apply]
/-- The product of a chunk's rows and the transpose of a chunk's rows. -/
theorem dot_nt (A B : Matrix (Fin 64) (Fin 128) ℝ) :
    matmul (F := Ideal) (φ₁ := φ₁) (φ₂ := φ₂) dot_S64x128_S64x128_S64x64_1_1_0_0_n_n p (re2 A) (re2 B) (re2 0) = re2 (A * Bᵀ) :=
  eq_re2 fun i j => by pointwise [re2_ix]; simp [coe_sum, Matrix.mul_apply]
/-- The product of a chunk's rows and the transpose of a state. -/
theorem dot_ntS (A : Matrix (Fin 64) (Fin 128) ℝ) (B : Matrix (Fin 128) (Fin 128) ℝ) :
    matmul (F := Ideal) (φ₁ := φ₁) (φ₂ := φ₂) dot_S64x128_S128x128_S64x128_1_1_0_0_n_n p (re2 A) (re2 B) (re2 0) = re2 (A * Bᵀ) :=
  eq_re2 fun i j => by pointwise [re2_ix]; simp [coe_sum, Matrix.mul_apply]
/-- The product of the transpose of a square matrix and a chunk's rows. -/
theorem dot_tn (A : Matrix (Fin 64) (Fin 64) ℝ) (B : Matrix (Fin 64) (Fin 128) ℝ) :
    matmul (F := Ideal) (φ₁ := φ₁) (φ₂ := φ₂) dot_S64x64_S64x128_S64x128_0_0_1_1_n_n p (re2 A) (re2 B) (re2 0) = re2 (Aᵀ * B) :=
  eq_re2 fun i j => by pointwise [re2_ix]; simp [coe_sum, Matrix.mul_apply]
/-- The product of the transpose of a chunk's rows and a chunk's rows. -/
theorem dot_tnS (A B : Matrix (Fin 64) (Fin 128) ℝ) :
    matmul (F := Ideal) (φ₁ := φ₁) (φ₂ := φ₂) dot_S64x128_S64x128_S128x128_0_0_1_1_n_n p (re2 A) (re2 B) (re2 0) = re2 (Aᵀ * B) :=
  eq_re2 fun i j => by pointwise [re2_ix]; simp [coe_sum, Matrix.mul_apply]
/-- The product of eight rows and the transpose of a chunk's rows. -/
theorem dot_row (A : Matrix (Fin 8) (Fin 128) ℝ) (B : Matrix (Fin 64) (Fin 128) ℝ) :
    matmul (F := Ideal) (φ₁ := φ₁) (φ₂ := φ₂) dot_S8x128_S64x128_S8x64_1_1_0_0_n_n p (re2 A) (re2 B) (re2 0) = re2 (A * Bᵀ) :=
  eq_re2 fun i j => by pointwise [re2_ix]; simp [coe_sum, Matrix.mul_apply]
end Products

/-! ### The body's masks -/

/-- The mask below the diagonal. -/
theorem mask_gt (i j : Fin 64) : k0_pay1 (ix2 i j) = if j < i then 1#1 else 0#1 := by
  revert i j; unfold k0_pay1; decide +kernel
/-- The mask on and below the diagonal. -/
theorem mask_ge (i j : Fin 64) : k0_pay2 (ix2 i j) = if j ≤ i then 1#1 else 0#1 := by
  revert i j; unfold k0_pay2; decide +kernel
/-- The mask above the diagonal. -/
theorem mask_lt (i j : Fin 64) : k0_pay3 (ix2 i j) = if i < j then 1#1 else 0#1 := by
  revert i j; unfold k0_pay3; decide +kernel
/-- The mask on and above the diagonal. -/
theorem mask_le (i j : Fin 64) : k0_pay4 (ix2 i j) = if i ≤ j then 1#1 else 0#1 := by
  revert i j; unfold k0_pay4; decide +kernel
/-- The mask of the last row. -/
theorem mask_last (i : Fin 64) (j : Fin 1) : k0_pay5 (ix2 i j) = if i = 63 then 1#1 else 0#1 := by
  revert i j; unfold k0_pay5; decide +kernel
/-- The kernel's row of `1 / 128`s. -/
theorem spread_re2 : k0_pay6 (F := Ideal) = re2 (Matrix.of fun (_ : Fin 8) (_ : Fin 128) => (1 / 128 : ℝ)) := by
  refine eq_re2 fun i j => ?_
  have h : Ideal.ofBits .f32 0x3C000000#32 = ((1 / 128 : ℝ) : EReal) := by
    simp [Ideal.ofBits, Ideal.ieee, -EReal.coe_mul]; norm_num
  pointwise [k0_pay6]
  exact h

end Cert.Delta
-- ==== Proof.Blk.lean ====
/-
  What the kernel's body computes of one head's chunk: the operations of the body in their order, as functions of the
  blocks one chunk reads (`In`), and the theorem that on real entries they are the matrices of `Spec`.
-/
module

public import proofs.«01_k».proof.Proof.Mat

@[expose] public section

noncomputable section

namespace Cert.Delta.Blk

open Idealize.ShloMosaic Cert.KernelIdeal Cert.KernelIdeal.Gen Matrix Cert.Delta

/-- A vector of extended reals the program types as `f32`. -/
abbrev V (s : Shape) := FVec Ideal s .f32
/-- A vector of extended reals the program types as `bf16`. -/
abbrev W (s : Shape) := FVec Ideal s .bf16

/-- The blocks one head's chunk reads: rows of `q`, `k`, `v`, `do`, the decay and the step sizes spread over the lanes,
    the decay as a row, the inverse, the state, and the carried gradient of the state. -/
structure In where
  q : V S64x128
  k : V S64x128
  v : V S64x128
  d : V S64x128
  g : V S64x128
  b : V S64x128
  gr : V S1x1x64
  t : V S64x64
  s : V S128x128
  ds : V S128x128

variable (x : In)

/-- The differences `g i - g j`. -/
def diff : V S64x64 :=
  subf (extractStridedSlice S64x64 ![0, 0] x.g slices_S64x128_o0_0_S64x64)
    (broadcastTo S64x64 (shapeCast S1x64 x.gr shapeCasts_S1x1x64_S1x64) broadcasts_S1x64_S64x64)
/-- `exp (g i - g j)` on and below the diagonal. -/
def el : V S64x64 := exp (select k0_pay2 (diff x) (broadcast S64x64 (Scalar.ofBits .f32 0x00000000#32 : Ideal .f32)))
/-- `exp (g j - g i)` on and above the diagonal. -/
def eu : V S64x64 :=
  exp (select k0_pay4 (subf (broadcast S64x64 (Scalar.ofBits .f32 0x00000000#32 : Ideal .f32)) (diff x))
    (broadcast S64x64 (Scalar.ofBits .f32 0x00000000#32 : Ideal .f32)))
/-- `exp g`, spread over the lanes. -/
def eg : V S64x128 := exp x.g
/-- The last row's decay. -/
def gl : V S1x128 := extractStridedSlice S1x128 ![63, 0] x.g slices_S64x128_o63_0_S1x128
/-- The decay over the whole chunk. -/
def egl : V S1x128 := exp (gl x)
/-- The decay from a row to the chunk's end. -/
def ekd : V S64x128 := exp (subf (broadcastTo S64x128 (gl x) broadcasts_S1x128_S64x128) x.g)
/-- `β k`. -/
def kb : V S64x128 := mulf x.k x.b
/-- `β k e^g`. -/
def kbg : V S64x128 := mulf (kb x) (eg x)
/-- `q e^g`. -/
def qg : V S64x128 := mulf x.q (eg x)
/-- `k`, decayed to the chunk's end. -/
def kd : V S64x128 := mulf x.k (ekd x)
/-- The narrower `q`. -/
def qh : W S64x128 := truncf .bf16 x.q bitsLt_bf16_f32
/-- The narrower `k`. -/
def kh : W S64x128 := truncf .bf16 x.k bitsLt_bf16_f32
/-- The narrower `β k`. -/
def kbh : W S64x128 := truncf .bf16 (kb x) bitsLt_bf16_f32
/-- The narrower `β k e^g`. -/
def kbgh : W S64x128 := truncf .bf16 (kbg x) bitsLt_bf16_f32
/-- The narrower `q e^g`. -/
def qgh : W S64x128 := truncf .bf16 (qg x) bitsLt_bf16_f32
/-- The narrower decayed `k`. -/
def kdh : W S64x128 := truncf .bf16 (kd x) bitsLt_bf16_f32
/-- The narrower state. -/
def sh : W S128x128 := truncf .bf16 x.s bitsLt_bf16_f32
/-- The narrower gradient of the output. -/
def dh : W S64x128 := truncf .bf16 x.d bitsLt_bf16_f32
/-- The narrower updates `u`. -/
def uh : W S64x128 :=
  truncf .bf16 (matmul dot_S64x64_S64x128_S64x128_1_0_0_1_n_n (some .fp32) x.t
    (subf (mulf x.v x.b) (matmul dot_S64x128_S128x128_S64x128_1_0_0_1_n_n none (kbgh x) (sh x) (constant S64x128 .f32 0x00000000#32)))
    (constant S64x128 .f32 0x00000000#32)) bitsLt_bf16_f32
/-- `(β k) kᵀ`. -/
def kk : V S64x64 := matmul dot_S64x128_S64x128_S64x64_1_1_0_0_n_n none (kbh x) (kh x) (constant S64x64 .f32 0x00000000#32)
/-- `q kᵀ`. -/
def qk : V S64x64 := matmul dot_S64x128_S64x128_S64x64_1_1_0_0_n_n none (qh x) (kh x) (constant S64x64 .f32 0x00000000#32)
/-- The transpose of `(β k) kᵀ`, by a product of its own. -/
def kkt : V S64x64 := matmul dot_S64x128_S64x128_S64x64_1_1_0_0_n_n none (kh x) (kbh x) (constant S64x64 .f32 0x00000000#32)
/-- The transpose of `q kᵀ`, by a product of its own. -/
def qkt : V S64x64 := matmul dot_S64x128_S64x128_S64x64_1_1_0_0_n_n none (kh x) (qh x) (constant S64x64 .f32 0x00000000#32)
/-- The transpose of the attention inside the chunk. -/
def pt : V S64x64 :=
  select k0_pay4 (mulf (qkt x) (eu x)) (broadcast S64x64 (Scalar.ofBits .f32 0x00000000#32 : Ideal .f32))
/-- The narrower gradient of the state. -/
def dsh : W S128x128 := truncf .bf16 x.ds bitsLt_bf16_f32
/-- The gradient of `u`. -/
def du : V S64x128 :=
  addf (matmul dot_S64x64_S64x128_S64x128_1_0_0_1_n_n none (truncf .bf16 (pt x) bitsLt_bf16_f32 : W S64x64) (dh x) (constant S64x128 .f32 0x00000000#32))
    (matmul dot_S64x128_S128x128_S64x128_1_0_0_1_n_n none (kdh x) (dsh x) (constant S64x128 .f32 0x00000000#32))
/-- The gradient of the triangular system's right-hand side. -/
def dr : V S64x128 :=
  matmul dot_S64x64_S64x128_S64x128_0_0_1_1_n_n (some .fp32) x.t (du x) (constant S64x128 .f32 0x00000000#32)
/-- The narrower gradient of the triangular system's right-hand side. -/
def drh : W S64x128 := truncf .bf16 (dr x) bitsLt_bf16_f32
/-- The carried gradient of the state that the chunk hands on. -/
def dsNew : V S128x128 :=
  subf (addf (matmul dot_S64x128_S64x128_S128x128_0_0_1_1_n_n none (qgh x) (dh x) (constant S128x128 .f32 0x00000000#32))
      (mulf (broadcastTo S128x128 (egl x) broadcasts_S1x128_S128x128) x.ds))
    (matmul dot_S64x128_S64x128_S128x128_0_0_1_1_n_n none (kbgh x) (drh x) (constant S128x128 .f32 0x00000000#32))
/-- The gradient of `q kᵀ`. -/
def dpg : V S64x64 :=
  mulf (select k0_pay2 (matmul dot_S64x128_S64x128_S64x64_1_1_0_0_n_n none (dh x) (uh x) (constant S64x64 .f32 0x00000000#32))
    (broadcast S64x64 (Scalar.ofBits .f32 0x00000000#32 : Ideal .f32))) (el x)
/-- The transpose of the gradient of `q kᵀ`. -/
def dpgt : V S64x64 :=
  mulf (select k0_pay4 (matmul dot_S64x128_S64x128_S64x64_1_1_0_0_n_n none (uh x) (dh x) (constant S64x64 .f32 0x00000000#32))
    (broadcast S64x64 (Scalar.ofBits .f32 0x00000000#32 : Ideal .f32))) (eu x)
/-- The gradient of `(β k) kᵀ`. -/
def dag : V S64x64 :=
  mulf (subf (broadcast S64x64 (Scalar.ofBits .f32 0x00000000#32 : Ideal .f32))
    (select k0_pay1 (matmul dot_S64x128_S64x128_S64x64_1_1_0_0_n_n none (drh x) (uh x) (constant S64x64 .f32 0x00000000#32))
      (broadcast S64x64 (Scalar.ofBits .f32 0x00000000#32 : Ideal .f32)))) (el x)
/-- The transpose of the gradient of `(β k) kᵀ`. -/
def dagt : V S64x64 :=
  mulf (subf (broadcast S64x64 (Scalar.ofBits .f32 0x00000000#32 : Ideal .f32))
    (select k0_pay3 (matmul dot_S64x128_S64x128_S64x64_1_1_0_0_n_n none (uh x) (drh x) (constant S64x64 .f32 0x00000000#32))
      (broadcast S64x64 (Scalar.ofBits .f32 0x00000000#32 : Ideal .f32)))) (eu x)
/-- The gradient of `q e^g`. -/
def dqg : V S64x128 := matmul dot_S64x128_S128x128_S64x128_1_1_0_0_n_n none (dh x) (sh x) (constant S64x128 .f32 0x00000000#32)
/-- The gradient of `β k e^g`. -/
def dkbg : V S64x128 :=
  subf (broadcast S64x128 (Scalar.ofBits .f32 0x00000000#32 : Ideal .f32))
    (matmul dot_S64x128_S128x128_S64x128_1_1_0_0_n_n none (drh x) (sh x) (constant S64x128 .f32 0x00000000#32))
/-- The gradient of the decayed `k`. -/
def dkd : V S64x128 := matmul dot_S64x128_S128x128_S64x128_1_1_0_0_n_n none (uh x) (dsh x) (constant S64x128 .f32 0x00000000#32)
/-- The gradient of `β k`. -/
def dkb : V S64x128 :=
  addf (matmul dot_S64x64_S64x128_S64x128_1_0_0_1_n_n none (truncf .bf16 (dag x) bitsLt_bf16_f32 : W S64x64) (kh x) (constant S64x128 .f32 0x00000000#32))
    (mulf (dkbg x) (eg x))
/-- The gradient of the chunk's rows of `k`. -/
def dk : V S64x128 :=
  addf (addf (addf
    (matmul dot_S64x64_S64x128_S64x128_1_0_0_1_n_n none (truncf .bf16 (dagt x) bitsLt_bf16_f32 : W S64x64) (kbh x) (constant S64x128 .f32 0x00000000#32))
    (matmul dot_S64x64_S64x128_S64x128_1_0_0_1_n_n none (truncf .bf16 (dpgt x) bitsLt_bf16_f32 : W S64x64) (qh x) (constant S64x128 .f32 0x00000000#32)))
    (mulf (dkd x) (ekd x))) (mulf (dkb x) x.b)
/-- The gradient of the chunk's rows of `q`. -/
def dq : V S64x128 :=
  addf (matmul dot_S64x64_S64x128_S64x128_1_0_0_1_n_n none (truncf .bf16 (dpg x) bitsLt_bf16_f32 : W S64x64) (kh x) (constant S64x128 .f32 0x00000000#32))
    (mulf (dqg x) (eg x))
/-- The gradient of the chunk's rows of `v`. -/
def dv : V S64x128 := mulf (dr x) x.b
/-- A row sum of 128 lanes, as a column. -/
def rs (m : V S64x128) : V S64x1 :=
  shapeCast S64x1 (multiReduction .add [1] S64 m 0x00000000#32 reduces_S64x128_S64 (.inl rfl) rfl) shapeCasts_S64_S64x1
/-- A row sum of 64 lanes, as a column. -/
def rs' (m : V S64x64) : V S64x1 :=
  shapeCast S64x1 (multiReduction .add [1] S64 m 0x00000000#32 reduces_S64x64_S64 (.inl rfl) rfl) shapeCasts_S64_S64x1
/-- What each row gives to the gradient of the last log decay. -/
def cd : V S64x1 := rs (mulf (dkd x) (kd x))
/-- A column sum of 64 rows. -/
def cs (m : V S64x1) : V S1x1 :=
  shapeCast S1x1 (multiReduction .add [0] S1 m 0x00000000#32 reduces_S64x1_S1 (.inl rfl) rfl) shapeCasts_S1_S1x1
/-- The sum of all entries, over the lanes and then over the rows. -/
def total (m : V S128x128) : V S1x1 :=
  shapeCast S1x1 (multiReduction .add [0] S1
    (shapeCast S128x1 (multiReduction .add [1] S128 m 0x00000000#32 reduces_S128x128_S128 (.inl rfl) rfl) shapeCasts_S128_S128x1)
    0x00000000#32 reduces_S128x1_S1 (.inl rfl) rfl) shapeCasts_S1_S1x1
/-- The gradient of the last log decay. -/
def dgl : V S1x1 :=
  addf (cs (cd x)) (mulf (extractStridedSlice S1x1 ![0, 0] (egl x) slices_S1x128_o0_0_S1x1) (total (mulf x.ds x.s)))
/-- The gradient of `g`, as a column. -/
def dgCol : V S64x1 :=
  addf (subf (addf (addf (subf
      (rs' (addf (mulf (dag x) (kk x)) (mulf (dpg x) (qk x))))
      (rs' (addf (mulf (dagt x) (kkt x)) (mulf (dpgt x) (qkt x)))))
      (rs (mulf (dqg x) (qg x)))) (rs (mulf (dkbg x) (kbg x)))) (cd x))
    (select k0_pay5 (broadcastTo S64x1 (shapeCast S1x1 (dgl x) shapeCasts_S1x1_S1x1) broadcasts_S1x1_S64x1)
      (broadcast S64x1 (Scalar.ofBits .f32 0x00000000#32 : Ideal .f32)))
/-- The gradient of the step sizes, as a column. -/
def dbCol : V S64x1 := addf (rs (mulf (dkb x) x.k)) (rs (mulf (dr x) x.v))
/-- A column turned into a row. -/
def asRow (c : V S64x1) : V S1x1x64 :=
  shapeCast S1x1x64 (extractStridedSlice S1x64 ![0, 0]
    (matmul dot_S8x128_S64x128_S8x64_1_1_0_0_n_n (some .fp32) (k0_pay6 (F := Ideal))
      (broadcastTo S64x128 (shapeCast S64x1 c shapeCasts_S64x1_S64x1) broadcasts_S64x1_S64x128)
      (constant S8x64 .f32 0x00000000#32)) slices_S8x64_o0_0_S1x64) shapeCasts_S1x64_S1x1x64
/-- The gradient of the chunk's decays. -/
def dg : V S1x1x64 := asRow (dgCol x)
/-- The gradient of the chunk's step sizes. -/
def db : V S1x1x64 := asRow (dbCol x)

/-! ## On real entries -/

/-- The blocks of a chunk of real matrices. -/
def ofChunk (c : Chunk) : In where
  q := re2 c.q
  k := re2 c.k
  v := re2 c.v
  d := re2 c.d
  g := re2 (Matrix.of fun i _ => c.g i)
  b := re2 (Matrix.of fun i _ => c.b i)
  gr := re3 fun _ => Matrix.of fun _ j => c.g j
  t := re2 c.T
  s := re2 c.S
  ds := re2 c.dS

variable (c : Chunk)

/-- On a chunk of real matrices `diff` is the differences `g i - g j`. -/
theorem diff_eq : diff (ofChunk c) = re2 (Matrix.of fun i j => c.g i - c.g j) := by
  simp only [diff, ofChunk, slice_left, cast_1x1x64, bcast_row64, subf_re2]; rfl
/-- On a chunk of real matrices `el` is `exp (g i - g j)` on and below the diagonal. -/
theorem el_eq : el (ofChunk c) = re2 (Matrix.of fun i j => Real.exp (if j ≤ i then c.g i - c.g j else 0)) := by
  simp only [el, diff_eq, zero_re2, select_re2 _ _ mask_ge, exp_re2]; rfl
/-- On a chunk of real matrices `eu` is `exp (g j - g i)` on and above the diagonal. -/
theorem eu_eq : eu (ofChunk c) = re2 (Matrix.of fun i j => Real.exp (if i ≤ j then -(c.g i - c.g j) else 0)) := by
  simp only [eu, diff_eq, zero_re2, select_re2 _ _ mask_le, exp_re2, subf_re2, zero_sub]; rfl
/-- On a chunk of real matrices `eg` is `exp g`, spread over the lanes. -/
theorem eg_eq : eg (ofChunk c) = re2 (Matrix.of fun i _ => c.eg i) := exp_re2 _
/-- On a chunk of real matrices `gl` is the last row's decay. -/
theorem gl_eq : gl (ofChunk c) = re2 (Matrix.of fun _ _ => c.g 63) := slice_last _
/-- On a chunk of real matrices `egl` is the decay over the whole chunk. -/
theorem egl_eq : egl (ofChunk c) = re2 (Matrix.of fun _ _ => c.egl) := by rw [egl, gl_eq]; exact exp_re2 _
/-- On a chunk of real matrices `ekd` is the decay from a row to the chunk's end. -/
theorem ekd_eq : ekd (ofChunk c) = re2 (Matrix.of fun i _ => c.ekd i) := by
  rw [ekd, gl_eq]; simp only [bcast_row128, ofChunk, subf_re2, exp_re2]; rfl
/-- On a chunk of real matrices `kb` is `β k`. -/
theorem kb_eq : kb (ofChunk c) = re2 c.kb := mulf_re2 _ _
/-- On a chunk of real matrices `kbg` is `β k e^g`. -/
theorem kbg_eq : kbg (ofChunk c) = re2 c.kbg := by rw [kbg, kb_eq, eg_eq]; exact mulf_re2 _ _
/-- On a chunk of real matrices `qg` is `q e^g`. -/
theorem qg_eq : qg (ofChunk c) = re2 c.qg := by rw [qg, eg_eq]; exact mulf_re2 _ _
/-- On a chunk of real matrices `kd` is `k`, decayed to the chunk's end. -/
theorem kd_eq : kd (ofChunk c) = re2 c.kd := by rw [kd, ekd_eq]; exact mulf_re2 _ _
/-- On a chunk of real matrices `qh` is the narrower `q`. -/
theorem qh_eq : qh (ofChunk c) = re2 c.q := rfl
/-- On a chunk of real matrices `kh` is the narrower `k`. -/
theorem kh_eq : kh (ofChunk c) = re2 c.k := rfl
/-- On a chunk of real matrices `kbh` is the narrower `β k`. -/
theorem kbh_eq : kbh (ofChunk c) = re2 c.kb := kb_eq c
/-- On a chunk of real matrices `kbgh` is the narrower `β k e^g`. -/
theorem kbgh_eq : kbgh (ofChunk c) = re2 c.kbg := kbg_eq c
/-- On a chunk of real matrices `qgh` is the narrower `q e^g`. -/
theorem qgh_eq : qgh (ofChunk c) = re2 c.qg := qg_eq c
/-- On a chunk of real matrices `kdh` is the narrower decayed `k`. -/
theorem kdh_eq : kdh (ofChunk c) = re2 c.kd := kd_eq c
/-- On a chunk of real matrices `sh` is the narrower state. -/
theorem sh_eq : sh (ofChunk c) = re2 c.S := rfl
/-- On a chunk of real matrices `dh` is the narrower gradient of the output. -/
theorem dh_eq : dh (ofChunk c) = re2 c.d := rfl
/-- On a chunk of real matrices `dsh` is the narrower gradient of the state. -/
theorem dsh_eq : dsh (ofChunk c) = re2 c.dS := rfl
/-- On a chunk of real matrices `uh` is the narrower updates `u`. -/
theorem uh_eq : uh (ofChunk c) = re2 c.u := by
  rw [uh, kbgh_eq, sh_eq]
  simp only [ofChunk, mulf_re2, constant_re2, dot_SS, subf_re2, dot_TS, truncf_re2]; rfl
/-- On a chunk of real matrices `kk` is `(β k) kᵀ`. -/
theorem kk_eq : kk (ofChunk c) = re2 c.kk := by rw [kk, kbh_eq, kh_eq, constant_re2]; exact dot_nt _ _ _
/-- On a chunk of real matrices `qk` is `q kᵀ`. -/
theorem qk_eq : qk (ofChunk c) = re2 c.qk := by rw [qk, qh_eq, kh_eq, constant_re2]; exact dot_nt _ _ _
/-- On a chunk of real matrices `kkt` is the transpose of `(β k) kᵀ`, by a product of its own. -/
theorem kkt_eq : kkt (ofChunk c) = re2 c.kkᵀ := by
  rw [kkt, kbh_eq, kh_eq, constant_re2, dot_nt, Chunk.kk, Matrix.transpose_mul, Matrix.transpose_transpose]
/-- On a chunk of real matrices `qkt` is the transpose of `q kᵀ`, by a product of its own. -/
theorem qkt_eq : qkt (ofChunk c) = re2 c.qkᵀ := by
  rw [qkt, qh_eq, kh_eq, constant_re2, dot_nt, Chunk.qk, Matrix.transpose_mul, Matrix.transpose_transpose]
/-- On a chunk of real matrices `pt` is the transpose of the attention inside the chunk. -/
theorem pt_eq : pt (ofChunk c) = re2 c.attnᵀ := by
  rw [pt, qkt_eq, eu_eq, mulf_re2, zero_re2, select_re2 _ _ mask_le]
  congr 1; ext i j
  by_cases h : i ≤ j <;> simp [Chunk.attn, Chunk.decay, h, neg_sub]
/-- On a chunk of real matrices `du` is the gradient of `u`. -/
theorem du_eq : du (ofChunk c) = re2 c.du := by
  rw [du, pt_eq, dh_eq, kdh_eq, dsh_eq]
  simp only [constant_re2, dot_TS, dot_SS, addf_re2, truncf_re2]; rfl
/-- On a chunk of real matrices `dr` is the gradient of the triangular system's right-hand side. -/
theorem dr_eq : dr (ofChunk c) = re2 c.dr := by rw [dr, du_eq, constant_re2]; exact dot_tn _ _ _
/-- On a chunk of real matrices `drh` is the narrower gradient of the triangular system's right-hand side. -/
theorem drh_eq : drh (ofChunk c) = re2 c.dr := dr_eq c
/-- The chunk hands on the gradient of the state it starts from. -/
theorem dsNew_eq : dsNew (ofChunk c) = re2 c.dSnew := by
  rw [dsNew, qgh_eq, dh_eq, egl_eq, kbgh_eq, drh_eq]
  simp only [ofChunk, constant_re2, dot_tnS, bcast_row128', mulf_re2, addf_re2, subf_re2]
  congr 1
/-- On a chunk of real matrices `dpg` is the gradient of `q kᵀ`. -/
theorem dpg_eq : dpg (ofChunk c) = re2 c.dP := by
  rw [dpg, dh_eq, uh_eq, el_eq, constant_re2, dot_nt, zero_re2, select_re2 _ _ mask_ge, mulf_re2]
  congr 1; ext i j
  by_cases h : j ≤ i <;> simp [Chunk.dP, Chunk.decay, h]
/-- On a chunk of real matrices `dpgt` is the transpose of the gradient of `q kᵀ`. -/
theorem dpgt_eq : dpgt (ofChunk c) = re2 c.dPᵀ := by
  rw [dpgt, dh_eq, uh_eq, eu_eq, constant_re2, dot_nt, zero_re2, select_re2 _ _ mask_le, mulf_re2,
    ← Matrix.transpose_transpose (c.u * c.dᵀ), Matrix.transpose_mul, Matrix.transpose_transpose]
  congr 1; ext i j
  by_cases h : i ≤ j <;> simp [Chunk.dP, Chunk.decay, h, neg_sub]
/-- On a chunk of real matrices `dag` is the gradient of `(β k) kᵀ`. -/
theorem dag_eq : dag (ofChunk c) = re2 c.dA := by
  rw [dag, drh_eq, uh_eq, el_eq, constant_re2, dot_nt, zero_re2, select_re2 _ _ mask_gt, subf_re2, mulf_re2]
  congr 1; ext i j
  by_cases h : j < i
  · simp [Chunk.dA, Chunk.decay, h, h.le]
  · simp [Chunk.dA, h]
/-- On a chunk of real matrices `dagt` is the transpose of the gradient of `(β k) kᵀ`. -/
theorem dagt_eq : dagt (ofChunk c) = re2 c.dAᵀ := by
  rw [dagt, drh_eq, uh_eq, eu_eq, constant_re2, dot_nt, zero_re2, select_re2 _ _ mask_lt, subf_re2, mulf_re2,
    ← Matrix.transpose_transpose (c.u * c.drᵀ), Matrix.transpose_mul, Matrix.transpose_transpose]
  congr 1; ext i j
  by_cases h : i < j
  · simp [Chunk.dA, Chunk.decay, h, h.le, neg_sub]
  · simp [Chunk.dA, h]
/-- On a chunk of real matrices `dqg` is the gradient of `q e^g`. -/
theorem dqg_eq : dqg (ofChunk c) = re2 c.dqg := by rw [dqg, dh_eq, sh_eq, constant_re2]; exact dot_ntS _ _ _
/-- On a chunk of real matrices `dkbg` is the gradient of `β k e^g`. -/
theorem dkbg_eq : dkbg (ofChunk c) = re2 c.dkbg := by
  rw [dkbg, drh_eq, sh_eq, constant_re2, dot_ntS, zero_re2, subf_re2, zero_sub]; rfl
/-- On a chunk of real matrices `dkd` is the gradient of the decayed `k`. -/
theorem dkd_eq : dkd (ofChunk c) = re2 c.dkd := by rw [dkd, uh_eq, dsh_eq, constant_re2]; exact dot_ntS _ _ _
/-- On a chunk of real matrices `dkb` is the gradient of `β k`. -/
theorem dkb_eq : dkb (ofChunk c) = re2 c.dkb := by
  rw [dkb, dag_eq, kh_eq, dkbg_eq, eg_eq, truncf_re2, constant_re2, dot_TS, mulf_re2, addf_re2]; rfl
/-- The body's gradient of `k` is `Spec`'s. -/
theorem dk_eq : dk (ofChunk c) = re2 c.dk := by
  rw [dk, dagt_eq, dpgt_eq, kbh_eq, qh_eq, dkd_eq, ekd_eq, dkb_eq]
  simp only [ofChunk, truncf_re2, constant_re2, dot_TS, mulf_re2, addf_re2]; rfl
/-- The body's gradient of `q` is `Spec`'s. -/
theorem dq_eq : dq (ofChunk c) = re2 c.dq := by
  rw [dq, dpg_eq, kh_eq, dqg_eq, eg_eq, truncf_re2, constant_re2, dot_TS, mulf_re2, addf_re2]; rfl
/-- The body's gradient of `v` is `Spec`'s. -/
theorem dv_eq : dv (ofChunk c) = re2 c.dv := by rw [dv, dr_eq]; exact mulf_re2 _ _
/-- A row sum of a real matrix with 128 columns. -/
theorem rs_eq (A : Matrix (Fin 64) (Fin 128) ℝ) : rs (re2 A) = re2 (Matrix.of fun i _ => ∑ j, A i j) := rowSum_64x128 A
/-- A row sum of a real matrix with 64 columns. -/
theorem rs'_eq (A : Matrix (Fin 64) (Fin 64) ℝ) : rs' (re2 A) = re2 (Matrix.of fun i _ => ∑ j, A i j) := rowSum_64x64 A
/-- On a chunk of real matrices `cd` is what each row gives to the gradient of the last log decay. -/
theorem cd_eq : cd (ofChunk c) = re2 (Matrix.of fun i _ => c.cd i) := by rw [cd, dkd_eq, kd_eq, mulf_re2, rs_eq]; rfl
/-- A column sum of a real column. -/
theorem cs_eq (A : Matrix (Fin 64) (Fin 1) ℝ) : cs (re2 A) = re2 (Matrix.of fun _ j => ∑ i, A i j) := colSum_64x1 A
/-- The sum of all entries of a real matrix. -/
theorem total_eq (A : Matrix (Fin 128) (Fin 128) ℝ) : total (re2 A) = re2 (Matrix.of fun _ _ => ∑ i, ∑ j, A i j) :=
  (congrArg (fun w => shapeCast S1x1 (multiReduction (F := Ideal) (φ := .f32) .add [0] S1 w 0x00000000#32 reduces_S128x1_S1
    (.inl rfl) rfl) shapeCasts_S1_S1x1) (rowSum_128x128 A)).trans (colSum_128x1 _)
/-- On a chunk of real matrices `dgl` is the gradient of the last log decay. -/
theorem dgl_eq : dgl (ofChunk c) = re2 (Matrix.of fun _ _ => c.dgl) := by
  rw [dgl, cd_eq, egl_eq, cs_eq]
  simp only [ofChunk, mulf_re2, total_eq, slice_first, addf_re2]; rfl
/-- On a chunk of real matrices `dgCol` is the gradient of `g`, as a column. -/
theorem dgCol_eq : dgCol (ofChunk c) = re2 (Matrix.of fun i _ => c.dg i) := by
  rw [dgCol, dag_eq, kk_eq, dpg_eq, qk_eq, dagt_eq, kkt_eq, dpgt_eq, qkt_eq, dqg_eq, qg_eq, dkbg_eq, kbg_eq, cd_eq, dgl_eq]
  simp only [mulf_re2, addf_re2, rs_eq, rs'_eq, subf_re2, cast_1x1, bcast_one, zero_re2, select_re2 _ _ mask_last]
  rfl
/-- On a chunk of real matrices `dbCol` is the gradient of the step sizes, as a column. -/
theorem dbCol_eq : dbCol (ofChunk c) = re2 (Matrix.of fun i _ => c.db i) := by
  rw [dbCol, dkb_eq, dr_eq]
  simp only [ofChunk, mulf_re2, addf_re2, rs_eq]; rfl
/-- A real column turned into a row. -/
theorem asRow_eq (A : Matrix (Fin 64) (Fin 1) ℝ) : asRow (re2 A) = re3 fun _ => Matrix.of fun _ j => A j 0 := by
  rw [asRow, spread_re2, cast_64x1, bcast_col, constant_re2, dot_row, slice_row, cast_1x64]
  congr 1; funext _; ext i j
  simp [Matrix.mul_apply]
/-- The body's gradient of the decays is `Spec`'s. -/
theorem dg_eq : dg (ofChunk c) = re3 fun _ => Matrix.of fun _ j => c.dg j := by rw [dg, dgCol_eq, asRow_eq]; rfl
/-- The body's gradient of the step sizes is `Spec`'s. -/
theorem db_eq : db (ofChunk c) = re3 fun _ => Matrix.of fun _ j => c.db j := by rw [db, dbCol_eq, asRow_eq]; rfl

end Cert.Delta.Blk
-- ==== Proof.Trip.lean ====
/-
  One trip of the kernel's loop over pairs of chunks: the blocks it reads.  The first chunk of a trip takes the carried gradients of the two heads' states, the
  second what the first hands on.
-/
module

public import proofs.«01_k».proof.Proof.Blk
public import proofs.«01_k».proof.Proof.Gen.KernelIdeal.Loops

@[expose] public section

set_option maxRecDepth 16384

noncomputable section

namespace Cert.Delta

open Idealize.ShloMosaic Idealize.ShloMosaic.TcCoe Cert.KernelIdeal Cert.KernelIdeal.Gen Blk

/-- The buffers the body is given and what the ones it reads hold. -/
structure Mems where
  c : Dev nD
  i : grid0.Coords
  a1 : Memref sig .tc .vmem S2048x256 .f32
  h1 : a1.IsWhole
  a2 : Memref sig .tc .vmem S2048x256 .f32
  h2 : a2.IsWhole
  a3 : Memref sig .tc .vmem S2048x256 .f32
  h3 : a3.IsWhole
  a4 : Memref sig .tc .vmem S2x2048x128 .f32
  h4 : a4.IsWhole
  a5 : Memref sig .tc .vmem S2x32x64 .f32
  h5 : a5.IsWhole
  a6 : Memref sig .tc .vmem S2x2048x128 .f32
  h6 : a6.IsWhole
  a7 : Memref sig .tc .vmem S2x32x128x128 .f32
  h7 : a7.IsWhole
  a8 : Memref sig .tc .vmem S2x32x64x64 .f32
  h8 : a8.IsWhole
  a9 : Memref sig .tc .vmem S2048x256 .f32
  h9 : a9.IsWhole
  a10 : Memref sig .tc .vmem S2048x256 .f32
  h10 : a10.IsWhole
  a11 : Memref sig .tc .vmem S2048x256 .f32
  h11 : a11.IsWhole
  a12 : Memref sig .tc .vmem S2048x256 .f32
  h12 : a12.IsWhole
  a13 : Memref sig .tc .vmem S2x32x64 .f32
  h13 : a13.IsWhole
  a14 : Memref sig .tc .vmem S2x32x64 .f32
  h14 : a14.IsWhole
  X1 : BufTy.Contents (Elt Ideal) a1.view.ty
  X2 : BufTy.Contents (Elt Ideal) a2.view.ty
  X3 : BufTy.Contents (Elt Ideal) a3.view.ty
  X4 : BufTy.Contents (Elt Ideal) a4.view.ty
  X5 : BufTy.Contents (Elt Ideal) a5.view.ty
  X6 : BufTy.Contents (Elt Ideal) a6.view.ty
  X7 : BufTy.Contents (Elt Ideal) a7.view.ty
  X8 : BufTy.Contents (Elt Ideal) a8.view.ty
  X9 : BufTy.Contents (Elt Ideal) a9.view.ty

namespace Mems

variable (M : Mems) (k : Fin k0_t1_loop.trips)

/-- One trip of the loop. -/
abbrev trip := trip_k0_t1 (F := Ideal) Variants.none M.c none M.i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.X1 M.X2 M.X3 M.X4 M.X5 M.X6 M.X7 M.X8 M.X9 k
/-- The loop's state before a trip. -/
abbrev st (init : V S128x128 × V S128x128) := st_k0_t1 (F := Ideal) Variants.none M.c none M.i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.X1 M.X2 M.X3 M.X4 M.X5 M.X6 M.X7 M.X8 M.X9 init

/-- What the trip's first chunk reads of head 0. -/
def in00 (ds : V S128x128) : In where
  q := shapeCast S64x128 (View.ld (M.a1.view.read (Elt Ideal) M.X1) (Rect.unit (k0_off1 k 31#32) S64x128.size (k0_off1_inb k 1))) shapeCasts_S64x128_S64x128
  k := shapeCast S64x128 (View.ld (M.a2.view.read (Elt Ideal) M.X2) (Rect.unit (k0_off1 k 31#32) S64x128.size (k0_off1_inb k 1))) shapeCasts_S64x128_S64x128
  v := shapeCast S64x128 (View.ld (M.a3.view.read (Elt Ideal) M.X3) (Rect.unit (k0_off1 k 31#32) S64x128.size (k0_off1_inb k 1))) shapeCasts_S64x128_S64x128
  d := View.ld (M.a9.view.read (Elt Ideal) M.X9) (Rect.unit (k0_off1 k 31#32) S64x128.size (k0_off1_inb k 1))
  g := shapeCast S64x128 (View.ld (M.a4.view.read (Elt Ideal) M.X4) (Rect.unit (k0_off3 k 31#32) S1x64x128.size (k0_off3_inb k 1))) shapeCasts_S1x64x128_S64x128
  b := shapeCast S64x128 (View.ld (M.a6.view.read (Elt Ideal) M.X6) (Rect.unit (k0_off3 k 31#32) S1x64x128.size (k0_off3_inb k 1))) shapeCasts_S1x64x128_S64x128
  gr := View.ld (M.a5.view.read (Elt Ideal) M.X5) (Rect.unit (k0_off9 k 31#32) S1x1x64.size (k0_off9_inb k 1))
  t := shapeCast S64x64 (View.ld (M.a8.view.read (Elt Ideal) M.X8) (Rect.unit (k0_off5 k 31#32) S1x1x64x64.size (k0_off5_inb k 1))) shapeCasts_S1x1x64x64_S64x64
  s := shapeCast S128x128 (View.ld (M.a7.view.read (Elt Ideal) M.X7) (Rect.unit (k0_off7 k 31#32) S1x1x128x128.size (k0_off7_inb k 1))) shapeCasts_S1x1x128x128_S128x128
  ds := ds
/-- What the trip's first chunk reads of head 1. -/
def in01 (ds : V S128x128) : In where
  q := shapeCast S64x128 (View.ld (M.a1.view.read (Elt Ideal) M.X1) (Rect.unit (k0_off2 k 31#32) S64x128.size (k0_off2_inb k 1))) shapeCasts_S64x128_S64x128
  k := shapeCast S64x128 (View.ld (M.a2.view.read (Elt Ideal) M.X2) (Rect.unit (k0_off2 k 31#32) S64x128.size (k0_off2_inb k 1))) shapeCasts_S64x128_S64x128
  v := shapeCast S64x128 (View.ld (M.a3.view.read (Elt Ideal) M.X3) (Rect.unit (k0_off2 k 31#32) S64x128.size (k0_off2_inb k 1))) shapeCasts_S64x128_S64x128
  d := View.ld (M.a9.view.read (Elt Ideal) M.X9) (Rect.unit (k0_off2 k 31#32) S64x128.size (k0_off2_inb k 1))
  g := shapeCast S64x128 (View.ld (M.a4.view.read (Elt Ideal) M.X4) (Rect.unit (k0_off4 k 31#32) S1x64x128.size (k0_off4_inb k 1))) shapeCasts_S1x64x128_S64x128
  b := shapeCast S64x128 (View.ld (M.a6.view.read (Elt Ideal) M.X6) (Rect.unit (k0_off4 k 31#32) S1x64x128.size (k0_off4_inb k 1))) shapeCasts_S1x64x128_S64x128
  gr := View.ld (M.a5.view.read (Elt Ideal) M.X5) (Rect.unit (k0_off10 k 31#32) S1x1x64.size (k0_off10_inb k 1))
  t := shapeCast S64x64 (View.ld (M.a8.view.read (Elt Ideal) M.X8) (Rect.unit (k0_off6 k 31#32) S1x1x64x64.size (k0_off6_inb k 1))) shapeCasts_S1x1x64x64_S64x64
  s := shapeCast S128x128 (View.ld (M.a7.view.read (Elt Ideal) M.X7) (Rect.unit (k0_off8 k 31#32) S1x1x128x128.size (k0_off8_inb k 1))) shapeCasts_S1x1x128x128_S128x128
  ds := ds
/-- What the trip's second chunk reads of head 0. -/
def in10 (ds : V S128x128) : In where
  q := shapeCast S64x128 (View.ld (M.a1.view.read (Elt Ideal) M.X1) (Rect.unit (k0_off1 k 30#32) S64x128.size (k0_off1_inb k 0))) shapeCasts_S64x128_S64x128
  k := shapeCast S64x128 (View.ld (M.a2.view.read (Elt Ideal) M.X2) (Rect.unit (k0_off1 k 30#32) S64x128.size (k0_off1_inb k 0))) shapeCasts_S64x128_S64x128
  v := shapeCast S64x128 (View.ld (M.a3.view.read (Elt Ideal) M.X3) (Rect.unit (k0_off1 k 30#32) S64x128.size (k0_off1_inb k 0))) shapeCasts_S64x128_S64x128
  d := View.ld (M.a9.view.read (Elt Ideal) M.X9) (Rect.unit (k0_off1 k 30#32) S64x128.size (k0_off1_inb k 0))
  g := shapeCast S64x128 (View.ld (M.a4.view.read (Elt Ideal) M.X4) (Rect.unit (k0_off3 k 30#32) S1x64x128.size (k0_off3_inb k 0))) shapeCasts_S1x64x128_S64x128
  b := shapeCast S64x128 (View.ld (M.a6.view.read (Elt Ideal) M.X6) (Rect.unit (k0_off3 k 30#32) S1x64x128.size (k0_off3_inb k 0))) shapeCasts_S1x64x128_S64x128
  gr := View.ld (M.a5.view.read (Elt Ideal) M.X5) (Rect.unit (k0_off9 k 30#32) S1x1x64.size (k0_off9_inb k 0))
  t := shapeCast S64x64 (View.ld (M.a8.view.read (Elt Ideal) M.X8) (Rect.unit (k0_off5 k 30#32) S1x1x64x64.size (k0_off5_inb k 0))) shapeCasts_S1x1x64x64_S64x64
  s := shapeCast S128x128 (View.ld (M.a7.view.read (Elt Ideal) M.X7) (Rect.unit (k0_off7 k 30#32) S1x1x128x128.size (k0_off7_inb k 0))) shapeCasts_S1x1x128x128_S128x128
  ds := ds
/-- What the trip's second chunk reads of head 1. -/
def in11 (ds : V S128x128) : In where
  q := shapeCast S64x128 (View.ld (M.a1.view.read (Elt Ideal) M.X1) (Rect.unit (k0_off2 k 30#32) S64x128.size (k0_off2_inb k 0))) shapeCasts_S64x128_S64x128
  k := shapeCast S64x128 (View.ld (M.a2.view.read (Elt Ideal) M.X2) (Rect.unit (k0_off2 k 30#32) S64x128.size (k0_off2_inb k 0))) shapeCasts_S64x128_S64x128
  v := shapeCast S64x128 (View.ld (M.a3.view.read (Elt Ideal) M.X3) (Rect.unit (k0_off2 k 30#32) S64x128.size (k0_off2_inb k 0))) shapeCasts_S64x128_S64x128
  d := View.ld (M.a9.view.read (Elt Ideal) M.X9) (Rect.unit (k0_off2 k 30#32) S64x128.size (k0_off2_inb k 0))
  g := shapeCast S64x128 (View.ld (M.a4.view.read (Elt Ideal) M.X4) (Rect.unit (k0_off4 k 30#32) S1x64x128.size (k0_off4_inb k 0))) shapeCasts_S1x64x128_S64x128
  b := shapeCast S64x128 (View.ld (M.a6.view.read (Elt Ideal) M.X6) (Rect.unit (k0_off4 k 30#32) S1x64x128.size (k0_off4_inb k 0))) shapeCasts_S1x64x128_S64x128
  gr := View.ld (M.a5.view.read (Elt Ideal) M.X5) (Rect.unit (k0_off10 k 30#32) S1x1x64.size (k0_off10_inb k 0))
  t := shapeCast S64x64 (View.ld (M.a8.view.read (Elt Ideal) M.X8) (Rect.unit (k0_off6 k 30#32) S1x1x64x64.size (k0_off6_inb k 0))) shapeCasts_S1x1x64x64_S64x64
  s := shapeCast S128x128 (View.ld (M.a7.view.read (Elt Ideal) M.X7) (Rect.unit (k0_off8 k 30#32) S1x1x128x128.size (k0_off8_inb k 0))) shapeCasts_S1x1x128x128_S128x128
  ds := ds

variable (acc : V S128x128 × V S128x128)

def x00 : In := M.in00 k acc.1
def x01 : In := M.in01 k acc.2
def x10 : In := M.in10 k (Blk.dsNew (M.x00 k acc))
def x11 : In := M.in11 k (Blk.dsNew (M.x01 k acc))

end Mems

end Cert.Delta
-- ==== Proof.Reads.lean ====
/-
  What a trip reads.  When the body's input buffers hold a grid point's blocks of real arrays, the blocks that a trip
  reads are the chunks of `Grad`'s arrays.
-/
module

public import proofs.«01_k».proof.Proof.Grad
public import proofs.«01_k».proof.Proof.Trip

@[expose] public section

set_option maxRecDepth 16384

noncomputable section

namespace Cert.Delta

open Idealize.ShloMosaic Idealize.ShloMosaic.TcCoe Cert.KernelIdeal Cert.KernelIdeal.Gen Blk

/-! ## A load of a block of real entries -/

/-- A chunk's rows of one head, read from a block of rows. -/
theorem ld_rows (B : Matrix (Fin 2048) (Fin 256) ℝ) (off : Fin 2 → ℕ) (inb) (x y : ℕ) (h : off = ![x, y])
    (hx : x + 64 ≤ 2048) (hy : y + 128 ≤ 256) :
    View.ld (Val := Elt Ideal) (e' := .f32) (S := S2048x256) (re2 B) (Rect.unit off S64x128.size inb)
      = re2 (Matrix.of fun (i : Fin 64) (j : Fin 128) => B ⟨x + i.val, by omega⟩ ⟨y + j.val, by omega⟩) := by
  subst h
  refine eq_re2 fun i j => ?_
  rw [View.ld_unit]
  refine (extractStridedSlice_apply _ _ _ _ (ix2 ⟨x + i.val, by omega⟩ ⟨y + j.val, by omega⟩) ?_).trans rfl
  intro e; match e with | ⟨0, _⟩ => rfl | ⟨1, _⟩ => rfl
/-- A chunk's rows of one head, read from a block spread over the lanes. -/
theorem ld_slab (B : Fin 2 → Matrix (Fin 2048) (Fin 128) ℝ) (off : Fin 3 → ℕ) (inb) (e x : ℕ) (h : off = ![e, x, 0])
    (he : e < 2) (hx : x + 64 ≤ 2048) :
    View.ld (Val := Elt Ideal) (e' := .f32) (S := S2x2048x128) (re3 B) (Rect.unit off S1x64x128.size inb)
      = re3 fun _ => Matrix.of fun (i : Fin 64) (j : Fin 128) => B ⟨e, he⟩ ⟨x + i.val, by omega⟩ j := by
  subst h
  refine eq_re3 fun c i j => ?_
  rw [View.ld_unit]
  refine (extractStridedSlice_apply _ _ _ _ (ix3 ⟨e, he⟩ ⟨x + i.val, by omega⟩ j) ?_).trans rfl
  intro f; match f with
  | ⟨0, _⟩ => show e = e + c.val; omega
  | ⟨1, _⟩ => rfl
  | ⟨2, _⟩ => exact (Nat.zero_add _).symm
/-- A chunk's decays of one head, read as a line. -/
theorem ld_line (B : Fin 2 → Matrix (Fin 32) (Fin 64) ℝ) (off : Fin 3 → ℕ) (inb) (e x : ℕ) (h : off = ![e, x, 0])
    (he : e < 2) (hx : x < 32) :
    View.ld (Val := Elt Ideal) (e' := .f32) (S := S2x32x64) (re3 B) (Rect.unit off S1x1x64.size inb)
      = re3 fun _ => Matrix.of fun (_ : Fin 1) (j : Fin 64) => B ⟨e, he⟩ ⟨x, hx⟩ j := by
  subst h
  refine eq_re3 fun c i j => ?_
  rw [View.ld_unit]
  refine (extractStridedSlice_apply _ _ _ _ (ix3 ⟨e, he⟩ ⟨x, hx⟩ j) ?_).trans rfl
  intro f; match f with
  | ⟨0, _⟩ => show e = e + c.val; omega
  | ⟨1, _⟩ => show x = x + i.val; omega
  | ⟨2, _⟩ => exact (Nat.zero_add _).symm
/-- A chunk's inverse of one head. -/
theorem ld_inv (B : Fin 2 → Fin 32 → Matrix (Fin 64) (Fin 64) ℝ) (off : Fin 4 → ℕ) (inb) (e x : ℕ) (h : off = ![e, x, 0, 0])
    (he : e < 2) (hx : x < 32) :
    View.ld (Val := Elt Ideal) (e' := .f32) (S := S2x32x64x64) (re4 B) (Rect.unit off S1x1x64x64.size inb)
      = re4 fun _ _ => B ⟨e, he⟩ ⟨x, hx⟩ := by
  subst h
  funext y
  rw [eq_ix4 y, View.ld_unit]
  refine (extractStridedSlice_apply _ _ _ _ (ix4 ⟨e, he⟩ ⟨x, hx⟩ (y 2) (y 3)) ?_).trans rfl
  intro f; match f with
  | ⟨0, _⟩ => show e = e + (y 0).val; have := (y 0).isLt; change _ < 1 at this; omega
  | ⟨1, _⟩ => show x = x + (y 1).val; have := (y 1).isLt; change _ < 1 at this; omega
  | ⟨2, _⟩ => exact (Nat.zero_add _).symm
  | ⟨3, _⟩ => exact (Nat.zero_add _).symm
/-- The state a chunk of one head starts from. -/
theorem ld_state (B : Fin 2 → Fin 32 → Matrix (Fin 128) (Fin 128) ℝ) (off : Fin 4 → ℕ) (inb) (e x : ℕ) (h : off = ![e, x, 0, 0])
    (he : e < 2) (hx : x < 32) :
    View.ld (Val := Elt Ideal) (e' := .f32) (S := S2x32x128x128) (re4 B) (Rect.unit off S1x1x128x128.size inb)
      = re4 fun _ _ => B ⟨e, he⟩ ⟨x, hx⟩ := by
  subst h
  funext y
  rw [eq_ix4 y, View.ld_unit]
  refine (extractStridedSlice_apply _ _ _ _ (ix4 ⟨e, he⟩ ⟨x, hx⟩ (y 2) (y 3)) ?_).trans rfl
  intro f; match f with
  | ⟨0, _⟩ => show e = e + (y 0).val; have := (y 0).isLt; change _ < 1 at this; omega
  | ⟨1, _⟩ => show x = x + (y 1).val; have := (y 1).isLt; change _ < 1 at this; omega
  | ⟨2, _⟩ => exact (Nat.zero_add _).symm
  | ⟨3, _⟩ => exact (Nat.zero_add _).symm

/-! ## A grid point's blocks -/

/-- Head `h` of grid point `t`. -/
def hd (t : Fin 4) (h : Fin 2) : Fin 8 := ⟨2 * t.val + h.val, by omega⟩

/-- The two heads' columns of a grid point. -/
def cols (A : Matrix (Fin 2048) (Fin 1024) ℝ) (t : Fin 4) : Matrix (Fin 2048) (Fin 256) ℝ :=
  Matrix.of fun r j => A r ⟨256 * t.val + j.val, by omega⟩

/-- The input buffers hold grid point `t`'s blocks of the arrays. -/
structure Reads (M : Mems) (a : Args) (t : Fin 4) : Prop where
  e1 : M.a1.view.read (Elt Ideal) M.X1 = re2 (cols a.q t)
  e2 : M.a2.view.read (Elt Ideal) M.X2 = re2 (cols a.k t)
  e3 : M.a3.view.read (Elt Ideal) M.X3 = re2 (cols a.v t)
  e4 : M.a4.view.read (Elt Ideal) M.X4 = re3 fun h => Matrix.of fun (r : Fin 2048) (_ : Fin 128) => a.g r (hd t h)
  e5 : M.a5.view.read (Elt Ideal) M.X5 = re3 fun h => Matrix.of fun (n : Fin 32) (i : Fin 64) => a.g (row n i) (hd t h)
  e6 : M.a6.view.read (Elt Ideal) M.X6 = re3 fun h => Matrix.of fun (r : Fin 2048) (_ : Fin 128) => a.b r (hd t h)
  e7 : M.a7.view.read (Elt Ideal) M.X7 = re4 fun h n => a.S (hd t h) n
  e8 : M.a8.view.read (Elt Ideal) M.X8 = re4 fun h n => a.T (hd t h) n
  e9 : M.a9.view.read (Elt Ideal) M.X9 = re2 (cols a.d t)

/-- The loop makes sixteen trips. -/
theorem lt16 (k : Fin k0_t1_loop.trips) : k.val < 16 := Nat.lt_of_lt_of_le k.isLt k0_t1_abs.2.1

/-- The first chunk of a trip. -/
def c0 (k : Fin k0_t1_loop.trips) : Fin 32 := ⟨31 - 2 * k.val, by omega⟩
/-- The second chunk of a trip. -/
def c1 (k : Fin k0_t1_loop.trips) : Fin 32 := ⟨30 - 2 * k.val, by omega⟩

variable {M : Mems} {a : Args} {t : Fin 4} (H : Reads M a t) (k : Fin k0_t1_loop.trips) (dS : Matrix (Fin 128) (Fin 128) ℝ)

/-- Where the trip's first chunk lies: rows of the first head. -/
theorem o1_0 : k0_off1 k 31#32 = ![64 * (c0 k).val, 0] :=
  (k0_off1_eq k 1).trans (by have := lt16 k; simp only [c0, Fin.val_one]; congr 1; omega)
/-- Where the trip's first chunk lies: rows of the second head. -/
theorem o2_0 : k0_off2 k 31#32 = ![64 * (c0 k).val, 128] :=
  (k0_off2_eq k 1).trans (by have := lt16 k; simp only [c0, Fin.val_one]; congr 1; omega)
/-- Where the trip's second chunk lies: rows of the first head. -/
theorem o1_1 : k0_off1 k 30#32 = ![64 * (c1 k).val, 0] :=
  (k0_off1_eq k 0).trans (by have := lt16 k; simp only [c1, Fin.val_zero]; congr 1; omega)
/-- Where the trip's second chunk lies: rows of the second head. -/
theorem o2_1 : k0_off2 k 30#32 = ![64 * (c1 k).val, 128] :=
  (k0_off2_eq k 0).trans (by have := lt16 k; simp only [c1, Fin.val_zero]; congr 1; omega)
/-- Where the trip's first chunk lies: spread rows of the first head. -/
theorem o3_0 : k0_off3 k 31#32 = ![0, 64 * (c0 k).val, 0] :=
  (k0_off3_eq k 1).trans (by have := lt16 k; simp only [c0, Fin.val_one]; congr 2; omega)
/-- Where the trip's first chunk lies: spread rows of the second head. -/
theorem o4_0 : k0_off4 k 31#32 = ![1, 64 * (c0 k).val, 0] :=
  (k0_off4_eq k 1).trans (by have := lt16 k; simp only [c0, Fin.val_one]; congr 2; omega)
/-- Where the trip's second chunk lies: spread rows of the first head. -/
theorem o3_1 : k0_off3 k 30#32 = ![0, 64 * (c1 k).val, 0] :=
  (k0_off3_eq k 0).trans (by have := lt16 k; simp only [c1, Fin.val_zero]; congr 2; omega)
/-- Where the trip's second chunk lies: spread rows of the second head. -/
theorem o4_1 : k0_off4 k 30#32 = ![1, 64 * (c1 k).val, 0] :=
  (k0_off4_eq k 0).trans (by have := lt16 k; simp only [c1, Fin.val_zero]; congr 2; omega)
/-- Where the trip's first chunk lies: inverse, first head. -/
theorem o5_0 : k0_off5 k 31#32 = ![0, (c0 k).val, 0, 0] :=
  (k0_off5_eq k 1).trans (by simp only [c0, Fin.val_one])
/-- Where the trip's first chunk lies: inverse, second head. -/
theorem o6_0 : k0_off6 k 31#32 = ![1, (c0 k).val, 0, 0] :=
  (k0_off6_eq k 1).trans (by simp only [c0, Fin.val_one])
/-- Where the trip's second chunk lies: inverse, first head. -/
theorem o5_1 : k0_off5 k 30#32 = ![0, (c1 k).val, 0, 0] :=
  (k0_off5_eq k 0).trans (by simp only [c1, Fin.val_zero])
/-- Where the trip's second chunk lies: inverse, second head. -/
theorem o6_1 : k0_off6 k 30#32 = ![1, (c1 k).val, 0, 0] :=
  (k0_off6_eq k 0).trans (by simp only [c1, Fin.val_zero])
/-- Where the trip's first chunk lies: state, first head. -/
theorem o7_0 : k0_off7 k 31#32 = ![0, (c0 k).val, 0, 0] :=
  (k0_off7_eq k 1).trans (by simp only [c0, Fin.val_one])
/-- Where the trip's first chunk lies: state, second head. -/
theorem o8_0 : k0_off8 k 31#32 = ![1, (c0 k).val, 0, 0] :=
  (k0_off8_eq k 1).trans (by simp only [c0, Fin.val_one])
/-- Where the trip's second chunk lies: state, first head. -/
theorem o7_1 : k0_off7 k 30#32 = ![0, (c1 k).val, 0, 0] :=
  (k0_off7_eq k 0).trans (by simp only [c1, Fin.val_zero])
/-- Where the trip's second chunk lies: state, second head. -/
theorem o8_1 : k0_off8 k 30#32 = ![1, (c1 k).val, 0, 0] :=
  (k0_off8_eq k 0).trans (by simp only [c1, Fin.val_zero])
/-- Where the trip's first chunk lies: line of the first head. -/
theorem o9_0 : k0_off9 k 31#32 = ![0, (c0 k).val, 0] :=
  (k0_off9_eq k 1).trans (by simp only [c0, Fin.val_one])
/-- Where the trip's first chunk lies: line of the second head. -/
theorem o10_0 : k0_off10 k 31#32 = ![1, (c0 k).val, 0] :=
  (k0_off10_eq k 1).trans (by simp only [c0, Fin.val_one])
/-- Where the trip's second chunk lies: line of the first head. -/
theorem o9_1 : k0_off9 k 30#32 = ![0, (c1 k).val, 0] :=
  (k0_off9_eq k 0).trans (by simp only [c1, Fin.val_zero])
/-- Where the trip's second chunk lies: line of the second head. -/
theorem o10_1 : k0_off10 k 30#32 = ![1, (c1 k).val, 0] :=
  (k0_off10_eq k 0).trans (by simp only [c1, Fin.val_zero])

/-- A head's lanes of a chunk's rows, in a grid point's block. -/
theorem cols_at (A : Matrix (Fin 2048) (Fin 1024) ℝ) (n : Fin 32) (h : Fin 2) (i : Fin 64) (j : Fin 128)
    (p : 64 * n.val + i.val < 2048) (p' : 128 * h.val + j.val < 256) :
    cols A t ⟨64 * n.val + i.val, p⟩ ⟨128 * h.val + j.val, p'⟩ = A (row n i) (col (hd t h) j) := by
  refine congrArg₂ A (Fin.ext rfl) (Fin.ext ?_)
  simp only [col, hd]; omega

/-- The body's blocks of chunk `n` of head `h`, from what the loads read. -/
theorem in_eq (x : In) (n : Fin 32) (h : Fin 2)
    (hq : x.q = re2 (Matrix.of fun i j => a.q (row n i) (col (hd t h) j)))
    (hk : x.k = re2 (Matrix.of fun i j => a.k (row n i) (col (hd t h) j)))
    (hv : x.v = re2 (Matrix.of fun i j => a.v (row n i) (col (hd t h) j)))
    (hd' : x.d = re2 (Matrix.of fun i j => a.d (row n i) (col (hd t h) j)))
    (hg : x.g = re2 (Matrix.of fun i _ => a.g (row n i) (hd t h)))
    (hb : x.b = re2 (Matrix.of fun i _ => a.b (row n i) (hd t h)))
    (hr : x.gr = re3 fun _ => Matrix.of fun _ j => a.g (row n j) (hd t h))
    (hT : x.t = re2 (a.T (hd t h) n)) (hS : x.s = re2 (a.S (hd t h) n)) (hds : x.ds = re2 dS) :
    x = ofChunk (a.chunk (hd t h) n dS) := by
  cases x; simp only at hq hk hv hd' hg hb hr hT hS hds
  subst hq hk hv hd' hg hb hr hT hS hds; rfl

include H

/-- The trip's first chunk of head 0. -/
theorem in00_eq : M.in00 k (re2 dS) = ofChunk (a.chunk (hd t 0) (c0 k) dS) := by
  have := lt16 k
  have hc : (c0 k).val < 32 := (c0 k).isLt
  refine in_eq _ _ _ 0 ?_ ?_ ?_ ?_ ?_ ?_ ?_ ?_ ?_ rfl
  · simp only [Mems.in00]; rw [H.e1, ld_rows _ _ _ _ (128 * 0) (o1_0 k) (by omega) (by omega), cast_64x128]
    exact congrArg re2 (by ext i j; exact cols_at _ _ 0 i j _ _)
  · simp only [Mems.in00]; rw [H.e2, ld_rows _ _ _ _ (128 * 0) (o1_0 k) (by omega) (by omega), cast_64x128]
    exact congrArg re2 (by ext i j; exact cols_at _ _ 0 i j _ _)
  · simp only [Mems.in00]; rw [H.e3, ld_rows _ _ _ _ (128 * 0) (o1_0 k) (by omega) (by omega), cast_64x128]
    exact congrArg re2 (by ext i j; exact cols_at _ _ 0 i j _ _)
  · simp only [Mems.in00]; rw [H.e9, ld_rows _ _ _ _ (128 * 0) (o1_0 k) (by omega) (by omega)]
    exact congrArg re2 (by ext i j; exact cols_at _ _ 0 i j _ _)
  · simp only [Mems.in00]; rw [H.e4, ld_slab _ _ _ 0 _ (o3_0 k) (by omega) (by omega), cast_1x64x128]; rfl
  · simp only [Mems.in00]; rw [H.e6, ld_slab _ _ _ 0 _ (o3_0 k) (by omega) (by omega), cast_1x64x128]; rfl
  · simp only [Mems.in00]; rw [H.e5, ld_line _ _ _ 0 _ (o9_0 k) (by omega) hc]; rfl
  · simp only [Mems.in00]; rw [H.e8, ld_inv _ _ _ 0 _ (o5_0 k) (by omega) hc, cast_1x1x64x64]; rfl
  · simp only [Mems.in00]; rw [H.e7, ld_state _ _ _ 0 _ (o7_0 k) (by omega) hc, cast_1x1x128x128]; rfl
/-- The trip's first chunk of head 1. -/
theorem in01_eq : M.in01 k (re2 dS) = ofChunk (a.chunk (hd t 1) (c0 k) dS) := by
  have := lt16 k
  have hc : (c0 k).val < 32 := (c0 k).isLt
  refine in_eq _ _ _ 1 ?_ ?_ ?_ ?_ ?_ ?_ ?_ ?_ ?_ rfl
  · simp only [Mems.in01]; rw [H.e1, ld_rows _ _ _ _ (128 * 1) (o2_0 k) (by omega) (by omega), cast_64x128]
    exact congrArg re2 (by ext i j; exact cols_at _ _ 1 i j _ _)
  · simp only [Mems.in01]; rw [H.e2, ld_rows _ _ _ _ (128 * 1) (o2_0 k) (by omega) (by omega), cast_64x128]
    exact congrArg re2 (by ext i j; exact cols_at _ _ 1 i j _ _)
  · simp only [Mems.in01]; rw [H.e3, ld_rows _ _ _ _ (128 * 1) (o2_0 k) (by omega) (by omega), cast_64x128]
    exact congrArg re2 (by ext i j; exact cols_at _ _ 1 i j _ _)
  · simp only [Mems.in01]; rw [H.e9, ld_rows _ _ _ _ (128 * 1) (o2_0 k) (by omega) (by omega)]
    exact congrArg re2 (by ext i j; exact cols_at _ _ 1 i j _ _)
  · simp only [Mems.in01]; rw [H.e4, ld_slab _ _ _ 1 _ (o4_0 k) (by omega) (by omega), cast_1x64x128]; rfl
  · simp only [Mems.in01]; rw [H.e6, ld_slab _ _ _ 1 _ (o4_0 k) (by omega) (by omega), cast_1x64x128]; rfl
  · simp only [Mems.in01]; rw [H.e5, ld_line _ _ _ 1 _ (o10_0 k) (by omega) hc]; rfl
  · simp only [Mems.in01]; rw [H.e8, ld_inv _ _ _ 1 _ (o6_0 k) (by omega) hc, cast_1x1x64x64]; rfl
  · simp only [Mems.in01]; rw [H.e7, ld_state _ _ _ 1 _ (o8_0 k) (by omega) hc, cast_1x1x128x128]; rfl
/-- The trip's second chunk of head 0. -/
theorem in10_eq : M.in10 k (re2 dS) = ofChunk (a.chunk (hd t 0) (c1 k) dS) := by
  have := lt16 k
  have hc : (c1 k).val < 32 := (c1 k).isLt
  refine in_eq _ _ _ 0 ?_ ?_ ?_ ?_ ?_ ?_ ?_ ?_ ?_ rfl
  · simp only [Mems.in10]; rw [H.e1, ld_rows _ _ _ _ (128 * 0) (o1_1 k) (by omega) (by omega), cast_64x128]
    exact congrArg re2 (by ext i j; exact cols_at _ _ 0 i j _ _)
  · simp only [Mems.in10]; rw [H.e2, ld_rows _ _ _ _ (128 * 0) (o1_1 k) (by omega) (by omega), cast_64x128]
    exact congrArg re2 (by ext i j; exact cols_at _ _ 0 i j _ _)
  · simp only [Mems.in10]; rw [H.e3, ld_rows _ _ _ _ (128 * 0) (o1_1 k) (by omega) (by omega), cast_64x128]
    exact congrArg re2 (by ext i j; exact cols_at _ _ 0 i j _ _)
  · simp only [Mems.in10]; rw [H.e9, ld_rows _ _ _ _ (128 * 0) (o1_1 k) (by omega) (by omega)]
    exact congrArg re2 (by ext i j; exact cols_at _ _ 0 i j _ _)
  · simp only [Mems.in10]; rw [H.e4, ld_slab _ _ _ 0 _ (o3_1 k) (by omega) (by omega), cast_1x64x128]; rfl
  · simp only [Mems.in10]; rw [H.e6, ld_slab _ _ _ 0 _ (o3_1 k) (by omega) (by omega), cast_1x64x128]; rfl
  · simp only [Mems.in10]; rw [H.e5, ld_line _ _ _ 0 _ (o9_1 k) (by omega) hc]; rfl
  · simp only [Mems.in10]; rw [H.e8, ld_inv _ _ _ 0 _ (o5_1 k) (by omega) hc, cast_1x1x64x64]; rfl
  · simp only [Mems.in10]; rw [H.e7, ld_state _ _ _ 0 _ (o7_1 k) (by omega) hc, cast_1x1x128x128]; rfl
/-- The trip's second chunk of head 1. -/
theorem in11_eq : M.in11 k (re2 dS) = ofChunk (a.chunk (hd t 1) (c1 k) dS) := by
  have := lt16 k
  have hc : (c1 k).val < 32 := (c1 k).isLt
  refine in_eq _ _ _ 1 ?_ ?_ ?_ ?_ ?_ ?_ ?_ ?_ ?_ rfl
  · simp only [Mems.in11]; rw [H.e1, ld_rows _ _ _ _ (128 * 1) (o2_1 k) (by omega) (by omega), cast_64x128]
    exact congrArg re2 (by ext i j; exact cols_at _ _ 1 i j _ _)
  · simp only [Mems.in11]; rw [H.e2, ld_rows _ _ _ _ (128 * 1) (o2_1 k) (by omega) (by omega), cast_64x128]
    exact congrArg re2 (by ext i j; exact cols_at _ _ 1 i j _ _)
  · simp only [Mems.in11]; rw [H.e3, ld_rows _ _ _ _ (128 * 1) (o2_1 k) (by omega) (by omega), cast_64x128]
    exact congrArg re2 (by ext i j; exact cols_at _ _ 1 i j _ _)
  · simp only [Mems.in11]; rw [H.e9, ld_rows _ _ _ _ (128 * 1) (o2_1 k) (by omega) (by omega)]
    exact congrArg re2 (by ext i j; exact cols_at _ _ 1 i j _ _)
  · simp only [Mems.in11]; rw [H.e4, ld_slab _ _ _ 1 _ (o4_1 k) (by omega) (by omega), cast_1x64x128]; rfl
  · simp only [Mems.in11]; rw [H.e6, ld_slab _ _ _ 1 _ (o4_1 k) (by omega) (by omega), cast_1x64x128]; rfl
  · simp only [Mems.in11]; rw [H.e5, ld_line _ _ _ 1 _ (o10_1 k) (by omega) hc]; rfl
  · simp only [Mems.in11]; rw [H.e8, ld_inv _ _ _ 1 _ (o6_1 k) (by omega) hc, cast_1x1x64x64]; rfl
  · simp only [Mems.in11]; rw [H.e7, ld_state _ _ _ 1 _ (o8_1 k) (by omega) hc, cast_1x1x128x128]; rfl

end Cert.Delta
-- ==== Proof.TripQ.lean ====
/-
  One trip: what it hands on, and what it stores of the gradients of `q` and `v`, are the chunk functions of `Blk`.
-/
module

public import proofs.«01_k».proof.Proof.Trip

@[expose] public section

set_option maxRecDepth 16384

noncomputable section

namespace Cert.Delta

open Idealize.ShloMosaic Idealize.ShloMosaic.TcCoe Cert.KernelIdeal Cert.KernelIdeal.Gen Blk

namespace Mems

variable (M : Mems) (k : Fin k0_t1_loop.trips) (acc : V S128x128 × V S128x128)

set_option maxHeartbeats 4000000
unseal trip_k0_t1

/-- What a trip hands on: the gradients of the states before its second chunk. -/
theorem trip_R : (M.trip k).1 acc = (Blk.dsNew (x10 M k acc), Blk.dsNew (x11 M k acc)) := by
  unfold trip trip_k0_t1; rfl
/-- What a trip stores of the gradient of `q`. -/
theorem trip_dq : (M.trip k).2.1 acc =
    [⟨Rect.unit (k0_off2 k 30#32) S64x128.size (k0_off2_inb k 0), Blk.dq (x11 M k acc)⟩,
     ⟨Rect.unit (k0_off1 k 30#32) S64x128.size (k0_off1_inb k 0), Blk.dq (x10 M k acc)⟩,
     ⟨Rect.unit (k0_off2 k 31#32) S64x128.size (k0_off2_inb k 1), Blk.dq (x01 M k acc)⟩,
     ⟨Rect.unit (k0_off1 k 31#32) S64x128.size (k0_off1_inb k 1), Blk.dq (x00 M k acc)⟩] := by
  unfold trip trip_k0_t1; rfl
/-- What a trip stores of the gradient of `v`. -/
theorem trip_dv : (M.trip k).2.2.2.1 acc =
    [⟨Rect.unit (k0_off2 k 30#32) S64x128.size (k0_off2_inb k 0), Blk.dv (x11 M k acc)⟩,
     ⟨Rect.unit (k0_off1 k 30#32) S64x128.size (k0_off1_inb k 0), Blk.dv (x10 M k acc)⟩,
     ⟨Rect.unit (k0_off2 k 31#32) S64x128.size (k0_off2_inb k 1), Blk.dv (x01 M k acc)⟩,
     ⟨Rect.unit (k0_off1 k 31#32) S64x128.size (k0_off1_inb k 1), Blk.dv (x00 M k acc)⟩] := by
  unfold trip trip_k0_t1; rfl

end Mems

end Cert.Delta
-- ==== Proof.TripK.lean ====
/-
  One trip: what it stores of the gradient of `k` is the chunk function of `Blk`.
-/
module

public import proofs.«01_k».proof.Proof.Trip

@[expose] public section

set_option maxRecDepth 16384

noncomputable section

namespace Cert.Delta

open Idealize.ShloMosaic Idealize.ShloMosaic.TcCoe Cert.KernelIdeal Cert.KernelIdeal.Gen Blk

namespace Mems

variable (M : Mems) (k : Fin k0_t1_loop.trips) (acc : V S128x128 × V S128x128)

set_option maxHeartbeats 4000000
unseal trip_k0_t1

/-- What a trip stores of the gradient of `k`. -/
theorem trip_dk : (M.trip k).2.2.1 acc =
    [⟨Rect.unit (k0_off2 k 30#32) S64x128.size (k0_off2_inb k 0), Blk.dk (x11 M k acc)⟩,
     ⟨Rect.unit (k0_off1 k 30#32) S64x128.size (k0_off1_inb k 0), Blk.dk (x10 M k acc)⟩,
     ⟨Rect.unit (k0_off2 k 31#32) S64x128.size (k0_off2_inb k 1), Blk.dk (x01 M k acc)⟩,
     ⟨Rect.unit (k0_off1 k 31#32) S64x128.size (k0_off1_inb k 1), Blk.dk (x00 M k acc)⟩] := by
  unfold trip trip_k0_t1; rfl

end Mems

end Cert.Delta
-- ==== Proof.TripG.lean ====
/-
  One trip: what it stores of the gradient of the decays is the chunk function of `Blk`.
-/
module

public import proofs.«01_k».proof.Proof.Trip

@[expose] public section

set_option maxRecDepth 16384

noncomputable section

namespace Cert.Delta

open Idealize.ShloMosaic Idealize.ShloMosaic.TcCoe Cert.KernelIdeal Cert.KernelIdeal.Gen Blk

namespace Mems

variable (M : Mems) (k : Fin k0_t1_loop.trips) (acc : V S128x128 × V S128x128)

set_option maxHeartbeats 4000000
unseal trip_k0_t1

/-- What a trip stores of the gradient of the decays. -/
theorem trip_dg : (M.trip k).2.2.2.2.1 acc =
    [⟨Rect.unit (k0_off10 k 30#32) S1x1x64.size (k0_off10_inb k 0), Blk.dg (x11 M k acc)⟩,
     ⟨Rect.unit (k0_off9 k 30#32) S1x1x64.size (k0_off9_inb k 0), Blk.dg (x10 M k acc)⟩,
     ⟨Rect.unit (k0_off10 k 31#32) S1x1x64.size (k0_off10_inb k 1), Blk.dg (x01 M k acc)⟩,
     ⟨Rect.unit (k0_off9 k 31#32) S1x1x64.size (k0_off9_inb k 1), Blk.dg (x00 M k acc)⟩] := by
  unfold trip trip_k0_t1; rfl

end Mems

end Cert.Delta
-- ==== Proof.TripB.lean ====
/-
  One trip: what it stores of the gradient of the step sizes is the chunk function of `Blk`.
-/
module

public import proofs.«01_k».proof.Proof.Trip

@[expose] public section

set_option maxRecDepth 16384

noncomputable section

namespace Cert.Delta

open Idealize.ShloMosaic Idealize.ShloMosaic.TcCoe Cert.KernelIdeal Cert.KernelIdeal.Gen Blk

namespace Mems

variable (M : Mems) (k : Fin k0_t1_loop.trips) (acc : V S128x128 × V S128x128)

set_option maxHeartbeats 4000000
unseal trip_k0_t1

/-- What a trip stores of the gradient of the step sizes. -/
theorem trip_db : (M.trip k).2.2.2.2.2.1 acc =
    [⟨Rect.unit (k0_off10 k 30#32) S1x1x64.size (k0_off10_inb k 0), Blk.db (x11 M k acc)⟩,
     ⟨Rect.unit (k0_off9 k 30#32) S1x1x64.size (k0_off9_inb k 0), Blk.db (x10 M k acc)⟩,
     ⟨Rect.unit (k0_off10 k 31#32) S1x1x64.size (k0_off10_inb k 1), Blk.db (x01 M k acc)⟩,
     ⟨Rect.unit (k0_off9 k 31#32) S1x1x64.size (k0_off9_inb k 1), Blk.db (x00 M k acc)⟩] := by
  unfold trip trip_k0_t1; rfl

end Mems

end Cert.Delta
-- ==== Proof.Walk.lean ====
/-
  The kernel's loop, on a grid point's blocks of real arrays: what it carries is the gradient of the two heads' states, and
  every block it stores is that part of the gradient over the whole arrays.
-/
module

public import proofs.«01_k».proof.Proof.Reads
public import proofs.«01_k».proof.Proof.TripQ
public import proofs.«01_k».proof.Proof.TripK
public import proofs.«01_k».proof.Proof.TripG
public import proofs.«01_k».proof.Proof.TripB

@[expose] public section

set_option maxRecDepth 16384

noncomputable section

namespace Cert.Delta

open Idealize.ShloMosaic Idealize.ShloMosaic.TcCoe Cert.KernelIdeal Cert.KernelIdeal.Gen Blk

/-- The gradient of the state is the one the chunk was given. -/
theorem chunk_dS (a : Args) (h : Fin 8) (n : Fin 32) (dS : Matrix (Fin 128) (Fin 128) ℝ) : (a.chunk h n dS).dS = dS := rfl

variable {M : Mems} {a : Args} {t : Fin 4} (H : Reads M a t) (k : Fin k0_t1_loop.trips)

/-- The gradients of the two heads' states carried into a trip. -/
def carry (a : Args) (t : Fin 4) (n : ℕ) : V S128x128 × V S128x128 :=
  (re2 (a.dState (hd t 0) (2 * n)), re2 (a.dState (hd t 1) (2 * n)))

include H

/-- The first chunk of a trip, head 0. -/
theorem x00_eq : M.x00 k (carry a t k.val) = ofChunk (a.part (hd t 0) (c0 k)) := by
  have := lt16 k
  rw [a.part_eq _ (c0 k) (2 * k.val) (by simp only [c0]; omega)]; exact in00_eq H k _
/-- The first chunk of a trip, head 1. -/
theorem x01_eq : M.x01 k (carry a t k.val) = ofChunk (a.part (hd t 1) (c0 k)) := by
  have := lt16 k
  rw [a.part_eq _ (c0 k) (2 * k.val) (by simp only [c0]; omega)]; exact in01_eq H k _
/-- The second chunk of a trip, head 0. -/
theorem x10_eq : M.x10 k (carry a t k.val) = ofChunk (a.part (hd t 0) (c1 k)) := by
  have := lt16 k
  rw [a.part_eq _ (c1 k) (2 * k.val + 1) (by simp only [c1]; omega)]
  unfold Mems.x10
  rw [x00_eq H k, dsNew_eq, a.part_eq _ (c0 k) (2 * k.val) (by simp only [c0]; omega), ← a.dState_succ _ _ _ (by simp only [c0])]
  exact in10_eq H k _
/-- The second chunk of a trip, head 1. -/
theorem x11_eq : M.x11 k (carry a t k.val) = ofChunk (a.part (hd t 1) (c1 k)) := by
  have := lt16 k
  rw [a.part_eq _ (c1 k) (2 * k.val + 1) (by simp only [c1]; omega)]
  unfold Mems.x11
  rw [x01_eq H k, dsNew_eq, a.part_eq _ (c0 k) (2 * k.val) (by simp only [c0]; omega), ← a.dState_succ _ _ _ (by simp only [c0])]
  exact in11_eq H k _

/-- A trip hands on what the next is to carry. -/
theorem trip_carry : (M.trip k).1 (carry a t k.val) = carry a t (k.val + 1) := by
  have := lt16 k
  have e (h : Fin 2) : (a.part (hd t h) (c1 k)).dSnew = a.dState (hd t h) (2 * (k.val + 1)) := by
    rw [a.part_eq _ (c1 k) (2 * k.val + 1) (by simp only [c1]; omega)]
    exact (a.dState_succ _ (c1 k) _ (by simp only [c1]; omega)).symm
  rw [Mems.trip_R, x10_eq H k, x11_eq H k, dsNew_eq, dsNew_eq, e, e]; rfl

/-- The blocks of rows a trip stores of an array whose blocks `f` gives. -/
theorem pieces_rows (A : Matrix (Fin 2048) (Fin 1024) ℝ) (f : Chunk → Matrix (Fin 64) (Fin 128) ℝ) (F : In → V S64x128)
    (hA : ∀ h n i j, A (row n i) (col h j) = f (a.part h n) i j) (hF : ∀ c, F (ofChunk c) = re2 (f c)) :
    ∀ p ∈ ([⟨Rect.unit (k0_off2 k 30#32) S64x128.size (k0_off2_inb k 0), F (M.x11 k (carry a t k.val))⟩,
     ⟨Rect.unit (k0_off1 k 30#32) S64x128.size (k0_off1_inb k 0), F (M.x10 k (carry a t k.val))⟩,
     ⟨Rect.unit (k0_off2 k 31#32) S64x128.size (k0_off2_inb k 1), F (M.x01 k (carry a t k.val))⟩,
     ⟨Rect.unit (k0_off1 k 31#32) S64x128.size (k0_off1_inb k 1), F (M.x00 k (carry a t k.val))⟩] :
        List (View.Piece (Elt Ideal) S2048x256 .f32)),
      ∀ x, p.2 x = (re2 (cols A t) : V S2048x256) (p.1.emb x) := by
  have l0 : (c0 k).val < 32 := (c0 k).isLt
  have l1 : (c1 k).val < 32 := (c1 k).isLt
  have key (n : Fin 32) (h : Fin 2) (off : Fin 2 → ℕ) (inb) (ho : off = ![64 * n.val, 128 * h.val]) :
      re2 (f (a.part (hd t h) n)) = View.ld (Val := Elt Ideal) (e' := .f32) (S := S2048x256) (re2 (cols A t)) (Rect.unit off S64x128.size inb) := by
    rw [ld_rows _ _ _ _ _ ho (by omega) (by omega)]
    exact congrArg re2 (by ext i j; exact ((cols_at A n h i j _ _).trans (hA _ _ _ _)).symm)
  intro p hp
  simp only [List.mem_cons, List.not_mem_nil, or_false] at hp
  rcases hp with rfl | rfl | rfl | rfl
  · intro x; simp only; rw [x11_eq H k, hF, key _ _ _ (k0_off2_inb k 0) (o2_1 k)]; rfl
  · intro x; simp only; rw [x10_eq H k, hF, key _ _ _ (k0_off1_inb k 0) (o1_1 k)]; rfl
  · intro x; simp only; rw [x01_eq H k, hF, key _ _ _ (k0_off2_inb k 1) (o2_0 k)]; rfl
  · intro x; simp only; rw [x00_eq H k, hF, key _ _ _ (k0_off1_inb k 1) (o1_0 k)]; rfl

/-- The lines a trip stores of an array whose lines `f` gives. -/
theorem pieces_lines (A : Fin 8 → Matrix (Fin 32) (Fin 64) ℝ) (f : Chunk → Fin 64 → ℝ) (F : In → V S1x1x64)
    (hA : ∀ h n i, A h n i = f (a.part h n) i) (hF : ∀ c, F (ofChunk c) = re3 fun _ => Matrix.of fun _ j => f c j) :
    ∀ p ∈ ([⟨Rect.unit (k0_off10 k 30#32) S1x1x64.size (k0_off10_inb k 0), F (M.x11 k (carry a t k.val))⟩,
     ⟨Rect.unit (k0_off9 k 30#32) S1x1x64.size (k0_off9_inb k 0), F (M.x10 k (carry a t k.val))⟩,
     ⟨Rect.unit (k0_off10 k 31#32) S1x1x64.size (k0_off10_inb k 1), F (M.x01 k (carry a t k.val))⟩,
     ⟨Rect.unit (k0_off9 k 31#32) S1x1x64.size (k0_off9_inb k 1), F (M.x00 k (carry a t k.val))⟩] :
        List (View.Piece (Elt Ideal) S2x32x64 .f32)),
      ∀ x, p.2 x = (re3 (fun h => A (hd t h)) : V S2x32x64) (p.1.emb x) := by
  have key (n : Fin 32) (h : Fin 2) (off : Fin 3 → ℕ) (inb) (ho : off = ![h.val, n.val, 0]) :
      (re3 fun (_ : Fin 1) => Matrix.of fun (_ : Fin 1) j => f (a.part (hd t h) n) j)
        = View.ld (Val := Elt Ideal) (e' := .f32) (S := S2x32x64) (re3 fun h => A (hd t h)) (Rect.unit off S1x1x64.size inb) := by
    rw [ld_line _ _ _ _ _ ho h.isLt n.isLt]
    exact congrArg re3 (by funext _; ext i j; exact (hA _ _ _).symm)
  intro p hp
  simp only [List.mem_cons, List.not_mem_nil, or_false] at hp
  rcases hp with rfl | rfl | rfl | rfl
  · intro x; simp only; rw [x11_eq H k, hF, key _ _ _ (k0_off10_inb k 0) (o10_1 k)]; rfl
  · intro x; simp only; rw [x10_eq H k, hF, key _ _ _ (k0_off9_inb k 0) (o9_1 k)]; rfl
  · intro x; simp only; rw [x01_eq H k, hF, key _ _ _ (k0_off10_inb k 1) (o10_0 k)]; rfl
  · intro x; simp only; rw [x00_eq H k, hF, key _ _ _ (k0_off9_inb k 1) (o9_0 k)]; rfl

omit H in
/-- The loop's state after one more trip. -/
theorem Mems.st_succ (M : Mems) (init : V S128x128 × V S128x128) (k : Fin k0_t1_loop.trips) :
    M.st init (k.val + 1) = ((M.trip k).1 (M.st init k.val).1, (M.trip k).2.1 (M.st init k.val).1 ++ (M.st init k.val).2.1,
      (M.trip k).2.2.1 (M.st init k.val).1 ++ (M.st init k.val).2.2.1,
      (M.trip k).2.2.2.1 (M.st init k.val).1 ++ (M.st init k.val).2.2.2.1,
      (M.trip k).2.2.2.2.1 (M.st init k.val).1 ++ (M.st init k.val).2.2.2.2.1,
      (M.trip k).2.2.2.2.2.1 (M.st init k.val).1 ++ (M.st init k.val).2.2.2.2.2) := by
  unfold Mems.st Mems.trip
  rw [st_k0_t1_succ]

omit H in
/-- The state the loop starts from: zero. -/
theorem init_eq : ((k0_pay7, k0_pay8) : V S128x128 × V S128x128) = carry a t 0 := by
  have z : (constant (F := Ideal) S128x128 .f32 0x00000000#32) = re2 (0 : Matrix (Fin 128) (Fin 128) ℝ) := constant_re2
  exact Prod.ext z z

omit H in
/-- Before the first trip nothing is stored. -/
theorem Mems.st_zero (M : Mems) (init : V S128x128 × V S128x128) : M.st init 0 = (init, [], [], [], [], []) := rfl

attribute [local irreducible] st_k0_t1

/-- The loop's state: what it carries, and what it has stored of the five gradients. -/
abbrev State := (V S128x128 × V S128x128) × List (View.Piece (Elt Ideal) S2048x256 .f32) × List (View.Piece (Elt Ideal) S2048x256 .f32)
  × List (View.Piece (Elt Ideal) S2048x256 .f32) × List (View.Piece (Elt Ideal) S2x32x64 .f32) × List (View.Piece (Elt Ideal) S2x32x64 .f32)

/-- After `n` trips the loop carries the states' gradients, and its stores are the gradients' blocks. -/
structure Good (a : Args) (t : Fin 4) (n : ℕ) (s : State) : Prop where
  carried : s.1 = carry a t n
  dq : ∀ p ∈ s.2.1, ∀ x, p.2 x = (re2 (cols a.dq t) : V S2048x256) (p.1.emb x)
  dk : ∀ p ∈ s.2.2.1, ∀ x, p.2 x = (re2 (cols a.dk t) : V S2048x256) (p.1.emb x)
  dv : ∀ p ∈ s.2.2.2.1, ∀ x, p.2 x = (re2 (cols a.dv t) : V S2048x256) (p.1.emb x)
  dg : ∀ p ∈ s.2.2.2.2.1, ∀ x, p.2 x = (re3 (fun h => a.dg (hd t h)) : V S2x32x64) (p.1.emb x)
  db : ∀ p ∈ s.2.2.2.2.2, ∀ x, p.2 x = (re3 (fun h => a.db (hd t h)) : V S2x32x64) (p.1.emb x)

omit H in
/-- If every piece of two lists agrees with `G`, so does every piece of both together. -/
theorem both {S : Shape} (L L' : List (View.Piece (Elt Ideal) S .f32)) (G : V S) (h : ∀ p ∈ L, ∀ x, p.2 x = G (p.1.emb x))
    (h' : ∀ p ∈ L', ∀ x, p.2 x = G (p.1.emb x)) : ∀ p ∈ L ++ L', ∀ x, p.2 x = G (p.1.emb x) :=
  fun p hp => (List.mem_append.1 hp).elim (h p) (h' p)

/-- One more trip keeps it so. -/
theorem Good.step (s : State) (g : Good a t k.val s) :
    Good a t (k.val + 1) ((M.trip k).1 s.1, (M.trip k).2.1 s.1 ++ s.2.1, (M.trip k).2.2.1 s.1 ++ s.2.2.1,
      (M.trip k).2.2.2.1 s.1 ++ s.2.2.2.1, (M.trip k).2.2.2.2.1 s.1 ++ s.2.2.2.2.1, (M.trip k).2.2.2.2.2.1 s.1 ++ s.2.2.2.2.2) := by
  obtain ⟨c, hq, hk, hv, hg, hb⟩ := g
  rw [c]
  refine ⟨trip_carry H k, both _ _ _ ?_ hq, both _ _ _ ?_ hk, both _ _ _ ?_ hv, both _ _ _ ?_ hg, both _ _ _ ?_ hb⟩
  · rw [Mems.trip_dq]
    exact pieces_rows H k a.dq Chunk.dq Blk.dq
      (fun h n i j => by simp only [Args.dq, Matrix.of_apply, headOf_col, chunkOf_row, rowIn_row, laneIn_col]) dq_eq
  · rw [Mems.trip_dk]
    exact pieces_rows H k a.dk Chunk.dk Blk.dk
      (fun h n i j => by simp only [Args.dk, Matrix.of_apply, headOf_col, chunkOf_row, rowIn_row, laneIn_col]) dk_eq
  · rw [Mems.trip_dv]
    exact pieces_rows H k a.dv Chunk.dv Blk.dv
      (fun h n i j => by simp only [Args.dv, Matrix.of_apply, headOf_col, chunkOf_row, rowIn_row, laneIn_col]) dv_eq
  · rw [Mems.trip_dg]; exact pieces_lines H k a.dg Chunk.dg Blk.dg (fun h n i => rfl) dg_eq
  · rw [Mems.trip_db]; exact pieces_lines H k a.db Chunk.db Blk.db (fun h n i => rfl) db_eq

/-- After `n` trips it is so. -/
theorem walk (n : ℕ) (hn : n ≤ k0_t1_loop.trips) : Good a t n (M.st (k0_pay7, k0_pay8) n) := by
  induction n with
  | zero =>
    rw [M.st_zero]
    refine ⟨init_eq, ?_, ?_, ?_, ?_, ?_⟩ <;> (intro p hp; exact absurd hp List.not_mem_nil)
  | succ n ih =>
    have g := (ih (by omega)).step H ⟨n, hn⟩
    rw [← M.st_succ] at g
    exact g

end Cert.Delta
-- ==== Proof.Out.lean ====
/-
  What the kernel's body leaves in its output blocks: on a grid point's blocks of real arrays, that point's blocks of the
  gradients.
-/
module

public import proofs.«01_k».proof.Proof.Walk
public import proofs.«01_k».proof.Proof.Gen.KernelIdeal.Frame

@[expose] public section

set_option maxRecDepth 16384

noncomputable section

namespace Cert.Delta

open Idealize.ShloMosaic Idealize.ShloMosaic.TcCoe Cert.KernelIdeal Cert.KernelIdeal.Gen Blk

/-- The nine input blocks are grid point `t`'s blocks of the arrays. -/
structure Holds (a : Args) (t : Fin 4) (x0 x1 x2 : V S2048x256) (x3 : V S2x2048x128) (x4 : V S2x32x64) (x5 : V S2x2048x128)
    (x6 : V S2x32x128x128) (x7 : V S2x32x64x64) (x8 : V S2048x256) : Prop where
  e0 : x0 = re2 (cols a.q t)
  e1 : x1 = re2 (cols a.k t)
  e2 : x2 = re2 (cols a.v t)
  e3 : x3 = re3 fun h => Matrix.of fun (r : Fin 2048) (_ : Fin 128) => a.g r (hd t h)
  e4 : x4 = re3 fun h => Matrix.of fun (n : Fin 32) (i : Fin 64) => a.g (row n i) (hd t h)
  e5 : x5 = re3 fun h => Matrix.of fun (r : Fin 2048) (_ : Fin 128) => a.b r (hd t h)
  e6 : x6 = re4 fun h n => a.S (hd t h) n
  e7 : x7 = re4 fun h n => a.T (hd t h) n
  e8 : x8 = re2 (cols a.d t)

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2x2048x128 .f32) (harg4 : arg4.IsWhole) (arg5 : Memref sig .tc .vmem S2x32x64 .f32) (harg5 : arg5.IsWhole) (arg6 : Memref sig .tc .vmem S2x2048x128 .f32) (harg6 : arg6.IsWhole) (arg7 : Memref sig .tc .vmem S2x32x128x128 .f32) (harg7 : arg7.IsWhole) (arg8 : Memref sig .tc .vmem S2x32x64x64 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S2x32x64 .f32) (harg13 : arg13.IsWhole) (arg14 : Memref sig .tc .vmem S2x32x64 .f32) (harg14 : arg14.IsWhole)
    (x0 : Vec Ideal S2048x256 .f32) (x1 : Vec Ideal S2048x256 .f32) (x2 : Vec Ideal S2048x256 .f32) (x3 : Vec Ideal S2x2048x128 .f32) (x4 : Vec Ideal S2x32x64 .f32) (x5 : Vec Ideal S2x2048x128 .f32) (x6 : Vec Ideal S2x32x128x128 .f32) (x7 : Vec Ideal S2x32x64x64 .f32) (x8 : Vec Ideal S2048x256 .f32)
    {a : Args} {t : Fin 4} (H : Holds a t x0 x1 x2 x3 x4 x5 x6 x7 x8)

/-- The body's buffers, holding its input blocks. -/
def mems : Mems :=
  ⟨c, i, arg1, harg1, arg2, harg2, arg3, harg3, arg4, harg4, arg5, harg5, arg6, harg6, arg7, harg7, arg8, harg8, arg9, harg9, arg10, harg10, arg11, harg11, arg12, harg12, arg13, harg13, arg14, harg14,
    harg1.unread x0, harg2.unread x1, harg3.unread x2, harg4.unread x3, harg5.unread x4, harg6.unread x5, harg7.unread x6, harg8.unread x7, harg9.unread x8⟩

include H in
/-- What the body reads at a grid point are the blocks of the arguments. -/
theorem reads_mems : Reads (mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8) a t :=
  ⟨(harg1.read_unread x0).trans H.e0, (harg2.read_unread x1).trans H.e1, (harg3.read_unread x2).trans H.e2,
   (harg4.read_unread x3).trans H.e3, (harg5.read_unread x4).trans H.e4, (harg6.read_unread x5).trans H.e5,
   (harg7.read_unread x6).trans H.e6, (harg8.read_unread x7).trans H.e7, (harg9.read_unread x8).trans H.e8⟩

/-- The stores of the gradient of `q` are the loop's. -/
theorem stores_dq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1
    = ((mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).st (k0_pay7, k0_pay8) k0_t1_loop.trips).2.1 := by
  unfold kernelRun0_A
  dsimp only
  sl_unfold_words
  rfl

include H in
/-- What the body leaves of the gradient of `q`. -/
theorem out_dq : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = re2 (cols a.dq t) := by
  have cov := cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_9
  rw [stores_dq] at cov ⊢
  rw [View.read_writes_junk_eq_canon]
  funext y
  exact View.canon_apply_of_pieces (re2 (cols a.dq t) : V S2048x256) _ (walk (reads_mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 H) _ le_rfl).dq y (cov y)

/-- The stores of the gradient of `k` are the loop's. -/
theorem stores_dk : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1
    = ((mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).st (k0_pay7, k0_pay8) k0_t1_loop.trips).2.2.1 := by
  unfold kernelRun0_A
  dsimp only
  sl_unfold_words
  rfl

include H in
/-- What the body leaves of the gradient of `k`. -/
theorem out_dk : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = re2 (cols a.dk t) := by
  have cov := cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_10
  rw [stores_dk] at cov ⊢
  rw [View.read_writes_junk_eq_canon]
  funext y
  exact View.canon_apply_of_pieces (re2 (cols a.dk t) : V S2048x256) _ (walk (reads_mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 H) _ le_rfl).dk y (cov y)

/-- The stores of the gradient of `v` are the loop's. -/
theorem stores_dv : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1
    = ((mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).st (k0_pay7, k0_pay8) k0_t1_loop.trips).2.2.2.1 := by
  unfold kernelRun0_A
  dsimp only
  sl_unfold_words
  rfl

include H in
/-- What the body leaves of the gradient of `v`. -/
theorem out_dv : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = re2 (cols a.dv t) := by
  have cov := cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_11
  rw [stores_dv] at cov ⊢
  rw [View.read_writes_junk_eq_canon]
  funext y
  exact View.canon_apply_of_pieces (re2 (cols a.dv t) : V S2048x256) _ (walk (reads_mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 H) _ le_rfl).dv y (cov y)

/-- The stores of the gradient of the decays are the loop's. -/
theorem stores_dg : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.2.1
    = ((mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).st (k0_pay7, k0_pay8) k0_t1_loop.trips).2.2.2.2.1 := by
  unfold kernelRun0_A
  dsimp only
  sl_unfold_words
  rfl

include H in
/-- What the body leaves of the gradient of the decays. -/
theorem out_dg : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = re3 fun h => a.dg (hd t h) := by
  have cov := cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_12
  rw [stores_dg] at cov ⊢
  rw [View.read_writes_junk_eq_canon]
  funext y
  exact View.canon_apply_of_pieces (re3 fun h => a.dg (hd t h) : V S2x32x64) _ (walk (reads_mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 H) _ le_rfl).dg y (cov y)

/-- The stores of the gradient of the step sizes are the loop's. -/
theorem stores_db : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.2.2.1
    = ((mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).st (k0_pay7, k0_pay8) k0_t1_loop.trips).2.2.2.2.2 := by
  unfold kernelRun0_A
  dsimp only
  sl_unfold_words
  rfl

include H in
/-- What the body leaves of the gradient of the step sizes. -/
theorem out_db : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = re3 fun h => a.db (hd t h) := by
  have cov := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_13
  rw [stores_db] at cov ⊢
  rw [View.read_writes_junk_eq_canon]
  funext y
  exact View.canon_apply_of_pieces (re3 fun h => a.db (hd t h) : V S2x32x64) _ (walk (reads_mems c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 H) _ le_rfl).db y (cov y)

end Cert.Delta
-- ==== Proof.Entry.lean ====
/-
  The arrays that the host prepares for the kernel, and the blocks that the pipeline reads of them: at grid point `t`,
  the two heads' blocks of the arguments.
-/
module

public import proofs.«01_k».proof.Proof.Out
public import proofs.«01_k».proof.Proof.Gen.KernelIdeal.Value
public import Idealize.ShloMosaic.Lib.Pipeline.ValueKit

@[expose] public section

set_option maxRecDepth 16384

noncomputable section

namespace Cert.Delta

open Idealize.ShloMosaic Idealize.ShloMosaic.TcCoe Cert.KernelIdeal Cert.KernelIdeal.Gen Blk

/-- The kernel's arguments hold the real arrays `a`. -/
structure Mem (m : (ℓ : Loc nD τ sig) → Buf (Elt Ideal) ℓ) (c : Dev nD) (a : Args) : Prop where
  q : m ((c : Thread nD τ).loc main_arg0) = (re2 a.q : V S2048x1024)
  k : m ((c : Thread nD τ).loc main_arg1) = (re2 a.k : V S2048x1024)
  v : m ((c : Thread nD τ).loc main_arg2) = (re2 a.v : V S2048x1024)
  g : m ((c : Thread nD τ).loc main_arg3) = (re2 a.g : V S2048x8)
  b : m ((c : Thread nD τ).loc main_arg4) = (re2 a.b : V S2048x8)
  S : m ((c : Thread nD τ).loc main_arg5) = (re4 a.S : V S8x32x128x128)
  T : m ((c : Thread nD τ).loc main_arg6) = (re4 a.T : V S8x32x64x64)
  d : m ((c : Thread nD τ).loc main_arg7) = (re2 a.d : V S2048x1024)

variable {m : (ℓ : Loc nD τ sig) → Buf (Elt Ideal) ℓ} {c : Dev nD} {a : Args} (H : Mem m c a)

include H

/-- `q`, `k` and `v` side by side. -/
theorem entry_qkv (r : Fin 2048) (j : Fin 3072) : (V m c main_v0 : V S2048x3072) (ix2 r j)
    = ((if h : j.val < 1024 then a.q r ⟨j.val, h⟩ else if h : j.val < 2048 then a.k r ⟨j.val - 1024, by omega⟩
        else a.v r ⟨j.val - 2048, by omega⟩ : ℝ) : EReal) := by
  entry_read
  show concatenate (α := EReal) S2048x3072 1 [⟨S2048x1024, (m ((c : Thread nD τ).loc main_arg0) : V S2048x1024)⟩,
    ⟨S2048x1024, (m ((c : Thread nD τ).loc main_arg1) : V S2048x1024)⟩, ⟨S2048x1024, (m ((c : Thread nD τ).loc main_arg2) : V S2048x1024)⟩]
    concatenates_S2048x1024_S2048x1024_S2048x1024_S2048x3072_d1 (ix2 r j) = _
  rw [H.q, H.k, H.v]
  pointwise [re2_ix]
  by_cases h : j.val < 1024
  · simp only [h, dite_true]
  · by_cases h' : j.val < 2048
    · have : j.val - 1024 < 1024 := by omega
      simp only [h, h', this, dite_true, dite_false]
    · have : ¬ j.val - 1024 < 1024 := by omega
      simp only [h, h', this, dite_false]
      exact congrArg (fun z => ((a.v r z : ℝ) : EReal)) (Fin.ext (Nat.sub_sub _ _ _))
/-- The decays over the lanes. -/
theorem entry_g : (V m c main_v4 : V S8x2048x128) = re3 fun h => Matrix.of fun r _ => a.g r h := by
  entry_read
  rw [H.g]
  exact eq_re3 fun h r l => by pointwise [re2_ix]; simp
/-- The step sizes over the lanes. -/
theorem entry_b : (V m c main_v6 : V S8x2048x128) = re3 fun h => Matrix.of fun r _ => a.b r h := by
  entry_read
  rw [H.b]
  exact eq_re3 fun h r l => by pointwise [re2_ix]; simp
/-- The decays by chunk. -/
theorem entry_gr : (V m c main_v7 : V S8x32x64) = re3 fun h => Matrix.of fun n i => a.g (row n i) h := by
  entry_read
  rw [H.g]
  exact eq_re3 fun h n i => by pointwise [re2_ix]; simp [row, mul_comm]

omit H in
/-- The blocks that a grid point reads. -/
theorem idx_in : ∀ t : Fin grid0.N, win0_0.index t = ![0, t.val] ∧ win0_1.index t = ![0, 4 + t.val] ∧ win0_2.index t = ![0, 8 + t.val]
    ∧ win0_3.index t = ![t.val, 0, 0] ∧ win0_4.index t = ![t.val, 0, 0] ∧ win0_5.index t = ![t.val, 0, 0]
    ∧ win0_6.index t = ![t.val, 0, 0, 0] ∧ win0_7.index t = ![t.val, 0, 0, 0] ∧ win0_8.index t = ![0, t.val] := by decide +kernel

/-- The grid's points, as numbers below four. -/
def pt (t : Fin cfg0.N) : Fin 4 := ⟨t.val, t.isLt⟩

omit H in
/-- The number of a grid point is less than the number of grid points. -/
theorem pt_lt (t : Fin cfg0.N) : t.val < 4 := t.isLt

/-- The blocks of `q`, `k`, `v`: column blocks of the array holding the three side by side. -/
theorem iblk_q (t : Fin cfg0.N) : iblk m c 0 t = (re2 (cols a.q (pt t)) : V S2048x256) := by
  refine eq_re2 fun r j => ?_
  have ht := pt_lt t
  have e : ((cfg0.win 0).blk t).view.emb (ix2 r j) = (ix2 r ⟨256 * t.val + j.val, by omega⟩ : S2048x3072.Idx) := by blk_ext [idx_in t]
  blk_simp [iblk]
  rw [e, entry_qkv H, dif_pos (by simp only; omega)]; rfl
/-- The block of `k`: the columns of two heads. -/
theorem iblk_k (t : Fin cfg0.N) : iblk m c 1 t = (re2 (cols a.k (pt t)) : V S2048x256) := by
  refine eq_re2 fun r j => ?_
  have ht := pt_lt t
  have e : ((cfg0.win 1).blk t).view.emb (ix2 r j) = (ix2 r ⟨1024 + (256 * t.val + j.val), by omega⟩ : S2048x3072.Idx) := by blk_ext [idx_in t]
  blk_simp [iblk]
  rw [e, entry_qkv H, dif_neg (by simp only; omega), dif_pos (by simp only; omega)]
  exact congrArg (fun z => ((a.k r z : ℝ) : EReal)) (Fin.ext (Nat.add_sub_cancel_left ..))
/-- The block of `v`: the columns of two heads. -/
theorem iblk_v (t : Fin cfg0.N) : iblk m c 2 t = (re2 (cols a.v (pt t)) : V S2048x256) := by
  refine eq_re2 fun r j => ?_
  have ht := pt_lt t
  have e : ((cfg0.win 2).blk t).view.emb (ix2 r j) = (ix2 r ⟨2048 + (256 * t.val + j.val), by omega⟩ : S2048x3072.Idx) := by blk_ext [idx_in t]
  blk_simp [iblk]
  rw [e, entry_qkv H, dif_neg (by simp only; omega), dif_neg (by simp only; omega)]
  exact congrArg (fun z => ((a.v r z : ℝ) : EReal)) (Fin.ext (Nat.add_sub_cancel_left ..))
/-- The block of the upstream gradient. -/
theorem iblk_d (t : Fin cfg0.N) : iblk m c 8 t = (re2 (cols a.d (pt t)) : V S2048x256) := by
  refine eq_re2 fun r j => ?_
  have ht := pt_lt t
  have e : ((cfg0.win 8).blk t).view.emb (ix2 r j) = (ix2 r ⟨256 * t.val + j.val, by omega⟩ : S2048x1024.Idx) := by blk_ext [idx_in t]
  blk_simp [iblk]
  rw [e, V_main_arg7, H.d]; rfl
/-- The blocks of the decays and the step sizes: two heads of them. -/
theorem iblk_g (t : Fin cfg0.N) : iblk m c 3 t = (re3 fun h => Matrix.of fun (r : Fin 2048) (_ : Fin 128) => a.g r (hd (pt t) h) : V S2x2048x128) := by
  refine eq_re3 fun h r j => ?_
  have e : ((cfg0.win 3).blk t).view.emb (ix3 h r j) = (ix3 (hd (pt t) h) r j : S8x2048x128.Idx) := by blk_ext [idx_in t, hd, pt]
  blk_simp [iblk]
  rw [e, entry_g H]; rfl
/-- The block of the decay laid out by chunk. -/
theorem iblk_gr (t : Fin cfg0.N) : iblk m c 4 t = (re3 fun h => Matrix.of fun (n : Fin 32) (i : Fin 64) => a.g (row n i) (hd (pt t) h) : V S2x32x64) := by
  refine eq_re3 fun h r j => ?_
  have e : ((cfg0.win 4).blk t).view.emb (ix3 h r j) = (ix3 (hd (pt t) h) r j : S8x32x64.Idx) := by blk_ext [idx_in t, hd, pt]
  blk_simp [iblk]
  rw [e, entry_gr H]; rfl
/-- The block of the step sizes, spread over the lanes. -/
theorem iblk_b (t : Fin cfg0.N) : iblk m c 5 t = (re3 fun h => Matrix.of fun (r : Fin 2048) (_ : Fin 128) => a.b r (hd (pt t) h) : V S2x2048x128) := by
  refine eq_re3 fun h r j => ?_
  have e : ((cfg0.win 5).blk t).view.emb (ix3 h r j) = (ix3 (hd (pt t) h) r j : S8x2048x128.Idx) := by blk_ext [idx_in t, hd, pt]
  blk_simp [iblk]
  rw [e, entry_b H]; rfl
/-- The blocks of the chunk states and the inverses: two heads of them. -/
theorem iblk_S (t : Fin cfg0.N) : iblk m c 6 t = (re4 fun h n => a.S (hd (pt t) h) n : V S2x32x128x128) := by
  funext y
  rw [eq_ix4 y]
  have e : ((cfg0.win 6).blk t).view.emb (ix4 (y 0) (y 1) (y 2) (y 3)) = (ix4 (hd (pt t) (y 0)) (y 1) (y 2) (y 3) : S8x32x128x128.Idx) := by
    blk_ext [idx_in t, hd, pt]
  blk_simp [iblk]
  rw [e, V_main_arg5, H.S]; rfl
/-- The block of the saved inverses of two heads. -/
theorem iblk_T (t : Fin cfg0.N) : iblk m c 7 t = (re4 fun h n => a.T (hd (pt t) h) n : V S2x32x64x64) := by
  funext y
  rw [eq_ix4 y]
  have e : ((cfg0.win 7).blk t).view.emb (ix4 (y 0) (y 1) (y 2) (y 3)) = (ix4 (hd (pt t) (y 0)) (y 1) (y 2) (y 3) : S8x32x64x64.Idx) := by
    blk_ext [idx_in t, hd, pt]
  blk_simp [iblk]
  rw [e, V_main_arg6, H.T]; rfl

/-- A grid point's input blocks are the two heads' blocks of the arrays. -/
theorem holds (t : Fin cfg0.N) : Holds a (pt t) (iblk m c 0 t) (iblk m c 1 t) (iblk m c 2 t) (iblk m c 3 t) (iblk m c 4 t)
    (iblk m c 5 t) (iblk m c 6 t) (iblk m c 7 t) (iblk m c 8 t) :=
  ⟨iblk_q H t, iblk_k H t, iblk_v H t, iblk_g H t, iblk_gr H t, iblk_b H t, iblk_S H t, iblk_T H t, iblk_d H t⟩

end Cert.Delta
-- ==== Proof.Arrays.lean ====
/-
  The kernel's five result arrays: on real arguments, the gradients.
-/
module

public import proofs.«01_k».proof.Proof.Entry

@[expose] public section

set_option maxRecDepth 16384

noncomputable section

namespace Cert.Delta

open Idealize.ShloMosaic Idealize.ShloMosaic.TcCoe Cert.KernelIdeal Cert.KernelIdeal.Gen Cert.KernelIdeal.Value Blk

variable {m : (ℓ : Loc nD τ sig) → Buf (Elt Ideal) ℓ} {c : Dev nD} {a : Args} (H : Mem m c a)

/-- The blocks that a grid point writes. -/
theorem idx_out : ∀ t : Fin grid0.N, win0_9.index t = ![0, t.val] ∧ win0_10.index t = ![0, t.val] ∧ win0_11.index t = ![0, t.val]
    ∧ win0_12.index t = ![t.val, 0, 0] ∧ win0_13.index t = ![t.val, 0, 0] := by decide +kernel

include H

/-- The array of the gradient of `q`. -/
theorem arr_dq : (dats m 0 c).arrAt 9 cfg0.N = (re2 a.dq : V S2048x1024) := by
  refine (dats m 0 c).arrAt_eq_of_covers 9 _ (by decide +kernel) fun t hf y => ?_
  blk_simp
  rw [after0_9]
  simp only [outsAt0]
  rw [out_dq _ _ _ _ _ _ _ _ _ _ _ _ _ _ _ _ _ _ _ _ _ _ _ _ _ _ _ _ _ _ _ _ _ _ _ _ _ _ _ (holds H t)]
  revert y; intro (y : S2048x256.Idx)
  have ht := pt_lt t
  have hy : (y 1).val < 256 := (y 1).isLt
  have e : ((cfg0.win 9).blk t).view.emb (ix2 (y 0) (y 1)) = (ix2 (y 0) ⟨256 * t.val + (y 1).val, by omega⟩ : S2048x1024.Idx) := by
    blk_ext [idx_out t]
  rw [eq_ix2 y]
  exact (congrArg (re2 a.dq) e).symm
/-- The array of the gradient of `k`. -/
theorem arr_dk : (dats m 0 c).arrAt 10 cfg0.N = (re2 a.dk : V S2048x1024) := by
  refine (dats m 0 c).arrAt_eq_of_covers 10 _ (by decide +kernel) fun t hf y => ?_
  blk_simp
  rw [after0_10]
  simp only [outsAt0]
  rw [out_dk _ _ _ _ _ _ _ _ _ _ _ _ _ _ _ _ _ _ _ _ _ _ _ _ _ _ _ _ _ _ _ _ _ _ _ _ _ _ _ (holds H t)]
  revert y; intro (y : S2048x256.Idx)
  have ht := pt_lt t
  have hy : (y 1).val < 256 := (y 1).isLt
  have e : ((cfg0.win 10).blk t).view.emb (ix2 (y 0) (y 1)) = (ix2 (y 0) ⟨256 * t.val + (y 1).val, by omega⟩ : S2048x1024.Idx) := by
    blk_ext [idx_out t]
  rw [eq_ix2 y]
  exact (congrArg (re2 a.dk) e).symm
/-- The array of the gradient of `v`. -/
theorem arr_dv : (dats m 0 c).arrAt 11 cfg0.N = (re2 a.dv : V S2048x1024) := by
  refine (dats m 0 c).arrAt_eq_of_covers 11 _ (by decide +kernel) fun t hf y => ?_
  blk_simp
  rw [after0_11]
  simp only [outsAt0]
  rw [out_dv _ _ _ _ _ _ _ _ _ _ _ _ _ _ _ _ _ _ _ _ _ _ _ _ _ _ _ _ _ _ _ _ _ _ _ _ _ _ _ (holds H t)]
  revert y; intro (y : S2048x256.Idx)
  have ht := pt_lt t
  have hy : (y 1).val < 256 := (y 1).isLt
  have e : ((cfg0.win 11).blk t).view.emb (ix2 (y 0) (y 1)) = (ix2 (y 0) ⟨256 * t.val + (y 1).val, by omega⟩ : S2048x1024.Idx) := by
    blk_ext [idx_out t]
  rw [eq_ix2 y]
  exact (congrArg (re2 a.dv) e).symm
/-- The array of the gradient of the decays. -/
theorem arr_dg : (dats m 0 c).arrAt 12 cfg0.N = (re3 a.dg : V S8x32x64) := by
  refine (dats m 0 c).arrAt_eq_of_covers 12 _ (by decide +kernel) fun t hf y => ?_
  blk_simp
  rw [after0_12]
  simp only [outsAt0]
  rw [out_dg _ _ _ _ _ _ _ _ _ _ _ _ _ _ _ _ _ _ _ _ _ _ _ _ _ _ _ _ _ _ _ _ _ _ _ _ _ _ _ (holds H t)]
  revert y; intro (y : S2x32x64.Idx)
  have e : ((cfg0.win 12).blk t).view.emb (ix3 (y 0) (y 1) (y 2)) = (ix3 (hd (pt t) (y 0)) (y 1) (y 2) : S8x32x64.Idx) := by
    blk_ext [idx_out t, hd, pt]
  rw [eq_ix3 y]
  exact (congrArg (re3 a.dg) e).symm
/-- The array of the gradient of the step sizes. -/
theorem arr_db : (dats m 0 c).arrAt 13 cfg0.N = (re3 a.db : V S8x32x64) := by
  refine (dats m 0 c).arrAt_eq_of_covers 13 _ (by decide +kernel) fun t hf y => ?_
  blk_simp
  rw [after0_13]
  simp only [outsAt0]
  rw [out_db _ _ _ _ _ _ _ _ _ _ _ _ _ _ _ _ _ _ _ _ _ _ _ _ _ _ _ _ _ _ _ _ _ _ _ _ _ _ _ (holds H t)]
  revert y; intro (y : S2x32x64.Idx)
  have e : ((cfg0.win 13).blk t).view.emb (ix3 (y 0) (y 1) (y 2)) = (ix3 (hd (pt t) (y 0)) (y 1) (y 2) : S8x32x64.Idx) := by
    blk_ext [idx_out t, hd, pt]
  rw [eq_ix3 y]
  exact (congrArg (re3 a.db) e).symm

end Cert.Delta
-- ==== Proof.RefOps.lean ====
/-
  The reference's operations at arrays of real entries: eight heads at once, each operation reduced to the one on
  matrices.
-/
module

public import proofs.«01_k».proof.Proof.Mat
public import proofs.«01_k».proof.Proof.Gen.ReferenceIdeal.Step

@[expose] public section

noncomputable section

namespace Cert.Delta.Ref

open Idealize.ShloMosaic Cert.ReferenceIdeal Cert.ReferenceIdeal.Gen Matrix

/-! ## Entrywise -/

section Ops
variable {l m n : ℕ}

/-- A sum, head by head. -/
theorem add3 (A B : Fin l → Matrix (Fin m) (Fin n) ℝ) :
    addf (F := Ideal) (φ := .f32) (re3 A) (re3 B) = re3 fun h => A h + B h :=
  eq_re3 fun h i j => by pointwise [re3_ix]; simp
/-- A difference, head by head. -/
theorem sub3 (A B : Fin l → Matrix (Fin m) (Fin n) ℝ) :
    subf (F := Ideal) (φ := .f32) (re3 A) (re3 B) = re3 fun h => A h - B h :=
  eq_re3 fun h i j => by pointwise [re3_ix]; simp
/-- An elementwise product, head by head. -/
theorem mul3 (A B : Fin l → Matrix (Fin m) (Fin n) ℝ) :
    mulf (F := Ideal) (φ := .f32) (re3 A) (re3 B) = re3 fun h => Matrix.of fun i j => A h i j * B h i j :=
  eq_re3 fun h i j => by pointwise [re3_ix]; simp
/-- A negative, head by head. -/
theorem neg3 (A : Fin l → Matrix (Fin m) (Fin n) ℝ) :
    Host.negf (F := Ideal) (φ := .f32) (re3 A) = re3 fun h => -A h :=
  eq_re3 fun h i j => by pointwise [re3_ix]; simp
/-- Exponentials, head by head. -/
theorem exp3 (A : Fin l → Matrix (Fin m) (Fin n) ℝ) :
    Host.exp (F := Ideal) (φ := .f32) (re3 A) = re3 fun h => Matrix.of fun i j => Real.exp (A h i j) :=
  eq_re3 fun h i j => by pointwise [re3_ix]; simp
/-- The negative of a matrix. -/
theorem neg2 (A : Matrix (Fin m) (Fin n) ℝ) : Host.negf (F := Ideal) (φ := .f32) (re2 A) = re2 (-A) :=
  eq_re2 fun i j => by pointwise [re2_ix]; simp
/-- The exponentials of a matrix. -/
theorem exp2 (A : Matrix (Fin m) (Fin n) ℝ) :
    Host.exp (F := Ideal) (φ := .f32) (re2 A) = re2 (Matrix.of fun i j => Real.exp (A i j)) :=
  eq_re2 fun i j => by pointwise [re2_ix]; simp
/-- The exponentials of a vector. -/
theorem exp1 (A : Fin n → ℝ) :
    Host.exp (F := Ideal) (φ := .f32) (re1 A) = re1 fun i => Real.exp (A i) :=
  eq_re1 fun i => by pointwise [re1_ix]; simp
/-- A sum of vectors. -/
theorem add1 (A B : Fin n → ℝ) :
    addf (F := Ideal) (φ := .f32) (re1 A) (re1 B) = re1 fun i => A i + B i :=
  eq_re1 fun i => by pointwise [re1_ix]; simp
/-- A product of vectors, entry by entry. -/
theorem mul1 (A B : Fin n → ℝ) :
    mulf (F := Ideal) (φ := .f32) (re1 A) (re1 B) = re1 fun i => A i * B i :=
  eq_re1 fun i => by pointwise [re1_ix]; simp
/-- A choice by a mask that holds exactly where `p` does. -/
theorem select3 (c : IVec (⟨3, ![l, m, n]⟩ : Shape) 1) (p : Fin m → Fin n → Prop) [∀ i j, Decidable (p i j)]
    (hc : ∀ h i j, c (ix3 h i j) = if p i j then 1#1 else 0#1) (A B : Fin l → Matrix (Fin m) (Fin n) ℝ) :
    select (α := EReal) c (re3 A) (re3 B) = re3 fun h => Matrix.of fun i j => if p i j then A h i j else B h i j :=
  eq_re3 fun h i j => by
    pointwise [hc, re3_ix]
    by_cases hp : p i j <;> simp [hp, Scalar.select]
end Ops

/-! ## Spreads and other re-indexings -/

/-- The zero matrix for each head. -/
theorem zero64 : broadcastInDim (α := EReal) S8x64x64 ![] bcast_S_S8x64x64 (constant (F := Ideal) S_ .f32 0x00000000#32)
    = re3 fun _ => (0 : Matrix (Fin 64) (Fin 64) ℝ) :=
  eq_re3 fun h i j => by pointwise; simp
/-- One number a row, as a column. -/
theorem col (A : Matrix (Fin 8) (Fin 64) ℝ) :
    broadcastInDim (α := EReal) S8x64x1 ![0, 1] bcast_S8x64_S8x64x1_0_1 (re2 A) = re3 fun h => Matrix.of fun i _ => A h i :=
  eq_re3 fun h i j => by pointwise [re2_ix]; simp
/-- One number a row, as a line. -/
theorem line (A : Matrix (Fin 8) (Fin 64) ℝ) :
    broadcastInDim (α := EReal) S8x1x64 ![0, 2] bcast_S8x64_S8x1x64_0_2 (re2 A) = re3 fun h => Matrix.of fun _ j => A h j :=
  eq_re3 fun h i j => by pointwise [re2_ix]; simp
/-- A column, repeated over 64 columns. -/
theorem col64 (A : Fin 8 → Matrix (Fin 64) (Fin 1) ℝ) :
    broadcastInDim (α := EReal) S8x64x64 ![0, 1, 2] bcast_S8x64x1_S8x64x64_0_1_2 (re3 A) = re3 fun h => Matrix.of fun i _ => A h i 0 :=
  eq_re3 fun h i j => by pointwise [re3_ix]; simp
/-- A line, repeated over 64 rows. -/
theorem line64 (A : Fin 8 → Matrix (Fin 1) (Fin 64) ℝ) :
    broadcastInDim (α := EReal) S8x64x64 ![0, 1, 2] bcast_S8x1x64_S8x64x64_0_1_2 (re3 A) = re3 fun h => Matrix.of fun _ j => A h 0 j :=
  eq_re3 fun h i j => by pointwise [re3_ix]; simp
/-- A column, repeated over 128 lanes. -/
theorem col128 (A : Fin 8 → Matrix (Fin 64) (Fin 1) ℝ) :
    broadcastInDim (α := EReal) S8x64x128 ![0, 1, 2] bcast_S8x64x1_S8x64x128_0_1_2 (re3 A) = re3 fun h => Matrix.of fun i _ => A h i 0 :=
  eq_re3 fun h i j => by pointwise [re3_ix]; simp
/-- One number, repeated over a state. -/
theorem one128 (A : Fin 8 → Matrix (Fin 1) (Fin 1) ℝ) :
    broadcastInDim (α := EReal) S8x128x128 ![0, 1, 2] bcast_S8x1x1_S8x128x128_0_1_2 (re3 A) = re3 fun h => Matrix.of fun _ _ => A h 0 0 :=
  eq_re3 fun h i j => by pointwise [re3_ix]; simp
/-- One number a head, as a one by one matrix. -/
theorem up11 (A : Fin 8 → ℝ) :
    broadcastInDim (α := EReal) S8x1x1 ![0] bcast_S8_S8x1x1_0 (re1 A) = re3 fun h => Matrix.of fun _ _ => A h :=
  eq_re3 fun h i j => by pointwise [re1_ix]; simp
/-- One number a head, as a column. -/
theorem up1 (A : Fin 8 → ℝ) :
    broadcastInDim (α := EReal) S8x1 ![0] bcast_S8_S8x1_0 (re1 A) = re2 (Matrix.of fun h _ => A h) :=
  eq_re2 fun h i => by pointwise [re1_ix]; simp
/-- A column, repeated over 64 rows of a head. -/
theorem up64 (A : Matrix (Fin 8) (Fin 1) ℝ) :
    broadcastInDim (α := EReal) S8x64 ![0, 1] bcast_S8x1_S8x64_0_1 (re2 A) = re2 (Matrix.of fun h _ => A h 0) :=
  eq_re2 fun h i => by pointwise [re2_ix]; simp
/-- The last row's number. -/
theorem last (A : Matrix (Fin 8) (Fin 64) ℝ) :
    shapeCast (α := EReal) S8 (extractStridedSlice S8x1 ![0, 63] (re2 A) slices_S8x64_S8x1_0_63) shapeCasts_S8x1_S8 = re1 fun h => A h 63 :=
  eq_re1 fun h => by pointwise [re2_ix]
/-- A chunk of rows as a block of one chunk. -/
theorem up4 (A : Fin 8 → Matrix (Fin 64) (Fin 128) ℝ) :
    broadcastInDim (α := EReal) S1x8x64x128 ![1, 2, 3] bcast_S8x64x128_S1x8x64x128_1_2_3 (re3 A) = re4 fun _ => A := by
  funext y; obtain ⟨a, b, c, d, rfl⟩ : ∃ a b c d, y = ix4 a b c d := ⟨_, _, _, _, eq_ix4 y⟩
  pointwise [re3_ix, re4_ix]
/-- One number a row as a block of one chunk. -/
theorem up3 (A : Matrix (Fin 8) (Fin 64) ℝ) :
    broadcastInDim (α := EReal) S1x8x64 ![1, 2] bcast_S8x64_S1x8x64_1_2 (re2 A) = re3 fun _ => A :=
  eq_re3 fun h i j => by pointwise [re2_ix]
/-- A transpose, head by head. -/
theorem tr64 (A : Fin 8 → Matrix (Fin 128) (Fin 64) ℝ) :
    transpose (α := EReal) S8x64x128 [0, 2, 1] (re3 A) transposes_S8x128x64_S8x64x128_0_2_1 = re3 fun h => (A h)ᵀ :=
  eq_re3 fun h i j => by pointwise [re3_ix]; rfl
/-- A transpose of states, head by head. -/
theorem tr128 (A : Fin 8 → Matrix (Fin 128) (Fin 128) ℝ) :
    transpose (α := EReal) S8x128x128 [0, 2, 1] (re3 A) transposes_S8x128x128_S8x128x128_0_2_1 = re3 fun h => (A h)ᵀ :=
  eq_re3 fun h i j => by pointwise [re3_ix]; rfl

/-- Two matrices side by side. -/
def side (A B : Matrix (Fin 64) (Fin 128) ℝ) : Matrix (Fin 64) (Fin 256) ℝ :=
  Matrix.of fun i j => if h : j.val < 128 then A i ⟨j.val, h⟩ else B i ⟨j.val - 128, by omega⟩

/-- Two matrices side by side. -/
theorem concat (A B : Fin 8 → Matrix (Fin 64) (Fin 128) ℝ) :
    concatenate (α := EReal) S8x64x256 2 [⟨S8x64x128, re3 A⟩, ⟨S8x64x128, re3 B⟩] concatenates_S8x64x128_S8x64x128_S8x64x256_d2
      = re3 fun h => side (A h) (B h) :=
  eq_re3 fun h i j => by
    pointwise [re3_ix]
    by_cases hj : j.val < 128 <;> simp [side, hj]
/-- The left half. -/
theorem left (A B : Fin 8 → Matrix (Fin 64) (Fin 128) ℝ) :
    extractStridedSlice (α := EReal) S8x64x128 ![0, 0, 0] (re3 fun h => side (A h) (B h)) slices_S8x64x256_S8x64x128_0_0_0 = re3 A :=
  eq_re3 fun h i j => by pointwise [re3_ix]; simp [side]
/-- The right half. -/
theorem right (A B : Fin 8 → Matrix (Fin 64) (Fin 128) ℝ) :
    extractStridedSlice (α := EReal) S8x64x128 ![0, 0, 128] (re3 fun h => side (A h) (B h)) slices_S8x64x256_S8x64x128_0_0_128 = re3 B :=
  eq_re3 fun h i j => by pointwise [re3_ix]; simp [side]
/-- A matrix with zeros on its left. -/
theorem padLeft (B : Fin 8 → Matrix (Fin 64) (Fin 128) ℝ) :
    pad (α := EReal) S8x64x256 ![0, 0, 128] ![0, 0, 0] ![0, 0, 0] (re3 B) (constant (F := Ideal) S_ .f32 0x00000000#32)
      pads_S8x64x128_S8x64x256_000_000_12800 h_S_ = re3 fun h => side 0 (B h) :=
  eq_re3 fun h i j => by
    pointwise [re3_ix]
    by_cases hj : j.val < 128
    · rw [dif_neg (by omega)]; simp [side, hj]
    · rw [dif_pos (by omega)]; simp [side, hj]
/-- A matrix with zeros on its right. -/
theorem padRight (A : Fin 8 → Matrix (Fin 64) (Fin 128) ℝ) :
    pad (α := EReal) S8x64x256 ![0, 0, 0] ![0, 0, 128] ![0, 0, 0] (re3 A) (constant (F := Ideal) S_ .f32 0x00000000#32)
      pads_S8x64x128_S8x64x256_000_000_01280 h_S_ = re3 fun h => side (A h) 0 :=
  eq_re3 fun h i j => by
    pointwise [re3_ix]
    by_cases hj : j.val < 128 <;> simp [side, hj]
/-- Zeros in front of a last row's number. -/
theorem padLast (A : Matrix (Fin 8) (Fin 1) ℝ) :
    pad (α := EReal) S8x64 ![0, 63] ![0, 0] ![0, 0] (re2 A) (constant (F := Ideal) S_ .f32 0x00000000#32)
      pads_S8x1_S8x64_000_6300 h_S_ = re2 (Matrix.of fun h i => if i = 63 then A h 0 else 0) :=
  eq_re2 fun h i => by
    pointwise [re2_ix]
    by_cases hj : i = 63
    · subst hj; simp
    · have : i.val ≠ 63 := fun e => hj (Fin.ext e)
      rw [dif_neg (by omega)]; simp [hj]

/-! ## Sums -/

/-- Row sums over 128 lanes. -/
theorem sum128 (A : Fin 8 → Matrix (Fin 64) (Fin 128) ℝ) :
    Host.reduceAdd (F := Ideal) (φ := .f32) (re3 A) (constant (F := Ideal) S_ .f32 0x00000000#32) reducesTo_S8x64x128_S8x64_d2 h_S_
      = re2 (Matrix.of fun h i => ∑ j, A h i j) :=
  eq_re2 fun h i => by pointwise [re3_ix]; simp [coe_sum]
/-- Row sums over 64 columns. -/
theorem sum64 (A : Fin 8 → Matrix (Fin 64) (Fin 64) ℝ) :
    Host.reduceAdd (F := Ideal) (φ := .f32) (re3 A) (constant (F := Ideal) S_ .f32 0x00000000#32) reducesTo_S8x64x64_S8x64_d2 h_S_
      = re2 (Matrix.of fun h i => ∑ j, A h i j) :=
  eq_re2 fun h i => by pointwise [re3_ix]; simp [coe_sum]
/-- Column sums. -/
theorem sumCols (A : Fin 8 → Matrix (Fin 64) (Fin 64) ℝ) :
    Host.reduceAdd (F := Ideal) (φ := .f32) (re3 A) (constant (F := Ideal) S_ .f32 0x00000000#32) reducesTo_S8x64x64_S8x64_d1 h_S_
      = re2 (Matrix.of fun h j => ∑ i, A h i j) :=
  eq_re2 fun h i => by pointwise [re3_ix]; simp [coe_sum]
/-- The sum over a state. -/
theorem sumAll (A : Fin 8 → Matrix (Fin 128) (Fin 128) ℝ) :
    Host.reduceAdd (F := Ideal) (φ := .f32) (re3 A) (constant (F := Ideal) S_ .f32 0x00000000#32) reducesTo_S8x128x128_S8_d1_2 h_S_
      = re1 fun h => ∑ i, ∑ j, A h i j :=
  eq_re1 fun h => by pointwise [re3_ix]; simp [coe_sum]
/-- The sum over a head's rows. -/
theorem sumHead (A : Matrix (Fin 8) (Fin 64) ℝ) :
    Host.reduceAdd (F := Ideal) (φ := .f32) (re2 A) (constant (F := Ideal) S_ .f32 0x00000000#32) reducesTo_S8x64_S8_d1 h_S_
      = re1 fun h => ∑ i, A h i :=
  eq_re1 fun h => by pointwise [re2_ix]; simp [coe_sum]
/-- A sum over an axis of one. -/
theorem sumOne (A : Matrix (Fin 8) (Fin 64) ℝ) :
    Host.reduceAdd (F := Ideal) (φ := .f32) (shapeCast (α := EReal) S8x64x1 (re2 A) shapeCasts_S8x64_S8x64x1)
      (constant (F := Ideal) S_ .f32 0x00000000#32) reducesTo_S8x64x1_S8x64_d2 h_S_ = re2 A :=
  eq_re2 fun h i => by pointwise [re2_ix]; simp
/-- A sum over a chunk axis of length one. -/
theorem sumOne' (A : Matrix (Fin 8) (Fin 64) ℝ) :
    Host.reduceAdd (F := Ideal) (φ := .f32) (shapeCast (α := EReal) S8x1x64 (re2 A) shapeCasts_S8x64_S8x1x64)
      (constant (F := Ideal) S_ .f32 0x00000000#32) reducesTo_S8x1x64_S8x64_d1 h_S_ = re2 A :=
  eq_re2 fun h i => by pointwise [re2_ix]; simp
/-- A sum over an axis of length one. -/
theorem sumOne1 (A : Fin 8 → ℝ) :
    Host.reduceAdd (F := Ideal) (φ := .f32) (shapeCast (α := EReal) S8x1 (re1 A) shapeCasts_S8_S8x1)
      (constant (F := Ideal) S_ .f32 0x00000000#32) reducesTo_S8x1_S8_d1 h_S_ = re1 A :=
  eq_re1 fun h => by pointwise [re1_ix]; simp
/-- A sum over two axes of length one. -/
theorem sumOne11 (A : Fin 8 → ℝ) :
    Host.reduceAdd (F := Ideal) (φ := .f32) (shapeCast (α := EReal) S8x1x1 (re1 A) shapeCasts_S8_S8x1x1)
      (constant (F := Ideal) S_ .f32 0x00000000#32) reducesTo_S8x1x1_S8_d1_2 h_S_ = re1 A :=
  eq_re1 fun h => by pointwise [re1_ix]; simp

/-! ## Products, head by head -/

/-- Rows times transposed rows. -/
theorem dot1 (A : Fin 8 → Matrix (Fin 64) (Fin 128) ℝ) (B : Fin 8 → Matrix (Fin 64) (Fin 128) ℝ) :
    Host.dotGeneral (F := Ideal) (φ₁ := .f32) (φ₂ := .f32) dot_S8x64x128_S8x64x128_S8x64x64_2_2_1_1_0_0 none (re3 A) (re3 B) = re3 fun h => A h * (B h)ᵀ :=
  eq_re3 fun h i j => by pointwise [re3_ix]; simp [coe_sum, Matrix.mul_apply]
/-- A square matrix times two matrices side by side. -/
theorem dot2 (A : Fin 8 → Matrix (Fin 64) (Fin 64) ℝ) (B : Fin 8 → Matrix (Fin 64) (Fin 256) ℝ) :
    Host.dotGeneral (F := Ideal) (φ₁ := .f32) (φ₂ := .f32) dot_S8x64x64_S8x64x256_S8x64x256_2_1_1_2_0_0 none (re3 A) (re3 B) = re3 fun h => A h * B h :=
  eq_re3 fun h i j => by pointwise [re3_ix]; simp [coe_sum, Matrix.mul_apply]
/-- Rows times a state. -/
theorem dot3 (A : Fin 8 → Matrix (Fin 64) (Fin 128) ℝ) (B : Fin 8 → Matrix (Fin 128) (Fin 128) ℝ) :
    Host.dotGeneral (F := Ideal) (φ₁ := .f32) (φ₂ := .f32) dot_S8x64x128_S8x128x128_S8x64x128_2_1_1_2_0_0 none (re3 A) (re3 B) = re3 fun h => A h * B h :=
  eq_re3 fun h i j => by pointwise [re3_ix]; simp [coe_sum, Matrix.mul_apply]
/-- A square matrix times rows. -/
theorem dot4 (A : Fin 8 → Matrix (Fin 64) (Fin 64) ℝ) (B : Fin 8 → Matrix (Fin 64) (Fin 128) ℝ) :
    Host.dotGeneral (F := Ideal) (φ₁ := .f32) (φ₂ := .f32) dot_S8x64x64_S8x64x128_S8x64x128_2_1_1_2_0_0 none (re3 A) (re3 B) = re3 fun h => A h * B h :=
  eq_re3 fun h i j => by pointwise [re3_ix]; simp [coe_sum, Matrix.mul_apply]
/-- The transpose of a chunk's rows times a chunk's rows. -/
theorem dot5 (A : Fin 8 → Matrix (Fin 64) (Fin 128) ℝ) (B : Fin 8 → Matrix (Fin 64) (Fin 128) ℝ) :
    Host.dotGeneral (F := Ideal) (φ₁ := .f32) (φ₂ := .f32) dot_S8x64x128_S8x64x128_S8x128x128_1_1_2_2_0_0 none (re3 A) (re3 B) = re3 fun h => (A h)ᵀ * B h :=
  eq_re3 fun h i j => by pointwise [re3_ix]; simp [coe_sum, Matrix.mul_apply]
/-- A transposed state times transposed rows. -/
theorem dot6 (A : Fin 8 → Matrix (Fin 128) (Fin 128) ℝ) (B : Fin 8 → Matrix (Fin 64) (Fin 128) ℝ) :
    Host.dotGeneral (F := Ideal) (φ₁ := .f32) (φ₂ := .f32) dot_S8x128x128_S8x64x128_S8x128x64_1_2_2_1_0_0 none (re3 A) (re3 B) = re3 fun h => (A h)ᵀ * (B h)ᵀ :=
  eq_re3 fun h i j => by pointwise [re3_ix]; simp [coe_sum, Matrix.mul_apply]
/-- A state times transposed rows. -/
theorem dot7 (A : Fin 8 → Matrix (Fin 128) (Fin 128) ℝ) (B : Fin 8 → Matrix (Fin 64) (Fin 128) ℝ) :
    Host.dotGeneral (F := Ideal) (φ₁ := .f32) (φ₂ := .f32) dot_S8x128x128_S8x64x128_S8x128x64_2_2_1_1_0_0 none (re3 A) (re3 B) = re3 fun h => A h * (B h)ᵀ :=
  eq_re3 fun h i j => by pointwise [re3_ix]; simp [coe_sum, Matrix.mul_apply]
/-- Transposed rows times a square matrix. -/
theorem dot8 (A : Fin 8 → Matrix (Fin 64) (Fin 128) ℝ) (B : Fin 8 → Matrix (Fin 64) (Fin 64) ℝ) :
    Host.dotGeneral (F := Ideal) (φ₁ := .f32) (φ₂ := .f32) dot_S8x64x128_S8x64x64_S8x128x64_1_1_2_2_0_0 none (re3 A) (re3 B) = re3 fun h => (A h)ᵀ * B h :=
  eq_re3 fun h i j => by pointwise [re3_ix]; simp [coe_sum, Matrix.mul_apply]
/-- Rows times a transposed state. -/
theorem dot9 (A : Fin 8 → Matrix (Fin 64) (Fin 128) ℝ) (B : Fin 8 → Matrix (Fin 128) (Fin 128) ℝ) :
    Host.dotGeneral (F := Ideal) (φ₁ := .f32) (φ₂ := .f32) dot_S8x64x128_S8x128x128_S8x64x128_2_2_1_1_0_0 none (re3 A) (re3 B) = re3 fun h => A h * (B h)ᵀ :=
  eq_re3 fun h i j => by pointwise [re3_ix]; simp [coe_sum, Matrix.mul_apply]
/-- A transposed square matrix times rows. -/
theorem dot10 (A : Fin 8 → Matrix (Fin 64) (Fin 64) ℝ) (B : Fin 8 → Matrix (Fin 64) (Fin 128) ℝ) :
    Host.dotGeneral (F := Ideal) (φ₁ := .f32) (φ₂ := .f32) dot_S8x64x64_S8x64x128_S8x64x128_1_1_2_2_0_0 none (re3 A) (re3 B) = re3 fun h => (A h)ᵀ * B h :=
  eq_re3 fun h i j => by pointwise [re3_ix]; simp [coe_sum, Matrix.mul_apply]
/-- A transposed square matrix times two matrices side by side. -/
theorem dot11 (A : Fin 8 → Matrix (Fin 64) (Fin 64) ℝ) (B : Fin 8 → Matrix (Fin 64) (Fin 256) ℝ) :
    Host.dotGeneral (F := Ideal) (φ₁ := .f32) (φ₂ := .f32) dot_S8x64x64_S8x64x256_S8x64x256_1_1_2_2_0_0 none (re3 A) (re3 B) = re3 fun h => (A h)ᵀ * B h :=
  eq_re3 fun h i j => by pointwise [re3_ix]; simp [coe_sum, Matrix.mul_apply]
/-- Two matrices side by side, times the transpose of two side by side. -/
theorem dot12 (A : Fin 8 → Matrix (Fin 64) (Fin 256) ℝ) (B : Fin 8 → Matrix (Fin 64) (Fin 256) ℝ) :
    Host.dotGeneral (F := Ideal) (φ₁ := .f32) (φ₂ := .f32) dot_S8x64x256_S8x64x256_S8x64x64_2_2_1_1_0_0 none (re3 A) (re3 B) = re3 fun h => A h * (B h)ᵀ :=
  eq_re3 fun h i j => by pointwise [re3_ix]; simp [coe_sum, Matrix.mul_apply]

end Cert.Delta.Ref
-- ==== Proof.RefTrip.lean ====
/-
  One trip of the reference: with a chunk's rows and the gradient of the state at its end read, the trip computes the
  chunk's gradients, for the eight heads at once.
-/
module

public import proofs.«01_k».proof.Proof.RefOps
public import proofs.«01_k».proof.Proof.Spec

@[expose] public section

set_option maxRecDepth 16384

noncomputable section

namespace Cert.Delta.Ref

open Idealize.ShloMosaic Cert.ReferenceIdeal Cert.ReferenceIdeal.Gen Cert.ReferenceIdeal.Step Matrix

/-! ## Matrices -/

/-- The negative of a matrix with scaled rows. -/
theorem rows_neg {m n : ℕ} (A : Matrix (Fin m) (Fin n) ℝ) (e : Fin m → ℝ) : rows (-A) e = -rows A e := by
  ext i j; simp [rows]

/-- A matrix times two side by side. -/
theorem mul_side (A : Matrix (Fin 64) (Fin 64) ℝ) (B D : Matrix (Fin 64) (Fin 128) ℝ) :
    A * side B D = side (A * B) (A * D) := by
  ext i j
  by_cases hj : j.val < 128 <;> simp [side, hj, Matrix.mul_apply]

/-- Two matrices side by side against two others. -/
theorem side_mul_side (A B D E : Matrix (Fin 64) (Fin 128) ℝ) :
    side A B * (side D E)ᵀ = A * Dᵀ + B * Eᵀ := by
  ext i j
  have h := Fin.sum_univ_add (M := ℝ) (a := 128) (b := 128) fun x => side A B i x * side D E j x
  simp only [Matrix.mul_apply, Matrix.add_apply, Matrix.transpose_apply]
  refine h.trans ?_
  congr 1 <;> refine Finset.sum_congr rfl fun x _ => ?_ <;> simp [side]

/-- The negative of two matrices side by side. -/
theorem neg_side (A B : Matrix (Fin 64) (Fin 128) ℝ) : -side A B = side (-A) (-B) := by
  ext i j
  by_cases hj : j.val < 128 <;> simp [side, hj]

/-- Zeros beside `B`, plus `A` beside zeros. -/
theorem side_add (A B : Matrix (Fin 64) (Fin 128) ℝ) : side 0 B + side A 0 = side A B := by
  ext i j
  by_cases hj : j.val < 128 <;> simp [side, hj]

/-! ## The masks -/

section
variable (j : ℕ) (s : State Ideal)

/-- The mask on and below the diagonal. -/
theorem mask_le (a b : Fin 64) : b52 j s (ix2 a b) = if b ≤ a then 1#1 else 0#1 := by
  unfold b52 b49 b43 b51 b47 b48 b44 b46 b45 b42 b50
  revert a b
  decide +kernel
/-- The mask below the diagonal. -/
theorem mask_lt (a b : Fin 64) : b63 j s (ix2 a b) = if b < a then 1#1 else 0#1 := by
  unfold b63 b60 b54 b62 b58 b59 b55 b57 b56 b53 b61
  revert a b
  decide +kernel
/-- The mask on and below the diagonal, for each head. -/
theorem mask71 (h : Fin 8) (a b : Fin 64) : b71 j s (ix3 h a b) = if b ≤ a then 1#1 else 0#1 := by
  unfold b71; pointwise [mask_le]
/-- The mask on and below the diagonal, for each head, once more. -/
theorem mask79 (h : Fin 8) (a b : Fin 64) : b79 j s (ix3 h a b) = if b ≤ a then 1#1 else 0#1 := by
  unfold b79; pointwise [mask_le]
/-- The mask below the diagonal, for each head. -/
theorem mask91 (h : Fin 8) (a b : Fin 64) : b91 j s (ix3 h a b) = if b < a then 1#1 else 0#1 := by
  unfold b91; pointwise [mask_lt]
end

/-! ## The trip -/

/-- What a trip reads: the eight heads' chunks `C`. -/
structure At (j : ℕ) (s : State Ideal) (C : Fin 8 → Chunk) : Prop where
  q : b8 j s = re3 fun h => (C h).q
  k : b13 j s = re3 fun h => (C h).k
  v : b18 j s = re3 fun h => (C h).v
  g : b22 j s = re2 (Matrix.of fun h => (C h).g)
  b : b26 j s = re2 (Matrix.of fun h => (C h).b)
  S : b31 j s = re3 fun h => (C h).S
  T : b36 j s = re3 fun h => (C h).T
  d : b41 j s = re3 fun h => (C h).d
  dS : s.main_v20_9 = re3 fun h => (C h).dS

variable {j : ℕ} {s : State Ideal} {C : Fin 8 → Chunk} (H : At j s C)
include H

/-! ### The decays and the scaled rows -/

/-- The reference's value 109 is `exp g`. -/
theorem eg109 : b109 j s = re2 (Matrix.of fun h => (C h).eg) := by rw [b109, H.g, exp2]; rfl
/-- The reference's value 120 is `exp g`. -/
theorem eg120 : b120 j s = re2 (Matrix.of fun h => (C h).eg) := eg109 H
/-- `exp g`, spread over the lanes. -/
theorem spread_eg : b111 j s = re3 fun h => Matrix.of fun i _ => (C h).eg i := by
  rw [b111, b110, eg109 H, Ref.col, col128]; rfl
/-- The step sizes, spread over the lanes. -/
theorem spread_b : b85 j s = re3 fun h => Matrix.of fun i _ => (C h).b i := by
  rw [b85, b84, H.b, Ref.col, col128]; rfl
/-- The last row's log decay. -/
theorem last_g : b125 j s = re1 fun h => (C h).g 63 := by rw [b125, b124, H.g, last]; rfl
/-- The reference's value 138 is the decay over the whole chunk. -/
theorem egl138 : b138 j s = re1 fun h => (C h).egl := by rw [b138, last_g H, exp1]; rfl
/-- The decay over the whole chunk, spread over a state. -/
theorem spread_egl : b152 j s = re3 fun h => Matrix.of fun _ _ => (C h).egl := by
  rw [b152, b139, egl138 H, up11, one128]; rfl
/-- The reference's value 129 is the decay from a row to the chunk's end. -/
theorem ekd129 : b129 j s = re2 (Matrix.of fun h => (C h).ekd) := by
  rw [b129, b128, b127, b126, last_g H, up1, up64, H.g, subf_re2, exp2]; rfl
/-- The decay to the chunk's end, spread over the lanes. -/
theorem spread_ekd : b131 j s = re3 fun h => Matrix.of fun i _ => (C h).ekd i := by
  rw [b131, b130, ekd129 H, Ref.col, col128]; rfl
/-- The decay between two rows, one above the diagonal. -/
theorem exp76 : b76 j s = re3 fun h => Matrix.of fun a b => Real.exp (if b ≤ a then (C h).g a - (C h).g b else 0) := by
  rw [b76, b73, b68, b66, b64, b67, b65, b72, b70, b69, H.g, Ref.col, line, col64, line64, sub3, zero64,
    select3 _ _ (mask71 j s), exp3]; rfl
/-- The decay from row to row. -/
theorem decay81 : b81 j s = re3 fun h => (C h).decay := by
  rw [b81, exp76 H, b80, b78, b77, zero64, select3 _ _ (mask79 j s)]
  refine congrArg re3 (funext fun h => Matrix.ext fun a b => ?_)
  by_cases hp : b ≤ a <;> simp [Chunk.decay, hp]
/-- The reference's value 86 is `β k`. -/
theorem kb86 : b86 j s = re3 fun h => (C h).kb := by rw [b86, H.k, spread_b H, mul3]; rfl
/-- The reference's value 108 is `β v`. -/
theorem vb108 : b108 j s = re3 fun h => (C h).vb := by
  rw [b108, H.v, show b107 j s = _ from spread_b H, mul3]; rfl
/-- The reference's value 112 is `β k e^g`. -/
theorem kbg112 : b112 j s = re3 fun h => (C h).kbg := by rw [b112, kb86 H, spread_eg H, mul3]; rfl
/-- The reference's value 123 is `q e^g`. -/
theorem qg123 : b123 j s = re3 fun h => (C h).qg := by
  rw [b123, H.q, show b122 j s = _ from spread_eg H, mul3]; rfl
/-- The reference's value 132 is `k`, decayed to the chunk's end. -/
theorem kd132 : b132 j s = re3 fun h => (C h).kd := by rw [b132, H.k, spread_ekd H, mul3]; rfl
/-- The reference's value 87 is `(β k) kᵀ`. -/
theorem kk87 : b87 j s = re3 fun h => (C h).kk := by rw [b87, kb86 H, H.k, dot1]; rfl
/-- The reference's value 118 is `q kᵀ`. -/
theorem qk118 : b118 j s = re3 fun h => (C h).qk := by rw [b118, H.q, H.k, dot1]; rfl
/-- The attention inside the chunk. -/
theorem attn119 : b119 j s = re3 fun h => (C h).attn := by rw [b119, qk118 H, decay81 H, mul3]; rfl

/-! ### The updates and the gradient of the state -/

/-- The solution of the triangular system, both sides. -/
theorem sides114 : b114 j s = re3 fun h => side ((C h).T * (C h).vb) ((C h).T * (C h).kbg) := by
  rw [b114, b113, vb108 H, kbg112 H, H.T, concat, dot2]
  exact congrArg re3 (funext fun h => mul_side _ _ _)
/-- Its right half. -/
theorem w117 : b117 j s = re3 fun h => (C h).T * (C h).kbg := by rw [b117, sides114 H, right]
/-- The updates `u`. -/
theorem u134 : b134 j s = re3 fun h => (C h).u := by
  rw [b134, b133, b116, w117 H, sides114 H, left, H.S, dot3, sub3]
  refine congrArg re3 (funext fun h => ?_)
  rw [Chunk.u, Matrix.mul_sub, Matrix.mul_assoc]
/-- The reference's value 159 is the gradient of `u`. -/
theorem du159 : b159 j s = re3 fun h => (C h).du := by
  rw [b159, b145, b144, b158, b157, H.dS, kd132 H, H.d, attn119 H, dot6, dot8, tr64, tr64, add3]
  refine congrArg re3 (funext fun h => ?_)
  simp only [Matrix.transpose_mul, Matrix.transpose_transpose]
  rw [Chunk.du, add_comm]
/-- The reference's value 147 is the gradient of the decayed `k`. -/
theorem dkd147 : b147 j s = re3 fun h => (C h).dkd := by
  rw [b147, b146, H.dS, u134 H, dot7, tr64]
  refine congrArg re3 (funext fun h => ?_)
  rw [Matrix.transpose_mul, Matrix.transpose_transpose]; rfl
/-- The negative of the gradient of `u`. -/
theorem negdu165 : b165 j s = re3 fun h => -(C h).du := by rw [b165, du159 H, neg3]
/-- The gradient of the state the chunk starts from. -/
theorem dSnew168 : b168 j s = re3 fun h => (C h).dSnew := by
  rw [b168, b167, b166, b163, b162, b161, b153, negdu165 H, w117 H, H.d, qg123 H, H.dS, spread_egl H, dot5, dot5, tr128,
    tr128, mul3, add3, add3]
  refine congrArg re3 (funext fun h => ?_)
  simp only [Matrix.transpose_mul, Matrix.transpose_transpose]
  rw [Chunk.dSnew, Chunk.dr]
  have e : (Matrix.of fun i j => (C h).dS i j * (C h).egl) = (C h).egl • (C h).dS := by ext i j; simp [mul_comm]
  change (Matrix.of fun i j => (C h).dS i j * (C h).egl) + _ + _ = _
  rw [e, Matrix.mul_neg, Matrix.mul_assoc]
  abel
/-- The reference's value 164 is the gradient of `q e^g`. -/
theorem dqg164 : b164 j s = re3 fun h => (C h).dqg := by rw [b164, H.d, H.S, dot9]; rfl
/-- The gradient of `q kᵀ`. -/
theorem dP201 : b201 j s = re3 fun h => (C h).dP := by
  rw [b201, b160, H.d, u134 H, decay81 H, dot1, mul3]; rfl

/-! ### The gradients through the triangular system -/

/-- The gradient of the triangular system's right-hand side, both sides. -/
theorem sides211 : b211 j s = re3 fun h => side (C h).dr (C h).dkbg := by
  rw [b211, b210, b209, b208, b207, b206, b169, negdu165 H, H.S, du159 H, H.T, dot9, padLeft, padRight, add3, dot11]
  refine congrArg re3 (funext fun h => ?_)
  simp only [side_add, mul_side]
  rw [Chunk.dkbg, Matrix.neg_mul, Matrix.mul_neg, ← Matrix.mul_assoc]; rfl
/-- The reference's value 214 is the gradient of the triangular system's right-hand side. -/
theorem dr214 : b214 j s = re3 fun h => (C h).dr := by rw [b214, sides211 H, left]
/-- The reference's value 215 is the gradient of `β k e^g`. -/
theorem dkbg215 : b215 j s = re3 fun h => (C h).dkbg := by rw [b215, sides211 H, right]
/-- The gradient of the triangular matrix. -/
theorem pairs213 : b213 j s = re3 fun h => -((C h).dr * (C h).uᵀ) := by
  rw [b213, b212, sides211 H, sides114 H, neg3, dot12]
  refine congrArg re3 (funext fun h => ?_)
  rw [Matrix.neg_mul, side_mul_side, Chunk.dkbg, Chunk.u, Matrix.mul_sub, Matrix.transpose_sub, Matrix.mul_sub,
    ← Matrix.mul_assoc (C h).T (C h).kbg, Matrix.transpose_mul ((C h).T * (C h).kbg), ← Matrix.mul_assoc, Matrix.neg_mul]
  abel
/-- The gradient of the triangular matrix below its diagonal. -/
theorem strict236 : b236 j s = re3 fun h => Matrix.of fun a b => if b < a then -((C h).dr * (C h).uᵀ) a b else 0 := by
  rw [b236, pairs213 H, b235, b234, zero64, select3 _ _ (mask91 j s)]; rfl
/-- The gradient of `(β k) kᵀ`. -/
theorem dA239 : b239 j s = re3 fun h => (C h).dA := by rw [b239, strict236 H, decay81 H, mul3]; rfl
/-- The reference's value 243 is the gradient of `β k`. -/
theorem dkb243 : b243 j s = re3 fun h => (C h).dkb := by
  rw [b243, b242, b221, dA239 H, H.k, dkbg215 H, show b220 j s = _ from spread_eg H, dot4, mul3, add3]
  refine congrArg re3 (funext fun h => ?_)
  rw [Chunk.dkb, add_comm]; rfl

/-! ### The five results -/

/-- The gradient of `q`. -/
theorem dq205 : b205 j s = re3 fun h => (C h).dq := by
  rw [b205, b204, b195, dP201 H, H.k, dqg164 H, show b194 j s = _ from spread_eg H, dot4, mul3, add3]
  refine congrArg re3 (funext fun h => ?_)
  rw [Chunk.dq, add_comm]; rfl
/-- The gradient of `k`. -/
theorem dk250 : b250 j s = re3 fun h => (C h).dk := by
  rw [b250, b249, b241, b240, b203, b202, b175, dA239 H, kb86 H, dP201 H, H.q, dkd147 H, show b174 j s = _ from spread_ekd H,
    dkb243 H, show b248 j s = _ from spread_b H, dot10, dot10, mul3, mul3, add3, add3, add3]
  refine congrArg re3 (funext fun h => ?_)
  change rows (C h).dkd (C h).ekd + _ + _ + rows (C h).dkb (C h).b = _
  rw [Chunk.dk]
  abel
/-- The gradient of `v`. -/
theorem dv231 : b231 j s = re3 fun h => (C h).dv := by
  rw [b231, dr214 H, show b230 j s = _ from spread_b H, mul3]; rfl
/-- The gradient of the step sizes. -/
theorem db253 : b253 j s = re2 (Matrix.of fun h => (C h).db) := by
  rw [b253, b252, b251, b247, b246, b245, b244, b233, b232, b229, b228, b227, b226, H.k, dkb243 H, H.v, dr214 H, mul3, mul3,
    sum128, sum128, sumOne, sumOne, addf_re2]
  refine congrArg re2 (Matrix.ext fun h i => ?_)
  simp only [Chunk.db, rowDot, Matrix.add_apply, Matrix.of_apply]
  rw [add_comm]
  congr 1 <;> exact Finset.sum_congr rfl fun x _ => mul_comm _ _

/-- The gradient of the differences of the decays. -/
theorem dD260 : b260 j s = re3 fun h => (C h).dD := by
  rw [b260, b259, b258, b257, b256, b255, b254, b238, b237, b200, b160, H.d, u134 H, qk118 H, kk87 H, strict236 H, exp76 H,
    dot1, mul3, mul3, add3, zero64, select3 _ _ (mask79 j s), mul3, select3 _ _ (mask71 j s)]
  refine congrArg re3 (funext fun h => Matrix.ext fun a b => ?_)
  simp only [Chunk.dD, Chunk.dA, Chunk.dP, Chunk.decay, Matrix.of_apply, Matrix.add_apply, Matrix.zero_apply]
  by_cases hp : b ≤ a
  · simp only [hp, if_true]; ring
  · simp [hp]
/-- The reference's value 178 is what each row gives to the gradient of the last log decay. -/
theorem cd178 : b178 j s = re2 (Matrix.of fun h => (C h).cd) := by
  rw [b178, b177, b176, b173, b172, b171, b170, H.k, dkd147 H, ekd129 H, mul3, sum128, sumOne, mulf_re2]
  refine congrArg re2 (Matrix.ext fun h i => ?_)
  simp only [Chunk.cd, rowDot, Chunk.kd, rows, Matrix.of_apply, Finset.sum_mul]
  exact Finset.sum_congr rfl fun x _ => by ring
/-- The reference's value 185 is the gradient of the last log decay. -/
theorem dgl185 : b185 j s = re1 fun h => (C h).dgl := by
  rw [b185, b184, b183, b181, b180, b179, b156, b155, b154, b151, b150, b149, b148, cd178 H, H.S, H.dS, egl138 H, mul3,
    sumAll, sumHead, sumOne1, sumOne11, mul1, add1]
  refine congrArg re1 (funext fun h => ?_)
  simp only [Chunk.dgl, Matrix.of_apply]
  rw [add_comm, mul_comm (Chunk.egl _)]
  congr 2
  exact Finset.sum_congr rfl fun x _ => Finset.sum_congr rfl fun y _ => mul_comm _ _
/-- The gradient of the decays. -/
theorem dg273 : b273 j s = re2 (Matrix.of fun h => (C h).dg) := by
  rw [b273, b272, b271, b263, b262, b261, b270, b269, b268, b267, b266, b265, b264, b225, b224, b223, b222, b219, b218, b217,
    b216, b199, b198, b197, b196, b193, b192, b191, b190, b189, b188, b187, b186, b182, dD260 H, kb86 H, dkbg215 H, eg109 H,
    H.q, dqg164 H, eg120 H, dgl185 H, cd178 H, neg2, neg3, up1, padLast, mul3, mul3, sum128, sum128, sumOne, sumOne, sum64,
    sumCols, sumOne, sumOne', mulf_re2, mulf_re2, addf_re2, addf_re2, addf_re2, addf_re2, addf_re2]
  refine congrArg re2 (Matrix.ext fun h i => ?_)
  simp only [Chunk.dg, rowDot, Chunk.qg, Chunk.kbg, rows, Matrix.add_apply, Matrix.neg_apply, Matrix.of_apply,
    Finset.sum_mul, Finset.sum_neg_distrib]
  have e1 : ∀ x, (C h).q i x * (C h).dqg i x * (C h).eg i = (C h).dqg i x * ((C h).q i x * (C h).eg i) := fun x => by ring
  have e2 : ∀ x, (C h).kb i x * (C h).dkbg i x * (C h).eg i = (C h).dkbg i x * ((C h).kb i x * (C h).eg i) := fun x => by ring
  simp only [e1, e2]
  ring

end Cert.Delta.Ref
-- ==== Proof.RefRun.lean ====
/-
  The reference's run, one trip after the other: what the loop's buffers hold is the state that `step` goes on from.
-/
module

public import proofs.«01_k».proof.Proof.Gen.ReferenceIdeal.Run
public import proofs.«01_k».proof.Proof.Gen.ReferenceIdeal.Step

@[expose] public section

set_option maxRecDepth 65536

noncomputable section

namespace Cert.Delta.Ref

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- What the loop's buffers hold. -/
def held (V : Valuation τ sig (Elt F)) : State F :=
  { main_v20_9 := V (Proc.devRef .tc main_v20_9), main_v20_10 := V (Proc.devRef .tc main_v20_10),
    main_v20_11 := V (Proc.devRef .tc main_v20_11), main_v20_12 := V (Proc.devRef .tc main_v20_12),
    main_v20_13 := V (Proc.devRef .tc main_v20_13), main_v20_14 := V (Proc.devRef .tc main_v20_14),
    main_v20_0 := V (Proc.devRef .tc main_v20_0), main_v20_1 := V (Proc.devRef .tc main_v20_1),
    main_v20_2 := V (Proc.devRef .tc main_v20_2), main_v20_3 := V (Proc.devRef .tc main_v20_3),
    main_v20_4 := V (Proc.devRef .tc main_v20_4), main_v20_5 := V (Proc.devRef .tc main_v20_5),
    main_v20_6 := V (Proc.devRef .tc main_v20_6), main_v20_7 := V (Proc.devRef .tc main_v20_7) }

/-- The trip's number in the loop's counter. -/
def counter (j : ℕ) : (⟨S_, .i32⟩ : BufTy).Contents (Elt F) := constantI S_ 32 (BitVec.ofNat 32 j)

/-- One trip of the run is one `step`, and the counter goes to the next number. -/
theorem held_step (V : Valuation τ sig (Elt F)) (j : ℕ) (h : V (Proc.devRef .tc main_v20_8) = counter j) :
    held (STEP V) = step j (held V) ∧ STEP V (Proc.devRef .tc main_v20_8) = counter (j + 1) := by
  refine ⟨?_, ?_⟩
  · simp only [held, STEP_main_v20_0, STEP_main_v20_1, STEP_main_v20_2, STEP_main_v20_3, STEP_main_v20_4, STEP_main_v20_5,
      STEP_main_v20_6, STEP_main_v20_7, STEP_main_v20_9, STEP_main_v20_10, STEP_main_v20_11, STEP_main_v20_12,
      STEP_main_v20_13, STEP_main_v20_14]
    rw [show V = Function.update V (Proc.devRef .tc main_v20_8) (counter j) by rw [← h, Function.update_eq_self]]
    rfl
  · rw [STEP_main_v20_8, step_main_v20_8, h]
    funext x
    exact (BitVec.ofNat_add j 1).symm

variable (m : (ℓ : Loc nD τ sig) → Buf (Elt F) ℓ)

/-- The state the first trip starts from. -/
def start (c : Dev nD) : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- The operations before the loop leave that state, and number 0. -/
theorem held_entry (c : Dev nD) : held (entryContents preI m c) = start m c ∧
    entryContents preI m c (Proc.devRef .tc main_v20_8) = counter 0 := by
  refine ⟨?_, ?_⟩
  · unfold held entryContents
    simp only [afterL_cons, afterL_nil]
    after_reads_simp
    rfl
  · unfold entryContents
    simp only [afterL_cons, afterL_nil]
    after_reads_simp
    rfl

/-- Number `n` of the states that `step` makes one after the other. -/
def iter (s : State F) : ℕ → State F
  | 0 => s
  | n + 1 => step n (iter s n)

/-- After `n` trips the loop's buffers hold state number `n`. -/
theorem held_iter (c : Dev nD) (n : ℕ) : held (STEP^[n] (entryContents preI m c)) = iter (start m c) n ∧
    STEP^[n] (entryContents preI m c) (Proc.devRef .tc main_v20_8) = counter n := by
  induction n with
  | zero => exact held_entry m c
  | succ n ih =>
    rw [Function.iterate_succ_apply']
    obtain ⟨e, h⟩ := held_step _ n ih.2
    exact ⟨e.trans (congrArg (step n) ih.1), h⟩

/-- What the operations after the loop make of its buffers. -/
theorem held_out (V : Valuation τ sig (Elt F)) :
    out_main_v22 V = R_main_v22 (held V) ∧ out_main_v24 V = R_main_v24 (held V) ∧ out_main_v26 V = R_main_v26 (held V)
      ∧ out_main_v27 V = R_main_v27 (held V) ∧ out_main_v28 V = R_main_v28 (held V) :=
  ⟨rfl, rfl, rfl, rfl, rfl⟩

/-- The five results are read off the last state, and the arguments are left alone. -/
theorem run_iter (ρ : Dev nD → PrngReg) :
    θ_run (defs (F := F)) (onTc (τ := τ) (main (F := F))) ⟨m, fun _ => 0, ρ⟩ fun r => ∀ c : Dev nD,
      r.2.mem ((c.tc : Thread nD τ).loc main_v22) = R_main_v22 (iter (start m c) 32)
      ∧ r.2.mem ((c.tc : Thread nD τ).loc main_v24) = R_main_v24 (iter (start m c) 32)
      ∧ r.2.mem ((c.tc : Thread nD τ).loc main_v26) = R_main_v26 (iter (start m c) 32)
      ∧ r.2.mem ((c.tc : Thread nD τ).loc main_v27) = R_main_v27 (iter (start m c) 32)
      ∧ r.2.mem ((c.tc : Thread nD τ).loc main_v28) = R_main_v28 (iter (start m c) 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, h4, hargs⟩ := h c
  obtain ⟨o0, o1, o2, o3, o4⟩ := held_out (STEP^[32] (entryContents preI m c))
  rw [(held_iter m c 32).1] at o0 o1 o2 o3 o4
  exact ⟨h0.trans o0, h1.trans o1, h2.trans o2, h3.trans o3, h4.trans o4, hargs⟩

end Cert.Delta.Ref
-- ==== Proof.RefLoop.lean ====
/-
  The reference's loop: trip `n` reads chunk `31 − n`, carries the gradient of the state to the next, and writes the
  chunk's gradients into the arrays the loop fills; after thirty-two trips these are the whole gradients.
-/
module

public import proofs.«01_k».proof.Proof.RefTrip
public import proofs.«01_k».proof.Proof.RefRun
public import proofs.«01_k».proof.Proof.Grad
public import Idealize.ShloMosaic.Lib.WordCmp

@[expose] public section

set_option maxRecDepth 16384

noncomputable section

namespace Cert.Delta.Ref

open Idealize.ShloMosaic Cert.ReferenceIdeal Cert.ReferenceIdeal.Gen Cert.ReferenceIdeal.Step Matrix

/-! ## Reading and writing one chunk -/

section
variable (n : Fin 32)

/-- Chunk `n` of a rank-four array, by a slice that starts there. -/
theorem slice128 (A : Fin 32 → Fin 8 → Matrix (Fin 64) (Fin 128) ℝ) (st : Fin 4 → Int)
    (hs : ∀ x, st x = ((![n.val, 0, 0, 0] : Fin 4 → ℕ) x : Int)) :
    shapeCast (α := EReal) S8x64x128 (Host.dynamicSlice S1x8x64x128 (re4 A) st sliceFits_S32x8x64x128_S1x8x64x128)
      shapeCasts_S1x8x64x128_S8x64x128 = re3 (A n) := by
  rw [WordCmp.dynamicSlice_eq_extract S1x8x64x128 (re4 A) st sliceFits_S32x8x64x128_S1x8x64x128 ![n.val, 0, 0, 0] ⟨rfl, fun x => by fin_cases x <;> simp <;> omega⟩ hs]
  exact eq_re3 fun h i j => by pointwise [re4_ix]
/-- The state of chunk `n`. -/
theorem slice128s (A : Fin 32 → Fin 8 → Matrix (Fin 128) (Fin 128) ℝ) (st : Fin 4 → Int)
    (hs : ∀ x, st x = ((![n.val, 0, 0, 0] : Fin 4 → ℕ) x : Int)) :
    shapeCast (α := EReal) S8x128x128 (Host.dynamicSlice S1x8x128x128 (re4 A) st sliceFits_S32x8x128x128_S1x8x128x128)
      shapeCasts_S1x8x128x128_S8x128x128 = re3 (A n) := by
  rw [WordCmp.dynamicSlice_eq_extract S1x8x128x128 (re4 A) st sliceFits_S32x8x128x128_S1x8x128x128 ![n.val, 0, 0, 0] ⟨rfl, fun x => by fin_cases x <;> simp <;> omega⟩ hs]
  exact eq_re3 fun h i j => by pointwise [re4_ix]
/-- The inverse of chunk `n`. -/
theorem slice64 (A : Fin 32 → Fin 8 → Matrix (Fin 64) (Fin 64) ℝ) (st : Fin 4 → Int)
    (hs : ∀ x, st x = ((![n.val, 0, 0, 0] : Fin 4 → ℕ) x : Int)) :
    shapeCast (α := EReal) S8x64x64 (Host.dynamicSlice S1x8x64x64 (re4 A) st sliceFits_S32x8x64x64_S1x8x64x64)
      shapeCasts_S1x8x64x64_S8x64x64 = re3 (A n) := by
  rw [WordCmp.dynamicSlice_eq_extract S1x8x64x64 (re4 A) st sliceFits_S32x8x64x64_S1x8x64x64 ![n.val, 0, 0, 0] ⟨rfl, fun x => by fin_cases x <;> simp <;> omega⟩ hs]
  exact eq_re3 fun h i j => by pointwise [re4_ix]
/-- The decays of chunk `n`. -/
theorem slice3 (A : Fin 32 → Matrix (Fin 8) (Fin 64) ℝ) (st : Fin 3 → Int)
    (hs : ∀ x, st x = ((![n.val, 0, 0] : Fin 3 → ℕ) x : Int)) :
    shapeCast (α := EReal) S8x64 (Host.dynamicSlice S1x8x64 (re3 A) st sliceFits_S32x8x64_S1x8x64)
      shapeCasts_S1x8x64_S8x64 = re2 (A n) := by
  rw [WordCmp.dynamicSlice_eq_extract S1x8x64 (re3 A) st sliceFits_S32x8x64_S1x8x64 ![n.val, 0, 0] ⟨rfl, fun x => by fin_cases x <;> simp <;> omega⟩ hs]
  exact eq_re2 fun i j => by pointwise [re3_ix]

/-- The last `m` chunks of an array hold those of `A`. -/
def Fills4 (m : ℕ) (X : S32x8x64x128.Idx → EReal) (A : Fin 32 → Fin 8 → Matrix (Fin 64) (Fin 128) ℝ) : Prop :=
  ∀ c : Fin 32, 32 ≤ c.val + m → ∀ h i l, X (ix4 c h i l) = ((A c h i l : ℝ) : EReal)
/-- The last `m` chunks of an array with one number a row hold those of `A`. -/
def Fills3 (m : ℕ) (X : S32x8x64.Idx → EReal) (A : Fin 32 → Matrix (Fin 8) (Fin 64) ℝ) : Prop :=
  ∀ c : Fin 32, 32 ≤ c.val + m → ∀ h i, X (ix3 c h i) = ((A c h i : ℝ) : EReal)

/-- When all chunks are filled the array is `A`. -/
theorem Fills4.all {X : S32x8x64x128.Idx → EReal} {A : Fin 32 → Fin 8 → Matrix (Fin 64) (Fin 128) ℝ} (h : Fills4 32 X A) :
    X = re4 A := by
  funext y
  obtain ⟨a, b, c, d, rfl⟩ : ∃ a b c d, y = ix4 a b c d := ⟨_, _, _, _, eq_ix4 y⟩
  exact h a (by omega) b c d
/-- When all chunks are filled the array is `A`. -/
theorem Fills3.all {X : S32x8x64.Idx → EReal} {A : Fin 32 → Matrix (Fin 8) (Fin 64) ℝ} (h : Fills3 32 X A) : X = re3 A :=
  eq_re3 fun a b c => h a (by omega) b c

/-- Writing chunk `31 − m` fills one more. -/
theorem Fills4.write {m : ℕ} {X : S32x8x64x128.Idx → EReal} {A : Fin 32 → Fin 8 → Matrix (Fin 64) (Fin 128) ℝ}
    (h : Fills4 m X A) (hm : n.val + m = 31) (st : Fin 4 → Int) (hs : ∀ x, st x = ((![n.val, 0, 0, 0] : Fin 4 → ℕ) x : Int)) :
    Fills4 (m + 1) (Host.dynamicUpdateSlice X (re4 fun _ : Fin 1 => A n) st updateFits_S32x8x64x128_S1x8x64x128) A := by
  intro c hc a i l
  rw [WordCmp.dynamicUpdateSlice_eq_update X (re4 fun _ : Fin 1 => A n) st updateFits_S32x8x64x128_S1x8x64x128 ![n.val, 0, 0, 0] ⟨rfl, fun x => by fin_cases x <;> simp <;> omega⟩ hs]
  by_cases e : c = n
  · subst e
    pointwise [re4_ix]
    simp
  · have e' : c.val ≠ n.val := fun he => e (Fin.ext he)
    pointwise [re4_ix]
    rw [dif_neg (by omega)]
    exact h c (by omega) a i l
/-- Writing chunk `31 − m` fills one more. -/
theorem Fills3.write {m : ℕ} {X : S32x8x64.Idx → EReal} {A : Fin 32 → Matrix (Fin 8) (Fin 64) ℝ}
    (h : Fills3 m X A) (hm : n.val + m = 31) (st : Fin 3 → Int) (hs : ∀ x, st x = ((![n.val, 0, 0] : Fin 3 → ℕ) x : Int)) :
    Fills3 (m + 1) (Host.dynamicUpdateSlice X (re3 fun _ : Fin 1 => A n) st updateFits_S32x8x64_S1x8x64) A := by
  intro c hc a i
  rw [WordCmp.dynamicUpdateSlice_eq_update X (re3 fun _ : Fin 1 => A n) st updateFits_S32x8x64_S1x8x64 ![n.val, 0, 0] ⟨rfl, fun x => by fin_cases x <;> simp <;> omega⟩ hs]
  by_cases e : c = n
  · subst e
    pointwise [re3_ix]
    simp
  · have e' : c.val ≠ n.val := fun he => e (Fin.ext he)
    pointwise [re3_ix]
    rw [dif_neg (by omega)]
    exact h c (by omega) a i
end

/-! ## The trip's chunk number -/

/-- The chunk's number in trip `m` is `31 − m`. -/
theorem chunkNumber : ∀ n : Fin 32, ∀ m : Fin 32, n.val + m.val = 31 →
    (IntOp.subi (IntOp.subi 32#32 (BitVec.ofNat 32 m.val)) 1#32).toInt = (n.val : Int) := by decide +kernel

section
variable (n : Fin 32) (m : ℕ) (hm : n.val + m = 31) (s : State Ideal)
include hm
/-- The chunk's number, as the trip computes it. -/
theorem start_first : (b3 m s (Shape.Idx.first h_S_)).toInt = (n.val : Int) := chunkNumber n ⟨m, by omega⟩ hm
/-- Where the trip's chunk begins in an array of rank four. -/
theorem start4 (x : Fin 4) (z1 z2 z3 : (⟨S_, .i32⟩ : BufTy).Contents (Elt Ideal)) (h1 : z1 = constantI S_ 32 0#32)
    (h2 : z2 = constantI S_ 32 0#32) (h3 : z3 = constantI S_ 32 0#32) :
    (((![b3 m s, z1, z2, z3] : Fin 4 → (⟨S_, .i32⟩ : BufTy).Contents (Elt Ideal)) x) (Shape.Idx.first h_S_)).toInt
      = ((![n.val, 0, 0, 0] : Fin 4 → ℕ) x : Int) := by
  subst h1 h2 h3
  fin_cases x
  · exact start_first n m hm s
  all_goals rfl
/-- Where the trip's chunk begins in an array of rank three. -/
theorem start3 (x : Fin 3) (z1 z2 : (⟨S_, .i32⟩ : BufTy).Contents (Elt Ideal)) (h1 : z1 = constantI S_ 32 0#32)
    (h2 : z2 = constantI S_ 32 0#32) :
    (((![b3 m s, z1, z2] : Fin 3 → (⟨S_, .i32⟩ : BufTy).Contents (Elt Ideal)) x) (Shape.Idx.first h_S_)).toInt
      = ((![n.val, 0, 0] : Fin 3 → ℕ) x : Int) := by
  subst h1 h2
  fin_cases x
  · exact start_first n m hm s
  all_goals rfl
end

/-! ## The loop -/

variable (a : Args)

/-- What the loop keeps after `m` trips: its constants are the arguments by chunks, the carried gradient is the chunk's
    before, and the last `m` chunks of the five arrays are filled. -/
structure Inv (m : ℕ) (s : State Ideal) : Prop where
  q : s.main_v20_0 = re4 fun n h => Matrix.of fun i j => a.q (row n i) (Delta.col h j)
  k : s.main_v20_1 = re4 fun n h => Matrix.of fun i j => a.k (row n i) (Delta.col h j)
  v : s.main_v20_2 = re4 fun n h => Matrix.of fun i j => a.v (row n i) (Delta.col h j)
  g : s.main_v20_3 = re3 fun n => Matrix.of fun h i => a.g (row n i) h
  b : s.main_v20_4 = re3 fun n => Matrix.of fun h i => a.b (row n i) h
  S : s.main_v20_5 = re4 fun n h => a.S h n
  T : s.main_v20_6 = re4 fun n h => a.T h n
  d : s.main_v20_7 = re4 fun n h => Matrix.of fun i j => a.d (row n i) (Delta.col h j)
  dS : s.main_v20_9 = re3 fun h => a.dState h m
  dq : Fills4 m s.main_v20_10 fun n h => (a.part h n).dq
  dk : Fills4 m s.main_v20_11 fun n h => (a.part h n).dk
  dv : Fills4 m s.main_v20_12 fun n h => (a.part h n).dv
  dg : Fills3 m s.main_v20_13 fun n => Matrix.of fun h => (a.part h n).dg
  db : Fills3 m s.main_v20_14 fun n => Matrix.of fun h => (a.part h n).db

variable {a}

/-- A trip of the loop reads chunk `31 − m` of every head. -/
theorem Inv.at {m : ℕ} {s : State Ideal} (I : Inv a m s) (n : Fin 32) (hm : n.val + m = 31) :
    At m s fun h => a.part h n where
  q := by
    rw [b8, b7, I.q]
    exact slice128 n _ _ fun x => start4 n m hm s x (b4 m s) (b5 m s) (b6 m s) rfl rfl rfl
  k := by
    rw [b13, b12, I.k]
    exact slice128 n _ _ fun x => start4 n m hm s x (b9 m s) (b10 m s) (b11 m s) rfl rfl rfl
  v := by
    rw [b18, b17, I.v]
    exact slice128 n _ _ fun x => start4 n m hm s x (b14 m s) (b15 m s) (b16 m s) rfl rfl rfl
  g := by
    rw [b22, b21, I.g]
    exact slice3 n _ _ fun x => start3 n m hm s x (b19 m s) (b20 m s) rfl rfl
  b := by
    rw [b26, b25, I.b]
    exact slice3 n _ _ fun x => start3 n m hm s x (b23 m s) (b24 m s) rfl rfl
  S := by
    rw [b31, b30, I.S]
    exact slice128s n _ _ fun x => start4 n m hm s x (b27 m s) (b28 m s) (b29 m s) rfl rfl rfl
  T := by
    rw [b36, b35, I.T]
    exact slice64 n _ _ fun x => start4 n m hm s x (b32 m s) (b33 m s) (b34 m s) rfl rfl rfl
  d := by
    rw [b41, b40, I.d]
    exact slice128 n _ _ fun x => start4 n m hm s x (b37 m s) (b38 m s) (b39 m s) rfl rfl rfl
  dS := by
    rw [I.dS]
    refine congrArg re3 (funext fun h => ?_)
    rw [a.part_eq h n m hm]; rfl

/-- One trip keeps it. -/
theorem Inv.next {m : ℕ} {s : State Ideal} (I : Inv a m s) (hm : m < 32) : Inv a (m + 1) (step m s) := by
  obtain ⟨n, hn⟩ : ∃ n : Fin 32, n.val + m = 31 := ⟨⟨31 - m, by omega⟩, by simp only; omega⟩
  have H := I.at n hn
  exact
    { q := I.q, k := I.k, v := I.v, g := I.g, b := I.b, S := I.S, T := I.T, d := I.d
      dS := by
        rw [step_main_v20_9, dSnew168 H]
        refine congrArg re3 (funext fun h => ?_)
        rw [a.dState_succ h n m (by omega), a.part_eq h n m hn]
      dq := by
        rw [step_main_v20_10, b278, b274, dq205 H, up4]
        exact I.dq.write n hn _ fun x => start4 n m hn s x _ _ _ rfl rfl rfl
      dk := by
        rw [step_main_v20_11, b283, b279, dk250 H, up4]
        exact I.dk.write n hn _ fun x => start4 n m hn s x _ _ _ rfl rfl rfl
      dv := by
        rw [step_main_v20_12, b288, b284, dv231 H, up4]
        exact I.dv.write n hn _ fun x => start4 n m hn s x _ _ _ rfl rfl rfl
      dg := by
        rw [step_main_v20_13, b292, b289, dg273 H, up3]
        exact I.dg.write n hn _ fun x => start3 n m hn s x _ _ rfl rfl
      db := by
        rw [step_main_v20_14, b296, b293, db253 H, up3]
        exact I.db.write n hn _ fun x => start3 n m hn s x _ _ rfl rfl }

/-- After `m` trips the state holds the chunks of the first `m`. -/
theorem Inv.iter {s : State Ideal} (I : Inv a 0 s) : ∀ m, m ≤ 32 → Inv a m (Ref.iter s m)
  | 0, _ => I
  | m + 1, h => (Inv.iter I m (by omega)).next (by omega)

/-! ## Before and after the loop -/

section
variable (A : Matrix (Fin 2048) (Fin 1024) ℝ) (B : Matrix (Fin 2048) (Fin 8) ℝ)

/-- Row `i` of chunk `n`. -/
theorem row_eq (n : Fin 32) (i : Fin 64) (h : n.val * 64 + i.val < 2048) : (⟨n.val * 64 + i.val, h⟩ : Fin 2048) = row n i :=
  Fin.ext (by simp only [row]; omega)
/-- Lane `j` of head `h`. -/
theorem col_eq (h : Fin 8) (j : Fin 128) (e : h.val * 128 + j.val < 1024) :
    (⟨h.val * 128 + j.val, e⟩ : Fin 1024) = Delta.col h j :=
  Fin.ext (by simp only [Delta.col]; omega)
/-- Rows laid out by chunk and head. -/
theorem toChunks :
    transpose (α := EReal) S32x8x64x128 [0, 2, 1, 3] (shapeCast (α := EReal) S32x64x8x128 (re2 A) shapeCasts_S2048x1024_S32x64x8x128)
      transposes_S32x64x8x128_S32x8x64x128_0_2_1_3 = re4 fun n h => Matrix.of fun i j => A (row n i) (Delta.col h j) := by
  funext y
  obtain ⟨n, h, i, j, rfl⟩ : ∃ a b c d, y = ix4 a b c d := ⟨_, _, _, _, eq_ix4 y⟩
  pointwise [re2_ix, re4_ix]
  rw [row_eq, col_eq]; rfl
/-- One number a row, laid out by chunk and head. -/
theorem toChunks3 :
    transpose (α := EReal) S32x8x64 [0, 2, 1] (shapeCast (α := EReal) S32x64x8 (re2 B) shapeCasts_S2048x8_S32x64x8)
      transposes_S32x64x8_S32x8x64_0_2_1 = re3 fun n => Matrix.of fun h i => B (row n i) h :=
  eq_re3 fun n h i => by
    pointwise [re2_ix]
    rw [row_eq]; rfl
/-- The states with the chunks in front. -/
theorem swap128 (X : Fin 8 → Fin 32 → Matrix (Fin 128) (Fin 128) ℝ) :
    transpose (α := EReal) S32x8x128x128 [1, 0, 2, 3] (re4 X) transposes_S8x32x128x128_S32x8x128x128_1_0_2_3
      = re4 fun n h => X h n := by
  funext y
  obtain ⟨n, h, i, j, rfl⟩ : ∃ a b c d, y = ix4 a b c d := ⟨_, _, _, _, eq_ix4 y⟩
  pointwise [re4_ix]
/-- The inverses with the chunks in front. -/
theorem swap64 (X : Fin 8 → Fin 32 → Matrix (Fin 64) (Fin 64) ℝ) :
    transpose (α := EReal) S32x8x64x64 [1, 0, 2, 3] (re4 X) transposes_S8x32x64x64_S32x8x64x64_1_0_2_3
      = re4 fun n h => X h n := by
  funext y
  obtain ⟨n, h, i, j, rfl⟩ : ∃ a b c d, y = ix4 a b c d := ⟨_, _, _, _, eq_ix4 y⟩
  pointwise [re4_ix]
/-- Chunks and heads laid out as rows again. -/
theorem fromChunks (X : Fin 32 → Fin 8 → Matrix (Fin 64) (Fin 128) ℝ) :
    shapeCast (α := EReal) S2048x1024 (transpose (α := EReal) S32x64x8x128 [0, 2, 1, 3] (re4 X) transposes_S32x8x64x128_S32x64x8x128_0_2_1_3)
      shapeCasts_S32x64x8x128_S2048x1024
      = re2 (Matrix.of fun r c => X (chunkOf r) (headOf c) (rowIn r) (laneIn c)) :=
  eq_re2 fun r c => by
    pointwise [re4_ix]
    rfl
/-- One number a row, with the heads in front again. -/
theorem fromChunks3 (X : Fin 32 → Matrix (Fin 8) (Fin 64) ℝ) :
    transpose (α := EReal) S8x32x64 [1, 0, 2] (re3 X) transposes_S32x8x64_S8x32x64_1_0_2
      = re3 fun h => Matrix.of fun n i => X n h i :=
  eq_re3 fun h n i => by pointwise [re3_ix]; rfl
/-- The loop starts from the zero gradient. -/
theorem zeroState : K_main_v14 (F := Ideal) = re3 fun _ => (0 : Matrix (Fin 128) (Fin 128) ℝ) :=
  eq_re3 fun h i j => by unfold K_main_v14 K_main_cst; pointwise; simp
end

/-- What the loop starts from. -/
theorem Inv.first (a : Args) : Inv a 0 (init (F := Ideal) (re2 a.q) (re2 a.k) (re2 a.v) (re2 a.g) (re2 a.b) (re4 a.S) (re4 a.T) (re2 a.d)) where
  q := toChunks a.q
  k := toChunks a.k
  v := toChunks a.v
  g := toChunks3 a.g
  b := toChunks3 a.b
  S := swap128 a.S
  T := swap64 a.T
  d := toChunks a.d
  dS := zeroState
  dq := fun c hc => absurd c.isLt (by omega)
  dk := fun c hc => absurd c.isLt (by omega)
  dv := fun c hc => absurd c.isLt (by omega)
  dg := fun c hc => absurd c.isLt (by omega)
  db := fun c hc => absurd c.isLt (by omega)

section
variable {s : State Ideal} (I : Inv a 32 s)
include I
/-- The reference's gradient of `q`. -/
theorem res_dq : R_main_v22 s = re2 a.dq := by rw [R_main_v22, I.dq.all]; exact fromChunks _
/-- The reference's gradient of `k`. -/
theorem res_dk : R_main_v24 s = re2 a.dk := by rw [R_main_v24, I.dk.all]; exact fromChunks _
/-- The reference's gradient of `v`. -/
theorem res_dv : R_main_v26 s = re2 a.dv := by rw [R_main_v26, I.dv.all]; exact fromChunks _
/-- The reference's gradient of the decay. -/
theorem res_dg : R_main_v27 s = re3 a.dg := by rw [R_main_v27, I.dg.all]; exact fromChunks3 _
/-- The reference's gradient of the step sizes. -/
theorem res_db : R_main_v28 s = re3 a.db := by rw [R_main_v28, I.db.all]; exact fromChunks3 _
end

end Cert.Delta.Ref
-- ==== Proof.Finite.lean ====
/-
  The precondition says that every entry of the eight arguments is a real number.
-/
module

public import proofs.«01_k».proof.Pre_finite
public import proofs.«01_k».proof.Proof.Mat
public import proofs.«01_k».proof.Proof.Grad
public import Idealize.ShloMosaic.Lib.ReduceAll

@[expose] public section

set_option maxRecDepth 16384

noncomputable section

namespace Cert.Delta.Finite

open Idealize.ShloMosaic Cert.Pre_finite

instance : Subsingleton S_.Idx := ⟨fun x y => funext fun i => i.elim0⟩

/-- An array whose entries are all below infinity in absolute value has a real number at every index. -/
theorem real_of_all {S : Shape} {axes : List (Fin S.rank)} (x : FVec Ideal S .f32) (hb : S_.BroadcastsInDim S ![]) (hr : S.ReducesTo axes S_)
    (hu : 0 < S_.numel) (j : S_.Idx)
    (e : Host.reduce IntOp.andi (cmpf .olt (Host.absf x) (broadcastInDim S ![] hb (constant S_ .f32 0x7F800000#32)))
      (constantI S_ 1 1#1) hr hu j = 1#1) (i : S.Idx) : ∃ r : ℝ, x i = ((r : ℝ) : EReal) := by
  have h := Host.reduce_andi_all _ _ hr hu j e i
  pointwise at h
  have hlt : max (x i : EReal) (-(x i : EReal)) < ⊤ := by
    have e : Ideal.ofBits .f32 0x7F800000#32 = (⊤ : EReal) := by simp [Ideal.ofBits, Ideal.ieee]
    rw [e] at h
    by_contra hn
    rw [show (FloatOps.absf (x i) : Ideal .f32) = max (x i : EReal) (-(x i : EReal)) from rfl, decide_eq_false hn] at h
    exact absurd h (by decide)
  refine ⟨(x i : EReal).toReal, (EReal.coe_toReal ?_ ?_).symm⟩
  · intro ht; rw [ht] at hlt; simp at hlt
  · intro hb; rw [hb] at hlt; simp at hlt

/-- A matrix without infinite entries is a real matrix. -/
theorem real2 {m n : ℕ} (x : (⟨2, ![m, n]⟩ : Shape).Idx → EReal) (h : ∀ i, ∃ r : ℝ, x i = ((r : ℝ) : EReal)) :
    ∃ A : Matrix (Fin m) (Fin n) ℝ, x = re2 A := by
  choose A hA using h
  exact ⟨Matrix.of fun i j => A (ix2 i j), eq_re2 fun i j => hA _⟩
/-- An array of rank four without infinite entries is a real array. -/
theorem real4 {k l m n : ℕ} (x : (⟨4, ![k, l, m, n]⟩ : Shape).Idx → EReal) (h : ∀ i, ∃ r : ℝ, x i = ((r : ℝ) : EReal)) :
    ∃ A : Fin k → Fin l → Matrix (Fin m) (Fin n) ℝ, x = re4 A := by
  choose A hA using h
  refine ⟨fun a b => Matrix.of fun i j => A (ix4 a b i j), funext fun y => ?_⟩
  obtain ⟨a, b, c, d, rfl⟩ : ∃ a b c d, y = ix4 a b c d := ⟨_, _, _, _, eq_ix4 y⟩
  exact hA _

instance facts : Facts where
  bcast_S_S2048x1024 := by decide
  reducesTo_S2048x1024_S_d0_1 := by decide
  h_S_ := by decide
  bcast_S_S2048x8 := by decide
  reducesTo_S2048x8_S_d0_1 := by decide
  bcast_S_S8x32x128x128 := by decide
  reducesTo_S8x32x128x128_S_d0_1_2_3 := by decide
  bcast_S_S8x32x64x64 := by decide
  reducesTo_S8x32x64x64_S_d0_1_2_3 := by decide

/-- If the conjunction of two bits is one, both are. -/
theorem andi_one {x y : BitVec 1} (h : IntOp.andi x y = 1#1) : x = 1#1 ∧ y = 1#1 := by
  revert x y; decide

/-- Where the precondition holds, the arguments are arrays of real numbers. -/
theorem args (q k v : FVec Ideal S2048x1024 .f32) (g b : FVec Ideal S2048x8 .f32) (S : FVec Ideal S8x32x128x128 .f32)
    (T : FVec Ideal S8x32x64x64 .f32) (d : FVec Ideal S2048x1024 .f32)
    (h : ∀ j, Cert.Pre_finite.fn (F := Ideal) q k v g b S T d j = 1#1) :
    ∃ a : Args, q = re2 a.q ∧ k = re2 a.k ∧ v = re2 a.v ∧ g = re2 a.g ∧ b = re2 a.b ∧ S = re4 a.S ∧ T = re4 a.T
      ∧ d = re2 a.d := by
  have e := h (Shape.Idx.first Facts.h_S_)
  simp only [fn, fn_part1, fn_part2, andi] at e
  obtain ⟨e, hd⟩ := andi_one e
  obtain ⟨e, hT⟩ := andi_one e
  obtain ⟨e, hS⟩ := andi_one e
  obtain ⟨e, hb⟩ := andi_one e
  obtain ⟨e, hg⟩ := andi_one e
  obtain ⟨e, hv⟩ := andi_one e
  obtain ⟨hq, hk⟩ := andi_one e
  obtain ⟨q', hq⟩ := real2 q (real_of_all q _ _ _ _ hq)
  obtain ⟨k', hk⟩ := real2 k (real_of_all k _ _ _ _ hk)
  obtain ⟨v', hv⟩ := real2 v (real_of_all v _ _ _ _ hv)
  obtain ⟨g', hg⟩ := real2 g (real_of_all g _ _ _ _ hg)
  obtain ⟨b', hb⟩ := real2 b (real_of_all b _ _ _ _ hb)
  obtain ⟨S', hS⟩ := real4 S (real_of_all S _ _ _ _ hS)
  obtain ⟨T', hT⟩ := real4 T (real_of_all T _ _ _ _ hT)
  obtain ⟨d', hd⟩ := real2 d (real_of_all d _ _ _ _ hd)
  exact ⟨⟨q', k', v', g', b', S', T', d'⟩, hq, hk, hv, hg, hb, hS, hT, hd⟩

end Cert.Delta.Finite
-- ==== Proof.Equal.lean ====
/-
  The two programs' results are one: both end with the gradients of `Grad`.
-/
module

public import proofs.«01_k».proof.Defs
public import proofs.«01_k».proof.Proof.Arrays
public import proofs.«01_k».proof.Proof.RefLoop
public import proofs.«01_k».proof.Proof.Finite
public import proofs.«01_k».proof.Proof.Gen.KernelIdeal.Value
public import Idealize.ShloMosaic.Lib.Quiescent

@[expose] public section

set_option maxRecDepth 16384

noncomputable section

namespace Cert.Delta

open Idealize.ShloMosaic Idealize.ShloMosaic.TcCoe Idealize.SL.Sem

attribute [local instance] Finite.facts

/-- The reference runs, leaves its arguments alone and ends with every counter at zero. -/
theorem frame_reference : Cert.quiescent_ReferenceIdeal := fun m ρ _ =>
  (θ_run ReferenceIdeal.defs _ _).mono
    (fun r h => ⟨fun c => (h c).2.2.2.2.2, sem_eq_zero_of_no_sems (by decide) r.2⟩) (Ref.run_iter m ρ)

/-- The real arguments of a memory where the precondition holds. -/
theorem mem_real (m : (ℓ : Loc KernelIdeal.nD KernelIdeal.τ KernelIdeal.sig) → Buf (Elt Ideal) ℓ) (h : Pre_KernelIdeal_finite m)
    (c : Dev KernelIdeal.nD) : ∃ a : Args, Mem m c a := by
  obtain ⟨a, hq, hk, hv, hg, hb, hS, hT, hd⟩ := Finite.args _ _ _ _ _ _ _ _ fun j => congrFun (h c) j
  exact ⟨a, ⟨hq, hk, hv, hg, hb, hS, hT, hd⟩⟩

/-- Over the real numbers the kernel and the reference compute the same five gradients. -/
theorem equal : Cert.algebraic_KernelIdeal_ReferenceIdeal_pre_finite := by
  intro m ρ m' ρ' hpre hag
  choose a H using mem_real m hpre
  refine ⟨fun c => re2 (a c).dq, fun c => re2 (a c).dk, fun c => re2 (a c).dv, fun c => re3 (a c).dg, fun c => re3 (a c).db, ?_, ?_⟩
  · refine (θ_run _ _ _).mono (fun r h c => ?_) (KernelIdeal.Value.run_blocks m ρ)
    obtain ⟨h0, h1, h2, h3, h4, hargs⟩ := h c
    exact ⟨h0.trans (arr_dq (H c)), h1.trans (arr_dk (H c)), h2.trans (arr_dv (H c)), h3.trans (arr_dg (H c)),
      h4.trans (arr_db (H c)), hargs⟩
  · refine (θ_run _ _ _).mono (fun r h c => ?_) (Ref.run_iter m' ρ')
    obtain ⟨h0, h1, h2, h3, h4, hargs⟩ := h c
    have I : Ref.Inv (a c) 0 (Ref.start m' c) := by
      obtain ⟨e0, e1, e2, e3, e4, e5, e6, e7⟩ := hag c
      have f := Ref.Inv.first (a c)
      unfold Ref.start
      rw [e0.trans (H c).q, e1.trans (H c).k, e2.trans (H c).v, e3.trans (H c).g, e4.trans (H c).b, e5.trans (H c).S,
        e6.trans (H c).T, e7.trans (H c).d]
      exact f
    have L := I.iter 32 le_rfl
    exact ⟨h0.trans (Ref.res_dq L), h1.trans (Ref.res_dk L), h2.trans (Ref.res_dv L), h3.trans (Ref.res_dg L),
      h4.trans (Ref.res_db L), hargs⟩

end Cert.Delta
-- ==== Proof.Up.lean ====
/-
  The product by the up projection: the weights are kept as eight parts, side by side in the plain array.
-/
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Up

open Idealize.ShloMosaic Idealize.ShloMosaic.TcCoe Idealize.SL.Sem
open Cert.UpIdeal Cert.UpIdeal.Gen Cert.UpIdeal.Value

/-- The product the call computes. -/
def prod (a : S2048x2048.Idx → EReal) (b : S2048x11264.Idx → EReal) : S2048x11264.Idx → EReal :=
  fun y => ∑ k : Fin 2048, a (ix2 (y 0) k) * b (ix2 k (y 1))

/-- The blocks of grid point `t`. -/
theorem idx_in : ∀ t : Fin cfg0.N, win0_0.index t = ![t.val / 8, 0] ∧ win0_1.index t = ![t.val % 8, 0, 0]
    ∧ win0_2.index t = ![t.val / 8, t.val % 8] := by decide +kernel

/-- The number of a grid point is less than the number of grid points. -/
theorem pt_lt (t : Fin cfg0.N) : t.val < 16 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- Part `q` of the weights at its place in the plain array. -/
theorem entry_b (q : Fin 8) (k : Fin 2048) (l : Fin 1408) (h : 1408 * q.val + l.val < 11264) :
    (V m c main_v3 : S8x2048x1408.Idx → EReal) (ix3 q k l)
      = (m ((c : Thread nD τ).loc main_arg1) : S2048x11264.Idx → EReal) (ix2 k ⟨1408 * q.val + l.val, h⟩) := by
  entry_read
  pointwise
  exact congrArg (m (c.tc.loc main_arg1)) (congrArg (ix2 k) (Fin.ext (by show q.val * 1408 + l.val = 1408 * q.val + l.val; omega)))

/-- The block of the left operand at grid point `t`. -/
theorem iblk_a (t : Fin cfg0.N) (i : Fin 1024) (k : Fin 2048) (h : 1024 * (t.val / 8) + i.val < 2048) :
    (iblk m c 0 t : S1024x2048.Idx → EReal) (ix2 i k) = (m ((c : Thread nD τ).loc main_arg0) : S2048x2048.Idx → EReal) (ix2 ⟨1024 * (t.val / 8) + i.val, h⟩ k) := by
  have e : ((cfg0.win 0).blk t).view.emb (ix2 i k) = (ix2 ⟨1024 * (t.val / 8) + i.val, h⟩ k : S2048x2048.Idx) := by
    blk_ext [idx_in t]
  blk_simp [iblk]
  exact (congrArg _ e).trans (congrFun (entry_a m c) _)

/-- The block of the weights at grid point `t`. -/
theorem iblk_b (t : Fin cfg0.N) (j : Fin 1408) (k : Fin 2048) (h : 1408 * (t.val % 8) + j.val < 11264) :
    (iblk m c 1 t : S1x2048x1408.Idx → EReal) (ix3 0 k j)
      = (m ((c : Thread nD τ).loc main_arg1) : S2048x11264.Idx → EReal) (ix2 k ⟨1408 * (t.val % 8) + j.val, h⟩) := by
  have hq : t.val % 8 < 8 := by omega
  have e : ((cfg0.win 1).blk t).view.emb (ix3 (0 : Fin 1) k j) = (ix3 ⟨t.val % 8, hq⟩ k j : S8x2048x1408.Idx) := by
    blk_ext [idx_in t]
  blk_simp [iblk]
  exact (congrArg _ e).trans (entry_b m c ⟨t.val % 8, hq⟩ k j h)

/-- One grid point stores the product of its two blocks. -/
theorem pay (a : S1024x2048.Idx → EReal) (b : S1x2048x1408.Idx → EReal) (i : Fin 1024) (j : Fin 1408) :
    k0_pay1 (F := Ideal) a b (ix2 i j) = ∑ k : Fin 2048, a (ix2 i k) * b (ix3 0 k j) := by
  unfold k0_pay1
  pointwise

/-- The output array after the last grid point is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  revert y; intro (y : S1024x1408.Idx)
  have ht := pt_lt t
  obtain ⟨i, j, rfl⟩ : ∃ (i : Fin 1024) (j : Fin 1408), y = ix2 i j := ⟨_, _, eq_ix2 y⟩
  have hi : 1024 * (t.val / 8) + i.val < 2048 := by omega
  have hj : 1408 * (t.val % 8) + j.val < 11264 := by omega
  have e : ((cfg0.win 2).blk t).view.emb (ix2 i j) = (ix2 ⟨1024 * (t.val / 8) + i.val, hi⟩ ⟨1408 * (t.val % 8) + j.val, hj⟩ : S2048x11264.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_UpReferenceIdeal := fun m ρ _ =>
  (θ_run UpReferenceIdeal.defs _ _).mono
    (fun r h => ⟨fun c => (h c).2, sem_eq_zero_of_no_sems (by decide) r.2⟩) (UpReferenceIdeal.Value.run m ρ)

/-- Over the real numbers the kernel and the reference compute the same product. -/
theorem equal : Cert.algebraic_UpIdeal_UpReferenceIdeal := by
  intro m ρ m' ρ' _ hag
  refine ⟨fun c => prod (m (c.tc.loc main_arg0)) (m (c.tc.loc main_arg1)), ?_, ?_⟩
  · refine (θ_run _ _ _).mono (fun r h c => ?_) (UpIdeal.Value.run_blocks m ρ)
    exact ⟨(h c).1.trans (arr m c), (h c).2⟩
  · refine (θ_run _ _ _).mono (fun r h c => ?_) (UpReferenceIdeal.Value.run m' ρ')
    refine ⟨(h c).1.trans ?_, (h c).2⟩
    have e0 : m' (c.tc.loc UpReferenceIdeal.main_arg0) = m (c.tc.loc main_arg0) := (hag c).1
    have e1 : m' (c.tc.loc UpReferenceIdeal.main_arg1) = m (c.tc.loc main_arg1) := (hag c).2
    rw [e0, e1]
    funext y
    revert y; intro (y : S2048x11264.Idx)
    pointwise
    rfl

end Cert.Up
-- ==== Proof.Sums.lean ====
/-
  Sums cut into blocks of equal length.
-/
module

public import Mathlib.Data.EReal.Basic
public import Mathlib.Algebra.BigOperators.Fin
public import Mathlib.Logic.Equiv.Fin.Basic

@[expose] public section

namespace Cert.Sums

/-- A sum over `G * w` terms is the sum over `G` blocks of the sums over their `w` terms. -/
theorem blocks {G w n : ℕ} (hn : n = G * w) (f : Fin n → EReal) :
    ∑ k : Fin n, f k = ∑ q : Fin G, ∑ l : Fin w, f ⟨w * q.val + l.val, by
      subst hn
      calc w * q.val + l.val < w * q.val + w := by omega
        _ = w * (q.val + 1) := by ring
        _ ≤ w * G := Nat.mul_le_mul_left _ q.isLt
        _ = G * w := Nat.mul_comm _ _⟩ := by
  subst hn
  rw [← Fintype.sum_prod_type', ← finProdFinEquiv.sum_comp]
  exact Finset.sum_congr rfl fun p _ => congrArg f (Fin.ext (Nat.add_comm _ _))

/-- The first `q` blocks of such a sum. -/
noncomputable def upto {w n : ℕ} (f : Fin n → EReal) (q : ℕ) : EReal :=
  ∑ k ∈ Finset.range (w * q), if h : k < n then f ⟨k, h⟩ else 0

/-- The sum of no block is zero. -/
theorem upto_zero {w n : ℕ} (f : Fin n → EReal) : upto (w := w) f 0 = 0 := by simp [upto]

/-- One block more. -/
theorem upto_succ {w n : ℕ} (f : Fin n → EReal) (q : ℕ) (h : w * (q + 1) ≤ n) :
    upto (w := w) f (q + 1) = upto (w := w) f q + ∑ l : Fin w, f ⟨w * q + l.val, by
      have := l.isLt
      rw [Nat.mul_add, Nat.mul_one] at h
      omega⟩ := by
  have e : w * (q + 1) = w * q + w := by ring
  unfold upto
  rw [e, Finset.sum_range_add, Finset.sum_range (n := w)]
  refine congrArg _ (Finset.sum_congr rfl fun l _ => dif_pos ?_)
  have := l.isLt
  omega

/-- All blocks. -/
theorem upto_all {w n : ℕ} (f : Fin n → EReal) (q : ℕ) (h : w * q = n) : upto (w := w) f q = ∑ k : Fin n, f k := by
  unfold upto
  rw [h, Finset.sum_range]
  exact Finset.sum_congr rfl fun k _ => dif_pos k.isLt

end Cert.Sums
-- ==== Proof.UpDx.lean ====
/-
  The gradient of the hidden projection of the feed-forward part with respect to its input: the grid goes over eight parts of
  the sum, the first four with the gradient of the gates, the others with that of the values; an accumulator adds them up.
-/
module

public import proofs.«01_k».proof.Defs
public import proofs.«01_k».proof.Proof.Sums
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxReferenceIdeal
public import proofs.«01_k».proof.Proof.Gen.UpDxReferenceIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.UpDx

open Idealize.ShloMosaic Idealize.ShloMosaic.TcCoe Idealize.SL.Sem
open Cert.UpDxIdeal Cert.UpDxIdeal.Gen Cert.UpDxIdeal.Value

/-- Column `k` of two arrays side by side. -/
def beside (g u : S2048x5632.Idx → EReal) (i : Fin 2048) (k : Fin 11264) : EReal :=
  if h : k.val < 5632 then g (ix2 i ⟨k.val, h⟩) else u (ix2 i ⟨k.val - 5632, by omega⟩)

/-- On the left lies the first half's gradient. -/
theorem beside_left (g u : S2048x5632.Idx → EReal) (i : Fin 2048) (k : Fin 11264) (h : k.val < 5632) :
    beside g u i k = g (ix2 i ⟨k.val, h⟩) := dif_pos h

/-- On the right lies the second half's gradient. -/
theorem beside_right (g u : S2048x5632.Idx → EReal) (i : Fin 2048) (k : Fin 11264) (h : ¬ k.val < 5632) :
    beside g u i k = u (ix2 i ⟨k.val - 5632, by omega⟩) := dif_neg h

/-- Term `k` of the entry `(i, j)` of the product. -/
def summand (g u : S2048x5632.Idx → EReal) (w : S2048x11264.Idx → EReal) (i j : Fin 2048) (k : Fin 11264) : EReal :=
  beside g u i k * w (ix2 j k)

/-- The product of `g` and `u`, side by side, with the transposed weights. -/
def prod (g u : S2048x5632.Idx → EReal) (w : S2048x11264.Idx → EReal) : S2048x2048.Idx → EReal :=
  fun y => ∑ k : Fin 11264, summand g u w (y 0) (y 1) k

/-- The sum over the columns side by side is the sum over those of `g` and the sum over those of `u`. -/
theorem prod_halves (g u : S2048x5632.Idx → EReal) (w : S2048x11264.Idx → EReal) (y : S2048x2048.Idx) :
    prod g u w y = ∑ k : Fin 5632, g (ix2 (y 0) k) * w (ix2 (y 1) ⟨k.val, by omega⟩)
      + ∑ k : Fin 5632, u (ix2 (y 0) k) * w (ix2 (y 1) ⟨5632 + k.val, by omega⟩) := by
  refine (Fin.sum_univ_add (a := 5632) (b := 5632) (summand g u w (y 0) (y 1))).trans (congrArg₂ (· + ·) ?_ ?_) <;>
    refine Finset.sum_congr rfl fun k _ => congrArg₂ (fun x y : EReal => x * y) ?_ rfl
  · exact beside_left g u (y 0) (Fin.castAdd 5632 k) k.isLt
  · refine (beside_right g u (y 0) (Fin.natAdd 5632 k) (by show ¬ 5632 + k.val < 5632; omega)).trans ?_
    exact congrArg u (congrArg (ix2 (y 0)) (Fin.ext (by show 5632 + k.val - 5632 = k.val; omega)))

/-- The blocks of grid point `t`: row block `t / 16`, column block `t / 8 % 2`, part `t % 8` of the sum. -/
theorem idx_in : ∀ t : Fin cfg0.N, win0_0.index t = ![t.val / 16, min (t.val % 8) 3] ∧ win0_1.index t = ![t.val % 8, t.val / 8 % 2, 0]
    ∧ win0_2.index t = ![t.val / 16, t.val % 8 - 4] ∧ win0_3.index t = ![t.val / 16, t.val / 8 % 2] := by decide +kernel

/-- The number of a grid point is less than the number of grid points. -/
theorem pt_lt (t : Fin cfg0.N) : t.val < 32 := lt_of_lt_of_eq t.isLt N_0

variable (m : (ℓ : Loc nD τ sig) → Buf (Elt Ideal) ℓ) (c : Dev nD)

/-- The gradient of the gates is cast on the host, which changes nothing here. -/
theorem entry_g : V m c main_v3 = m ((c : Thread nD τ).loc main_arg2) := by entry_read; rfl
/-- The gradient of the values is cast on the host, which changes nothing here. -/
theorem entry_u : V m c main_v4 = m ((c : Thread nD τ).loc main_arg3) := by entry_read; rfl
/-- Part `q` of the weights at its place in the plain array. -/
theorem entry_w (q : Fin 8) (j : Fin 2048) (l : Fin 1408) (h : 1408 * q.val + l.val < 11264) :
    (V m c main_v2 : S8x2048x1408.Idx → EReal) (ix3 q j l)
      = (m ((c : Thread nD τ).loc main_arg1) : S2048x11264.Idx → EReal) (ix2 j ⟨1408 * q.val + l.val, h⟩) := by
  entry_read
  pointwise
  exact congrArg (m (c.tc.loc main_arg1)) (congrArg (ix2 j) (Fin.ext (by show q.val * 1408 + l.val = 1408 * q.val + l.val; omega)))

/-- The block of the gradient of the gates at a grid point of the first four parts. -/
theorem iblk_g (t : Fin cfg0.N) (ht : t.val % 8 ≤ 3) (i : Fin 1024) (l : Fin 1408) (hi : 1024 * (t.val / 16) + i.val < 2048)
    (h : 1408 * (t.val % 8) + l.val < 5632) :
    (iblk m c 0 t : S1024x1408.Idx → EReal) (ix2 i l) = (m ((c : Thread nD τ).loc main_arg2) : S2048x5632.Idx → EReal)
      (ix2 ⟨1024 * (t.val / 16) + i.val, hi⟩ ⟨1408 * (t.val % 8) + l.val, h⟩) := by
  have e : ((cfg0.win 0).blk t).view.emb (ix2 i l)
      = (ix2 ⟨1024 * (t.val / 16) + i.val, hi⟩ ⟨1408 * (t.val % 8) + l.val, h⟩ : S2048x5632.Idx) := by
    blk_ext [idx_in t, min_eq_left ht]
  blk_simp [iblk]
  exact (congrArg _ e).trans (congrFun (entry_g m c) _)

/-- The block of the gradient of the values at a grid point of the last four parts. -/
theorem iblk_u (t : Fin cfg0.N) (i : Fin 1024) (l : Fin 1408) (hi : 1024 * (t.val / 16) + i.val < 2048)
    (h : 1408 * (t.val % 8 - 4) + l.val < 5632) :
    (iblk m c 2 t : S1024x1408.Idx → EReal) (ix2 i l) = (m ((c : Thread nD τ).loc main_arg3) : S2048x5632.Idx → EReal)
      (ix2 ⟨1024 * (t.val / 16) + i.val, hi⟩ ⟨1408 * (t.val % 8 - 4) + l.val, h⟩) := by
  have e : ((cfg0.win 2).blk t).view.emb (ix2 i l)
      = (ix2 ⟨1024 * (t.val / 16) + i.val, hi⟩ ⟨1408 * (t.val % 8 - 4) + l.val, h⟩ : S2048x5632.Idx) := by
    blk_ext [idx_in t]
  blk_simp [iblk]
  exact (congrArg _ e).trans (congrFun (entry_u m c) _)

/-- The block of the weights at grid point `t`. -/
theorem iblk_w (t : Fin cfg0.N) (j : Fin 1024) (l : Fin 1408) (hj : 1024 * (t.val / 8 % 2) + j.val < 2048)
    (h : 1408 * (t.val % 8) + l.val < 11264) :
    (iblk m c 1 t : S1x1024x1408.Idx → EReal) (ix3 0 j l) = (m ((c : Thread nD τ).loc main_arg1) : S2048x11264.Idx → EReal)
      (ix2 ⟨1024 * (t.val / 8 % 2) + j.val, hj⟩ ⟨1408 * (t.val % 8) + l.val, h⟩) := by
  have e : ((cfg0.win 1).blk t).view.emb (ix3 0 j l)
      = (ix3 ⟨t.val % 8, by omega⟩ ⟨1024 * (t.val / 8 % 2) + j.val, hj⟩ l : S8x2048x1408.Idx) := by
    blk_ext [idx_in t]
  blk_simp [iblk]
  exact (congrArg _ e).trans (entry_w m c ⟨t.val % 8, by omega⟩ _ l h)

/-- What grid point `t` adds to the entry `(i, j)` of its block. -/
def added (t : Fin cfg0.N) (i j : Fin 1024) (hi : 1024 * (t.val / 16) + i.val < 2048)
    (hj : 1024 * (t.val / 8 % 2) + j.val < 2048) : EReal :=
  ∑ l : Fin 1408, summand (m ((c : Thread nD τ).loc main_arg2)) (m ((c : Thread nD τ).loc main_arg3)) (m ((c : Thread nD τ).loc main_arg1))
    ⟨1024 * (t.val / 16) + i.val, hi⟩ ⟨1024 * (t.val / 8 % 2) + j.val, hj⟩ ⟨1408 * (t.val % 8) + l.val, by have := l.isLt; omega⟩

/-- In the first four parts the product of the blocks is what the grid point adds. -/
theorem added_g (t : Fin cfg0.N) (ht : t.val % 8 ≤ 3) (i j : Fin 1024) (hi : 1024 * (t.val / 16) + i.val < 2048)
    (hj : 1024 * (t.val / 8 % 2) + j.val < 2048)
    (a : S1024x1408.Idx → EReal) (ha : a = iblk m c 0 t) (b : S1x1024x1408.Idx → EReal) (hb : b = iblk m c 1 t) :
    ∑ l : Fin 1408, a (ix2 i l) * b (ix3 0 j l) = added m c t i j hi hj := by
  subst ha hb
  refine Finset.sum_congr rfl fun l _ => ?_
  have hl := l.isLt
  exact congrArg₂ (fun x y : EReal => x * y)
    ((iblk_g m c t ht i l hi (by omega)).trans (beside_left _ _ ⟨1024 * (t.val / 16) + i.val, hi⟩ ⟨1408 * (t.val % 8) + l.val, by omega⟩
      (by show 1408 * (t.val % 8) + l.val < 5632; omega)).symm)
    (iblk_w m c t j l hj (by omega))

/-- In the last four parts likewise. -/
theorem added_u (t : Fin cfg0.N) (ht : 4 ≤ t.val % 8) (i j : Fin 1024) (hi : 1024 * (t.val / 16) + i.val < 2048)
    (hj : 1024 * (t.val / 8 % 2) + j.val < 2048)
    (a : S1024x1408.Idx → EReal) (ha : a = iblk m c 2 t) (b : S1x1024x1408.Idx → EReal) (hb : b = iblk m c 1 t) :
    ∑ l : Fin 1408, a (ix2 i l) * b (ix3 0 j l) = added m c t i j hi hj := by
  subst ha hb
  refine Finset.sum_congr rfl fun l _ => ?_
  have hl := l.isLt
  refine congrArg₂ (fun x y : EReal => x * y) ((iblk_u m c t i l hi (by omega)).trans ?_) (iblk_w m c t j l hj (by omega))
  refine Eq.trans (congrArg _ (congrArg (ix2 _) (Fin.ext ?_))) (beside_right _ _ ⟨1024 * (t.val / 16) + i.val, hi⟩
    ⟨1408 * (t.val % 8) + l.val, by omega⟩ (by show ¬ 1408 * (t.val % 8) + l.val < 5632; omega)).symm
  show 1408 * (t.val % 8 - 4) + l.val = 1408 * (t.val % 8) + l.val - 5632
  omega

/-- The first part of a sum overwrites the accumulator. -/
theorem acc_first (t : Fin cfg0.N) (h : t.val % 8 = 0) (i j : Fin 1024) (hi : 1024 * (t.val / 16) + i.val < 2048)
    (hj : 1024 * (t.val / 8 % 2) + j.val < 2048) :
    ((outsAt0 m c t.val t.isLt).2 : S1024x1024.Idx → EReal) (ix2 i j) = added m c t i j hi hj := by
  rw [outsAt0_A m c t h (by omega) (by omega) (by omega)]
  frame_out
  unfold k0_pay1 k0_pay2
  pointwise
  exact added_g m c t (by omega) i j hi hj _ rfl _ rfl

/-- A further part is added to it. -/
theorem acc_next (t : Fin cfg0.N) (h : ¬ t.val % 8 = 0) (i j : Fin 1024) (hi : 1024 * (t.val / 16) + i.val < 2048)
    (hj : 1024 * (t.val / 8 % 2) + j.val < 2048) :
    ((outsAt0 m c t.val t.isLt).2 : S1024x1024.Idx → EReal) (ix2 i j)
      = ((outsAt0 m c (t.val - 1) (Nat.lt_of_le_of_lt (Nat.sub_le _ _) t.isLt)).2 : S1024x1024.Idx → EReal) (ix2 i j) + added m c t i j hi hj := by
  by_cases h1 : t.val % 8 ≤ 3
  · rw [outsAt0_B m c t h h1 (by omega) (by omega)]
    frame_out
    unfold k0_pay2
    pointwise
    exact congrArg₂ (· + ·) (congrFun (read_unread_whole _ _ _) _) (added_g m c t h1 i j hi hj _ rfl _ rfl)
  · by_cases h3 : t.val % 8 = 7
    · rw [outsAt0_D m c t h h1 (by omega) h3]
      frame_out
      unfold k0_pay3
      pointwise
      exact congrArg₂ (· + ·) (congrFun (read_unread_whole _ _ _) _) (added_u m c t (by omega) i j hi hj _ rfl _ rfl)
    · rw [outsAt0_C m c t h h1 (by omega) h3]
      frame_out
      unfold k0_pay3
      pointwise
      exact congrArg₂ (· + ·) (congrFun (read_unread_whole _ _ _) _) (added_u m c t (by omega) i j hi hj _ rfl _ rfl)

/-- After a grid point the accumulator holds the sum of the parts so far. -/
theorem acc (n : ℕ) : ∀ (hn : n < cfg0.N) (i j : Fin 1024) (hi : 1024 * (n / 16) + i.val < 2048)
    (hj : 1024 * (n / 8 % 2) + j.val < 2048),
    ((outsAt0 m c n hn).2 : S1024x1024.Idx → EReal) (ix2 i j)
      = Sums.upto (w := 1408) (summand (m ((c : Thread nD τ).loc main_arg2)) (m ((c : Thread nD τ).loc main_arg3)) (m ((c : Thread nD τ).loc main_arg1))
          ⟨1024 * (n / 16) + i.val, hi⟩ ⟨1024 * (n / 8 % 2) + j.val, hj⟩) (n % 8 + 1) := by
  induction n with
  | zero =>
    intro hn i j hi hj
    rw [Sums.upto_succ _ _ (by omega), Sums.upto_zero, zero_add]
    exact acc_first m c ⟨0, hn⟩ rfl i j hi hj
  | succ n ih =>
    intro hn i j hi hj
    rw [Sums.upto_succ _ _ (by omega)]
    by_cases h : (n + 1) % 8 = 0
    · refine (acc_first m c ⟨n + 1, hn⟩ h i j hi hj).trans ?_
      rw [show Sums.upto (w := 1408) _ ((n + 1) % 8) = 0 by rw [h]; exact Sums.upto_zero _, zero_add]
      rfl
    · refine (acc_next m c ⟨n + 1, hn⟩ h i j hi hj).trans (congrArg₂ (· + ·) ?_ rfl)
      have e16 : (n + 1) / 16 = n / 16 := by omega
      have e8 : (n + 1) / 8 = n / 8 := by omega
      have e : (n + 1) % 8 = n % 8 + 1 := by omega
      refine (ih (by omega) i j (by omega) (by omega)).trans ?_
      rw [e]
      simp only [e16, e8]

/-- The output array after the last grid point is the product. -/
theorem arr : (dats m 0 c).arrAt 3 cfg0.N = prod (m ((c : Thread nD τ).loc main_arg2)) (m ((c : Thread nD τ).loc main_arg3)) (m ((c : Thread nD τ).loc main_arg1)) := by
  refine (dats m 0 c).arrAt_eq_of_covers 3 _ (by decide +kernel) fun t hf y => ?_
  blk_simp
  rw [after0_3]
  revert y; intro (y : S1024x1024.Idx)
  have ht := pt_lt t
  have h7 : t.val % 8 = 7 := (flush0_3 t).mp hf
  obtain ⟨i, j, rfl⟩ : ∃ (i : Fin 1024) (j : Fin 1024), y = ix2 i j := ⟨_, _, eq_ix2 y⟩
  have hi : 1024 * (t.val / 16) + i.val < 2048 := by omega
  have hj : 1024 * (t.val / 8 % 2) + j.val < 2048 := by omega
  have e : ((cfg0.win 3).blk t).view.emb (ix2 i j)
      = (ix2 ⟨1024 * (t.val / 16) + i.val, hi⟩ ⟨1024 * (t.val / 8 % 2) + j.val, hj⟩ : S2048x2048.Idx) := by
    blk_ext [idx_in t]
  refine Eq.trans ?_ (congrArg _ e.symm)
  refine Eq.trans ?_ (((acc m c t.val t.isLt i j hi hj).trans (Sums.upto_all _ _ (by rw [h7]))).trans rfl)
  rw [outsAt0_D m c t (by omega) (by omega) (by omega) h7]
  frame_out

/-- The reference runs, leaves its arguments alone and ends with every counter at zero. -/
theorem frame_reference : Cert.quiescent_UpDxReferenceIdeal := fun m ρ _ =>
  (θ_run UpDxReferenceIdeal.defs _ _).mono
    (fun r h => ⟨fun c => (h c).2, sem_eq_zero_of_no_sems (by decide) r.2⟩) (UpDxReferenceIdeal.Value.run m ρ)

/-- Over the real numbers the kernel and the reference compute the same gradient of the input. -/
theorem equal : Cert.algebraic_UpDxIdeal_UpDxReferenceIdeal := by
  intro m ρ m' ρ' _ hag
  refine ⟨fun c => prod (m (c.tc.loc main_arg2)) (m (c.tc.loc main_arg3)) (m (c.tc.loc main_arg1)), ?_, ?_⟩
  · refine (θ_run _ _ _).mono (fun r h c => ?_) (UpDxIdeal.Value.run_blocks m ρ)
    exact ⟨(h c).1.trans (arr m c), (h c).2⟩
  · refine (θ_run _ _ _).mono (fun r h c => ?_) (UpDxReferenceIdeal.Value.run m' ρ')
    refine ⟨(h c).1.trans ?_, (h c).2⟩
    obtain ⟨-, e1, e2, e3⟩ := hag c
    rw [e1, e2, e3]
    funext y
    revert y; intro (y : S2048x2048.Idx)
    pointwise
    exact (prod_halves _ _ _ y).symm

end Cert.UpDx
-- ==== Proof.UpDw.lean ====
/-
  The gradient of the up projection's weights: block after block, the product of the transposed input with the two halves of
  the upstream gradient side by side.
-/
module

public import proofs.«01_k».proof.Defs
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwReferenceIdeal
public import proofs.«01_k».proof.Proof.Gen.UpDwReferenceIdeal.Run
public import Idealize.ShloMosaic.Lib.Pipeline.ValueKit
public import Idealize.ShloMosaic.Lib.Quiescent

@[expose] public section

set_option maxRecDepth 16384

noncomputable section

namespace Cert.UpDw

open Idealize.ShloMosaic Idealize.ShloMosaic.TcCoe Idealize.SL.Sem
open Cert.UpDwIdeal Cert.UpDwIdeal.Gen Cert.UpDwIdeal.Value

/-- Column `j` of two arrays side by side. -/
def beside (g u : S2048x5632.Idx → EReal) (k : Fin 2048) (j : Fin 11264) : EReal :=
  if h : j.val < 5632 then g (ix2 k ⟨j.val, h⟩) else u (ix2 k ⟨j.val - 5632, by omega⟩)

/-- On the left lies the first half's gradient. -/
theorem beside_left (g u : S2048x5632.Idx → EReal) (k : Fin 2048) (j : Fin 11264) (h : j.val < 5632) :
    beside g u k j = g (ix2 k ⟨j.val, h⟩) := dif_pos h

/-- On the right lies the second half's gradient. -/
theorem beside_right (g u : S2048x5632.Idx → EReal) (k : Fin 2048) (j : Fin 11264) (h : ¬ j.val < 5632) :
    beside g u k j = u (ix2 k ⟨j.val - 5632, by omega⟩) := dif_neg h

/-- The product of the transposed `x` with `g` and `u` side by side. -/
def prod (x : S2048x2048.Idx → EReal) (g u : S2048x5632.Idx → EReal) : S2048x11264.Idx → EReal :=
  fun y => ∑ k : Fin 2048, x (ix2 k (y 0)) * beside g u k (y 1)

variable (m : (ℓ : Loc nD τ sig) → Buf (Elt Ideal) ℓ) (c : Dev nD)

/-- The blocks that a grid point reads. -/
theorem idx_in : ∀ t : Fin cfg0.N, win0_0.index t = ![0, t.val / 8] ∧ win0_1.index t = ![0, min (t.val % 8) 3]
    ∧ win0_2.index t = ![0, t.val % 8 - 4] ∧ win0_3.index t = ![t.val / 8, t.val % 8] := by decide +kernel

/-- The host's cast leaves `x` as it is. -/
theorem entry_x : V m c main_v0 = m ((c : Thread nD τ).loc main_arg0) := by entry_read; rfl
/-- The host's cast leaves the first half's gradient as it is. -/
theorem entry_g : V m c main_v1 = m ((c : Thread nD τ).loc main_arg2) := by entry_read; rfl
/-- The host's cast leaves the second half's gradient as it is. -/
theorem entry_u : V m c main_v2 = m ((c : Thread nD τ).loc main_arg3) := by entry_read; rfl

/-- The number of a grid point is less than the number of grid points. -/
theorem pt_lt (t : Fin cfg0.N) : t.val < 16 := lt_of_lt_of_eq t.isLt N_0

/-- The block of `x` at grid point `t`. -/
theorem iblk_x (t : Fin cfg0.N) (k : Fin 2048) (i : Fin 1024) (h : 1024 * (t.val / 8) + i.val < 2048) :
    (iblk m c 0 t : S2048x1024.Idx → EReal) (ix2 k i)
      = (m ((c : Thread nD τ).loc main_arg0) : S2048x2048.Idx → EReal) (ix2 k ⟨1024 * (t.val / 8) + i.val, h⟩) := by
  have e : ((cfg0.win 0).blk t).view.emb (ix2 k i) = (ix2 k ⟨1024 * (t.val / 8) + i.val, h⟩ : S2048x2048.Idx) := by
    blk_ext [idx_in t]
  blk_simp [iblk]
  exact (congrArg _ e).trans (congrFun (entry_x m c) _)

/-- The block of the first gradient at grid point `t`, in the left half of the columns. -/
theorem iblk_g (t : Fin cfg0.N) (ht : t.val % 8 ≤ 3) (k : Fin 2048) (j : Fin 1408) (h : 1408 * (t.val % 8) + j.val < 5632) :
    (iblk m c 1 t : S2048x1408.Idx → EReal) (ix2 k j)
      = (m ((c : Thread nD τ).loc main_arg2) : S2048x5632.Idx → EReal) (ix2 k ⟨1408 * (t.val % 8) + j.val, h⟩) := by
  have e : ((cfg0.win 1).blk t).view.emb (ix2 k j) = (ix2 k ⟨1408 * (t.val % 8) + j.val, h⟩ : S2048x5632.Idx) := by
    blk_ext [idx_in t, min_eq_left ht]
  blk_simp [iblk]
  exact (congrArg _ e).trans (congrFun (entry_g m c) _)

/-- The block of the second gradient at grid point `t`, in the right half of the columns. -/
theorem iblk_u (t : Fin cfg0.N) (k : Fin 2048) (j : Fin 1408) (h : 1408 * (t.val % 8 - 4) + j.val < 5632) :
    (iblk m c 2 t : S2048x1408.Idx → EReal) (ix2 k j)
      = (m ((c : Thread nD τ).loc main_arg3) : S2048x5632.Idx → EReal) (ix2 k ⟨1408 * (t.val % 8 - 4) + j.val, h⟩) := by
  have e : ((cfg0.win 2).blk t).view.emb (ix2 k j) = (ix2 k ⟨1408 * (t.val % 8 - 4) + j.val, h⟩ : S2048x5632.Idx) := by
    blk_ext [idx_in t]
  blk_simp [iblk]
  exact (congrArg _ e).trans (congrFun (entry_u m c) _)

/-- One grid point in the left half stores the product of its two blocks. -/
theorem pay1 (x : S2048x1024.Idx → EReal) (g : S2048x1408.Idx → EReal) (i : Fin 1024) (j : Fin 1408) :
    k0_pay1 (F := Ideal) x g (ix2 i j) = ∑ k : Fin 2048, x (ix2 k i) * g (ix2 k j) := by
  unfold k0_pay1
  pointwise

/-- One grid point in the right half stores the product of its two blocks. -/
theorem pay2 (x : S2048x1024.Idx → EReal) (g : S2048x1408.Idx → EReal) (i : Fin 1024) (j : Fin 1408) :
    k0_pay2 (F := Ideal) x g (ix2 i j) = ∑ k : Fin 2048, x (ix2 k i) * g (ix2 k j) := by
  unfold k0_pay2
  pointwise

/-- The output array after the last grid point is the product. -/
theorem arr : (dats m 0 c).arrAt 3 cfg0.N = prod (m ((c : Thread nD τ).loc main_arg0)) (m ((c : Thread nD τ).loc main_arg2))
    (m ((c : Thread nD τ).loc main_arg3)) := by
  refine (dats m 0 c).arrAt_eq_of_covers 3 _ (by decide +kernel) fun t hf y => ?_
  blk_simp
  rw [after0_3]
  revert y; intro (y : S1024x1408.Idx)
  have ht := pt_lt t
  obtain ⟨i, j, rfl⟩ : ∃ (i : Fin 1024) (j : Fin 1408), y = ix2 i j := ⟨_, _, eq_ix2 y⟩
  have hi : 1024 * (t.val / 8) + i.val < 2048 := by omega
  have hj : 1408 * (t.val % 8) + j.val < 11264 := by omega
  have e : ((cfg0.win 3).blk t).view.emb (ix2 i j)
      = (ix2 ⟨1024 * (t.val / 8) + i.val, hi⟩ ⟨1408 * (t.val % 8) + j.val, hj⟩ : S2048x11264.Idx) := by
    blk_ext [idx_in t]
  refine Eq.trans ?_ (congrArg _ e.symm)
  by_cases h : t.val % 8 ≤ 3
  · rw [outsAt0_A m c t h (by omega)]
    frame_out
    refine (pay1 _ _ i j).trans (Finset.sum_congr rfl fun k _ => ?_)
    have hj' : 1408 * (t.val % 8) + j.val < 5632 := by omega
    refine congrArg₂ (· * ·) (iblk_x m c t k i hi) ((iblk_g m c t h k j hj').trans ?_)
    exact (beside_left _ _ k ⟨1408 * (t.val % 8) + j.val, hj⟩ hj').symm
  · rw [outsAt0_B m c t h (by omega)]
    frame_out
    refine (pay2 _ _ i j).trans (Finset.sum_congr rfl fun k _ => ?_)
    have hj' : ¬ 1408 * (t.val % 8) + j.val < 5632 := by omega
    refine congrArg₂ (· * ·) (iblk_x m c t k i hi) ((iblk_u m c t k j (by omega)).trans ?_)
    refine Eq.trans (congrArg _ (congrArg (ix2 k) (Fin.ext ?_))) (beside_right _ _ k ⟨1408 * (t.val % 8) + j.val, hj⟩ hj').symm
    show 1408 * (t.val % 8 - 4) + j.val = 1408 * (t.val % 8) + j.val - 5632
    omega

/-- The reference runs, leaves its arguments alone and ends with every counter at zero. -/
theorem frame_reference : Cert.quiescent_UpDwReferenceIdeal := fun m ρ _ =>
  (θ_run UpDwReferenceIdeal.defs _ _).mono
    (fun r h => ⟨fun c => (h c).2, sem_eq_zero_of_no_sems (by decide) r.2⟩) (UpDwReferenceIdeal.Value.run m ρ)

/-- Over the real numbers the kernel and the reference compute the same gradient of the weight. -/
theorem equal : Cert.algebraic_UpDwIdeal_UpDwReferenceIdeal := by
  intro m ρ m' ρ' _ hag
  refine ⟨fun c => prod (m (c.tc.loc main_arg0)) (m (c.tc.loc main_arg2)) (m (c.tc.loc main_arg3)), ?_, ?_⟩
  · refine (θ_run _ _ _).mono (fun r h c => ?_) (UpDwIdeal.Value.run_blocks m ρ)
    exact ⟨(h c).1.trans (arr m c), (h c).2⟩
  · refine (θ_run _ _ _).mono (fun r h c => ?_) (UpDwReferenceIdeal.Value.run m' ρ')
    refine ⟨(h c).1.trans ?_, (h c).2⟩
    obtain ⟨e0, -, e2, e3⟩ := hag c
    rw [e0, e2, e3]
    funext y
    revert y; intro (y : S2048x11264.Idx)
    pointwise
    exact Finset.sum_congr rfl fun k _ => mul_comm _ _

end Cert.UpDw
-- ==== Proof.Down.lean ====
/-
  The closing projection of the feed-forward part: the grid goes over four parts of the sum, which an accumulator adds up.
-/
module

public import proofs.«01_k».proof.Defs
public import proofs.«01_k».proof.Proof.Sums
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Down

open Idealize.ShloMosaic Idealize.ShloMosaic.TcCoe Idealize.SL.Sem
open Cert.DownIdeal Cert.DownIdeal.Gen Cert.DownIdeal.Value

/-- Term `k` of the entry `(i, j)` of the product. -/
def summand (a : S2048x5632.Idx → EReal) (b : S5632x2048.Idx → EReal) (i j : Fin 2048) (k : Fin 5632) : EReal :=
  a (ix2 i k) * b (ix2 k j)

/-- The product the call computes. -/
def prod (a : S2048x5632.Idx → EReal) (b : S5632x2048.Idx → EReal) : S2048x2048.Idx → EReal :=
  fun y => ∑ k : Fin 5632, summand a b (y 0) (y 1) k

/-- The blocks of grid point `t`: column block `t / 4`, part `t % 4` of the sum. -/
theorem idx_in : ∀ t : Fin cfg0.N, win0_0.index t = ![0, t.val % 4] ∧ win0_1.index t = ![t.val % 4, t.val / 4]
    ∧ win0_2.index t = ![0, t.val / 4] := by decide +kernel

/-- The number of a grid point is less than the number of grid points. -/
theorem pt_lt (t : Fin cfg0.N) : t.val < 8 := lt_of_lt_of_eq t.isLt N_0

variable (m : (ℓ : Loc nD τ sig) → Buf (Elt Ideal) ℓ) (c : Dev nD)

/-- The left operand is cast on the host, which changes nothing here. -/
theorem entry_a : V m c main_v0 = m ((c : Thread nD τ).loc main_arg0) := by entry_read; rfl
/-- The weights are cast on the host, which changes nothing here. -/
theorem entry_b : V m c main_v1 = m ((c : Thread nD τ).loc main_arg1) := by entry_read; rfl

/-- The block of the left operand at grid point `t`. -/
theorem iblk_a (t : Fin cfg0.N) (i : Fin 2048) (k : Fin 1408) (h : 1408 * (t.val % 4) + k.val < 5632) :
    (iblk m c 0 t : S2048x1408.Idx → EReal) (ix2 i k)
      = (m ((c : Thread nD τ).loc main_arg0) : S2048x5632.Idx → EReal) (ix2 i ⟨1408 * (t.val % 4) + k.val, h⟩) := by
  have e : ((cfg0.win 0).blk t).view.emb (ix2 i k) = (ix2 i ⟨1408 * (t.val % 4) + k.val, h⟩ : S2048x5632.Idx) := by
    blk_ext [idx_in t]
  blk_simp [iblk]
  exact (congrArg _ e).trans (congrFun (entry_a m c) _)

/-- The block of the weights at grid point `t`. -/
theorem iblk_b (t : Fin cfg0.N) (k : Fin 1408) (j : Fin 1024) (h : 1408 * (t.val % 4) + k.val < 5632)
    (hj : 1024 * (t.val / 4) + j.val < 2048) :
    (iblk m c 1 t : S1408x1024.Idx → EReal) (ix2 k j) = (m ((c : Thread nD τ).loc main_arg1) : S5632x2048.Idx → EReal)
      (ix2 ⟨1408 * (t.val % 4) + k.val, h⟩ ⟨1024 * (t.val / 4) + j.val, hj⟩) := by
  have e : ((cfg0.win 1).blk t).view.emb (ix2 k j)
      = (ix2 ⟨1408 * (t.val % 4) + k.val, h⟩ ⟨1024 * (t.val / 4) + j.val, hj⟩ : S5632x2048.Idx) := by
    blk_ext [idx_in t]
  blk_simp [iblk]
  exact (congrArg _ e).trans (congrFun (entry_b m c) _)

/-- What grid point `t` adds to the entry `(i, j)` of its block. -/
def added (t : Fin cfg0.N) (i : Fin 2048) (j : Fin 1024) (hj : 1024 * (t.val / 4) + j.val < 2048) : EReal :=
  ∑ l : Fin 1408, summand (m ((c : Thread nD τ).loc main_arg0)) (m ((c : Thread nD τ).loc main_arg1)) i
    ⟨1024 * (t.val / 4) + j.val, hj⟩ ⟨1408 * (t.val % 4) + l.val, by have := l.isLt; omega⟩

/-- The product of the blocks of grid point `t` is what it adds. -/
theorem added_eq (t : Fin cfg0.N) (i : Fin 2048) (j : Fin 1024) (hj : 1024 * (t.val / 4) + j.val < 2048)
    (a : S2048x1408.Idx → EReal) (ha : a = iblk m c 0 t) (b : S1408x1024.Idx → EReal) (hb : b = iblk m c 1 t) :
    ∑ l : Fin 1408, a (ix2 i l) * b (ix2 l j) = added m c t i j hj := by
  subst ha hb
  exact Finset.sum_congr rfl fun l _ => congrArg₂ (fun x y : EReal => x * y)
    (iblk_a m c t i l (by have := l.isLt; omega)) (iblk_b m c t l j (by have := l.isLt; omega) hj)

/-- The first part of a sum overwrites the accumulator. -/
theorem acc_first (t : Fin cfg0.N) (h : t.val % 4 = 0) (i : Fin 2048) (j : Fin 1024) (hj : 1024 * (t.val / 4) + j.val < 2048) :
    ((outsAt0 m c t.val t.isLt).2 : S2048x1024.Idx → EReal) (ix2 i j) = added m c t i j hj := by
  rw [outsAt0_A m c t h (by omega)]
  frame_out
  unfold k0_pay1 k0_pay2
  pointwise
  exact added_eq m c t i j hj _ rfl _ rfl

/-- A further part is added to it. -/
theorem acc_next (t : Fin cfg0.N) (h : ¬ t.val % 4 = 0) (i : Fin 2048) (j : Fin 1024) (hj : 1024 * (t.val / 4) + j.val < 2048) :
    ((outsAt0 m c t.val t.isLt).2 : S2048x1024.Idx → EReal) (ix2 i j)
      = ((outsAt0 m c (t.val - 1) (Nat.lt_of_le_of_lt (Nat.sub_le _ _) t.isLt)).2 : S2048x1024.Idx → EReal) (ix2 i j) + added m c t i j hj := by
  by_cases h1 : t.val % 4 = 3
  · rw [outsAt0_C m c t h h1]
    frame_out
    unfold k0_pay2
    pointwise
    exact congrArg₂ (· + ·) (congrFun (read_unread_whole _ _ _) _) (added_eq m c t i j hj _ rfl _ rfl)
  · rw [outsAt0_B m c t h h1]
    frame_out
    unfold k0_pay2
    pointwise
    exact congrArg₂ (· + ·) (congrFun (read_unread_whole _ _ _) _) (added_eq m c t i j hj _ rfl _ rfl)

/-- After a grid point the accumulator holds the sum of the parts so far. -/
theorem acc (n : ℕ) : ∀ (hn : n < cfg0.N) (i : Fin 2048) (j : Fin 1024) (hj : 1024 * (n / 4) + j.val < 2048),
    ((outsAt0 m c n hn).2 : S2048x1024.Idx → EReal) (ix2 i j)
      = Sums.upto (w := 1408) (summand (m ((c : Thread nD τ).loc main_arg0)) (m ((c : Thread nD τ).loc main_arg1)) i
          ⟨1024 * (n / 4) + j.val, hj⟩) (n % 4 + 1) := by
  induction n with
  | zero =>
    intro hn i j hj
    rw [Sums.upto_succ _ _ (by omega), Sums.upto_zero, zero_add]
    exact acc_first m c ⟨0, hn⟩ rfl i j hj
  | succ n ih =>
    intro hn i j hj
    rw [Sums.upto_succ _ _ (by omega)]
    by_cases h : (n + 1) % 4 = 0
    · refine (acc_first m c ⟨n + 1, hn⟩ h i j hj).trans ?_
      rw [show Sums.upto (w := 1408) _ ((n + 1) % 4) = 0 by rw [h]; exact Sums.upto_zero _, zero_add]
      rfl
    · refine (acc_next m c ⟨n + 1, hn⟩ h i j hj).trans (congrArg₂ (· + ·) ?_ rfl)
      have e4 : (n + 1) / 4 = n / 4 := by omega
      have e : (n + 1) % 4 = n % 4 + 1 := by omega
      refine (ih (by omega) i j (by omega)).trans ?_
      rw [e]
      simp only [e4]

/-- The output array after the last grid point is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  revert y; intro (y : S2048x1024.Idx)
  have ht := pt_lt t
  have h3 : t.val % 4 = 3 := (flush0_2 t).mp hf
  obtain ⟨i, j, rfl⟩ : ∃ (i : Fin 2048) (j : Fin 1024), y = ix2 i j := ⟨_, _, eq_ix2 y⟩
  have hj : 1024 * (t.val / 4) + j.val < 2048 := by omega
  have e : ((cfg0.win 2).blk t).view.emb (ix2 i j) = (ix2 i ⟨1024 * (t.val / 4) + j.val, hj⟩ : S2048x2048.Idx) := by
    blk_ext [idx_in t]
  refine Eq.trans ?_ (congrArg _ e.symm)
  refine Eq.trans ?_ (((acc m c t.val t.isLt i j hj).trans (Sums.upto_all _ _ (by rw [h3]))).trans rfl)
  rw [outsAt0_C m c t (by omega) h3]
  frame_out

/-- The reference runs, leaves its arguments alone and ends with every counter at zero. -/
theorem frame_reference : Cert.quiescent_DownReferenceIdeal := fun m ρ _ =>
  (θ_run DownReferenceIdeal.defs _ _).mono
    (fun r h => ⟨fun c => (h c).2, sem_eq_zero_of_no_sems (by decide) r.2⟩) (DownReferenceIdeal.Value.run m ρ)

/-- Over the real numbers the kernel and the reference compute the same product. -/
theorem equal : Cert.algebraic_DownIdeal_DownReferenceIdeal := by
  intro m ρ m' ρ' _ hag
  refine ⟨fun c => prod (m (c.tc.loc main_arg0)) (m (c.tc.loc main_arg1)), ?_, ?_⟩
  · refine (θ_run _ _ _).mono (fun r h c => ?_) (DownIdeal.Value.run_blocks m ρ)
    exact ⟨(h c).1.trans (arr m c), (h c).2⟩
  · refine (θ_run _ _ _).mono (fun r h c => ?_) (DownReferenceIdeal.Value.run m' ρ')
    refine ⟨(h c).1.trans ?_, (h c).2⟩
    obtain ⟨e0, e1⟩ := hag c
    rw [e0, e1]
    funext y
    revert y; intro (y : S2048x2048.Idx)
    pointwise
    rfl

end Cert.Down
-- ==== Proof.DownDx.lean ====
/-
  The gradient of the down projection with respect to its input: a block of rows and a block of columns per grid point.
-/
module

public import proofs.«01_k».proof.Defs
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal
public import proofs.«01_k».proof.Proof.Gen.DownDxReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.DownDx

open Idealize.ShloMosaic Idealize.ShloMosaic.TcCoe Idealize.SL.Sem
open Cert.DownDxIdeal Cert.DownDxIdeal.Gen Cert.DownDxIdeal.Value

/-- The product the call computes. -/
def prod (a : S2048x2048.Idx → EReal) (b : S5632x2048.Idx → EReal) : S2048x5632.Idx → EReal :=
  fun y => ∑ k : Fin 2048, a (ix2 (y 0) k) * b (ix2 (y 1) k)

/-- The blocks of grid point `t`. -/
theorem idx_in : ∀ t : Fin cfg0.N, win0_0.index t = ![t.val / 11, 0] ∧ win0_1.index t = ![t.val % 11, 0]
    ∧ win0_2.index t = ![t.val / 11, t.val % 11] := by decide +kernel

/-- The number of a grid point is less than the number of grid points. -/
theorem pt_lt (t : Fin cfg0.N) : t.val < 22 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg2) := by entry_read; rfl
/-- The host's cast leaves the right operand as it is. -/
theorem entry_b : V m c main_v1 = m ((c : Thread nD τ).loc main_arg1) := by entry_read; rfl

/-- The block of the left operand at grid point `t`. -/
theorem iblk_a (t : Fin cfg0.N) (i : Fin 1024) (k : Fin 2048) (h : 1024 * (t.val / 11) + i.val < 2048) :
    (iblk m c 0 t : S1024x2048.Idx → EReal) (ix2 i k) = (m ((c : Thread nD τ).loc main_arg2) : S2048x2048.Idx → EReal) (ix2 ⟨1024 * (t.val / 11) + i.val, h⟩ k) := by
  have e : ((cfg0.win 0).blk t).view.emb (ix2 i k) = (ix2 ⟨1024 * (t.val / 11) + i.val, h⟩ k : S2048x2048.Idx) := by
    blk_ext [idx_in t]
  blk_simp [iblk]
  exact (congrArg _ e).trans (congrFun (entry_a m c) _)

/-- The block of the right operand at grid point `t`. -/
theorem iblk_b (t : Fin cfg0.N) (j : Fin 512) (k : Fin 2048) (h : 512 * (t.val % 11) + j.val < 5632) :
    (iblk m c 1 t : S512x2048.Idx → EReal) (ix2 j k) = (m ((c : Thread nD τ).loc main_arg1) : S5632x2048.Idx → EReal) (ix2 ⟨512 * (t.val % 11) + j.val, h⟩ k) := by
  have e : ((cfg0.win 1).blk t).view.emb (ix2 j k) = (ix2 ⟨512 * (t.val % 11) + j.val, h⟩ k : S5632x2048.Idx) := by
    blk_ext [idx_in t]
  blk_simp [iblk]
  exact (congrArg _ e).trans (congrFun (entry_b m c) _)

/-- One grid point stores the product of its two blocks. -/
theorem pay (a : S1024x2048.Idx → EReal) (b : S512x2048.Idx → EReal) (i : Fin 1024) (j : Fin 512) :
    k0_pay1 (F := Ideal) a b (ix2 i j) = ∑ k : Fin 2048, a (ix2 i k) * b (ix2 j k) := by
  unfold k0_pay1
  pointwise

/-- The output array after the last grid point is the product. -/
theorem arr : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  revert y; intro (y : S1024x512.Idx)
  have ht := pt_lt t
  obtain ⟨i, j, rfl⟩ : ∃ (i : Fin 1024) (j : Fin 512), y = ix2 i j := ⟨_, _, eq_ix2 y⟩
  have hi : 1024 * (t.val / 11) + i.val < 2048 := by omega
  have hj : 512 * (t.val % 11) + j.val < 5632 := by omega
  have e : ((cfg0.win 2).blk t).view.emb (ix2 i j) = (ix2 ⟨1024 * (t.val / 11) + i.val, hi⟩ ⟨512 * (t.val % 11) + j.val, hj⟩ : S2048x5632.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_DownDxReferenceIdeal := fun m ρ _ =>
  (θ_run DownDxReferenceIdeal.defs _ _).mono
    (fun r h => ⟨fun c => (h c).2, sem_eq_zero_of_no_sems (by decide) r.2⟩) (DownDxReferenceIdeal.Value.run m ρ)

/-- Over the real numbers the kernel and the reference compute the same product. -/
theorem equal : Cert.algebraic_DownDxIdeal_DownDxReferenceIdeal := by
  intro m ρ m' ρ' _ hag
  refine ⟨fun c => prod (m (c.tc.loc main_arg2)) (m (c.tc.loc main_arg1)), ?_, ?_⟩
  · refine (θ_run _ _ _).mono (fun r h c => ?_) (DownDxIdeal.Value.run_blocks m ρ)
    exact ⟨(h c).1.trans (arr m c), (h c).2⟩
  · refine (θ_run _ _ _).mono (fun r h c => ?_) (DownDxReferenceIdeal.Value.run m' ρ')
    refine ⟨(h c).1.trans ?_, (h c).2⟩
    have e2 : m' (c.tc.loc DownDxReferenceIdeal.main_arg2) = m (c.tc.loc main_arg2) := (hag c).2.2
    have e1 : m' (c.tc.loc DownDxReferenceIdeal.main_arg1) = m (c.tc.loc main_arg1) := (hag c).2.1
    rw [e2, e1]
    funext y
    revert y; intro (y : S2048x5632.Idx)
    pointwise
    rfl

end Cert.DownDx
-- ==== Proof.DownDw.lean ====
/-
  The gradient of the down projection with respect to its weight.
-/
module

public import proofs.«01_k».proof.Defs
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal
public import proofs.«01_k».proof.Proof.Gen.DownDwReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.DownDw

open Idealize.ShloMosaic Idealize.ShloMosaic.TcCoe Idealize.SL.Sem
open Cert.DownDwIdeal Cert.DownDwIdeal.Gen Cert.DownDwIdeal.Value

/-- The product the call computes. -/
def prod (a : S2048x5632.Idx → EReal) (b : S2048x2048.Idx → EReal) : S5632x2048.Idx → EReal :=
  fun y => ∑ k : Fin 2048, a (ix2 k (y 0)) * b (ix2 k (y 1))

/-- The blocks of grid point `t`. -/
theorem idx_in : ∀ t : Fin cfg0.N, win0_0.index t = ![0, t.val / 2] ∧ win0_1.index t = ![0, t.val % 2]
    ∧ win0_2.index t = ![t.val / 2, t.val % 2] := by decide +kernel

/-- The number of a grid point is less than the number of grid points. -/
theorem pt_lt (t : Fin cfg0.N) : t.val < 22 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- The host's cast leaves the right operand as it is. -/
theorem entry_b : V m c main_v1 = m ((c : Thread nD τ).loc main_arg2) := by entry_read; rfl

/-- The block of the left operand at grid point `t`. -/
theorem iblk_a (t : Fin cfg0.N) (i : Fin 512) (k : Fin 2048) (h : 512 * (t.val / 2) + i.val < 5632) :
    (iblk m c 0 t : S2048x512.Idx → EReal) (ix2 k i) = (m ((c : Thread nD τ).loc main_arg0) : S2048x5632.Idx → EReal) (ix2 k ⟨512 * (t.val / 2) + i.val, h⟩) := by
  have e : ((cfg0.win 0).blk t).view.emb (ix2 k i) = (ix2 k ⟨512 * (t.val / 2) + i.val, h⟩ : S2048x5632.Idx) := by
    blk_ext [idx_in t]
  blk_simp [iblk]
  exact (congrArg _ e).trans (congrFun (entry_a m c) _)

/-- The block of the right operand at grid point `t`. -/
theorem iblk_b (t : Fin cfg0.N) (j : Fin 1024) (k : Fin 2048) (h : 1024 * (t.val % 2) + j.val < 2048) :
    (iblk m c 1 t : S2048x1024.Idx → EReal) (ix2 k j) = (m ((c : Thread nD τ).loc main_arg2) : S2048x2048.Idx → EReal) (ix2 k ⟨1024 * (t.val % 2) + j.val, h⟩) := by
  have e : ((cfg0.win 1).blk t).view.emb (ix2 k j) = (ix2 k ⟨1024 * (t.val % 2) + j.val, h⟩ : S2048x2048.Idx) := by
    blk_ext [idx_in t]
  blk_simp [iblk]
  exact (congrArg _ e).trans (congrFun (entry_b m c) _)

/-- One grid point stores the product of its two blocks. -/
theorem pay (a : S2048x512.Idx → EReal) (b : S2048x1024.Idx → EReal) (i : Fin 512) (j : Fin 1024) :
    k0_pay1 (F := Ideal) a b (ix2 i j) = ∑ k : Fin 2048, a (ix2 k i) * b (ix2 k j) := by
  unfold k0_pay1
  pointwise

/-- The output array after the last grid point is the product. -/
theorem arr : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  revert y; intro (y : S512x1024.Idx)
  have ht := pt_lt t
  obtain ⟨i, j, rfl⟩ : ∃ (i : Fin 512) (j : Fin 1024), y = ix2 i j := ⟨_, _, eq_ix2 y⟩
  have hi : 512 * (t.val / 2) + i.val < 5632 := by omega
  have hj : 1024 * (t.val % 2) + j.val < 2048 := by omega
  have e : ((cfg0.win 2).blk t).view.emb (ix2 i j) = (ix2 ⟨512 * (t.val / 2) + i.val, hi⟩ ⟨1024 * (t.val % 2) + j.val, hj⟩ : S5632x2048.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_DownDwReferenceIdeal := fun m ρ _ =>
  (θ_run DownDwReferenceIdeal.defs _ _).mono
    (fun r h => ⟨fun c => (h c).2, sem_eq_zero_of_no_sems (by decide) r.2⟩) (DownDwReferenceIdeal.Value.run m ρ)

/-- Over the real numbers the kernel and the reference compute the same product. -/
theorem equal : Cert.algebraic_DownDwIdeal_DownDwReferenceIdeal := by
  intro m ρ m' ρ' _ hag
  refine ⟨fun c => prod (m (c.tc.loc main_arg0)) (m (c.tc.loc main_arg2)), ?_, ?_⟩
  · refine (θ_run _ _ _).mono (fun r h c => ?_) (DownDwIdeal.Value.run_blocks m ρ)
    exact ⟨(h c).1.trans (arr m c), (h c).2⟩
  · refine (θ_run _ _ _).mono (fun r h c => ?_) (DownDwReferenceIdeal.Value.run m' ρ')
    refine ⟨(h c).1.trans ?_, (h c).2⟩
    have e0 : m' (c.tc.loc DownDwReferenceIdeal.main_arg0) = m (c.tc.loc main_arg0) := (hag c).1
    have e2 : m' (c.tc.loc DownDwReferenceIdeal.main_arg2) = m (c.tc.loc main_arg2) := (hag c).2.2
    rw [e0, e2]
    funext y
    revert y; intro (y : S5632x2048.Idx)
    pointwise
    exact Finset.sum_congr rfl fun k _ => mul_comm _ _

end Cert.DownDw
-- ==== Proof.OutMm.lean ====
/-
  The product by the output projection.
-/
module

public import proofs.«01_k».proof.Defs
public import proofs.«01_k».proof.Proof.Gen.OutMm
public import proofs.«01_k».proof.Proof.Gen.OutMm.Frame
public import proofs.«01_k».proof.Proof.Gen.OutMmIdeal
public import proofs.«01_k».proof.Proof.Gen.OutMmIdeal.Frame
public import proofs.«01_k».proof.Proof.Gen.OutMmIdeal.Value
public import proofs.«01_k».proof.Proof.Gen.OutMmReferenceIdeal
public import proofs.«01_k».proof.Proof.Gen.OutMmReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.OutMm

open Idealize.ShloMosaic Idealize.ShloMosaic.TcCoe Idealize.SL.Sem
open Cert.OutMmIdeal Cert.OutMmIdeal.Gen Cert.OutMmIdeal.Value

/-- The product the call computes. -/
def prod (a : S2048x2048.Idx → EReal) (b : S2048x2048.Idx → EReal) : S2048x2048.Idx → EReal :=
  fun y => ∑ k : Fin 2048, a (ix2 (y 0) k) * b (ix2 k (y 1))

/-- The blocks of grid point `t`. -/
theorem idx_in : ∀ t : Fin cfg0.N, win0_0.index t = ![t.val / 2, 0] ∧ win0_1.index t = ![0, t.val % 2]
    ∧ win0_2.index t = ![t.val / 2, t.val % 2] := by decide +kernel

/-- The number of a grid point is less than the number of grid points. -/
theorem pt_lt (t : Fin cfg0.N) : t.val < 4 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- The host's cast leaves the right operand as it is. -/
theorem entry_b : V m c main_v1 = m ((c : Thread nD τ).loc main_arg1) := by entry_read; rfl

/-- The block of the left operand at grid point `t`. -/
theorem iblk_a (t : Fin cfg0.N) (i : Fin 1024) (k : Fin 2048) (h : 1024 * (t.val / 2) + i.val < 2048) :
    (iblk m c 0 t : S1024x2048.Idx → EReal) (ix2 i k) = (m ((c : Thread nD τ).loc main_arg0) : S2048x2048.Idx → EReal) (ix2 ⟨1024 * (t.val / 2) + i.val, h⟩ k) := by
  have e : ((cfg0.win 0).blk t).view.emb (ix2 i k) = (ix2 ⟨1024 * (t.val / 2) + i.val, h⟩ k : S2048x2048.Idx) := by
    blk_ext [idx_in t]
  blk_simp [iblk]
  exact (congrArg _ e).trans (congrFun (entry_a m c) _)

/-- The block of the right operand at grid point `t`. -/
theorem iblk_b (t : Fin cfg0.N) (j : Fin 1024) (k : Fin 2048) (h : 1024 * (t.val % 2) + j.val < 2048) :
    (iblk m c 1 t : S2048x1024.Idx → EReal) (ix2 k j) = (m ((c : Thread nD τ).loc main_arg1) : S2048x2048.Idx → EReal) (ix2 k ⟨1024 * (t.val % 2) + j.val, h⟩) := by
  have e : ((cfg0.win 1).blk t).view.emb (ix2 k j) = (ix2 k ⟨1024 * (t.val % 2) + j.val, h⟩ : S2048x2048.Idx) := by
    blk_ext [idx_in t]
  blk_simp [iblk]
  exact (congrArg _ e).trans (congrFun (entry_b m c) _)

/-- One grid point stores the product of its two blocks. -/
theorem pay (a : S1024x2048.Idx → EReal) (b : S2048x1024.Idx → EReal) (i : Fin 1024) (j : Fin 1024) :
    k0_pay1 (F := Ideal) a b (ix2 i j) = ∑ k : Fin 2048, a (ix2 i k) * b (ix2 k j) := by
  unfold k0_pay1
  pointwise

/-- The output array after the last grid point is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * (t.val / 2) + i.val < 2048 := by omega
  have hj : 1024 * (t.val % 2) + j.val < 2048 := by omega
  have e : ((cfg0.win 2).blk t).view.emb (ix2 i j) = (ix2 ⟨1024 * (t.val / 2) + i.val, hi⟩ ⟨1024 * (t.val % 2) + j.val, hj⟩ : S2048x2048.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_OutMmReferenceIdeal := fun m ρ _ =>
  (θ_run OutMmReferenceIdeal.defs _ _).mono
    (fun r h => ⟨fun c => (h c).2, sem_eq_zero_of_no_sems (by decide) r.2⟩) (OutMmReferenceIdeal.Value.run m ρ)

/-- Over the real numbers the kernel and the reference compute the same product. -/
theorem equal : Cert.algebraic_OutMmIdeal_OutMmReferenceIdeal := by
  intro m ρ m' ρ' _ hag
  refine ⟨fun c => prod (m (c.tc.loc main_arg0)) (m (c.tc.loc main_arg1)), ?_, ?_⟩
  · refine (θ_run _ _ _).mono (fun r h c => ?_) (OutMmIdeal.Value.run_blocks m ρ)
    exact ⟨(h c).1.trans (arr m c), (h c).2⟩
  · refine (θ_run _ _ _).mono (fun r h c => ?_) (OutMmReferenceIdeal.Value.run m' ρ')
    refine ⟨(h c).1.trans ?_, (h c).2⟩
    have e0 : m' (c.tc.loc OutMmReferenceIdeal.main_arg0) = m (c.tc.loc main_arg0) := (hag c).1
    have e1 : m' (c.tc.loc OutMmReferenceIdeal.main_arg1) = m (c.tc.loc main_arg1) := (hag c).2
    rw [e0, e1]
    funext y
    revert y; intro (y : S2048x2048.Idx)
    pointwise
    rfl

end Cert.OutMm
-- ==== Proof.OutDx.lean ====
/-
  The gradient of the output projection with respect to its input.
-/
module

public import proofs.«01_k».proof.Defs
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.OutDx

open Idealize.ShloMosaic Idealize.ShloMosaic.TcCoe Idealize.SL.Sem
open Cert.OutDxIdeal Cert.OutDxIdeal.Gen Cert.OutDxIdeal.Value

/-- The product the call computes. -/
def prod (a : S2048x2048.Idx → EReal) (b : S2048x2048.Idx → EReal) : S2048x2048.Idx → EReal :=
  fun y => ∑ k : Fin 2048, a (ix2 (y 0) k) * b (ix2 (y 1) k)

/-- The blocks of grid point `t`. -/
theorem idx_in : ∀ t : Fin cfg0.N, win0_0.index t = ![t.val / 2, 0] ∧ win0_1.index t = ![t.val % 2, 0]
    ∧ win0_2.index t = ![t.val / 2, t.val % 2] := by decide +kernel

/-- The number of a grid point is less than the number of grid points. -/
theorem pt_lt (t : Fin cfg0.N) : t.val < 4 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg2) := by entry_read; rfl
/-- The host's cast leaves the right operand as it is. -/
theorem entry_b : V m c main_v1 = m ((c : Thread nD τ).loc main_arg1) := by entry_read; rfl

/-- The block of the left operand at grid point `t`. -/
theorem iblk_a (t : Fin cfg0.N) (i : Fin 1024) (k : Fin 2048) (h : 1024 * (t.val / 2) + i.val < 2048) :
    (iblk m c 0 t : S1024x2048.Idx → EReal) (ix2 i k) = (m ((c : Thread nD τ).loc main_arg2) : S2048x2048.Idx → EReal) (ix2 ⟨1024 * (t.val / 2) + i.val, h⟩ k) := by
  have e : ((cfg0.win 0).blk t).view.emb (ix2 i k) = (ix2 ⟨1024 * (t.val / 2) + i.val, h⟩ k : S2048x2048.Idx) := by
    blk_ext [idx_in t]
  blk_simp [iblk]
  exact (congrArg _ e).trans (congrFun (entry_a m c) _)

/-- The block of the right operand at grid point `t`. -/
theorem iblk_b (t : Fin cfg0.N) (j : Fin 1024) (k : Fin 2048) (h : 1024 * (t.val % 2) + j.val < 2048) :
    (iblk m c 1 t : S1024x2048.Idx → EReal) (ix2 j k) = (m ((c : Thread nD τ).loc main_arg1) : S2048x2048.Idx → EReal) (ix2 ⟨1024 * (t.val % 2) + j.val, h⟩ k) := by
  have e : ((cfg0.win 1).blk t).view.emb (ix2 j k) = (ix2 ⟨1024 * (t.val % 2) + j.val, h⟩ k : S2048x2048.Idx) := by
    blk_ext [idx_in t]
  blk_simp [iblk]
  exact (congrArg _ e).trans (congrFun (entry_b m c) _)

/-- One grid point stores the product of its two blocks. -/
theorem pay (a : S1024x2048.Idx → EReal) (b : S1024x2048.Idx → EReal) (i : Fin 1024) (j : Fin 1024) :
    k0_pay1 (F := Ideal) a b (ix2 i j) = ∑ k : Fin 2048, a (ix2 i k) * b (ix2 j k) := by
  unfold k0_pay1
  pointwise

/-- The output array after the last grid point is the product. -/
theorem arr : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * (t.val / 2) + i.val < 2048 := by omega
  have hj : 1024 * (t.val % 2) + j.val < 2048 := by omega
  have e : ((cfg0.win 2).blk t).view.emb (ix2 i j) = (ix2 ⟨1024 * (t.val / 2) + i.val, hi⟩ ⟨1024 * (t.val % 2) + j.val, hj⟩ : S2048x2048.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_OutDxReferenceIdeal := fun m ρ _ =>
  (θ_run OutDxReferenceIdeal.defs _ _).mono
    (fun r h => ⟨fun c => (h c).2, sem_eq_zero_of_no_sems (by decide) r.2⟩) (OutDxReferenceIdeal.Value.run m ρ)

/-- Over the real numbers the kernel and the reference compute the same product. -/
theorem equal : Cert.algebraic_OutDxIdeal_OutDxReferenceIdeal := by
  intro m ρ m' ρ' _ hag
  refine ⟨fun c => prod (m (c.tc.loc main_arg2)) (m (c.tc.loc main_arg1)), ?_, ?_⟩
  · refine (θ_run _ _ _).mono (fun r h c => ?_) (OutDxIdeal.Value.run_blocks m ρ)
    exact ⟨(h c).1.trans (arr m c), (h c).2⟩
  · refine (θ_run _ _ _).mono (fun r h c => ?_) (OutDxReferenceIdeal.Value.run m' ρ')
    refine ⟨(h c).1.trans ?_, (h c).2⟩
    have e2 : m' (c.tc.loc OutDxReferenceIdeal.main_arg2) = m (c.tc.loc main_arg2) := (hag c).2.2
    have e1 : m' (c.tc.loc OutDxReferenceIdeal.main_arg1) = m (c.tc.loc main_arg1) := (hag c).2.1
    rw [e2, e1]
    funext y
    revert y; intro (y : S2048x2048.Idx)
    pointwise
    rfl

end Cert.OutDx
-- ==== Proof.OutDw.lean ====
/-
  The gradient of the output projection with respect to its weight.
-/
module

public import proofs.«01_k».proof.Defs
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.OutDw

open Idealize.ShloMosaic Idealize.ShloMosaic.TcCoe Idealize.SL.Sem
open Cert.OutDwIdeal Cert.OutDwIdeal.Gen Cert.OutDwIdeal.Value

/-- The product the call computes. -/
def prod (a : S2048x2048.Idx → EReal) (b : S2048x2048.Idx → EReal) : S2048x2048.Idx → EReal :=
  fun y => ∑ k : Fin 2048, a (ix2 k (y 0)) * b (ix2 k (y 1))

/-- The blocks of grid point `t`. -/
theorem idx_in : ∀ t : Fin cfg0.N, win0_0.index t = ![0, t.val / 2] ∧ win0_1.index t = ![0, t.val % 2]
    ∧ win0_2.index t = ![t.val / 2, t.val % 2] := by decide +kernel

/-- The number of a grid point is less than the number of grid points. -/
theorem pt_lt (t : Fin cfg0.N) : t.val < 4 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- The host's cast leaves the right operand as it is. -/
theorem entry_b : V m c main_v1 = m ((c : Thread nD τ).loc main_arg2) := by entry_read; rfl

/-- The block of the left operand at grid point `t`. -/
theorem iblk_a (t : Fin cfg0.N) (i : Fin 1024) (k : Fin 2048) (h : 1024 * (t.val / 2) + i.val < 2048) :
    (iblk m c 0 t : S2048x1024.Idx → EReal) (ix2 k i) = (m ((c : Thread nD τ).loc main_arg0) : S2048x2048.Idx → EReal) (ix2 k ⟨1024 * (t.val / 2) + i.val, h⟩) := by
  have e : ((cfg0.win 0).blk t).view.emb (ix2 k i) = (ix2 k ⟨1024 * (t.val / 2) + i.val, h⟩ : S2048x2048.Idx) := by
    blk_ext [idx_in t]
  blk_simp [iblk]
  exact (congrArg _ e).trans (congrFun (entry_a m c) _)

/-- The block of the right operand at grid point `t`. -/
theorem iblk_b (t : Fin cfg0.N) (j : Fin 1024) (k : Fin 2048) (h : 1024 * (t.val % 2) + j.val < 2048) :
    (iblk m c 1 t : S2048x1024.Idx → EReal) (ix2 k j) = (m ((c : Thread nD τ).loc main_arg2) : S2048x2048.Idx → EReal) (ix2 k ⟨1024 * (t.val % 2) + j.val, h⟩) := by
  have e : ((cfg0.win 1).blk t).view.emb (ix2 k j) = (ix2 k ⟨1024 * (t.val % 2) + j.val, h⟩ : S2048x2048.Idx) := by
    blk_ext [idx_in t]
  blk_simp [iblk]
  exact (congrArg _ e).trans (congrFun (entry_b m c) _)

/-- One grid point stores the product of its two blocks. -/
theorem pay (a : S2048x1024.Idx → EReal) (b : S2048x1024.Idx → EReal) (i : Fin 1024) (j : Fin 1024) :
    k0_pay1 (F := Ideal) a b (ix2 i j) = ∑ k : Fin 2048, a (ix2 k i) * b (ix2 k j) := by
  unfold k0_pay1
  pointwise

/-- The output array after the last grid point is the product. -/
theorem arr : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * (t.val / 2) + i.val < 2048 := by omega
  have hj : 1024 * (t.val % 2) + j.val < 2048 := by omega
  have e : ((cfg0.win 2).blk t).view.emb (ix2 i j) = (ix2 ⟨1024 * (t.val / 2) + i.val, hi⟩ ⟨1024 * (t.val % 2) + j.val, hj⟩ : S2048x2048.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_OutDwReferenceIdeal := fun m ρ _ =>
  (θ_run OutDwReferenceIdeal.defs _ _).mono
    (fun r h => ⟨fun c => (h c).2, sem_eq_zero_of_no_sems (by decide) r.2⟩) (OutDwReferenceIdeal.Value.run m ρ)

/-- Over the real numbers the kernel and the reference compute the same product. -/
theorem equal : Cert.algebraic_OutDwIdeal_OutDwReferenceIdeal := by
  intro m ρ m' ρ' _ hag
  refine ⟨fun c => prod (m (c.tc.loc main_arg0)) (m (c.tc.loc main_arg2)), ?_, ?_⟩
  · refine (θ_run _ _ _).mono (fun r h c => ?_) (OutDwIdeal.Value.run_blocks m ρ)
    exact ⟨(h c).1.trans (arr m c), (h c).2⟩
  · refine (θ_run _ _ _).mono (fun r h c => ?_) (OutDwReferenceIdeal.Value.run m' ρ')
    refine ⟨(h c).1.trans ?_, (h c).2⟩
    have e0 : m' (c.tc.loc OutDwReferenceIdeal.main_arg0) = m (c.tc.loc main_arg0) := (hag c).1
    have e2 : m' (c.tc.loc OutDwReferenceIdeal.main_arg2) = m (c.tc.loc main_arg2) := (hag c).2.2
    rw [e0, e2]
    funext y
    revert y; intro (y : S2048x2048.Idx)
    pointwise
    exact Finset.sum_congr rfl fun k _ => mul_comm _ _

end Cert.OutDw
-- ==== Proof.Branch.lean ====
/-
  The projection at the end of a branch: the weights are kept as eight parts, four of them per grid point, side by side in the plain array.
-/
module

public import proofs.«01_k».proof.Defs
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchReferenceIdeal
public import proofs.«01_k».proof.Proof.Gen.BranchReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Branch

open Idealize.ShloMosaic Idealize.ShloMosaic.TcCoe Idealize.SL.Sem
open Cert.BranchIdeal Cert.BranchIdeal.Gen Cert.BranchIdeal.Value

/-- The product the call computes. -/
def prod (a : S2048x1024.Idx → EReal) (b : S1024x2048.Idx → EReal) : S2048x2048.Idx → EReal :=
  fun y => ∑ k : Fin 1024, a (ix2 (y 0) k) * b (ix2 k (y 1))

/-- The blocks of grid point `t`. -/
theorem idx_in : ∀ t : Fin cfg0.N, win0_0.index t = ![t.val / 2, 0] ∧ win0_1.index t = ![t.val % 2, 0, 0]
    ∧ win0_2.index t = ![t.val / 2, t.val % 2] := by decide +kernel

/-- The number of a grid point is less than the number of grid points. -/
theorem pt_lt (t : Fin cfg0.N) : t.val < 4 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- Part `q` of the weights at its place in the plain array. -/
theorem entry_b (q : Fin 8) (k : Fin 1024) (l : Fin 256) (h : 256 * q.val + l.val < 2048) :
    (V m c main_v3 : S8x1024x256.Idx → EReal) (ix3 q k l)
      = (m ((c : Thread nD τ).loc main_arg1) : S1024x2048.Idx → EReal) (ix2 k ⟨256 * q.val + l.val, h⟩) := by
  entry_read
  pointwise
  exact congrArg (m (c.tc.loc main_arg1)) (congrArg (ix2 k) (Fin.ext (by show q.val * 256 + l.val = 256 * q.val + l.val; omega)))

/-- The block of the left operand at grid point `t`. -/
theorem iblk_a (t : Fin cfg0.N) (i : Fin 1024) (k : Fin 1024) (h : 1024 * (t.val / 2) + i.val < 2048) :
    (iblk m c 0 t : S1024x1024.Idx → EReal) (ix2 i k) = (m ((c : Thread nD τ).loc main_arg0) : S2048x1024.Idx → EReal) (ix2 ⟨1024 * (t.val / 2) + i.val, h⟩ k) := by
  have e : ((cfg0.win 0).blk t).view.emb (ix2 i k) = (ix2 ⟨1024 * (t.val / 2) + i.val, h⟩ k : S2048x1024.Idx) := by
    blk_ext [idx_in t]
  blk_simp [iblk]
  exact (congrArg _ e).trans (congrFun (entry_a m c) _)

/-- The block of the weights at grid point `t`. -/
theorem iblk_b (t : Fin cfg0.N) (q : Fin 4) (j : Fin 256) (k : Fin 1024) (h : 1024 * (t.val % 2) + 256 * q.val + j.val < 2048) :
    (iblk m c 1 t : S4x1024x256.Idx → EReal) (ix3 q k j)
      = (m ((c : Thread nD τ).loc main_arg1) : S1024x2048.Idx → EReal) (ix2 k ⟨1024 * (t.val % 2) + 256 * q.val + j.val, h⟩) := by
  have hq : 4 * (t.val % 2) + q.val < 8 := by omega
  have e : ((cfg0.win 1).blk t).view.emb (ix3 q k j) = (ix3 ⟨4 * (t.val % 2) + q.val, hq⟩ k j : S8x1024x256.Idx) := by
    blk_ext [idx_in t]
  blk_simp [iblk]
  refine (congrArg _ e).trans ((entry_b m c ⟨4 * (t.val % 2) + q.val, hq⟩ k j (by show 256 * (4 * (t.val % 2) + q.val) + j.val < 2048; omega)).trans ?_)
  exact congrArg (m (c.tc.loc main_arg1)) (congrArg (ix2 k) (Fin.ext (by
    show 256 * (4 * (t.val % 2) + q.val) + j.val = 1024 * (t.val % 2) + 256 * q.val + j.val; omega)))

/-- One part of a grid point's block is the product of its two blocks. -/
theorem pay1 (a : S1024x1024.Idx → EReal) (b : S1x1024x256.Idx → EReal) (i : Fin 1024) (j : Fin 256) :
    k0_pay1 (F := Ideal) a b (ix2 i j) = ∑ k : Fin 1024, a (ix2 i k) * b (ix3 0 k j) := by
  unfold k0_pay1
  pointwise

/-- Part `q` of a grid point's block is the product there. -/
theorem part (t : Fin cfg0.N) (q : Fin 4) (B : S1x1024x256.Idx → EReal)
    (hB : ∀ (k : Fin 1024) (l : Fin 256), B (ix3 0 k l) = (iblk m c 1 t : S4x1024x256.Idx → EReal) (ix3 q k l))
    (i j : Fin 1024) (hi : 1024 * (t.val / 2) + i.val < 2048) (hj : 1024 * (t.val % 2) + j.val < 2048)
    (x : S1024x256.Idx) (h0 : i.val = (x 0).val) (h1 : j.val = 256 * q.val + (x 1).val) :
    k0_pay1 (F := Ideal) (iblk m c 0 t) B x
      = prod (m ((c : Thread nD τ).loc main_arg0)) (m ((c : Thread nD τ).loc main_arg1))
          (ix2 ⟨1024 * (t.val / 2) + i.val, hi⟩ ⟨1024 * (t.val % 2) + j.val, hj⟩) := by
  obtain ⟨i', l, rfl⟩ : ∃ (i' : Fin 1024) (l : Fin 256), x = ix2 i' l := ⟨_, _, eq_ix2 x⟩
  obtain rfl : i = i' := Fin.ext h0
  have h1 : j.val = 256 * q.val + l.val := h1
  refine (pay1 _ _ i l).trans (Finset.sum_congr rfl fun k _ => ?_)
  refine congrArg₂ (· * ·) (iblk_a m c t i k hi) ((hB k l).trans ((iblk_b m c t q l k (by omega)).trans ?_))
  exact congrArg (m (c.tc.loc main_arg1)) (congrArg (ix2 k) (Fin.ext (by
    show 1024 * (t.val % 2) + 256 * q.val + l.val = 1024 * (t.val % 2) + j.val; omega)))

/-- The output array after the last grid point is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * (t.val / 2) + i.val < 2048 := by omega
  have hj : 1024 * (t.val % 2) + j.val < 2048 := by omega
  have e : ((cfg0.win 2).blk t).view.emb (ix2 i j)
      = (ix2 ⟨1024 * (t.val / 2) + i.val, hi⟩ ⟨1024 * (t.val % 2) + j.val, hj⟩ : S2048x2048.Idx) := by
    blk_ext [idx_in t]
  refine Eq.trans ?_ (congrArg _ e.symm)
  frame_out
  canon_tiles x
  · exact part m c t 3 _ (fun k l => View.ld_unit_apply_of _ _ _ _ _ _ (by intro a; fin_cases a <;> simp)) i j hi hj x ‹_› ‹_›
  · exact part m c t 2 _ (fun k l => View.ld_unit_apply_of _ _ _ _ _ _ (by intro a; fin_cases a <;> simp)) i j hi hj x ‹_› ‹_›
  · exact part m c t 1 _ (fun k l => View.ld_unit_apply_of _ _ _ _ _ _ (by intro a; fin_cases a <;> simp)) i j hi hj x ‹_› ‹_›
  · exact part m c t 0 _ (fun k l => View.ld_unit_apply_of _ _ _ _ _ _ (by intro a; fin_cases a <;> simp)) i j hi hj x ‹_› (by
      have h : j.val = (x 1).val := ‹_›
      show j.val = 256 * 0 + (x 1).val
      omega)

/-- The reference runs, leaves its arguments alone and ends with every counter at zero. -/
theorem frame_reference : Cert.quiescent_BranchReferenceIdeal := fun m ρ _ =>
  (θ_run BranchReferenceIdeal.defs _ _).mono
    (fun r h => ⟨fun c => (h c).2, sem_eq_zero_of_no_sems (by decide) r.2⟩) (BranchReferenceIdeal.Value.run m ρ)

/-- Over the real numbers the kernel and the reference compute the same product. -/
theorem equal : Cert.algebraic_BranchIdeal_BranchReferenceIdeal := by
  intro m ρ m' ρ' _ hag
  refine ⟨fun c => prod (m (c.tc.loc main_arg0)) (m (c.tc.loc main_arg1)), ?_, ?_⟩
  · refine (θ_run _ _ _).mono (fun r h c => ?_) (BranchIdeal.Value.run_blocks m ρ)
    exact ⟨(h c).1.trans (arr m c), (h c).2⟩
  · refine (θ_run _ _ _).mono (fun r h c => ?_) (BranchReferenceIdeal.Value.run m' ρ')
    refine ⟨(h c).1.trans ?_, (h c).2⟩
    have e0 : m' (c.tc.loc BranchReferenceIdeal.main_arg0) = m (c.tc.loc main_arg0) := (hag c).1
    have e1 : m' (c.tc.loc BranchReferenceIdeal.main_arg1) = m (c.tc.loc main_arg1) := (hag c).2
    rw [e0, e1]
    funext y
    revert y; intro (y : S2048x2048.Idx)
    pointwise
    rfl

end Cert.Branch
-- ==== Proof.BranchDx.lean ====
/-
  The gradient of the projection at the end of a branch with respect to its input: the weights are kept as eight parts, all
  of which every grid point adds up, side by side in the plain array.
-/
module

public import proofs.«01_k».proof.Defs
public import proofs.«01_k».proof.Proof.Sums
public import proofs.«01_k».proof.Proof.Gen.BranchDx
public import proofs.«01_k».proof.Proof.Gen.BranchDx.Frame
public import proofs.«01_k».proof.Proof.Gen.BranchDxIdeal
public import proofs.«01_k».proof.Proof.Gen.BranchDxIdeal.Frame
public import proofs.«01_k».proof.Proof.Gen.BranchDxIdeal.Value
public import proofs.«01_k».proof.Proof.Gen.BranchDxReferenceIdeal
public import proofs.«01_k».proof.Proof.Gen.BranchDxReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.BranchDx

open Idealize.ShloMosaic Idealize.ShloMosaic.TcCoe Idealize.SL.Sem
open Cert.BranchDxIdeal Cert.BranchDxIdeal.Gen Cert.BranchDxIdeal.Value

/-- Term `k` of the entry `(i, j)` of the product. -/
def summand (a : S2048x2048.Idx → EReal) (b : S1024x2048.Idx → EReal) (i : Fin 2048) (j : Fin 1024) (k : Fin 2048) : EReal :=
  a (ix2 i k) * b (ix2 j k)

/-- The product the call computes. -/
def prod (a : S2048x2048.Idx → EReal) (b : S1024x2048.Idx → EReal) : S2048x1024.Idx → EReal :=
  fun y => ∑ k : Fin 2048, summand a b (y 0) (y 1) k

/-- The blocks of grid point `t`. -/
theorem idx_in : ∀ t : Fin cfg0.N, win0_0.index t = ![t.val, 0] ∧ win0_1.index t = ![0, 0, 0]
    ∧ win0_2.index t = ![t.val, 0] := by decide +kernel

/-- The number of a grid point is less than the number of grid points. -/
theorem pt_lt (t : Fin cfg0.N) : t.val < 2 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg2) := by entry_read; rfl
/-- Part `q` of the weights at its place in the plain array. -/
theorem entry_b (q : Fin 8) (k : Fin 1024) (l : Fin 256) (h : 256 * q.val + l.val < 2048) :
    (V m c main_v3 : S8x1024x256.Idx → EReal) (ix3 q k l)
      = (m ((c : Thread nD τ).loc main_arg1) : S1024x2048.Idx → EReal) (ix2 k ⟨256 * q.val + l.val, h⟩) := by
  entry_read
  pointwise
  exact congrArg (m (c.tc.loc main_arg1)) (congrArg (ix2 k) (Fin.ext (by show q.val * 256 + l.val = 256 * q.val + l.val; omega)))

/-- The block of the left operand at grid point `t`. -/
theorem iblk_a (t : Fin cfg0.N) (i : Fin 1024) (k : Fin 2048) (h : 1024 * t.val + i.val < 2048) :
    (iblk m c 0 t : S1024x2048.Idx → EReal) (ix2 i k)
      = (m ((c : Thread nD τ).loc main_arg2) : S2048x2048.Idx → EReal) (ix2 ⟨1024 * t.val + i.val, h⟩ k) := by
  have e : ((cfg0.win 0).blk t).view.emb (ix2 i k) = (ix2 ⟨1024 * t.val + i.val, h⟩ k : S2048x2048.Idx) := by
    blk_ext [idx_in t]
  blk_simp [iblk]
  exact (congrArg _ e).trans (congrFun (entry_a m c) _)

/-- The parts of the weights at grid point `t`. -/
theorem iblk_b (t : Fin cfg0.N) (q : Fin 8) (j : Fin 1024) (l : Fin 256) (h : 256 * q.val + l.val < 2048) :
    (iblk m c 1 t : S8x1024x256.Idx → EReal) (ix3 q j l)
      = (m ((c : Thread nD τ).loc main_arg1) : S1024x2048.Idx → EReal) (ix2 j ⟨256 * q.val + l.val, h⟩) := by
  have e : ((cfg0.win 1).blk t).view.emb (ix3 q j l) = (ix3 q j l : S8x1024x256.Idx) := by
    blk_ext [idx_in t]
  blk_simp [iblk]
  exact (congrArg _ e).trans (entry_b m c q j l h)

/-- What part `q` of the weights adds at a grid point. -/
theorem term (t : Fin cfg0.N) (q : Fin 8) (i j : Fin 1024) (hi : 1024 * t.val + i.val < 2048) (l : Fin 256)
    (z : Fin 2048) (hz : z.val = 256 * q.val + l.val)
    (a : S1024x2048.Idx → EReal) (ha : a = iblk m c 0 t) (b : S8x1024x256.Idx → EReal) (hb : b = iblk m c 1 t) :
    a (ix2 i z) * b (ix3 q j l) = summand (m ((c : Thread nD τ).loc main_arg2)) (m ((c : Thread nD τ).loc main_arg1))
      ⟨1024 * t.val + i.val, hi⟩ j ⟨256 * q.val + l.val, by omega⟩ := by
  subst ha hb
  exact congrArg₂ (fun x y : EReal => x * y)
    ((iblk_a m c t i z hi).trans (congrArg (m (c.tc.loc main_arg2)) (congrArg (ix2 _) (Fin.ext hz))))
    (iblk_b m c t q j l (by omega))

/-- The output array after the last grid point is the product. -/
theorem arr : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * t.val + i.val < 2048 := by omega
  have e : ((cfg0.win 2).blk t).view.emb (ix2 i j) = (ix2 ⟨1024 * t.val + i.val, hi⟩ j : S2048x1024.Idx) := by
    blk_ext [idx_in t]
  refine Eq.trans ?_ (congrArg _ e.symm)
  frame_out
  unfold k0_pay1 k0_pay2 k0_pay3 k0_pay4
  pointwise
  refine Eq.trans ?_ (Sums.blocks (G := 8) (w := 256) rfl (summand (m ((c : Thread nD τ).loc main_arg2))
    (m ((c : Thread nD τ).loc main_arg1)) ⟨1024 * t.val + i.val, hi⟩ j)).symm
  rw [Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
    exact Finset.sum_congr rfl fun l _ => term m c t _ i j hi l _ (by simp) _ rfl _ rfl

/-- The reference runs, leaves its arguments alone and ends with every counter at zero. -/
theorem frame_reference : Cert.quiescent_BranchDxReferenceIdeal := fun m ρ _ =>
  (θ_run BranchDxReferenceIdeal.defs _ _).mono
    (fun r h => ⟨fun c => (h c).2, sem_eq_zero_of_no_sems (by decide) r.2⟩) (BranchDxReferenceIdeal.Value.run m ρ)

/-- Over the real numbers the kernel and the reference compute the same product. -/
theorem equal : Cert.algebraic_BranchDxIdeal_BranchDxReferenceIdeal := by
  intro m ρ m' ρ' _ hag
  refine ⟨fun c => prod (m (c.tc.loc main_arg2)) (m (c.tc.loc main_arg1)), ?_, ?_⟩
  · refine (θ_run _ _ _).mono (fun r h c => ?_) (BranchDxIdeal.Value.run_blocks m ρ)
    exact ⟨(h c).1.trans (arr m c), (h c).2⟩
  · refine (θ_run _ _ _).mono (fun r h c => ?_) (BranchDxReferenceIdeal.Value.run m' ρ')
    refine ⟨(h c).1.trans ?_, (h c).2⟩
    obtain ⟨-, e1, e2⟩ := hag c
    rw [e1, e2]
    funext y
    revert y; intro (y : S2048x1024.Idx)
    pointwise
    rfl

end Cert.BranchDx
-- ==== Proof.BranchDw.lean ====
/-
  The gradient of the projection at the end of a branch with respect to its weight.
-/
module

public import proofs.«01_k».proof.Defs
public import proofs.«01_k».proof.Proof.Gen.BranchDw
public import proofs.«01_k».proof.Proof.Gen.BranchDw.Frame
public import proofs.«01_k».proof.Proof.Gen.BranchDwIdeal
public import proofs.«01_k».proof.Proof.Gen.BranchDwIdeal.Frame
public import proofs.«01_k».proof.Proof.Gen.BranchDwIdeal.Value
public import proofs.«01_k».proof.Proof.Gen.BranchDwReferenceIdeal
public import proofs.«01_k».proof.Proof.Gen.BranchDwReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.BranchDw

open Idealize.ShloMosaic Idealize.ShloMosaic.TcCoe Idealize.SL.Sem
open Cert.BranchDwIdeal Cert.BranchDwIdeal.Gen Cert.BranchDwIdeal.Value

/-- The product the call computes. -/
def prod (a : S2048x1024.Idx → EReal) (b : S2048x2048.Idx → EReal) : S1024x2048.Idx → EReal :=
  fun y => ∑ k : Fin 2048, a (ix2 k (y 0)) * b (ix2 k (y 1))

/-- The blocks of grid point `t`. -/
theorem idx_in : ∀ t : Fin cfg0.N, win0_0.index t = ![0, t.val / 2] ∧ win0_1.index t = ![0, t.val % 2]
    ∧ win0_2.index t = ![t.val / 2, t.val % 2] := by decide +kernel

/-- The number of a grid point is less than the number of grid points. -/
theorem pt_lt (t : Fin cfg0.N) : t.val < 2 := lt_of_lt_of_eq t.isLt N_0

variable (m : (ℓ : Loc nD τ sig) → Buf (Elt Ideal) ℓ) (c : Dev nD)

/-- The host's cast leaves the left operand as it is. -/
theorem entry_a : V m c main_v0 = m ((c : Thread nD τ).loc main_arg0) := by entry_read; rfl
/-- The host's cast leaves the right operand as it is. -/
theorem entry_b : V m c main_v1 = m ((c : Thread nD τ).loc main_arg2) := by entry_read; rfl

/-- The block of the left operand at grid point `t`. -/
theorem iblk_a (t : Fin cfg0.N) (i : Fin 1024) (k : Fin 2048) (h : 1024 * (t.val / 2) + i.val < 1024) :
    (iblk m c 0 t : S2048x1024.Idx → EReal) (ix2 k i) = (m ((c : Thread nD τ).loc main_arg0) : S2048x1024.Idx → EReal) (ix2 k ⟨1024 * (t.val / 2) + i.val, h⟩) := by
  have e : ((cfg0.win 0).blk t).view.emb (ix2 k i) = (ix2 k ⟨1024 * (t.val / 2) + i.val, h⟩ : S2048x1024.Idx) := by
    blk_ext [idx_in t]
  blk_simp [iblk]
  exact (congrArg _ e).trans (congrFun (entry_a m c) _)

/-- The block of the right operand at grid point `t`. -/
theorem iblk_b (t : Fin cfg0.N) (j : Fin 1024) (k : Fin 2048) (h : 1024 * (t.val % 2) + j.val < 2048) :
    (iblk m c 1 t : S2048x1024.Idx → EReal) (ix2 k j) = (m ((c : Thread nD τ).loc main_arg2) : S2048x2048.Idx → EReal) (ix2 k ⟨1024 * (t.val % 2) + j.val, h⟩) := by
  have e : ((cfg0.win 1).blk t).view.emb (ix2 k j) = (ix2 k ⟨1024 * (t.val % 2) + j.val, h⟩ : S2048x2048.Idx) := by
    blk_ext [idx_in t]
  blk_simp [iblk]
  exact (congrArg _ e).trans (congrFun (entry_b m c) _)

/-- One grid point stores the product of its two blocks. -/
theorem pay (a : S2048x1024.Idx → EReal) (b : S2048x1024.Idx → EReal) (i : Fin 1024) (j : Fin 1024) :
    k0_pay1 (F := Ideal) a b (ix2 i j) = ∑ k : Fin 2048, a (ix2 k i) * b (ix2 k j) := by
  unfold k0_pay1
  pointwise

/-- The output array after the last grid point is the product. -/
theorem arr : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  revert y; intro (y : S1024x1024.Idx)
  have ht := pt_lt t
  obtain ⟨i, j, rfl⟩ : ∃ (i : Fin 1024) (j : Fin 1024), y = ix2 i j := ⟨_, _, eq_ix2 y⟩
  have hi : 1024 * (t.val / 2) + i.val < 1024 := by omega
  have hj : 1024 * (t.val % 2) + j.val < 2048 := by omega
  have e : ((cfg0.win 2).blk t).view.emb (ix2 i j) = (ix2 ⟨1024 * (t.val / 2) + i.val, hi⟩ ⟨1024 * (t.val % 2) + j.val, hj⟩ : S1024x2048.Idx) := by
    blk_ext [idx_in t]
  refine Eq.trans ?_ (congrArg _ e.symm)
  frame_out
  exact (pay _ _ i j).trans (Finset.sum_congr rfl fun k _ =>
    congrArg₂ (· * ·) (iblk_a m c t i k hi) (iblk_b m c t j k hj))

/-- The reference runs, leaves its arguments alone and ends with every counter at zero. -/
theorem frame_reference : Cert.quiescent_BranchDwReferenceIdeal := fun m ρ _ =>
  (θ_run BranchDwReferenceIdeal.defs _ _).mono
    (fun r h => ⟨fun c => (h c).2, sem_eq_zero_of_no_sems (by decide) r.2⟩) (BranchDwReferenceIdeal.Value.run m ρ)

/-- Over the real numbers the kernel and the reference compute the same product. -/
theorem equal : Cert.algebraic_BranchDwIdeal_BranchDwReferenceIdeal := by
  intro m ρ m' ρ' _ hag
  refine ⟨fun c => prod (m (c.tc.loc main_arg0)) (m (c.tc.loc main_arg2)), ?_, ?_⟩
  · refine (θ_run _ _ _).mono (fun r h c => ?_) (BranchDwIdeal.Value.run_blocks m ρ)
    exact ⟨(h c).1.trans (arr m c), (h c).2⟩
  · refine (θ_run _ _ _).mono (fun r h c => ?_) (BranchDwReferenceIdeal.Value.run m' ρ')
    refine ⟨(h c).1.trans ?_, (h c).2⟩
    have e0 : m' (c.tc.loc BranchDwReferenceIdeal.main_arg0) = m (c.tc.loc main_arg0) := (hag c).1
    have e2 : m' (c.tc.loc BranchDwReferenceIdeal.main_arg2) = m (c.tc.loc main_arg2) := (hag c).2.2
    rw [e0, e2]
    funext y
    revert y; intro (y : S1024x2048.Idx)
    pointwise
    exact Finset.sum_congr rfl fun k _ => mul_comm _ _

end Cert.BranchDw
-- ==== Proof.Order.lean ====
/-
  The order in which the joint input projection is held: the plain columns 0-4095, then 6160-10255, then 4112-6159 with
  blocks of 128 of its two halves in turn, then 4096-4111, then zeros up to a multiple of 128.
-/
module

public import Mathlib.Data.EReal.Operations
public import Mathlib.Algebra.BigOperators.Fin

@[expose] public section

noncomputable section

namespace Cert.Order

/-- The plain column held at place `j`. -/
def col (j : ℕ) : ℕ :=
  if j < 4096 then j
  else if j < 8192 then j - 4096 + 6160
  else if j < 10240 then
    if (j - 8192) % 256 < 128 then 4112 + 128 * ((j - 8192) / 256) + (j - 8192) % 256
    else 5136 + 128 * ((j - 8192) / 256) + ((j - 8192) % 256 - 128)
  else j - 10240 + 4096

/-- The place at which plain column `k` is held. -/
def place (k : ℕ) : ℕ :=
  if k < 4096 then k
  else if k < 4112 then k - 4096 + 10240
  else if k < 5136 then 8192 + 256 * ((k - 4112) / 128) + (k - 4112) % 128
  else if k < 6160 then 8320 + 256 * ((k - 5136) / 128) + (k - 5136) % 128
  else k - 6160 + 4096

/-- A place among the columns holds one of the columns. -/
theorem col_lt (j : ℕ) (h : j < 10256) : col j < 10256 := by unfold col; split_ifs <;> omega
/-- A column has a place among the columns. -/
theorem place_lt (k : ℕ) (h : k < 10256) : place k < 10256 := by unfold place; split_ifs <;> omega

/-- The place of the column at place `j` is `j`. -/
theorem place_col (j : ℕ) (h : j < 10256) : place (col j) = j := by unfold place col; split_ifs <;> omega
/-- The column at the place of `k` is `k`. -/
theorem col_place (k : ℕ) (h : k < 10256) : col (place k) = k := by unfold place col; split_ifs <;> omega

/-- The places and the plain columns correspond. -/
def equiv : Fin 10256 ≃ Fin 10256 where
  toFun j := ⟨col j, col_lt j j.isLt⟩
  invFun k := ⟨place k, place_lt k k.isLt⟩
  left_inv j := Fin.ext (place_col j j.isLt)
  right_inv k := Fin.ext (col_place k k.isLt)

/-- A row held in this order. -/
def padded (f : Fin 10256 → EReal) (j : Fin 10368) : EReal :=
  if h : j.val < 10256 then f ⟨col j, col_lt j h⟩ else 0

/-- What is held at a place. -/
theorem padded_at (f : Fin 10256 → EReal) (j : Fin 10368) (k : Fin 10256) (h : j.val < 10256) (e : col j = k.val) :
    padded f j = f k := (dif_pos h).trans (congrArg f (Fin.ext e))

/-- Behind the columns there are zeros. -/
theorem padded_zero (f : Fin 10256 → EReal) (j : Fin 10368) (h : ¬ j.val < 10256) : padded f j = 0 := dif_neg h

/-- A sum of rows is held as the sum of the rows. -/
theorem padded_sum (x : Fin 2048 → EReal) (f : Fin 2048 → Fin 10256 → EReal) (j : Fin 10368) :
    padded (fun n => ∑ k, x k * f k n) j = ∑ k, x k * padded (f k) j := by
  by_cases h : j.val < 10256
  · rw [padded_at _ j ⟨col j, col_lt j h⟩ h rfl]
    exact Finset.sum_congr rfl fun k _ => congrArg _ (padded_at _ j ⟨col j, col_lt j h⟩ h rfl).symm
  · rw [padded_zero _ j h]
    refine (Finset.sum_eq_zero fun k _ => ?_).symm
    rw [padded_zero _ j h, mul_zero]

/-- A scalar product of two rows does not depend on the order. -/
theorem padded_mul (f g : Fin 10256 → EReal) : ∑ j, padded f j * padded g j = ∑ k, f k * g k := by
  refine (Fin.sum_univ_add (a := 10256) (b := 112) fun j : Fin (10256 + 112) => padded f j * padded g j).trans ?_
  rw [Finset.sum_eq_zero (s := (Finset.univ : Finset (Fin 112))) fun j _ => by
    rw [padded_zero f _ (by show ¬ 10256 + j.val < 10256; omega), zero_mul], add_zero,
    ← equiv.sum_comp fun k => f k * g k]
  exact Finset.sum_congr rfl fun j _ =>
    congrArg₂ (· * ·) (padded_at f _ (equiv j) j.isLt rfl) (padded_at g _ (equiv j) j.isLt rfl)

end Cert.Order
-- ==== Proof.Arrange.lean ====
/-
  The host code that brings the rows of a matrix into the order of `Order`: it cuts the matrix into twenty pieces and puts
  them together again, the first sixteen and the last four first.
-/
module

public import proofs.«01_k».proof.Proof.Order
public import Idealize.ShloMosaic.Lib.Pipeline.ValueKit
public import Idealize.ShloMosaic.Lib.Pointwise

@[expose] public section

set_option maxRecDepth 16384

noncomputable section

namespace Cert.Arrange

open Idealize.ShloMosaic

/-- Matrices of `n` rows and 2048 columns. -/
abbrev Rows (n : ℕ) : Shape := ⟨2, ![n, 2048]⟩

/-- A list of matrices. -/
abbrev Pieces := List ((s : Shape) × (s.Idx → EReal))

/-- Matrices one above the other: row `j` is row `r` of piece `k` if `pre` rows are above that piece. -/
theorem piece {n a : ℕ} (xs : Pieces) (h : Shape.Concatenates (xs.map (·.1)) (Rows n) 0) (j : Fin n) (l : Fin 2048)
    (k : ℕ) (hk : k < xs.length) (x : (Rows a).Idx → EReal) (hx : xs[k] = ⟨Rows a, x⟩) (pre : ℕ)
    (hpre : (((xs.take k).map (·.1)).map fun s => if h : s.rank = 2 then s.size ((0 : Fin 2).cast h.symm) else 0).sum = pre)
    (r : Fin a) (hr : pre + r.val = j.val) : concatenate (Rows n) 0 xs h (ix2 j l) = x (ix2 r l) := by
  refine concatenate_apply_piece (t := Rows n) (0 : Fin 2) xs h (ix2 j l) k hk (Rows a) x hx rfl pre hpre (ix2 r l) (fun b hb => ?_) hr
  fin_cases b
  · exact absurd rfl hb
  · rfl

/-- Two large pieces and `q` of 128 rows. -/
def first {q : ℕ} (lo hi : (Rows 4096).Idx → EReal) (P : Fin q → (Rows 128).Idx → EReal) : Pieces :=
  ⟨Rows 4096, lo⟩ :: ⟨Rows 4096, hi⟩ :: List.ofFn fun p => ⟨Rows 128, P p⟩

/-- The first sixteen pieces have so many rows together. -/
theorem first_length {q : ℕ} (lo hi : (Rows 4096).Idx → EReal) (P : Fin q → (Rows 128).Idx → EReal) :
    (first lo hi P).length = q + 2 := by simp [first]

/-- The rows above piece `p` of 128 rows. -/
theorem above {q : ℕ} (lo hi : (Rows 4096).Idx → EReal) (P : Fin q → (Rows 128).Idx → EReal) (p : ℕ) (hp : p < q) :
    ((((first lo hi P).take (p + 2)).map (·.1)).map
      fun s => if h : s.rank = 2 then s.size ((0 : Fin 2).cast h.symm) else 0).sum = 8192 + 128 * p := by
  have e : (((List.ofFn fun p => (⟨Rows 128, P p⟩ : (s : Shape) × (s.Idx → EReal))).map (·.1)).map
      fun s => if h : s.rank = 2 then s.size ((0 : Fin 2).cast h.symm) else 0) = List.replicate q 128 := by
    rw [List.map_ofFn, List.map_ofFn]
    exact List.ofFn_const q 128
  have e2 : (((((List.ofFn fun p => (⟨Rows 128, P p⟩ : (s : Shape) × (s.Idx → EReal)))).take p).map (·.1)).map
      fun s => if h : s.rank = 2 then s.size ((0 : Fin 2).cast h.symm) else 0).sum = 128 * p := by
    rw [List.map_take, List.map_take, e, List.take_replicate, List.sum_replicate, min_eq_left (le_of_lt hp), smul_eq_mul, mul_comm]
  exact (congrArg (fun n => 4096 + (4096 + n)) e2).trans (Nat.add_assoc 4096 4096 (128 * p)).symm

/-- What the large pieces and those of 128 rows hold together. -/
theorem first_at {n q : ℕ} (lo hi : (Rows 4096).Idx → EReal) (P : Fin q → (Rows 128).Idx → EReal)
    (h : Shape.Concatenates ((first lo hi P).map (·.1)) (Rows n) 0) (j : Fin n) (l : Fin 2048) :
    (∀ r : Fin 4096, r.val = j.val → concatenate (Rows n) 0 (first lo hi P) h (ix2 j l) = lo (ix2 r l))
    ∧ (∀ r : Fin 4096, 4096 + r.val = j.val → concatenate (Rows n) 0 (first lo hi P) h (ix2 j l) = hi (ix2 r l))
    ∧ ∀ (p : Fin q) (r : Fin 128), 8192 + 128 * p.val + r.val = j.val →
      concatenate (Rows n) 0 (first lo hi P) h (ix2 j l) = P p (ix2 r l) := by
  have hl := first_length lo hi P
  refine ⟨fun r hr => piece _ h j l 0 (by omega) lo rfl 0 rfl r (by omega), fun r hr => piece _ h j l 1 (by omega) hi rfl 4096 rfl r hr,
    fun p r hr => ?_⟩
  have hp := p.isLt
  exact piece _ h j l (p.val + 2) (by omega) (P p) (List.getElem_ofFn _) _ (above lo hi P p.val hp) r hr

/-- Two pieces of 128 rows, one of 16 and one of 112. -/
def last (x y : (Rows 128).Idx → EReal) (ba : (Rows 16).Idx → EReal) (z : (Rows 112).Idx → EReal) : Pieces :=
  [⟨Rows 128, x⟩, ⟨Rows 128, y⟩, ⟨Rows 16, ba⟩, ⟨Rows 112, z⟩]

/-- What these hold together. -/
theorem last_at {n : ℕ} (x y : (Rows 128).Idx → EReal) (ba : (Rows 16).Idx → EReal) (z : (Rows 112).Idx → EReal)
    (h : Shape.Concatenates ((last x y ba z).map (·.1)) (Rows n) 0) (j : Fin n) (l : Fin 2048) :
    (∀ r : Fin 128, r.val = j.val → concatenate (Rows n) 0 (last x y ba z) h (ix2 j l) = x (ix2 r l))
    ∧ (∀ r : Fin 128, 128 + r.val = j.val → concatenate (Rows n) 0 (last x y ba z) h (ix2 j l) = y (ix2 r l))
    ∧ (∀ r : Fin 16, 256 + r.val = j.val → concatenate (Rows n) 0 (last x y ba z) h (ix2 j l) = ba (ix2 r l))
    ∧ ∀ r : Fin 112, 272 + r.val = j.val → concatenate (Rows n) 0 (last x y ba z) h (ix2 j l) = z (ix2 r l) := by
  have hl : (last x y ba z).length = 4 := rfl
  exact ⟨fun r hr => piece _ h j l 0 (by omega) x rfl 0 rfl r (by omega), fun r hr => piece _ h j l 1 (by omega) y rfl 128 rfl r hr,
    fun r hr => piece _ h j l 2 (by omega) ba rfl 256 rfl r hr, fun r hr => piece _ h j l 3 (by omega) z rfl 272 rfl r hr⟩

/-- The plain row with which piece `p` of 128 rows begins. -/
def start (p : ℕ) : ℕ := 4112 + 1024 * (p % 2) + 128 * (p / 2)

/-- The rows of a piece of 128 lie inside the argument. -/
theorem start_lt (p : Fin 16) (r : Fin 128) : start p + r.val < 10256 := by unfold start; omega

/-- Such a piece lies within the matrix. -/
theorem slices : ∀ p : Fin 14, (Rows 10256).Slices ![start p, 0] (Rows 128) := by
  unfold start; decide

/-- Where piece `p` of 128 rows lies. -/
theorem col_start (p r : ℕ) (hp : p < 16) (hr : r < 128) : Order.col (8192 + 128 * p + r) = start p + r := by
  unfold Order.col start; split_ifs <;> omega

/-- If every piece holds the rows of `g` it is meant to hold, the sixteen pieces and the four hold `g` in the order of `Order`. -/
theorem arranged (g : Fin 10256 → Fin 2048 → EReal) (lo hi : (Rows 4096).Idx → EReal) (P : Fin 14 → (Rows 128).Idx → EReal)
    (x y : (Rows 128).Idx → EReal) (ba : (Rows 16).Idx → EReal) (z : (Rows 112).Idx → EReal)
    (hlo : ∀ r l, lo (ix2 r l) = g ⟨r.val, by omega⟩ l) (hhi : ∀ r l, hi (ix2 r l) = g ⟨6160 + r.val, by omega⟩ l)
    (hP : ∀ p r l, P p (ix2 r l) = g ⟨start p + r.val, start_lt (p.castLE (by decide)) r⟩ l)
    (hx : ∀ r l, x (ix2 r l) = g ⟨5008 + r.val, by omega⟩ l) (hy : ∀ r l, y (ix2 r l) = g ⟨6032 + r.val, by omega⟩ l)
    (hba : ∀ r l, ba (ix2 r l) = g ⟨4096 + r.val, by omega⟩ l) (hz : ∀ r l, z (ix2 r l) = 0)
    (A : (Rows 9984).Idx → EReal) (hA : ∃ h, A = concatenate (Rows 9984) 0 (first lo hi P) h)
    (B : (Rows 384).Idx → EReal) (hB : ∃ h, B = concatenate (Rows 384) 0 (last x y ba z) h)
    (T : (Rows 10368).Idx → EReal) (hT : ∃ h, T = concatenate (Rows 10368) 0 [⟨Rows 9984, A⟩, ⟨Rows 384, B⟩] h)
    (j : Fin 10368) (l : Fin 2048) : T (ix2 j l) = Order.padded (fun n => g n l) j := by
  have hj := j.isLt
  obtain ⟨h1, ea⟩ := hA
  obtain ⟨h2, eb⟩ := hB
  obtain ⟨h3, rfl⟩ := hT
  have held : ∀ k : Fin 10256, j.val < 10256 → Order.col j = k.val → g k l = Order.padded (fun n => g n l) j :=
    fun k h e => (Order.padded_at (fun n => g n l) j k h e).symm
  have two : ([⟨Rows 9984, A⟩, ⟨Rows 384, B⟩] : Pieces).length = 2 := rfl
  by_cases h : j.val < 9984
  · refine (piece [⟨Rows 9984, A⟩, ⟨Rows 384, B⟩] h3 j l 0 (by omega) A rfl 0 rfl ⟨j.val, h⟩ (Nat.zero_add _)).trans ?_
    subst ea
    obtain ⟨f1, f2, f3⟩ := first_at lo hi P h1 ⟨j.val, h⟩ l
    by_cases a1 : j.val < 4096
    · refine (f1 ⟨j.val, a1⟩ rfl).trans ((hlo _ l).trans (held _ (by omega) ?_))
      unfold Order.col; split_ifs; rfl
    by_cases a2 : j.val < 8192
    · refine (f2 ⟨j.val - 4096, by omega⟩ (Nat.add_sub_cancel' (by omega))).trans ((hhi _ l).trans (held _ (by omega) ?_))
      unfold Order.col; split_ifs; exact Nat.add_comm _ _
    refine (f3 ⟨(j.val - 8192) / 128, by omega⟩ ⟨(j.val - 8192) % 128, by omega⟩ (by simp only; omega)).trans
      ((hP _ _ l).trans (held _ (by omega) ?_))
    refine Eq.trans (congrArg Order.col ?_) (col_start _ _ (by omega) (by omega))
    show j.val = 8192 + 128 * ((j.val - 8192) / 128) + (j.val - 8192) % 128
    omega
  · refine (piece [⟨Rows 9984, A⟩, ⟨Rows 384, B⟩] h3 j l 1 (by omega) B rfl 9984 rfl ⟨j.val - 9984, by omega⟩ (by simp only; omega)).trans ?_
    subst eb
    obtain ⟨f1, f2, f3, f4⟩ := last_at x y ba z h2 ⟨j.val - 9984, by omega⟩ l
    by_cases a1 : j.val < 10112
    · refine (f1 ⟨j.val - 9984, by omega⟩ rfl).trans ((hx _ l).trans (held _ (by omega) ?_))
      unfold Order.col; split_ifs <;> simp only <;> omega
    by_cases a2 : j.val < 10240
    · refine (f2 ⟨j.val - 10112, by omega⟩ (by simp only; omega)).trans ((hy _ l).trans (held _ (by omega) ?_))
      unfold Order.col; split_ifs <;> simp only <;> omega
    by_cases a3 : j.val < 10256
    · refine (f3 ⟨j.val - 10240, by omega⟩ (by simp only; omega)).trans ((hba _ l).trans (held _ a3 ?_))
      unfold Order.col; split_ifs <;> simp only <;> omega
    exact (f4 ⟨j.val - 10256, by omega⟩ (by simp only; omega)).trans ((hz _ l).trans (Order.padded_zero _ j a3).symm)

end Cert.Arrange
-- ==== Proof.Plain.lean ====
/-
  The same order as the reference writes it: columns of a matrix cut into five groups and put together again, two of them in
  alternating blocks of 128, with zeros behind.
-/
module

public import proofs.«01_k».proof.Proof.Order
public import Idealize.ShloMosaic.Lib.Pipeline.ValueKit
public import Idealize.ShloMosaic.Lib.KernelVsHost
public import Idealize.ShloMosaic.Lib.Pointwise

@[expose] public section

set_option maxRecDepth 16384

noncomputable section

namespace Cert.Plain

open Idealize.ShloMosaic

/-- Matrices of 2048 rows and `n` columns. -/
abbrev Cols (n : ℕ) : Shape := ⟨2, ![2048, n]⟩

/-- Blocks of 128 columns, `s` of them side by side eight times. -/
abbrev Lanes (s : ℕ) : Shape := ⟨4, ![2048, 8, s, 128]⟩

/-- A group of columns. -/
def cut (n o : ℕ) (t : (Cols 10256).Idx → EReal) (h : (Cols 10256).Slices ![0, o] (Cols n)) : (Cols n).Idx → EReal :=
  extractStridedSlice (Cols n) ![0, o] t h

/-- Column `r` of the group. -/
theorem cut_at (n o : ℕ) (t : (Cols 10256).Idx → EReal) (h : (Cols 10256).Slices ![0, o] (Cols n)) (i : Fin 2048) (r : Fin n)
    (k : Fin 10256) (hk : k.val = o + r.val) : cut n o t h (ix2 i r) = t (ix2 i k) := by
  refine extractStridedSlice_apply _ t h (ix2 i r) (ix2 i k) fun a => ?_
  fin_cases a
  · exact (Nat.zero_add _).symm
  · exact hk

/-- Two groups of 1024 columns in alternating blocks of 128. -/
def mix (x y : (Cols 1024).Idx → EReal) (hx hy : (Cols 1024).ShapeCasts (Lanes 1))
    (h : Shape.Concatenates [Lanes 1, Lanes 1] (Lanes 2) 2) (hs : (Lanes 2).ShapeCasts (Cols 2048)) : (Cols 2048).Idx → EReal :=
  shapeCast (Cols 2048) (concatenate (Lanes 2) 2 [⟨Lanes 1, shapeCast (Lanes 1) x hx⟩, ⟨Lanes 1, shapeCast (Lanes 1) y hy⟩] h) hs

/-- A column as part of its block. -/
theorem lanes_at (x : (Cols 1024).Idx → EReal) (h : (Cols 1024).ShapeCasts (Lanes 1)) (i : Fin 2048) (q : Fin 8) (l : Fin 128) :
    shapeCast (Lanes 1) x h (ix4 i q 0 l) = x (ix2 i ⟨128 * q.val + l.val, by omega⟩) := by
  refine shapeCast_apply x h _ _ ?_
  rw [Shape.rowMajor_val_four, Shape.rowMajor_val_two]
  show i.val * 1024 + (128 * q.val + l.val) = ((i.val * 8 + q.val) * 1 + 0) * 128 + l.val
  omega

/-- An entry of the two arrays with their lanes in turn. -/
theorem mix_read (x y : (Cols 1024).Idx → EReal) (hx hy : (Cols 1024).ShapeCasts (Lanes 1))
    (h : Shape.Concatenates [Lanes 1, Lanes 1] (Lanes 2) 2) (hs : (Lanes 2).ShapeCasts (Cols 2048)) (i : Fin 2048)
    (q : Fin 8) (s : Fin 2) (l : Fin 128) (j : Fin 2048) (hj : j.val = 256 * q.val + 128 * s.val + l.val) :
    mix x y hx hy h hs (ix2 i j)
      = concatenate (Lanes 2) 2 [⟨Lanes 1, shapeCast (Lanes 1) x hx⟩, ⟨Lanes 1, shapeCast (Lanes 1) y hy⟩] h (ix4 i q s l) := by
  refine shapeCast_apply _ hs _ _ ?_
  rw [Shape.rowMajor_val_four, Shape.rowMajor_val_two]
  show ((i.val * 8 + q.val) * 2 + s.val) * 128 + l.val = i.val * 2048 + j.val
  omega

/-- The even blocks are those of the first group. -/
theorem mix_even (x y : (Cols 1024).Idx → EReal) (hx hy : (Cols 1024).ShapeCasts (Lanes 1))
    (h : Shape.Concatenates [Lanes 1, Lanes 1] (Lanes 2) 2) (hs : (Lanes 2).ShapeCasts (Cols 2048)) (i : Fin 2048)
    (q : Fin 8) (l : Fin 128) (j : Fin 2048) (hj : j.val = 256 * q.val + l.val) :
    mix x y hx hy h hs (ix2 i j) = x (ix2 i ⟨128 * q.val + l.val, by omega⟩) := by
  refine (mix_read x y hx hy h hs i q 0 l j (by show _ = 256 * q.val + 128 * 0 + l.val; omega)).trans ?_
  refine (concatenate_pair_apply_left (t := Lanes 2) (2 : Fin 4) _ _ h (ix4 i q 0 l) rfl (ix4 i q 0 l) fun b => ?_).trans (lanes_at x hx i q l)
  fin_cases b <;> rfl

/-- The odd blocks are those of the second group. -/
theorem mix_odd (x y : (Cols 1024).Idx → EReal) (hx hy : (Cols 1024).ShapeCasts (Lanes 1))
    (h : Shape.Concatenates [Lanes 1, Lanes 1] (Lanes 2) 2) (hs : (Lanes 2).ShapeCasts (Cols 2048)) (i : Fin 2048)
    (q : Fin 8) (l : Fin 128) (j : Fin 2048) (hj : j.val = 256 * q.val + 128 + l.val) :
    mix x y hx hy h hs (ix2 i j) = y (ix2 i ⟨128 * q.val + l.val, by omega⟩) := by
  refine (mix_read x y hx hy h hs i q 1 l j (by show _ = 256 * q.val + 128 * 1 + l.val; omega)).trans ?_
  refine (concatenate_pair_apply_right (t := Lanes 2) (2 : Fin 4) _ _ h (ix4 i q 1 l) rfl rfl (ix4 i q 0 l) (fun b hb => ?_) rfl).trans
    (lanes_at y hy i q l)
  fin_cases b
  · rfl
  · rfl
  · exact absurd rfl hb
  · rfl

/-- The four parts side by side. -/
def parts (a b : (Cols 4096).Idx → EReal) (g : (Cols 2048).Idx → EReal) (d : (Cols 16).Idx → EReal) : List ((s : Shape) × (s.Idx → EReal)) :=
  [⟨Cols 4096, a⟩, ⟨Cols 4096, b⟩, ⟨Cols 2048, g⟩, ⟨Cols 16, d⟩]

/-- Matrices side by side: column `j` is column `r` of piece `k` if `pre` columns are to the left of that piece. -/
theorem piece {n w : ℕ} (xs : List ((s : Shape) × (s.Idx → EReal))) (h : Shape.Concatenates (xs.map (·.1)) (Cols n) 1)
    (i : Fin 2048) (j : Fin n)
    (k : ℕ) (hk : k < xs.length) (x : (Cols w).Idx → EReal) (hx : xs[k] = ⟨Cols w, x⟩) (pre : ℕ)
    (hpre : (((xs.take k).map (·.1)).map fun s => if h : s.rank = 2 then s.size ((1 : Fin 2).cast h.symm) else 0).sum = pre)
    (r : Fin w) (hr : pre + r.val = j.val) : concatenate (Cols n) 1 xs h (ix2 i j) = x (ix2 i r) := by
  refine concatenate_apply_piece (t := Cols n) (1 : Fin 2) xs h (ix2 i j) k hk (Cols w) x hx rfl pre hpre (ix2 i r) (fun b hb => ?_) hr
  fin_cases b
  · rfl
  · exact absurd rfl hb

/-- What the four parts hold together. -/
theorem parts_at {n : ℕ} (a b : (Cols 4096).Idx → EReal) (g : (Cols 2048).Idx → EReal) (d : (Cols 16).Idx → EReal)
    (h : Shape.Concatenates ((parts a b g d).map (·.1)) (Cols n) 1) (i : Fin 2048) (j : Fin n) :
    (∀ r : Fin 4096, r.val = j.val → concatenate (Cols n) 1 (parts a b g d) h (ix2 i j) = a (ix2 i r))
    ∧ (∀ r : Fin 4096, 4096 + r.val = j.val → concatenate (Cols n) 1 (parts a b g d) h (ix2 i j) = b (ix2 i r))
    ∧ (∀ r : Fin 2048, 8192 + r.val = j.val → concatenate (Cols n) 1 (parts a b g d) h (ix2 i j) = g (ix2 i r))
    ∧ ∀ r : Fin 16, 10240 + r.val = j.val → concatenate (Cols n) 1 (parts a b g d) h (ix2 i j) = d (ix2 i r) := by
  have four : (parts a b g d).length = 4 := rfl
  exact ⟨fun r hr => piece _ h i j 0 (by omega) a rfl 0 rfl r (by omega), fun r hr => piece _ h i j 1 (by omega) b rfl 4096 rfl r hr,
    fun r hr => piece _ h i j 2 (by omega) g rfl 8192 rfl r hr, fun r hr => piece _ h i j 3 (by omega) d rfl 10240 rfl r hr⟩

/-- The value with which the reference fills up is zero. -/
theorem fill (i : (⟨0, ![]⟩ : Shape).Idx) : sitofp (F := Ideal) .f32 (constantI (⟨0, ![]⟩ : Shape) 32 0#32) i = (0 : EReal) := by
  show (((0#32 : BitVec 32).toInt : ℝ) : EReal) = 0
  simp

/-- Rows and columns exchanged, and a cast, which changes nothing here. -/
theorem flip (x : FVec Ideal (Cols 10368) .f32) (h : (Cols 10368).Transposes [1, 0] ⟨2, ![10368, 2048]⟩) (hb : FTy.bits .bf16 < FTy.bits .f32)
    (j : Fin 10368) (l : Fin 2048) :
    truncf (F := Ideal) .bf16 (transpose ⟨2, ![10368, 2048]⟩ [1, 0] x h) hb (ix2 j l) = x (ix2 l j) := by pointwise

/-- Rows and columns exchanged. -/
theorem flip_back (x : (⟨2, ![10368, 2048]⟩ : Shape).Idx → EReal) (h : (⟨2, ![10368, 2048]⟩ : Shape).Transposes [1, 0] (Cols 10368))
    (j : Fin 10368) (l : Fin 2048) : transpose (Cols 10368) [1, 0] x h (ix2 l j) = x (ix2 j l) := by pointwise

/-- The columns of `t` in the reference's order are those of `Order`. -/
theorem ordered (t : (Cols 10256).Idx → EReal) (z : (⟨0, ![]⟩ : Shape).Idx → EReal) (hz : ∀ i, z i = 0)
    (h1 : (Cols 10256).Slices ![0, 0] (Cols 4096)) (h2 : (Cols 10256).Slices ![0, 6160] (Cols 4096))
    (h3 : (Cols 10256).Slices ![0, 4112] (Cols 1024)) (h4 : (Cols 10256).Slices ![0, 5136] (Cols 1024))
    (h5 : (Cols 10256).Slices ![0, 4096] (Cols 16)) (hx hy : (Cols 1024).ShapeCasts (Lanes 1))
    (hm : Shape.Concatenates [Lanes 1, Lanes 1] (Lanes 2) 2) (hs : (Lanes 2).ShapeCasts (Cols 2048))
    (hc : Shape.Concatenates [Cols 4096, Cols 4096, Cols 2048, Cols 16] (Cols 10256) 1)
    (hp : (Cols 10256).Pads ![0, 0] ![0, 112] ![0, 0] (Cols 10368)) (hu : 0 < (⟨0, ![]⟩ : Shape).numel) (i : Fin 2048) (j : Fin 10368) :
    pad (Cols 10368) ![0, 0] ![0, 112] ![0, 0] (concatenate (Cols 10256) 1
        (parts (cut 4096 0 t h1) (cut 4096 6160 t h2) (mix (cut 1024 4112 t h3) (cut 1024 5136 t h4) hx hy hm hs) (cut 16 4096 t h5)) hc)
      z hp hu (ix2 i j) = Order.padded (fun n => t (ix2 i n)) j := by
  by_cases h : j.val < 10256
  · have hcol := Order.col_lt j.val h
    refine Eq.trans ?_ (Order.padded_at (fun n => t (ix2 i n)) j ⟨Order.col j, hcol⟩ h rfl).symm
    refine (pad_apply_of_inside _ _ _ _ z hp hu (ix2 i j) (ix2 i ⟨j.val, h⟩) fun a => ?_).trans ?_
    · fin_cases a
      · show i.val = 0 + i.val * (0 + 1); omega
      · show j.val = 0 + j.val * (0 + 1); omega
    obtain ⟨p1, p2, p3, p4⟩ := parts_at (cut 4096 0 t h1) (cut 4096 6160 t h2)
      (mix (cut 1024 4112 t h3) (cut 1024 5136 t h4) hx hy hm hs) (cut 16 4096 t h5) hc i ⟨j.val, h⟩
    by_cases a1 : j.val < 4096
    · refine (p1 ⟨j.val, a1⟩ rfl).trans (cut_at _ _ t h1 i _ _ ?_)
      show Order.col j = 0 + j.val
      unfold Order.col; split_ifs; omega
    by_cases a2 : j.val < 8192
    · refine (p2 ⟨j.val - 4096, by omega⟩ (by show 4096 + (j.val - 4096) = j.val; omega)).trans
        (cut_at _ _ t h2 i _ _ ?_)
      show Order.col j = 6160 + (j.val - 4096)
      unfold Order.col; split_ifs; omega
    by_cases a3 : j.val < 10240
    · refine (p3 ⟨j.val - 8192, by omega⟩
        (by show 8192 + (j.val - 8192) = j.val; omega)).trans ?_
      by_cases a4 : (j.val - 8192) % 256 < 128
      · refine (mix_even _ _ hx hy hm hs i ⟨(j.val - 8192) / 256, by omega⟩ ⟨(j.val - 8192) % 256, a4⟩ _
          (by show j.val - 8192 = 256 * ((j.val - 8192) / 256) + (j.val - 8192) % 256; omega)).trans (cut_at _ _ t h3 i _ _ ?_)
        show Order.col j = 4112 + (128 * ((j.val - 8192) / 256) + (j.val - 8192) % 256)
        unfold Order.col; split_ifs; omega
      · refine (mix_odd _ _ hx hy hm hs i ⟨(j.val - 8192) / 256, by omega⟩ ⟨(j.val - 8192) % 256 - 128, by omega⟩ _
          (by show j.val - 8192 = 256 * ((j.val - 8192) / 256) + 128 + ((j.val - 8192) % 256 - 128); omega)).trans (cut_at _ _ t h4 i _ _ ?_)
        show Order.col j = 5136 + (128 * ((j.val - 8192) / 256) + ((j.val - 8192) % 256 - 128))
        unfold Order.col; split_ifs; omega
    · refine (p4 ⟨j.val - 10240, by omega⟩ (by show 10240 + (j.val - 10240) = j.val; omega)).trans
        (cut_at _ _ t h5 i _ _ ?_)
      show Order.col j = 4096 + (j.val - 10240)
      unfold Order.col; split_ifs; omega
  · refine Eq.trans ?_ (Order.padded_zero _ j h).symm
    refine (pad_apply_of_not_inside _ _ _ _ z hp hu (ix2 i j) (1 : Fin 2) fun e => h ?_).trans (hz _)
    have e2 : (j.val - 0) / (0 + 1) < 10256 := e.2.2
    omega

end Cert.Plain
-- ==== Proof.In.lean ====
/-
  The joint input projection: its columns are held in the order of `Order`.
-/
module

public import proofs.«01_k».proof.Defs
public import proofs.«01_k».proof.Proof.Arrange
public import proofs.«01_k».proof.Proof.Plain
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.In

open Idealize.ShloMosaic Idealize.ShloMosaic.TcCoe Idealize.SL.Sem
open Cert.InIdeal Cert.InIdeal.Gen Cert.InIdeal.Value

/-- The product the call computes. -/
def prod (a : S2048x2048.Idx → EReal) (b : S2048x10256.Idx → EReal) : S2048x10368.Idx → EReal :=
  fun y => Order.padded (fun n => ∑ k : Fin 2048, a (ix2 (y 0) k) * b (ix2 k n)) (y 1)

/-- The blocks of grid point `t`: row block `t / 9`, column block `t % 9`. -/
theorem idx_in : ∀ t : Fin cfg0.N, win0_0.index t = ![t.val / 9, 0] ∧ win0_1.index t = ![t.val % 9, 0]
    ∧ win0_2.index t = ![t.val / 9, t.val % 9] := by decide +kernel

/-- The number of a grid point is less than the number of grid points. -/
theorem pt_lt (t : Fin cfg0.N) : t.val < 18 := lt_of_lt_of_eq t.isLt N_0

variable (m : (ℓ : Loc nD τ sig) → Buf (Elt Ideal) ℓ) (c : Dev nD)

/-- The left operand is cast on the host, which changes nothing here. -/
theorem entry_a : V m c main_v25 = m ((c : Thread nD τ).loc main_arg0) := by entry_read; rfl

/-- The host code split in two: what its second part starts from can be left open. -/
theorem split (n : ℕ) : ∃ W : Valuation τ sig (Elt Ideal), ∀ b : Ref sig .tc, V m c b = StableHlo.after (hostOps0.drop n) W b :=
  ⟨StableHlo.after (hostOps0.take n) fun b => m (c, b), fun b => by
    rw [← StableHlo.after_append, List.take_append_drop]; rfl⟩

/-- The pieces of 128 rows but the last two. -/
def mid : Fin 14 → S128x2048.Idx → EReal :=
  ![V m c main_v4, V m c main_v5, V m c main_v6, V m c main_v7, V m c main_v8, V m c main_v9, V m c main_v10, V m c main_v11, V m c main_v12, V m c main_v13, V m c main_v14, V m c main_v15, V m c main_v16, V m c main_v17]

/-- They are slices of the transposed argument. -/
theorem mid_eq (p : Fin 14) : mid m c p = extractStridedSlice S128x2048 ![Arrange.start p.val, 0]
    (V m c main_v1 : S10256x2048.Idx → EReal) (Arrange.slices p) := by
  obtain ⟨W, hW⟩ := split m c 2
  unfold mid
  rw [show V m c = _ from funext hW]
  fin_cases p <;> rfl

/-- The transposed argument. -/
theorem entry_t (n : Fin 10256) (l : Fin 2048) : (V m c main_v1 : S10256x2048.Idx → EReal) (ix2 n l)
    = (m ((c : Thread nD τ).loc main_arg1) : S2048x10256.Idx → EReal) (ix2 l n) := by
  entry_read
  pointwise

/-- What they hold. -/
theorem mid_at (p : Fin 14) (r : Fin 128) (l : Fin 2048) : mid m c p (ix2 r l)
    = (m ((c : Thread nD τ).loc main_arg1) : S2048x10256.Idx → EReal)
        (ix2 l ⟨Arrange.start p + r.val, Arrange.start_lt (p.castLE (by decide)) r⟩) := by
  refine (congrFun (mid_eq m c p) _).trans ?_
  refine (extractStridedSlice_apply _ _ (Arrange.slices p) (ix2 r l) (ix2 ⟨Arrange.start p + r.val, Arrange.start_lt (p.castLE (by decide)) r⟩ l) fun a => ?_).trans
    (entry_t m c _ l)
  fin_cases a
  · rfl
  · exact (Nat.zero_add _).symm

/-- The first sixteen pieces put together. -/
theorem first_eq : ∃ h, V m c main_v22 = concatenate S9984x2048 0 (Arrange.first (V m c main_v2) (V m c main_v3) (mid m c)) h := by
  refine ⟨concatenates_S4096x2048_S4096x2048_S128x2048_S128x2048_S128x2048_S128x2048_S128x2048_S128x2048_S128x2048_S128x2048_S128x2048_S128x2048_S128x2048_S128x2048_S128x2048_S128x2048_S9984x2048_d0, ?_⟩
  obtain ⟨W, hW⟩ := split m c 23
  unfold mid
  rw [show V m c = _ from funext hW]
  rfl

/-- The last four put together. -/
theorem last_eq : ∃ h, V m c main_v23 = concatenate S384x2048 0
    (Arrange.last (V m c main_v18) (V m c main_v19) (V m c main_v20) (V m c main_v21)) h := by
  refine ⟨concatenates_S128x2048_S128x2048_S16x2048_S112x2048_S384x2048_d0, ?_⟩
  obtain ⟨W, hW⟩ := split m c 24
  rw [show V m c = _ from funext hW]
  rfl

/-- All of them. -/
theorem all_eq : ∃ h, V m c main_v24 = concatenate S10368x2048 0 [⟨S9984x2048, V m c main_v22⟩, ⟨S384x2048, V m c main_v23⟩] h := by
  refine ⟨concatenates_S9984x2048_S384x2048_S10368x2048_d0, ?_⟩
  obtain ⟨W, hW⟩ := split m c 25
  rw [show V m c = _ from funext hW]
  rfl

set_option maxHeartbeats 8000000 in
/-- The host code arranges the columns of the argument as rows in the order of `Order`. -/
theorem entry_rows (j : Fin 10368) (l : Fin 2048) : (V m c main_v24 : S10368x2048.Idx → EReal) (ix2 j l)
    = Order.padded (fun n => (m ((c : Thread nD τ).loc main_arg1) : S2048x10256.Idx → EReal) (ix2 l n)) j := by
  exact Arrange.arranged (fun n l => (m ((c : Thread nD τ).loc main_arg1) : S2048x10256.Idx → EReal) (ix2 l n)) _ _ (mid m c) _ _ _ _
    (fun r l => by entry_read; pointwise) (fun r l => by entry_read; pointwise) (mid_at m c)
    (fun r l => by entry_read; pointwise) (fun r l => by entry_read; pointwise) (fun r l => by entry_read; pointwise)
    (fun r l => by entry_read; pointwise) _ (first_eq m c) _ (last_eq m c) _ (all_eq m c) j l

/-- The block of the left operand at grid point `t`. -/
theorem iblk_a (t : Fin cfg0.N) (i : Fin 1024) (k : Fin 2048) (h : 1024 * (t.val / 9) + i.val < 2048) :
    (iblk m c 0 t : S1024x2048.Idx → EReal) (ix2 i k)
      = (m ((c : Thread nD τ).loc main_arg0) : S2048x2048.Idx → EReal) (ix2 ⟨1024 * (t.val / 9) + i.val, h⟩ k) := by
  have e : ((cfg0.win 0).blk t).view.emb (ix2 i k) = (ix2 ⟨1024 * (t.val / 9) + i.val, h⟩ k : S2048x2048.Idx) := by
    blk_ext [idx_in t]
  blk_simp [iblk]
  exact (congrArg _ e).trans (congrFun (entry_a m c) _)

/-- The block of the weights at grid point `t`. -/
theorem iblk_b (t : Fin cfg0.N) (j : Fin 1152) (k : Fin 2048) (h : 1152 * (t.val % 9) + j.val < 10368) :
    (iblk m c 1 t : S1152x2048.Idx → EReal) (ix2 j k)
      = Order.padded (fun n => (m ((c : Thread nD τ).loc main_arg1) : S2048x10256.Idx → EReal) (ix2 k n)) ⟨1152 * (t.val % 9) + j.val, h⟩ := by
  have e : ((cfg0.win 1).blk t).view.emb (ix2 j k) = (ix2 ⟨1152 * (t.val % 9) + j.val, h⟩ k : S10368x2048.Idx) := by
    blk_ext [idx_in t]
  blk_simp [iblk]
  exact (congrArg _ e).trans (entry_rows m c _ k)

/-- One grid point stores the product of its two blocks. -/
theorem pay (a : S1024x2048.Idx → EReal) (b : S1152x2048.Idx → EReal) (i : Fin 1024) (j : Fin 1152) :
    k0_pay1 (F := Ideal) a b (ix2 i j) = ∑ k : Fin 2048, a (ix2 i k) * b (ix2 j k) := by
  unfold k0_pay1
  pointwise

/-- The output array after the last grid point is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  revert y; intro (y : S1024x1152.Idx)
  have ht := pt_lt t
  obtain ⟨i, j, rfl⟩ : ∃ (i : Fin 1024) (j : Fin 1152), y = ix2 i j := ⟨_, _, eq_ix2 y⟩
  have hi : 1024 * (t.val / 9) + i.val < 2048 := by omega
  have hj : 1152 * (t.val % 9) + j.val < 10368 := by omega
  have e : ((cfg0.win 2).blk t).view.emb (ix2 i j) = (ix2 ⟨1024 * (t.val / 9) + i.val, hi⟩ ⟨1152 * (t.val % 9) + j.val, hj⟩ : S2048x10368.Idx) := by
    blk_ext [idx_in t]
  refine Eq.trans ?_ (congrArg _ e.symm)
  refine Eq.trans ?_ (Order.padded_sum (fun k => (m ((c : Thread nD τ).loc main_arg0) : S2048x2048.Idx → EReal) (ix2 ⟨1024 * (t.val / 9) + i.val, hi⟩ k))
    (fun k n => (m ((c : Thread nD τ).loc main_arg1) : S2048x10256.Idx → EReal) (ix2 k n)) ⟨1152 * (t.val % 9) + j.val, hj⟩).symm
  frame_out
  exact (pay _ _ i j).trans (Finset.sum_congr rfl fun k _ =>
    congrArg₂ (fun x y : EReal => x * y) (iblk_a m c t i k hi) (iblk_b m c t j k hj))

/-- The product of the reference. -/
theorem dot_at (a : S2048x2048.Idx → EReal) (b : S2048x10256.Idx → EReal) (i : Fin 2048) (n : Fin 10256) :
    (Host.dotGeneral (F := Ideal) (φ₁ := .f32) (φ₂ := .f32) InReferenceIdeal.dot_S2048x2048_S2048x10256_S2048x10256_1_0_0_1_n_n none a b : S2048x10256.Idx → EReal) (ix2 i n)
      = ∑ k : Fin 2048, a (ix2 i k) * b (ix2 k n) := by
  pointwise

/-- The reference runs, leaves its arguments alone and ends with every counter at zero. -/
theorem frame_reference : Cert.quiescent_InReferenceIdeal := fun m ρ _ =>
  (θ_run InReferenceIdeal.defs _ _).mono
    (fun r h => ⟨fun c => (h c).2, sem_eq_zero_of_no_sems (by decide) r.2⟩) (InReferenceIdeal.Value.run m ρ)

/-- Over the real numbers the kernel and the reference compute the same product. -/
theorem equal : Cert.algebraic_InIdeal_InReferenceIdeal := by
  intro m ρ m' ρ' _ hag
  refine ⟨fun c => prod (m (c.tc.loc main_arg0)) (m (c.tc.loc main_arg1)), ?_, ?_⟩
  · refine (θ_run _ _ _).mono (fun r h c => ?_) (InIdeal.Value.run_blocks m ρ)
    exact ⟨(h c).1.trans (arr m c), (h c).2⟩
  · refine (θ_run _ _ _).mono (fun r h c => ?_) (InReferenceIdeal.Value.run m' ρ')
    refine ⟨(h c).1.trans ?_, (h c).2⟩
    obtain ⟨e0, e1⟩ := hag c
    rw [e0, e1]
    funext y
    revert y; intro (y : S2048x10368.Idx)
    obtain ⟨i, j, rfl⟩ : ∃ (i : Fin 2048) (j : Fin 10368), y = ix2 i j := ⟨_, _, eq_ix2 y⟩
    exact (Plain.ordered _ _ Plain.fill _ _ _ _ _ _ _ _ _ _ _ _ i j).trans (congrArg (fun f => Order.padded f j) (funext fun n => dot_at _ _ i n))

end Cert.In
-- ==== Proof.InDx.lean ====
/-
  The gradient of the joint input projection with respect to its input: the grid goes over nine parts of the sum, which an
  accumulator adds up. Both operands are held in the order of `Order`, on which the sum does not depend.
-/
module

public import proofs.«01_k».proof.Defs
public import proofs.«01_k».proof.Proof.Sums
public import proofs.«01_k».proof.Proof.Arrange
public import proofs.«01_k».proof.Proof.Plain
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.InDx

open Idealize.ShloMosaic Idealize.ShloMosaic.TcCoe Idealize.SL.Sem
open Cert.InDxIdeal Cert.InDxIdeal.Gen Cert.InDxIdeal.Value

/-- Row `i` of a matrix in the order of `Order`. -/
def held (a : S2048x10256.Idx → EReal) (i : Fin 2048) (k : Fin 10368) : EReal := Order.padded (fun n => a (ix2 i n)) k

/-- Term `k` of the entry `(i, j)` of the product. -/
def summand (a b : S2048x10256.Idx → EReal) (i j : Fin 2048) (k : Fin 10368) : EReal := held a i k * held b j k

/-- The product the call computes. -/
def prod (a b : S2048x10256.Idx → EReal) : S2048x2048.Idx → EReal :=
  fun y => ∑ k : Fin 10368, summand a b (y 0) (y 1) k

/-- The blocks of grid point `t`: column block `t / 9`, part `t % 9` of the sum. -/
theorem idx_in : ∀ t : Fin cfg0.N, win0_0.index t = ![0, t.val % 9] ∧ win0_1.index t = ![t.val % 9, t.val / 9]
    ∧ win0_2.index t = ![0, t.val / 9] := by decide +kernel

/-- The number of a grid point is less than the number of grid points. -/
theorem pt_lt (t : Fin cfg0.N) : t.val < 18 := lt_of_lt_of_eq t.isLt N_0

variable (m : (ℓ : Loc nD τ sig) → Buf (Elt Ideal) ℓ) (c : Dev nD)

/-- The host code split in two: what its second part starts from can be left open. -/
theorem split (n : ℕ) : ∃ W : Valuation τ sig (Elt Ideal), ∀ b : Ref sig .tc, V m c b = StableHlo.after (hostOps0.drop n) W b :=
  ⟨StableHlo.after (hostOps0.take n) fun b => m (c, b), fun b => by
    rw [← StableHlo.after_append, List.take_append_drop]; rfl⟩

/-- The pieces of 128 rows but the last two. -/
def mid : Fin 14 → S128x2048.Idx → EReal :=
  ![V m c main_v4, V m c main_v5, V m c main_v6, V m c main_v7, V m c main_v8, V m c main_v9, V m c main_v10, V m c main_v11, V m c main_v12, V m c main_v13, V m c main_v14, V m c main_v15, V m c main_v16, V m c main_v17]

set_option maxHeartbeats 2000000 in
/-- They are slices of the transposed argument. -/
theorem mid_eq (p : Fin 14) : mid m c p = extractStridedSlice S128x2048 ![Arrange.start p.val, 0]
    (V m c main_v1 : S10256x2048.Idx → EReal) (Arrange.slices p) := by
  obtain ⟨W, hW⟩ := split m c 2
  unfold mid
  rw [show V m c = _ from funext hW]
  fin_cases p <;> rfl

/-- The transposed argument. -/
theorem entry_t (n : Fin 10256) (l : Fin 2048) : (V m c main_v1 : S10256x2048.Idx → EReal) (ix2 n l)
    = (m ((c : Thread nD τ).loc main_arg1) : S2048x10256.Idx → EReal) (ix2 l n) := by
  entry_read
  pointwise

/-- What they hold. -/
theorem mid_at (p : Fin 14) (r : Fin 128) (l : Fin 2048) : mid m c p (ix2 r l)
    = (m ((c : Thread nD τ).loc main_arg1) : S2048x10256.Idx → EReal)
        (ix2 l ⟨Arrange.start p + r.val, Arrange.start_lt (p.castLE (by decide)) r⟩) := by
  refine (congrFun (mid_eq m c p) _).trans ?_
  refine (extractStridedSlice_apply _ _ (Arrange.slices p) (ix2 r l) (ix2 ⟨Arrange.start p + r.val, Arrange.start_lt (p.castLE (by decide)) r⟩ l) fun a => ?_).trans
    (entry_t m c _ l)
  fin_cases a
  · rfl
  · exact (Nat.zero_add _).symm

set_option maxHeartbeats 2000000 in
/-- The first sixteen pieces put together. -/
theorem first_eq : ∃ h, V m c main_v22 = concatenate S9984x2048 0 (Arrange.first (V m c main_v2) (V m c main_v3) (mid m c)) h := by
  refine ⟨concatenates_S4096x2048_S4096x2048_S128x2048_S128x2048_S128x2048_S128x2048_S128x2048_S128x2048_S128x2048_S128x2048_S128x2048_S128x2048_S128x2048_S128x2048_S128x2048_S128x2048_S9984x2048_d0, ?_⟩
  obtain ⟨W, hW⟩ := split m c 23
  unfold mid
  rw [show V m c = _ from funext hW]
  rfl

set_option maxHeartbeats 2000000 in
/-- The last four put together. -/
theorem last_eq : ∃ h, V m c main_v23 = concatenate S384x2048 0
    (Arrange.last (V m c main_v18) (V m c main_v19) (V m c main_v20) (V m c main_v21)) h := by
  refine ⟨concatenates_S128x2048_S128x2048_S16x2048_S112x2048_S384x2048_d0, ?_⟩
  obtain ⟨W, hW⟩ := split m c 24
  rw [show V m c = _ from funext hW]
  rfl

/-- All of them. -/
theorem all_eq : ∃ h, V m c main_v24 = concatenate S10368x2048 0 [⟨S9984x2048, V m c main_v22⟩, ⟨S384x2048, V m c main_v23⟩] h := by
  refine ⟨concatenates_S9984x2048_S384x2048_S10368x2048_d0, ?_⟩
  obtain ⟨W, hW⟩ := split m c 25
  rw [show V m c = _ from funext hW]
  rfl

set_option maxHeartbeats 8000000 in
/-- The host code arranges the columns of the argument as rows in the order of `Order`. -/
theorem entry_rows (j : Fin 10368) (l : Fin 2048) : (V m c main_v24 : S10368x2048.Idx → EReal) (ix2 j l)
    = Order.padded (fun n => (m ((c : Thread nD τ).loc main_arg1) : S2048x10256.Idx → EReal) (ix2 l n)) j := by
  exact Arrange.arranged (fun n l => (m ((c : Thread nD τ).loc main_arg1) : S2048x10256.Idx → EReal) (ix2 l n)) _ _ (mid m c) _ _ _ _
    (fun r l => by entry_read; pointwise) (fun r l => by entry_read; pointwise) (mid_at m c)
    (fun r l => by entry_read; pointwise) (fun r l => by entry_read; pointwise) (fun r l => by entry_read; pointwise)
    (fun r l => by entry_read; pointwise) _ (first_eq m c) _ (last_eq m c) _ (all_eq m c) j l

/-- The pieces of 128 rows but the last two. -/
def mid' : Fin 14 → S128x2048.Idx → EReal :=
  ![V m c main_v29, V m c main_v30, V m c main_v31, V m c main_v32, V m c main_v33, V m c main_v34, V m c main_v35, V m c main_v36, V m c main_v37, V m c main_v38, V m c main_v39, V m c main_v40, V m c main_v41, V m c main_v42]

set_option maxHeartbeats 2000000 in
/-- They are slices of the transposed argument. -/
theorem mid_eq' (p : Fin 14) : mid' m c p = extractStridedSlice S128x2048 ![Arrange.start p.val, 0]
    (V m c main_v26 : S10256x2048.Idx → EReal) (Arrange.slices p) := by
  obtain ⟨W, hW⟩ := split m c 28
  unfold mid'
  rw [show V m c = _ from funext hW]
  fin_cases p <;> rfl

/-- The transposed argument. -/
theorem entry_t' (n : Fin 10256) (l : Fin 2048) : (V m c main_v26 : S10256x2048.Idx → EReal) (ix2 n l)
    = (m ((c : Thread nD τ).loc main_arg2) : S2048x10256.Idx → EReal) (ix2 l n) := by
  entry_read
  pointwise

/-- What they hold. -/
theorem mid_at' (p : Fin 14) (r : Fin 128) (l : Fin 2048) : mid' m c p (ix2 r l)
    = (m ((c : Thread nD τ).loc main_arg2) : S2048x10256.Idx → EReal)
        (ix2 l ⟨Arrange.start p + r.val, Arrange.start_lt (p.castLE (by decide)) r⟩) := by
  refine (congrFun (mid_eq' m c p) _).trans ?_
  refine (extractStridedSlice_apply _ _ (Arrange.slices p) (ix2 r l) (ix2 ⟨Arrange.start p + r.val, Arrange.start_lt (p.castLE (by decide)) r⟩ l) fun a => ?_).trans
    (entry_t' m c _ l)
  fin_cases a
  · rfl
  · exact (Nat.zero_add _).symm

set_option maxHeartbeats 2000000 in
/-- The first sixteen pieces put together. -/
theorem first_eq' : ∃ h, V m c main_v47 = concatenate S9984x2048 0 (Arrange.first (V m c main_v27) (V m c main_v28) (mid' m c)) h := by
  refine ⟨concatenates_S4096x2048_S4096x2048_S128x2048_S128x2048_S128x2048_S128x2048_S128x2048_S128x2048_S128x2048_S128x2048_S128x2048_S128x2048_S128x2048_S128x2048_S128x2048_S128x2048_S9984x2048_d0, ?_⟩
  obtain ⟨W, hW⟩ := split m c 49
  unfold mid'
  rw [show V m c = _ from funext hW]
  rfl

set_option maxHeartbeats 2000000 in
/-- The last four put together. -/
theorem last_eq' : ∃ h, V m c main_v48 = concatenate S384x2048 0
    (Arrange.last (V m c main_v43) (V m c main_v44) (V m c main_v45) (V m c main_v46)) h := by
  refine ⟨concatenates_S128x2048_S128x2048_S16x2048_S112x2048_S384x2048_d0, ?_⟩
  obtain ⟨W, hW⟩ := split m c 50
  rw [show V m c = _ from funext hW]
  rfl

/-- All of them. -/
theorem all_eq' : ∃ h, V m c main_v49 = concatenate S10368x2048 0 [⟨S9984x2048, V m c main_v47⟩, ⟨S384x2048, V m c main_v48⟩] h := by
  refine ⟨concatenates_S9984x2048_S384x2048_S10368x2048_d0, ?_⟩
  obtain ⟨W, hW⟩ := split m c 51
  rw [show V m c = _ from funext hW]
  rfl

set_option maxHeartbeats 8000000 in
/-- The host code arranges the columns of the argument as rows in the order of `Order`. -/
theorem entry_rows' (j : Fin 10368) (l : Fin 2048) : (V m c main_v49 : S10368x2048.Idx → EReal) (ix2 j l)
    = Order.padded (fun n => (m ((c : Thread nD τ).loc main_arg2) : S2048x10256.Idx → EReal) (ix2 l n)) j := by
  exact Arrange.arranged (fun n l => (m ((c : Thread nD τ).loc main_arg2) : S2048x10256.Idx → EReal) (ix2 l n)) _ _ (mid' m c) _ _ _ _
    (fun r l => by entry_read; pointwise) (fun r l => by entry_read; pointwise) (mid_at' m c)
    (fun r l => by entry_read; pointwise) (fun r l => by entry_read; pointwise) (fun r l => by entry_read; pointwise)
    (fun r l => by entry_read; pointwise) _ (first_eq' m c) _ (last_eq' m c) _ (all_eq' m c) j l

/-- The left operand is the second of these, with rows and columns exchanged. -/
theorem entry_a (k : Fin 2048) (j : Fin 10368) : (V m c main_v50 : S2048x10368.Idx → EReal) (ix2 k j) = held (m ((c : Thread nD τ).loc main_arg2)) k j := by
  have e : V m c main_v50 = transpose S2048x10368 [1, 0] (V m c main_v49 : S10368x2048.Idx → EReal) transposes_S10368x2048_S2048x10368_1_0 := by
    obtain ⟨W, hW⟩ := split m c 52
    rw [show V m c = _ from funext hW]
    rfl
  exact (congrFun e _).trans ((Plain.flip_back _ _ j k).trans (entry_rows' m c j k))

/-- The block of the left operand at grid point `t`. -/
theorem iblk_a (t : Fin cfg0.N) (i : Fin 2048) (k : Fin 1152) (h : 1152 * (t.val % 9) + k.val < 10368) :
    (iblk m c 0 t : S2048x1152.Idx → EReal) (ix2 i k) = held (m ((c : Thread nD τ).loc main_arg2)) i ⟨1152 * (t.val % 9) + k.val, h⟩ := by
  have e : ((cfg0.win 0).blk t).view.emb (ix2 i k) = (ix2 i ⟨1152 * (t.val % 9) + k.val, h⟩ : S2048x10368.Idx) := by
    blk_ext [idx_in t]
  blk_simp [iblk]
  exact (congrArg _ e).trans (entry_a m c i _)

/-- The block of the weights at grid point `t`. -/
theorem iblk_b (t : Fin cfg0.N) (k : Fin 1152) (j : Fin 1024) (h : 1152 * (t.val % 9) + k.val < 10368)
    (hj : 1024 * (t.val / 9) + j.val < 2048) :
    (iblk m c 1 t : S1152x1024.Idx → EReal) (ix2 k j) = held (m ((c : Thread nD τ).loc main_arg1)) ⟨1024 * (t.val / 9) + j.val, hj⟩ ⟨1152 * (t.val % 9) + k.val, h⟩ := by
  have e : ((cfg0.win 1).blk t).view.emb (ix2 k j)
      = (ix2 ⟨1152 * (t.val % 9) + k.val, h⟩ ⟨1024 * (t.val / 9) + j.val, hj⟩ : S10368x2048.Idx) := by
    blk_ext [idx_in t]
  blk_simp [iblk]
  exact (congrArg _ e).trans (entry_rows m c _ _)

/-- What grid point `t` adds to the entry `(i, j)` of its block. -/
def added (t : Fin cfg0.N) (i : Fin 2048) (j : Fin 1024) (hj : 1024 * (t.val / 9) + j.val < 2048) : EReal :=
  ∑ l : Fin 1152, summand (m ((c : Thread nD τ).loc main_arg2)) (m ((c : Thread nD τ).loc main_arg1)) i
    ⟨1024 * (t.val / 9) + j.val, hj⟩ ⟨1152 * (t.val % 9) + l.val, by have := l.isLt; omega⟩

/-- The product of the blocks of grid point `t` is what it adds. -/
theorem added_eq (t : Fin cfg0.N) (i : Fin 2048) (j : Fin 1024) (hj : 1024 * (t.val / 9) + j.val < 2048)
    (a : S2048x1152.Idx → EReal) (ha : a = iblk m c 0 t) (b : S1152x1024.Idx → EReal) (hb : b = iblk m c 1 t) :
    ∑ l : Fin 1152, a (ix2 i l) * b (ix2 l j) = added m c t i j hj := by
  subst ha hb
  exact Finset.sum_congr rfl fun l _ => congrArg₂ (fun x y : EReal => x * y)
    (iblk_a m c t i l (by have := l.isLt; omega)) (iblk_b m c t l j (by have := l.isLt; omega) hj)

/-- The first part of a sum overwrites the accumulator. -/
theorem acc_first (t : Fin cfg0.N) (h : t.val % 9 = 0) (i : Fin 2048) (j : Fin 1024) (hj : 1024 * (t.val / 9) + j.val < 2048) :
    ((outsAt0 m c t.val t.isLt).2 : S2048x1024.Idx → EReal) (ix2 i j) = added m c t i j hj := by
  rw [outsAt0_A m c t h (by omega)]
  frame_out
  unfold k0_pay1 k0_pay2
  pointwise
  exact added_eq m c t i j hj _ rfl _ rfl

/-- A further part is added to it. -/
theorem acc_next (t : Fin cfg0.N) (h : ¬ t.val % 9 = 0) (i : Fin 2048) (j : Fin 1024) (hj : 1024 * (t.val / 9) + j.val < 2048) :
    ((outsAt0 m c t.val t.isLt).2 : S2048x1024.Idx → EReal) (ix2 i j)
      = ((outsAt0 m c (t.val - 1) (Nat.lt_of_le_of_lt (Nat.sub_le _ _) t.isLt)).2 : S2048x1024.Idx → EReal) (ix2 i j) + added m c t i j hj := by
  by_cases h1 : t.val % 9 = 8
  · rw [outsAt0_C m c t h h1]
    frame_out
    unfold k0_pay2
    pointwise
    exact congrArg₂ (· + ·) (congrFun (read_unread_whole _ _ _) _) (added_eq m c t i j hj _ rfl _ rfl)
  · rw [outsAt0_B m c t h h1]
    frame_out
    unfold k0_pay2
    pointwise
    exact congrArg₂ (· + ·) (congrFun (read_unread_whole _ _ _) _) (added_eq m c t i j hj _ rfl _ rfl)

/-- After a grid point the accumulator holds the sum of the parts so far. -/
theorem acc (n : ℕ) : ∀ (hn : n < cfg0.N) (i : Fin 2048) (j : Fin 1024) (hj : 1024 * (n / 9) + j.val < 2048),
    ((outsAt0 m c n hn).2 : S2048x1024.Idx → EReal) (ix2 i j)
      = Sums.upto (w := 1152) (summand (m ((c : Thread nD τ).loc main_arg2)) (m ((c : Thread nD τ).loc main_arg1)) i
          ⟨1024 * (n / 9) + j.val, hj⟩) (n % 9 + 1) := by
  induction n with
  | zero =>
    intro hn i j hj
    rw [Sums.upto_succ _ _ (by omega), Sums.upto_zero, zero_add]
    exact acc_first m c ⟨0, hn⟩ rfl i j hj
  | succ n ih =>
    intro hn i j hj
    rw [Sums.upto_succ _ _ (by omega)]
    by_cases h : (n + 1) % 9 = 0
    · refine (acc_first m c ⟨n + 1, hn⟩ h i j hj).trans ?_
      rw [show Sums.upto (w := 1152) _ ((n + 1) % 9) = 0 by rw [h]; exact Sums.upto_zero _, zero_add]
      rfl
    · refine (acc_next m c ⟨n + 1, hn⟩ h i j hj).trans (congrArg₂ (· + ·) ?_ rfl)
      have e9 : (n + 1) / 9 = n / 9 := by omega
      have e : (n + 1) % 9 = n % 9 + 1 := by omega
      refine (ih (by omega) i j (by omega)).trans ?_
      rw [e]
      simp only [e9]

/-- The output array after the last grid point is the product. -/
theorem arr : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  revert y; intro (y : S2048x1024.Idx)
  have ht := pt_lt t
  have h8 : t.val % 9 = 8 := (flush0_2 t).mp hf
  obtain ⟨i, j, rfl⟩ : ∃ (i : Fin 2048) (j : Fin 1024), y = ix2 i j := ⟨_, _, eq_ix2 y⟩
  have hj : 1024 * (t.val / 9) + j.val < 2048 := by omega
  have e : ((cfg0.win 2).blk t).view.emb (ix2 i j) = (ix2 i ⟨1024 * (t.val / 9) + j.val, hj⟩ : S2048x2048.Idx) := by
    blk_ext [idx_in t]
  refine Eq.trans ?_ (congrArg _ e.symm)
  refine Eq.trans ?_ (((acc m c t.val t.isLt i j hj).trans (Sums.upto_all _ _ (by rw [h8]))).trans rfl)
  rw [outsAt0_C m c t (by omega) h8]
  frame_out

/-- The product of the reference. -/
theorem dot_at (a b : S2048x10256.Idx → EReal) (i j : Fin 2048) :
    (Host.dotGeneral (F := Ideal) (φ₁ := .f32) (φ₂ := .f32) InDxReferenceIdeal.dot_S2048x10256_S2048x10256_S2048x2048_1_1_0_0_n_n none a b : S2048x2048.Idx → EReal) (ix2 i j)
      = ∑ k : Fin 10256, a (ix2 i k) * b (ix2 j k) := by
  pointwise

/-- The reference runs, leaves its arguments alone and ends with every counter at zero. -/
theorem frame_reference : Cert.quiescent_InDxReferenceIdeal := fun m ρ _ =>
  (θ_run InDxReferenceIdeal.defs _ _).mono
    (fun r h => ⟨fun c => (h c).2, sem_eq_zero_of_no_sems (by decide) r.2⟩) (InDxReferenceIdeal.Value.run m ρ)

/-- Over the real numbers the kernel and the reference compute the same gradient of the input. -/
theorem equal : Cert.algebraic_InDxIdeal_InDxReferenceIdeal := by
  intro m ρ m' ρ' _ hag
  refine ⟨fun c => prod (m (c.tc.loc main_arg2)) (m (c.tc.loc main_arg1)), ?_, ?_⟩
  · refine (θ_run _ _ _).mono (fun r h c => ?_) (InDxIdeal.Value.run_blocks m ρ)
    exact ⟨(h c).1.trans (arr m c), (h c).2⟩
  · refine (θ_run _ _ _).mono (fun r h c => ?_) (InDxReferenceIdeal.Value.run m' ρ')
    refine ⟨(h c).1.trans ?_, (h c).2⟩
    obtain ⟨-, e1, e2⟩ := hag c
    rw [e1, e2]
    funext y
    revert y; intro (y : S2048x2048.Idx)
    obtain ⟨i, j, rfl⟩ : ∃ (i j : Fin 2048), y = ix2 i j := ⟨_, _, eq_ix2 y⟩
    exact (dot_at _ _ i j).trans (Order.padded_mul _ _).symm

end Cert.InDx
-- ==== Proof.InDw.lean ====
/-
  The gradient of the joint input projection with respect to its weights, in the order of `Order`.
-/
module

public import proofs.«01_k».proof.Defs
public import proofs.«01_k».proof.Proof.Arrange
public import proofs.«01_k».proof.Proof.Plain
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.InDw

open Idealize.ShloMosaic Idealize.ShloMosaic.TcCoe Idealize.SL.Sem
open Cert.InDwIdeal Cert.InDwIdeal.Gen Cert.InDwIdeal.Value

/-- The product the call computes. -/
def prod (a : S2048x2048.Idx → EReal) (d : S2048x10256.Idx → EReal) : S10368x2048.Idx → EReal :=
  fun y => Order.padded (fun n => ∑ k : Fin 2048, a (ix2 k (y 1)) * d (ix2 k n)) (y 0)

/-- The blocks of grid point `t`: row block `t / 2`, column block `t % 2`. -/
theorem idx_in : ∀ t : Fin cfg0.N, win0_0.index t = ![0, t.val / 2] ∧ win0_1.index t = ![0, t.val % 2]
    ∧ win0_2.index t = ![t.val / 2, t.val % 2] := by decide +kernel

/-- The number of a grid point is less than the number of grid points. -/
theorem pt_lt (t : Fin cfg0.N) : t.val < 18 := lt_of_lt_of_eq t.isLt N_0

variable (m : (ℓ : Loc nD τ sig) → Buf (Elt Ideal) ℓ) (c : Dev nD)

/-- The right operand is cast on the host, which changes nothing here. -/
theorem entry_b : V m c main_v26 = m ((c : Thread nD τ).loc main_arg0) := by entry_read; rfl

/-- The host code split in two: what its second part starts from can be left open. -/
theorem split (n : ℕ) : ∃ W : Valuation τ sig (Elt Ideal), ∀ b : Ref sig .tc, V m c b = StableHlo.after (hostOps0.drop n) W b :=
  ⟨StableHlo.after (hostOps0.take n) fun b => m (c, b), fun b => by
    rw [← StableHlo.after_append, List.take_append_drop]; rfl⟩

/-- The pieces of 128 rows but the last two. -/
def mid : Fin 14 → S128x2048.Idx → EReal :=
  ![V m c main_v4, V m c main_v5, V m c main_v6, V m c main_v7, V m c main_v8, V m c main_v9, V m c main_v10, V m c main_v11, V m c main_v12, V m c main_v13, V m c main_v14, V m c main_v15, V m c main_v16, V m c main_v17]

/-- They are slices of the transposed argument. -/
theorem mid_eq (p : Fin 14) : mid m c p = extractStridedSlice S128x2048 ![Arrange.start p.val, 0]
    (V m c main_v1 : S10256x2048.Idx → EReal) (Arrange.slices p) := by
  obtain ⟨W, hW⟩ := split m c 2
  unfold mid
  rw [show V m c = _ from funext hW]
  fin_cases p <;> rfl

/-- The transposed argument. -/
theorem entry_t (n : Fin 10256) (l : Fin 2048) : (V m c main_v1 : S10256x2048.Idx → EReal) (ix2 n l)
    = (m ((c : Thread nD τ).loc main_arg2) : S2048x10256.Idx → EReal) (ix2 l n) := by
  entry_read
  pointwise

/-- What they hold. -/
theorem mid_at (p : Fin 14) (r : Fin 128) (l : Fin 2048) : mid m c p (ix2 r l)
    = (m ((c : Thread nD τ).loc main_arg2) : S2048x10256.Idx → EReal)
        (ix2 l ⟨Arrange.start p + r.val, Arrange.start_lt (p.castLE (by decide)) r⟩) := by
  refine (congrFun (mid_eq m c p) _).trans ?_
  refine (extractStridedSlice_apply _ _ (Arrange.slices p) (ix2 r l) (ix2 ⟨Arrange.start p + r.val, Arrange.start_lt (p.castLE (by decide)) r⟩ l) fun a => ?_).trans
    (entry_t m c _ l)
  fin_cases a
  · rfl
  · exact (Nat.zero_add _).symm

/-- The first sixteen pieces put together. -/
theorem first_eq : ∃ h, V m c main_v22 = concatenate S9984x2048 0 (Arrange.first (V m c main_v2) (V m c main_v3) (mid m c)) h := by
  refine ⟨concatenates_S4096x2048_S4096x2048_S128x2048_S128x2048_S128x2048_S128x2048_S128x2048_S128x2048_S128x2048_S128x2048_S128x2048_S128x2048_S128x2048_S128x2048_S128x2048_S128x2048_S9984x2048_d0, ?_⟩
  obtain ⟨W, hW⟩ := split m c 23
  unfold mid
  rw [show V m c = _ from funext hW]
  rfl

/-- The last four put together. -/
theorem last_eq : ∃ h, V m c main_v23 = concatenate S384x2048 0
    (Arrange.last (V m c main_v18) (V m c main_v19) (V m c main_v20) (V m c main_v21)) h := by
  refine ⟨concatenates_S128x2048_S128x2048_S16x2048_S112x2048_S384x2048_d0, ?_⟩
  obtain ⟨W, hW⟩ := split m c 24
  rw [show V m c = _ from funext hW]
  rfl

/-- All of them. -/
theorem all_eq : ∃ h, V m c main_v24 = concatenate S10368x2048 0 [⟨S9984x2048, V m c main_v22⟩, ⟨S384x2048, V m c main_v23⟩] h := by
  refine ⟨concatenates_S9984x2048_S384x2048_S10368x2048_d0, ?_⟩
  obtain ⟨W, hW⟩ := split m c 25
  rw [show V m c = _ from funext hW]
  rfl

set_option maxHeartbeats 8000000 in
/-- The host code arranges the columns of the argument as rows in the order of `Order`. -/
theorem entry_rows (j : Fin 10368) (l : Fin 2048) : (V m c main_v24 : S10368x2048.Idx → EReal) (ix2 j l)
    = Order.padded (fun n => (m ((c : Thread nD τ).loc main_arg2) : S2048x10256.Idx → EReal) (ix2 l n)) j := by
  exact Arrange.arranged (fun n l => (m ((c : Thread nD τ).loc main_arg2) : S2048x10256.Idx → EReal) (ix2 l n)) _ _ (mid m c) _ _ _ _
    (fun r l => by entry_read; pointwise) (fun r l => by entry_read; pointwise) (mid_at m c)
    (fun r l => by entry_read; pointwise) (fun r l => by entry_read; pointwise) (fun r l => by entry_read; pointwise)
    (fun r l => by entry_read; pointwise) _ (first_eq m c) _ (last_eq m c) _ (all_eq m c) j l

/-- The left operand is that, with rows and columns exchanged. -/
theorem entry_a (k : Fin 2048) (j : Fin 10368) : (V m c main_v25 : S2048x10368.Idx → EReal) (ix2 k j)
    = Order.padded (fun n => (m ((c : Thread nD τ).loc main_arg2) : S2048x10256.Idx → EReal) (ix2 k n)) j := by
  have e : V m c main_v25 = transpose S2048x10368 [1, 0] (V m c main_v24 : S10368x2048.Idx → EReal) transposes_S10368x2048_S2048x10368_1_0 := by
    obtain ⟨W, hW⟩ := split m c 26
    rw [show V m c = _ from funext hW]
    rfl
  exact (congrFun e _).trans ((Plain.flip_back _ _ j k).trans (entry_rows m c j k))

/-- The block of the left operand at grid point `t`. -/
theorem iblk_a (t : Fin cfg0.N) (i : Fin 1152) (k : Fin 2048) (h : 1152 * (t.val / 2) + i.val < 10368) :
    (iblk m c 0 t : S2048x1152.Idx → EReal) (ix2 k i)
      = Order.padded (fun n => (m ((c : Thread nD τ).loc main_arg2) : S2048x10256.Idx → EReal) (ix2 k n)) ⟨1152 * (t.val / 2) + i.val, h⟩ := by
  have e : ((cfg0.win 0).blk t).view.emb (ix2 k i) = (ix2 k ⟨1152 * (t.val / 2) + i.val, h⟩ : S2048x10368.Idx) := by
    blk_ext [idx_in t]
  blk_simp [iblk]
  exact (congrArg _ e).trans (entry_a m c k _)

/-- The block of the right operand at grid point `t`. -/
theorem iblk_b (t : Fin cfg0.N) (j : Fin 1024) (k : Fin 2048) (h : 1024 * (t.val % 2) + j.val < 2048) :
    (iblk m c 1 t : S2048x1024.Idx → EReal) (ix2 k j)
      = (m ((c : Thread nD τ).loc main_arg0) : S2048x2048.Idx → EReal) (ix2 k ⟨1024 * (t.val % 2) + j.val, h⟩) := by
  have e : ((cfg0.win 1).blk t).view.emb (ix2 k j) = (ix2 k ⟨1024 * (t.val % 2) + j.val, h⟩ : S2048x2048.Idx) := by
    blk_ext [idx_in t]
  blk_simp [iblk]
  exact (congrArg _ e).trans (congrFun (entry_b m c) _)

/-- One grid point stores the product of its two blocks. -/
theorem pay (a : S2048x1152.Idx → EReal) (b : S2048x1024.Idx → EReal) (i : Fin 1152) (j : Fin 1024) :
    k0_pay1 (F := Ideal) a b (ix2 i j) = ∑ k : Fin 2048, a (ix2 k i) * b (ix2 k j) := by
  unfold k0_pay1
  pointwise

/-- The output array after the last grid point is the product. -/
theorem arr : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  revert y; intro (y : S1152x1024.Idx)
  have ht := pt_lt t
  obtain ⟨i, j, rfl⟩ : ∃ (i : Fin 1152) (j : Fin 1024), y = ix2 i j := ⟨_, _, eq_ix2 y⟩
  have hi : 1152 * (t.val / 2) + i.val < 10368 := by omega
  have hj : 1024 * (t.val % 2) + j.val < 2048 := by omega
  have e : ((cfg0.win 2).blk t).view.emb (ix2 i j) = (ix2 ⟨1152 * (t.val / 2) + i.val, hi⟩ ⟨1024 * (t.val % 2) + j.val, hj⟩ : S10368x2048.Idx) := by
    blk_ext [idx_in t]
  refine Eq.trans ?_ (congrArg _ e.symm)
  refine Eq.trans ?_ (Order.padded_sum (fun k => (m ((c : Thread nD τ).loc main_arg0) : S2048x2048.Idx → EReal) (ix2 k ⟨1024 * (t.val % 2) + j.val, hj⟩))
    (fun k n => (m ((c : Thread nD τ).loc main_arg2) : S2048x10256.Idx → EReal) (ix2 k n)) ⟨1152 * (t.val / 2) + i.val, hi⟩).symm
  frame_out
  exact (pay _ _ i j).trans (Finset.sum_congr rfl fun k _ =>
    (congrArg₂ (fun x y : EReal => x * y) (iblk_a m c t i k hi) (iblk_b m c t j k hj)).trans (mul_comm _ _))

/-- The product of the reference, before its rows and columns are exchanged and ordered. -/
theorem dot_at (a : S2048x2048.Idx → EReal) (d : S2048x10256.Idx → EReal) (i : Fin 2048) (n : Fin 10256) :
    (transpose S2048x10256 [1, 0] (Host.dotGeneral (F := Ideal) (φ₁ := .f32) (φ₂ := .f32) InDwReferenceIdeal.dot_S2048x10256_S2048x2048_S10256x2048_0_0_1_1_n_n none d a)
        InDwReferenceIdeal.Gen.transposes_S10256x2048_S2048x10256_1_0 : S2048x10256.Idx → EReal) (ix2 i n)
      = ∑ k : Fin 2048, a (ix2 k i) * d (ix2 k n) := by
  pointwise
  exact Finset.sum_congr rfl fun k _ => mul_comm _ _

/-- The reference runs, leaves its arguments alone and ends with every counter at zero. -/
theorem frame_reference : Cert.quiescent_InDwReferenceIdeal := fun m ρ _ =>
  (θ_run InDwReferenceIdeal.defs _ _).mono
    (fun r h => ⟨fun c => (h c).2, sem_eq_zero_of_no_sems (by decide) r.2⟩) (InDwReferenceIdeal.Value.run m ρ)

/-- Over the real numbers the kernel and the reference compute the same gradient. -/
theorem equal : Cert.algebraic_InDwIdeal_InDwReferenceIdeal := by
  intro m ρ m' ρ' _ hag
  refine ⟨fun c => prod (m (c.tc.loc main_arg0)) (m (c.tc.loc main_arg2)), ?_, ?_⟩
  · refine (θ_run _ _ _).mono (fun r h c => ?_) (InDwIdeal.Value.run_blocks m ρ)
    exact ⟨(h c).1.trans (arr m c), (h c).2⟩
  · refine (θ_run _ _ _).mono (fun r h c => ?_) (InDwReferenceIdeal.Value.run m' ρ')
    refine ⟨(h c).1.trans ?_, (h c).2⟩
    obtain ⟨e0, -, e2⟩ := hag c
    rw [e0, e2]
    funext y
    revert y; intro (y : S10368x2048.Idx)
    obtain ⟨j, i, rfl⟩ : ∃ (j : Fin 10368) (i : Fin 2048), y = ix2 j i := ⟨_, _, eq_ix2 y⟩
    refine (Plain.flip _ InDwReferenceIdeal.Gen.transposes_S2048x10368_S10368x2048_1_0 InDwReferenceIdeal.Gen.bitsLt_bf16_f32 j i).trans ?_
    exact (Plain.ordered _ _ Plain.fill _ _ _ _ _ _ _ _ _ _ _ _ i j).trans (congrArg (fun f => Order.padded f j) (funext fun n => dot_at _ _ i n))

end Cert.InDw
-- ==== Proof.Adam.lean ====
/-
  One step of the optimiser on one element.
-/
module

public import Idealize.ShloMosaic.Lib.Pointwise
public import Idealize.ShloMosaic.Lib.IdealHost

@[expose] public section

noncomputable section

namespace Cert.Adam

open Idealize.ShloMosaic

/-- The real number that a 32 bit float pattern denotes. -/
abbrev lit (b : BitVec 32) : EReal := Ideal.ofBits .f32 b

/-- The new first moment: 0.9 of the old one and 0.1 of the gradient. -/
def newM (g m : EReal) : EReal := lit 0x3F666666#32 * m + lit 0x3DCCCCCD#32 * g

/-- The new second moment: 0.999 of the old one and 0.001 of the gradient's square. -/
def newV (g v : EReal) : EReal := lit 0x3F7FBE77#32 * v + lit 0x3A83126F#32 * (g * g)

/-- The first moment over the root of the second, both freed of their bias at step 10. -/
def ratio (a b : EReal) : EReal :=
  Ideal.div (Ideal.div a (lit 0x3F26BD02#32)) (Ideal.sqrt (Ideal.div b (lit 0x3C231ACC#32)) + lit 0x322BCC77#32)

/-- The change of the weight: minus the learning rate times the ratio of the moments plus the decay of the weight. -/
def delta (w g m v : EReal) : EReal :=
  lit 0xBA83126F#32 * (ratio (newM g m) (newV g v) + lit 0x3C23D70A#32 * w)

end Cert.Adam
-- ==== Proof.Ada.lean ====
/-
  The gradient of the modulation weight and its optimiser step.
-/
module

public import proofs.«01_k».proof.Defs
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import Idealize.ShloMosaic.Lib.Pipeline.ValueKit
public import Idealize.ShloMosaic.Lib.Pointwise
public import Idealize.ShloMosaic.Lib.Quiescent
public import proofs.«01_k».proof.Proof.Adam

@[expose] public section

set_option maxRecDepth 16384

noncomputable section

namespace Cert.Ada

open Idealize.ShloMosaic Idealize.ShloMosaic.TcCoe Idealize.SL.Sem
open Cert.AdaIdeal Cert.AdaIdeal.Gen Cert.AdaIdeal.Value Cert.Adam

/-- The activation of the conditioning vector: `x / (1 + exp (-x))`. -/
def silu (x : EReal) : EReal := x * Ideal.div 1 (1 + Ideal.exp (-x))

/-- The gradient of the modulation weight: over the eight examples, the activation times the gradient of the modulation. -/
def grad (c : S8x2048.Idx → EReal) (d : S8x1536.Idx → EReal) : S2048x1536.Idx → EReal :=
  fun y => ∑ e : Fin 8, silu (c (ix2 e (y 0))) * d (ix2 e (y 1))

/-- A weight without its leading axis of length one. -/
def mat (x : S1x2048x1536.Idx → EReal) : S2048x1536.Idx → EReal := fun y => x (ix3 0 (y 0) (y 1))

/-- The blocks of grid point `t`. -/
theorem idx_in : ∀ t : Fin cfg0.N, win0_0.index t = ![0, t.val] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] := by decide +kernel

/-- The number of a grid point is less than the number of grid points. -/
theorem pt_lt (t : Fin cfg0.N) : t.val < 8 := lt_of_lt_of_eq t.isLt N_0

/-- Dropping a leading axis of length one. -/
theorem mat_eq (x : S1x2048x1536.Idx → EReal) (h : S1x2048x1536.ShapeCasts S2048x1536) : shapeCast S2048x1536 x h = mat x := by
  funext y
  revert y; intro (y : S2048x1536.Idx)
  obtain ⟨i, j, rfl⟩ : ∃ (i : Fin 2048) (j : Fin 1536), y = ix2 i j := ⟨_, _, eq_ix2 y⟩
  pointwise
  rfl

section Payloads

variable (a : S8x256.Idx → EReal) (b : S8x1536.Idx → EReal) (w x v : S256x1536.Idx → EReal) (i : Fin 256) (j : Fin 1536)

/-- One grid point stores the gradient of its rows. -/
theorem pay_grad : k0_pay2 (F := Ideal) a b (ix2 i j) = ∑ e : Fin 8, silu (a (ix2 e i)) * b (ix2 e j) := by
  unfold k0_pay2 silu
  pointwise
  simp only [zero_sub]

/-- One grid point stores the new first moment of its rows. -/
theorem pay_m : k0_pay4 (F := Ideal) a b x (ix2 i j) = newM (k0_pay2 (F := Ideal) a b (ix2 i j)) (x (ix2 i j)) := by
  unfold k0_pay4 newM
  rw [shapeCast_self]
  rfl

/-- One grid point stores the new second moment of its rows. -/
theorem pay_v : k0_pay5 (F := Ideal) a b v (ix2 i j) = newV (k0_pay2 (F := Ideal) a b (ix2 i j)) (v (ix2 i j)) := by
  unfold k0_pay5 newV
  rw [shapeCast_self]
  rfl

/-- One grid point stores the change of its rows. -/
theorem pay_delta : k0_pay1 (F := Ideal) (k0_pay3 w) (k0_pay6 a b x v) k0_pay7 (ix2 i j)
    = delta (w (ix2 i j)) (k0_pay2 (F := Ideal) a b (ix2 i j)) (x (ix2 i j)) (v (ix2 i j)) := by
  unfold delta
  rw [← pay_m, ← pay_v]
  unfold k0_pay1 k0_pay3 k0_pay6 k0_pay7
  rw [shapeCast_self]
  rfl

end Payloads

variable (m : (ℓ : Loc nD τ sig) → Buf (Elt Ideal) ℓ) (c : Dev nD)

/-- The weight as the call finds it. -/
theorem entry_w : V m c main_v0 = mat (m ((c : Thread nD τ).loc main_arg2)) := by entry_read; exact mat_eq _ _
/-- The first moment as the call finds it. -/
theorem entry_m : V m c main_v1 = mat (m ((c : Thread nD τ).loc main_arg3)) := by entry_read; exact mat_eq _ _
/-- The second moment as the call finds it. -/
theorem entry_v : V m c main_v2 = mat (m ((c : Thread nD τ).loc main_arg4)) := by entry_read; exact mat_eq _ _
/-- The conditioning vectors as the call finds them. -/
theorem entry_c : V m c main_arg0 = m ((c : Thread nD τ).loc main_arg0) := by entry_read; rfl
/-- The gradient of the modulation as the call finds it. -/
theorem entry_d : V m c main_arg1 = m ((c : Thread nD τ).loc main_arg1) := by entry_read; rfl

/-- Row `i` of the block of grid point `t` as a row of the weight. -/
def row (t : Fin cfg0.N) (i : Fin 256) : Fin 2048 := ⟨256 * t.val + i.val, by have := pt_lt t; omega⟩

/-- The conditioning vectors of the device at hand. -/
abbrev C : S8x2048.Idx → EReal := m ((c : Thread nD τ).loc main_arg0)
/-- The gradient of the modulation. -/
abbrev D : S8x1536.Idx → EReal := m ((c : Thread nD τ).loc main_arg1)
/-- The weight. -/
abbrev W : S2048x1536.Idx → EReal := mat (m ((c : Thread nD τ).loc main_arg2))
/-- The first moment. -/
abbrev M : S2048x1536.Idx → EReal := mat (m ((c : Thread nD τ).loc main_arg3))
/-- The second moment. -/
abbrev N : S2048x1536.Idx → EReal := mat (m ((c : Thread nD τ).loc main_arg4))

/-- The block of the conditioning vectors at grid point `t`. -/
theorem iblk_c (t : Fin cfg0.N) (e : Fin 8) (i : Fin 256) :
    (iblk m c 0 t : S8x256.Idx → EReal) (ix2 e i) = C m c (ix2 e (row t i)) := by
  have h : ((cfg0.win 0).blk t).view.emb (ix2 e i) = (ix2 e (row t i) : S8x2048.Idx) := by blk_ext [idx_in t, row]
  blk_simp [iblk]
  exact (congrArg _ h).trans (congrFun (entry_c m c) _)
/-- The block of the gradient of the modulation is the whole of it. -/
theorem iblk_d (t : Fin cfg0.N) (e : Fin 8) (j : Fin 1536) :
    (iblk m c 1 t : S8x1536.Idx → EReal) (ix2 e j) = D m c (ix2 e j) := by
  have h : ((cfg0.win 1).blk t).view.emb (ix2 e j) = (ix2 e j : S8x1536.Idx) := by blk_ext [idx_in t]
  blk_simp [iblk]
  exact (congrArg _ h).trans (congrFun (entry_d m c) _)
/-- The block of the weight at grid point `t`. -/
theorem iblk_w (t : Fin cfg0.N) (i : Fin 256) (j : Fin 1536) :
    (iblk m c 2 t : S256x1536.Idx → EReal) (ix2 i j) = W m c (ix2 (row t i) j) := by
  have h : ((cfg0.win 2).blk t).view.emb (ix2 i j) = (ix2 (row t i) j : S2048x1536.Idx) := by blk_ext [idx_in t, row]
  blk_simp [iblk]
  exact (congrArg _ h).trans (congrFun (entry_w m c) _)
/-- The block of the first moment at grid point `t`. -/
theorem iblk_m (t : Fin cfg0.N) (i : Fin 256) (j : Fin 1536) :
    (iblk m c 3 t : S256x1536.Idx → EReal) (ix2 i j) = M m c (ix2 (row t i) j) := by
  have h : ((cfg0.win 3).blk t).view.emb (ix2 i j) = (ix2 (row t i) j : S2048x1536.Idx) := by blk_ext [idx_in t, row]
  blk_simp [iblk]
  exact (congrArg _ h).trans (congrFun (entry_m m c) _)
/-- The block of the second moment at grid point `t`. -/
theorem iblk_v (t : Fin cfg0.N) (i : Fin 256) (j : Fin 1536) :
    (iblk m c 4 t : S256x1536.Idx → EReal) (ix2 i j) = N m c (ix2 (row t i) j) := by
  have h : ((cfg0.win 4).blk t).view.emb (ix2 i j) = (ix2 (row t i) j : S2048x1536.Idx) := by blk_ext [idx_in t, row]
  blk_simp [iblk]
  exact (congrArg _ h).trans (congrFun (entry_v m c) _)

/-- The gradient of the weight. -/
def G : S2048x1536.Idx → EReal := grad (C m c) (D m c)

/-- The change of the weight. -/
def Delta : S2048x1536.Idx → EReal := fun y => delta (W m c y) (G m c y) (M m c y) (N m c y)

/-- The new first moment. -/
def M' : S2048x1536.Idx → EReal := fun y => newM (G m c y) (M m c y)

/-- The new second moment. -/
def N' : S2048x1536.Idx → EReal := fun y => newV (G m c y) (N m c y)

/-- One grid point's gradient is the rows of the whole one. -/
theorem grad_at (t : Fin cfg0.N) (i : Fin 256) (j : Fin 1536) :
    k0_pay2 (F := Ideal) (iblk m c 0 t) (iblk m c 1 t) (ix2 i j) = G m c (ix2 (row t i) j) :=
  (pay_grad _ _ i j).trans (Finset.sum_congr rfl fun e _ =>
    congrArg₂ (fun x y : EReal => silu x * y) (iblk_c m c t e i) (iblk_d m c t e j))

/-- The first result is the gradient. -/
theorem arr_grad : (dats m 0 c).arrAt 5 cfg0.N = G m c := by
  refine (dats m 0 c).arrAt_eq_of_covers 5 _ (by decide +kernel) fun t hf y => ?_
  blk_simp
  rw [after0_5]
  revert y; intro (y : S256x1536.Idx)
  obtain ⟨i, j, rfl⟩ : ∃ (i : Fin 256) (j : Fin 1536), y = ix2 i j := ⟨_, _, eq_ix2 y⟩
  have e : ((cfg0.win 5).blk t).view.emb (ix2 i j) = (ix2 (row t i) j : S2048x1536.Idx) := by blk_ext [idx_in t, row]
  refine Eq.trans ?_ (congrArg _ e.symm)
  frame_out
  exact grad_at m c t i j

/-- The second result is the change of the weight. -/
theorem arr_delta : (dats m 0 c).arrAt 6 cfg0.N = Delta m c := by
  refine (dats m 0 c).arrAt_eq_of_covers 6 _ (by decide +kernel) fun t hf y => ?_
  blk_simp
  rw [after0_6]
  revert y; intro (y : S256x1536.Idx)
  obtain ⟨i, j, rfl⟩ : ∃ (i : Fin 256) (j : Fin 1536), y = ix2 i j := ⟨_, _, eq_ix2 y⟩
  have e : ((cfg0.win 6).blk t).view.emb (ix2 i j) = (ix2 (row t i) j : S2048x1536.Idx) := by blk_ext [idx_in t, row]
  refine Eq.trans ?_ (congrArg _ e.symm)
  frame_out
  refine (pay_delta _ _ _ _ _ i j).trans ?_
  unfold Delta
  rw [grad_at, iblk_w, iblk_m, iblk_v]

/-- The third result is the new first moment. -/
theorem arr_m : (dats m 0 c).arrAt 7 cfg0.N = M' m c := by
  refine (dats m 0 c).arrAt_eq_of_covers 7 _ (by decide +kernel) fun t hf y => ?_
  blk_simp
  rw [after0_7]
  revert y; intro (y : S256x1536.Idx)
  obtain ⟨i, j, rfl⟩ : ∃ (i : Fin 256) (j : Fin 1536), y = ix2 i j := ⟨_, _, eq_ix2 y⟩
  have e : ((cfg0.win 7).blk t).view.emb (ix2 i j) = (ix2 (row t i) j : S2048x1536.Idx) := by blk_ext [idx_in t, row]
  refine Eq.trans ?_ (congrArg _ e.symm)
  frame_out
  refine (pay_m _ _ _ i j).trans ?_
  unfold M'
  rw [grad_at, iblk_m]

/-- The fourth result is the new second moment. -/
theorem arr_v : (dats m 0 c).arrAt 8 cfg0.N = N' m c := by
  refine (dats m 0 c).arrAt_eq_of_covers 8 _ (by decide +kernel) fun t hf y => ?_
  blk_simp
  rw [after0_8]
  revert y; intro (y : S256x1536.Idx)
  obtain ⟨i, j, rfl⟩ : ∃ (i : Fin 256) (j : Fin 1536), y = ix2 i j := ⟨_, _, eq_ix2 y⟩
  have e : ((cfg0.win 8).blk t).view.emb (ix2 i j) = (ix2 (row t i) j : S2048x1536.Idx) := by blk_ext [idx_in t, row]
  refine Eq.trans ?_ (congrArg _ e.symm)
  frame_out
  refine (pay_v _ _ _ i j).trans ?_
  unfold N'
  rw [grad_at, iblk_v]

/-- The reference runs, leaves its arguments alone and ends with every counter at zero. -/
theorem frame_reference : Cert.quiescent_AdaReferenceIdeal := fun m ρ _ =>
  (θ_run AdaReferenceIdeal.defs _ _).mono
    (fun r h => ⟨fun c => (h c).2.2.2.2, sem_eq_zero_of_no_sems (by decide) r.2⟩) (AdaReferenceIdeal.Value.run m ρ)

/-- The reference's gradient: a product whose result is transposed. -/
theorem ref_grad (a : S8x2048.Idx → EReal) (b : S8x1536.Idx → EReal) (hb : AdaReferenceIdeal.S_.BroadcastsInDim S8x2048 ![])
    (ht : AdaReferenceIdeal.S1536x2048.Transposes [1, 0] S2048x1536) :
    transpose S2048x1536 [1, 0] (Host.dotGeneral (F := Ideal) (φ₁ := .f32) (φ₂ := .f32) AdaReferenceIdeal.dot_S8x1536_S8x2048_S1536x2048_0_0_1_1_n_n none b
      (mulf (F := Ideal) a (Host.divf (broadcastInDim S8x2048 ![] hb (constant AdaReferenceIdeal.S_ .f32 0x3F800000#32))
        (addf (broadcastInDim S8x2048 ![] hb (constant AdaReferenceIdeal.S_ .f32 0x3F800000#32)) (Host.exp (Host.negf a))))))
      ht = grad a b := by
  funext y
  revert y; intro (y : S2048x1536.Idx)
  unfold grad silu
  pointwise
  exact Finset.sum_congr rfl fun e _ => mul_comm _ _

/-- Over the real numbers the kernel and the reference compute the same gradient, change and moments. -/
theorem equal : Cert.algebraic_AdaIdeal_AdaReferenceIdeal := by
  intro m ρ m' ρ' _ hag
  refine ⟨fun c => G m c, fun c => Delta m c,
    fun c => M' m c,
    fun c => N' m c, ?_, ?_⟩
  · refine (θ_run _ _ _).mono (fun r h c => ?_) (AdaIdeal.Value.run_blocks m ρ)
    obtain ⟨h0, h1, h2, h3, hargs⟩ := h c
    exact ⟨h0.trans (arr_grad m c), h1.trans (arr_delta m c), h2.trans (arr_m m c), h3.trans (arr_v m c), hargs⟩
  · refine (θ_run _ _ _).mono (fun r h c => ?_) (AdaReferenceIdeal.Value.run m' ρ')
    obtain ⟨h0, h1, h2, h3, hargs⟩ := h c
    obtain ⟨e0, e1, e2, e3, e4⟩ := hag c
    rw [e0, e1] at h0
    rw [e0, e1, e2, e3, e4] at h1
    rw [e0, e1, e3] at h2
    rw [e0, e1, e4] at h3
    have g := ref_grad (C m c) (D m c) AdaReferenceIdeal.Facts₀.bcast_S_S8x2048 AdaReferenceIdeal.Facts₀.transposes_S1536x2048_S2048x1536_1_0
    refine ⟨h0.trans g, h1.trans ?_, h2.trans ?_, h3.trans ?_, hargs⟩
    · rw [g, mat_eq, mat_eq, mat_eq]; rfl
    · rw [g, mat_eq]; rfl
    · rw [g, mat_eq]; rfl

end Cert.Ada
-- ==== Proof.SmallPay.lean ====
/-
  What the optimiser step of the small weights stores, from what it reads.
-/
module

public import proofs.«01_k».proof.Defs
public import proofs.«01_k».proof.Proof.Gen.SmallIdeal
public import proofs.«01_k».proof.Proof.Gen.SmallIdeal.Frame
public import Idealize.ShloMosaic.Lib.Pipeline.ValueKit
public import Idealize.ShloMosaic.Lib.Pointwise
public import proofs.«01_k».proof.Proof.Adam

@[expose] public section

set_option maxRecDepth 16384

noncomputable section

namespace Cert.Small

open Idealize.ShloMosaic Idealize.ShloMosaic.TcCoe Idealize.SL.Sem
open Cert.SmallIdeal Cert.SmallIdeal.Gen Cert.Adam

section Payloads

variable (g : Fin 8 → S1x20864.Idx → EReal) (w x v : S1x20864.Idx → EReal) (y : S1x20864.Idx)

/-- The sum over the devices as the call forms it. -/
abbrev sum8 : S1x20864.Idx → EReal := k0_pay3 (F := Ideal) (g 0) (g 1) (g 2) (g 3) (g 4) (g 5) (g 6) (g 7)

/-- The call stores the sum over the devices. -/
theorem pay_grad : sum8 g y = ∑ e, g e y := by
  rw [Fin.sum_univ_eight]
  unfold sum8 k0_pay3
  simp only [shapeCast_self]
  rfl

/-- The call stores the new first moment. -/
theorem pay_m : k0_pay6 (F := Ideal) (g 0) (g 1) (g 2) (g 3) (g 4) (g 5) (g 6) (g 7) x y = newM (sum8 g y) (x y) := by
  unfold k0_pay6 newM
  rw [shapeCast_self]
  rfl

/-- The call stores the new second moment. -/
theorem pay_v : k0_pay1 (F := Ideal) (sum8 g) (k0_pay5 v) k0_pay7 y = newV (sum8 g y) (v y) := by
  unfold k0_pay1 k0_pay5 k0_pay7 newV
  rw [shapeCast_self]
  rfl

/-- The call stores the change of the weights. -/
theorem pay_delta : k0_pay2 (F := Ideal) (sum8 g) (k0_pay4 w) (k0_pay5 v)
      (k0_pay6 (g 0) (g 1) (g 2) (g 3) (g 4) (g 5) (g 6) (g 7) x) k0_pay7 y
    = delta (w y) (sum8 g y) (x y) (v y) := by
  unfold delta
  rw [← pay_m, ← pay_v]
  unfold k0_pay2 k0_pay4
  rw [shapeCast_self]
  rfl

end Payloads

/-- The rows of the devices as the call reads them. -/
abbrev rows (x : S8x20864.Idx → EReal) : Fin 8 → S1x20864.Idx → EReal :=
  ![View.ld (Val := Elt Ideal) (e' := .f32) x r0_0, View.ld (Val := Elt Ideal) (e' := .f32) x r0_1,
    View.ld (Val := Elt Ideal) (e' := .f32) x r0_2, View.ld (Val := Elt Ideal) (e' := .f32) x r0_3,
    View.ld (Val := Elt Ideal) (e' := .f32) x r0_4, View.ld (Val := Elt Ideal) (e' := .f32) x r0_5,
    View.ld (Val := Elt Ideal) (e' := .f32) x r0_6, View.ld (Val := Elt Ideal) (e' := .f32) x r0_7]

/-- A row read from the block of the gradients. -/
theorem ld_row (x : S8x20864.Idx → EReal) (k : ℕ) (h : k < 8) (inb) (j : Fin 20864) :
    View.ld (Val := Elt Ideal) (e' := .f32) x (Rect.unit (s := S8x20864) ![k, 0] S1x20864.size inb) (ix2 0 j) = x (ix2 ⟨k, h⟩ j) := by
  refine congrArg x (funext fun a => Fin.ext ?_)
  fin_cases a
  · show k + 1 * 0 = k; omega
  · show 0 + 1 * j.val = j.val; omega

/-- Row `e` of the gradients. -/
theorem row_at (x : S8x20864.Idx → EReal) (e : Fin 8) (j : Fin 20864) : rows x e (ix2 0 j) = x (ix2 e j) := by
  fin_cases e
  exacts [ld_row x 0 _ _ j, ld_row x 1 _ _ j, ld_row x 2 _ _ j, ld_row x 3 _ _ j, ld_row x 4 _ _ j, ld_row x 5 _ _ j,
    ld_row x 6 _ _ j, ld_row x 7 _ _ j]

/-- A row is read whole. -/
theorem whole_at (x : S1x20864.Idx → EReal) (j : Fin 20864) :
    View.ld (Val := Elt Ideal) (e' := .f32) x r0_8 (ix2 0 j) = x (ix2 0 j) := by
  refine congrArg x (funext fun a => Fin.ext ?_)
  fin_cases a
  · rfl
  · show 0 + 1 * j.val = j.val; omega

section Stores

variable (x0 : S8x20864.Idx → EReal) (x1 x2 x3 : S1x20864.Idx → EReal) (j : Fin 20864)

/-- The first store: the sum of the rows. -/
theorem store_grad : k0_pay8 (F := Ideal) x0 x1 x2 x3 (ix2 0 j) = ∑ e : Fin 8, x0 (ix2 e j) :=
  (pay_grad (rows x0) _).trans (Finset.sum_congr rfl fun e _ => row_at x0 e j)

/-- The third store: the new first moments. -/
theorem store_m : k0_pay10 (F := Ideal) x0 x1 x2 x3 (ix2 0 j) = newM (∑ e : Fin 8, x0 (ix2 e j)) (x2 (ix2 0 j)) :=
  (pay_m (rows x0) (View.ld (Val := Elt Ideal) (e' := .f32) x2 r0_8) _).trans (congrArg₂ newM (store_grad x0 x1 x2 x3 j) (whole_at x2 j))

/-- The fourth store: the new second moments. -/
theorem store_v : k0_pay1 (F := Ideal) (k0_pay8 x0 x1 x2 x3) (k0_pay9 x0 x1 x2 x3) (k0_pay11 x0 x1 x2 x3) (ix2 0 j)
    = newV (∑ e : Fin 8, x0 (ix2 e j)) (x3 (ix2 0 j)) :=
  (pay_v (rows x0) (View.ld (Val := Elt Ideal) (e' := .f32) x3 r0_8) _).trans (congrArg₂ newV (store_grad x0 x1 x2 x3 j) (whole_at x3 j))

/-- The second store: the change of the weights. -/
theorem store_delta : k0_pay2 (F := Ideal) (k0_pay8 x0 x1 x2 x3) (k0_pay4 x1) (k0_pay9 x0 x1 x2 x3) (k0_pay10 x0 x1 x2 x3)
      (k0_pay11 x0 x1 x2 x3) (ix2 0 j)
    = delta (x1 (ix2 0 j)) (∑ e : Fin 8, x0 (ix2 e j)) (x2 (ix2 0 j)) (x3 (ix2 0 j)) := by
  refine (pay_delta (rows x0) x1 (View.ld (Val := Elt Ideal) (e' := .f32) x2 r0_8)
    (View.ld (Val := Elt Ideal) (e' := .f32) x3 r0_8) (ix2 0 j)).trans ?_
  rw [show sum8 (rows x0) (ix2 0 j) = _ from store_grad x0 x1 x2 x3 j, whole_at, whole_at]

end Stores

end Cert.Small
-- ==== Proof.Row.lean ====
/-
  The small weights side by side in one row.
-/
module

public import Idealize.ShloMosaic.Lib.Pipeline.ValueKit
public import Idealize.ShloMosaic.Lib.Pointwise
public import Idealize.ShloMosaic.Lib.KernelVsHost

@[expose] public section

set_option maxRecDepth 16384

noncomputable section

namespace Cert.Row

open Idealize.ShloMosaic

/-- One list of numbers for each of the nine small weights, the last two filled up to 128. -/
structure Parts where
  /-- The bias of the modulation. -/
  bias : Fin 12288 → EReal
  /-- The scale of the first norm. -/
  norm1 : Fin 2048 → EReal
  /-- The scale of the second norm. -/
  norm2 : Fin 2048 → EReal
  /-- The scale of the closing norm. -/
  close : Fin 2048 → EReal
  /-- The scale of the layer norm of the convolution branch. -/
  scale : Fin 1024 → EReal
  /-- The shift of that layer norm. -/
  shift : Fin 1024 → EReal
  /-- The scale of the head norm. -/
  head : Fin 128 → EReal
  /-- The logarithms of the decay rates. -/
  rate : Fin 128 → EReal
  /-- The biases of the step sizes. -/
  step : Fin 128 → EReal

/-- The lists one after the other. -/
def Parts.row (P : Parts) (j : Fin 20864) : EReal :=
  if h : j.val < 12288 then P.bias ⟨j.val, h⟩
  else if h : j.val < 14336 then P.norm1 ⟨j.val - 12288, by omega⟩
  else if h : j.val < 16384 then P.norm2 ⟨j.val - 14336, by omega⟩
  else if h : j.val < 18432 then P.close ⟨j.val - 16384, by omega⟩
  else if h : j.val < 19456 then P.scale ⟨j.val - 18432, by omega⟩
  else if h : j.val < 20480 then P.shift ⟨j.val - 19456, by omega⟩
  else if h : j.val < 20608 then P.head ⟨j.val - 20480, by omega⟩
  else if h : j.val < 20736 then P.rate ⟨j.val - 20608, by omega⟩
  else P.step ⟨j.val - 20736, by omega⟩

/-- The sums of eight of each list. -/
def Parts.sum (P : Fin 8 → Parts) : Parts where
  bias r := ∑ e, (P e).bias r
  norm1 r := ∑ e, (P e).norm1 r
  norm2 r := ∑ e, (P e).norm2 r
  close r := ∑ e, (P e).close r
  scale r := ∑ e, (P e).scale r
  shift r := ∑ e, (P e).shift r
  head r := ∑ e, (P e).head r
  rate r := ∑ e, (P e).rate r
  step r := ∑ e, (P e).step r

/-- Summing and laying side by side can be exchanged. -/
theorem Parts.row_sum (P : Fin 8 → Parts) (j : Fin 20864) : (Parts.sum P).row j = ∑ e, (P e).row j := by
  unfold Parts.row
  split_ifs <;> rfl

/-- Eight numbers filled up with zeros. -/
def fill (p : Fin 8 → EReal) (r : Fin 128) : EReal := if h : r.val < 8 then p ⟨r.val, h⟩ else 0

/-- Summing and filling up can be exchanged. -/
theorem fill_sum (p : Fin 8 → Fin 8 → EReal) : fill (fun r => ∑ e, p e r) = fun r => ∑ e, fill (p e) r := by
  funext r
  unfold fill
  split_ifs
  · rfl
  · exact Finset.sum_const_zero.symm

/-- A row of `n` numbers. -/
abbrev Flat (n : ℕ) : Shape := ⟨2, ![1, n]⟩
/-- A row of `n` numbers for each device. -/
abbrev Each (n : ℕ) : Shape := ⟨3, ![8, 1, n]⟩

/-- A row filled up with zeros. -/
theorem pad_flat (x : (Flat 8).Idx → EReal) (z : (⟨0, ![]⟩ : Shape).Idx → EReal) (hz : ∀ i, z i = 0)
    (hp : (Flat 8).Pads ![0, 0] ![0, 120] ![0, 0] (Flat 128)) (hu : 0 < (⟨0, ![]⟩ : Shape).numel) (r : Fin 128) :
    pad (Flat 128) ![0, 0] ![0, 120] ![0, 0] x z hp hu (ix2 0 r) = fill (fun k => x (ix2 0 k)) r := by
  unfold fill
  split_ifs with h
  · refine pad_apply_of_inside _ _ _ _ z hp hu (ix2 0 r) (ix2 0 ⟨r.val, h⟩) fun a => ?_
    fin_cases a
    · rfl
    · show r.val = 0 + r.val * (0 + 1); omega
  · refine (pad_apply_of_not_inside _ _ _ _ z hp hu (ix2 0 r) (1 : Fin 2) fun e => h ?_).trans (hz _)
    have e2 : (r.val - 0) / (0 + 1) < 8 := e.2.2
    omega

/-- A row for each device, filled up with zeros. -/
theorem pad_each (x : (Each 8).Idx → EReal) (z : (⟨0, ![]⟩ : Shape).Idx → EReal) (hz : ∀ i, z i = 0)
    (hp : (Each 8).Pads ![0, 0, 0] ![0, 0, 120] ![0, 0, 0] (Each 128)) (hu : 0 < (⟨0, ![]⟩ : Shape).numel) (e : Fin 8) (r : Fin 128) :
    pad (Each 128) ![0, 0, 0] ![0, 0, 120] ![0, 0, 0] x z hp hu (ix3 e 0 r) = fill (fun k => x (ix3 e 0 k)) r := by
  unfold fill
  split_ifs with h
  · refine pad_apply_of_inside _ _ _ _ z hp hu (ix3 e 0 r) (ix3 e 0 ⟨r.val, h⟩) fun a => ?_
    fin_cases a
    · show e.val = 0 + e.val * (0 + 1); omega
    · rfl
    · show r.val = 0 + r.val * (0 + 1); omega
  · refine (pad_apply_of_not_inside _ _ _ _ z hp hu (ix3 e 0 r) (2 : Fin 3) fun e => h ?_).trans (hz _)
    have e2 : (r.val - 0) / (0 + 1) < 8 := e.2.2
    omega

/-- If a row holds each list in its place, it holds the lists one after the other. -/
theorem row_of (T : Fin 20864 → EReal) (P : Parts) (h0 : ∀ r (j : Fin 20864), 0 + r.val = j.val → T j = P.bias r)
    (h1 : ∀ r (j : Fin 20864), 12288 + r.val = j.val → T j = P.norm1 r) (h2 : ∀ r (j : Fin 20864), 14336 + r.val = j.val → T j = P.norm2 r)
    (h3 : ∀ r (j : Fin 20864), 16384 + r.val = j.val → T j = P.close r) (h4 : ∀ r (j : Fin 20864), 18432 + r.val = j.val → T j = P.scale r)
    (h5 : ∀ r (j : Fin 20864), 19456 + r.val = j.val → T j = P.shift r) (h6 : ∀ r (j : Fin 20864), 20480 + r.val = j.val → T j = P.head r)
    (h7 : ∀ r (j : Fin 20864), 20608 + r.val = j.val → T j = P.rate r) (h8 : ∀ r (j : Fin 20864), 20736 + r.val = j.val → T j = P.step r)
    (j : Fin 20864) : T j = P.row j := by
  unfold Parts.row
  split_ifs
  · exact h0 _ j (by simp only; omega)
  · exact h1 _ j (by simp only; omega)
  · exact h2 _ j (by simp only; omega)
  · exact h3 _ j (by simp only; omega)
  · exact h4 _ j (by simp only; omega)
  · exact h5 _ j (by simp only; omega)
  · exact h6 _ j (by simp only; omega)
  · exact h7 _ j (by simp only; omega)
  · exact h8 _ j (by simp only; omega)

/-- Nine rows for a shape of rows. -/
abbrev nine (S : ℕ → Shape) (p0 : (S 12288).Idx → EReal) (p1 p2 p3 : (S 2048).Idx → EReal) (p4 p5 : (S 1024).Idx → EReal)
    (p6 p7 p8 : (S 128).Idx → EReal) : List ((s : Shape) × (s.Idx → EReal)) :=
  [⟨S 12288, p0⟩, ⟨S 2048, p1⟩, ⟨S 2048, p2⟩, ⟨S 2048, p3⟩, ⟨S 1024, p4⟩, ⟨S 1024, p5⟩, ⟨S 128, p6⟩, ⟨S 128, p7⟩, ⟨S 128, p8⟩]

/-- Rows side by side: column `j` is column `r` of piece `k` if `pre` columns are to the left of that piece. -/
theorem flat_piece {w : ℕ} (xs : List ((s : Shape) × (s.Idx → EReal))) (h : Shape.Concatenates (xs.map (·.1)) (Flat 20864) 1)
    (k : ℕ) (hk : k < xs.length) (x : (Flat w).Idx → EReal) (hx : xs[k] = ⟨Flat w, x⟩) (pre : ℕ)
    (hpre : (((xs.take k).map (·.1)).map fun s => if h : s.rank = 2 then s.size ((1 : Fin 2).cast h.symm) else 0).sum = pre)
    (r : Fin w) (j : Fin 20864) (hr : pre + r.val = j.val) : concatenate (Flat 20864) 1 xs h (ix2 0 j) = x (ix2 0 r) := by
  refine concatenate_apply_piece (t := Flat 20864) (1 : Fin 2) xs h (ix2 0 j) k hk (Flat w) x hx rfl pre hpre (ix2 0 r) (fun b hb => ?_) hr
  fin_cases b
  · rfl
  · exact absurd rfl hb

/-- The same of the rows of all devices. -/
theorem each_piece {w : ℕ} (xs : List ((s : Shape) × (s.Idx → EReal))) (h : Shape.Concatenates (xs.map (·.1)) (Each 20864) 2) (e : Fin 8)
    (k : ℕ) (hk : k < xs.length) (x : (Each w).Idx → EReal) (hx : xs[k] = ⟨Each w, x⟩) (pre : ℕ)
    (hpre : (((xs.take k).map (·.1)).map fun s => if h : s.rank = 3 then s.size ((2 : Fin 3).cast h.symm) else 0).sum = pre)
    (r : Fin w) (j : Fin 20864) (hr : pre + r.val = j.val) : concatenate (Each 20864) 2 xs h (ix3 e 0 j) = x (ix3 e 0 r) := by
  refine concatenate_apply_piece (t := Each 20864) (2 : Fin 3) xs h (ix3 e 0 j) k hk (Each w) x hx rfl pre hpre (ix3 e 0 r) (fun b hb => ?_) hr
  fin_cases b
  · rfl
  · rfl
  · exact absurd rfl hb

/-- Nine rows side by side. -/
theorem flat_row (p0 : (Flat 12288).Idx → EReal) (p1 p2 p3 : (Flat 2048).Idx → EReal) (p4 p5 : (Flat 1024).Idx → EReal)
    (p6 p7 p8 : (Flat 128).Idx → EReal) (h) (j : Fin 20864) :
    concatenate (Flat 20864) 1 (nine Flat p0 p1 p2 p3 p4 p5 p6 p7 p8) h (ix2 0 j)
      = Parts.row ⟨fun r => p0 (ix2 0 r), fun r => p1 (ix2 0 r), fun r => p2 (ix2 0 r), fun r => p3 (ix2 0 r), fun r => p4 (ix2 0 r),
          fun r => p5 (ix2 0 r), fun r => p6 (ix2 0 r), fun r => p7 (ix2 0 r), fun r => p8 (ix2 0 r)⟩ j :=
  have n : (nine Flat p0 p1 p2 p3 p4 p5 p6 p7 p8).length = 9 := rfl
  row_of (fun j => concatenate (Flat 20864) 1 (nine Flat p0 p1 p2 p3 p4 p5 p6 p7 p8) h (ix2 0 j)) _
    (flat_piece _ h 0 (by omega) p0 rfl 0 rfl) (flat_piece _ h 1 (by omega) p1 rfl 12288 rfl) (flat_piece _ h 2 (by omega) p2 rfl 14336 rfl)
    (flat_piece _ h 3 (by omega) p3 rfl 16384 rfl) (flat_piece _ h 4 (by omega) p4 rfl 18432 rfl) (flat_piece _ h 5 (by omega) p5 rfl 19456 rfl)
    (flat_piece _ h 6 (by omega) p6 rfl 20480 rfl) (flat_piece _ h 7 (by omega) p7 rfl 20608 rfl) (flat_piece _ h 8 (by omega) p8 rfl 20736 rfl) j

set_option maxHeartbeats 1000000 in
/-- Nine rows of each device side by side. -/
theorem each_row (p0 : (Each 12288).Idx → EReal) (p1 p2 p3 : (Each 2048).Idx → EReal) (p4 p5 : (Each 1024).Idx → EReal)
    (p6 p7 p8 : (Each 128).Idx → EReal) (h) (e : Fin 8) (j : Fin 20864) :
    concatenate (Each 20864) 2 (nine Each p0 p1 p2 p3 p4 p5 p6 p7 p8) h (ix3 e 0 j)
      = Parts.row ⟨fun r => p0 (ix3 e 0 r), fun r => p1 (ix3 e 0 r), fun r => p2 (ix3 e 0 r), fun r => p3 (ix3 e 0 r),
          fun r => p4 (ix3 e 0 r), fun r => p5 (ix3 e 0 r), fun r => p6 (ix3 e 0 r), fun r => p7 (ix3 e 0 r), fun r => p8 (ix3 e 0 r)⟩ j :=
  have n : (nine Each p0 p1 p2 p3 p4 p5 p6 p7 p8).length = 9 := rfl
  row_of (fun j => concatenate (Each 20864) 2 (nine Each p0 p1 p2 p3 p4 p5 p6 p7 p8) h (ix3 e 0 j)) _
    (each_piece _ h e 0 (by omega) p0 rfl 0 rfl) (each_piece _ h e 1 (by omega) p1 rfl 12288 rfl) (each_piece _ h e 2 (by omega) p2 rfl 14336 rfl)
    (each_piece _ h e 3 (by omega) p3 rfl 16384 rfl) (each_piece _ h e 4 (by omega) p4 rfl 18432 rfl)
    (each_piece _ h e 5 (by omega) p5 rfl 19456 rfl) (each_piece _ h e 6 (by omega) p6 rfl 20480 rfl)
    (each_piece _ h e 7 (by omega) p7 rfl 20608 rfl) (each_piece _ h e 8 (by omega) p8 rfl 20736 rfl) j

end Cert.Row
-- ==== Proof.Pack.lean ====
/-
  How the small weights get into their row: in the call, where each device lays its gradients side by side, and in the
  reference, where the sums over the devices are laid side by side.
-/
module

public import Idealize.ShloMosaic.Lib.Pipeline.ValueKit
public import Idealize.ShloMosaic.Lib.Pointwise
public import Idealize.ShloMosaic.Lib.KernelVsHost
public import proofs.«01_k».proof.Proof.Row

@[expose] public section

set_option maxRecDepth 16384

noncomputable section

namespace Cert.Pack

open Idealize.ShloMosaic Cert.Row

/-- A list of `n` numbers. -/
abbrev List1 (n : ℕ) : Shape := ⟨1, ![n]⟩
/-- `n` numbers for each device. -/
abbrev Mat (n : ℕ) : Shape := ⟨2, ![8, n]⟩
/-- A single number. -/
abbrev One : Shape := ⟨0, ![]⟩
/-- The value with which a row is filled up. -/
abbrev zero : One.Idx → EReal := sitofp (F := Ideal) .f32 (constantI One 32 0#32)

/-- The value with which a row is filled up is zero. -/
theorem zero_eq (i : One.Idx) : zero i = 0 := by
  show (((0#32 : BitVec 32).toInt : ℝ) : EReal) = 0
  simp

/-- A list as a row. -/
theorem flat_at {n : ℕ} (x : (List1 n).Idx → EReal) (h : (List1 n).ShapeCasts (Flat n)) (r : Fin n) :
    shapeCast (Flat n) x h (ix2 0 r) = x (ix1 r) := by
  refine shapeCast_apply x h _ _ ?_
  rw [Shape.rowMajor_val_one, Shape.rowMajor_val_two]
  show r.val = 0 * n + r.val
  omega

/-- A row for each device as the rows of a matrix. -/
theorem each_at {n : ℕ} (x : (Mat n).Idx → EReal) (h : (Mat n).ShapeCasts (Each n)) (e : Fin 8) (r : Fin n) :
    shapeCast (Each n) x h (ix3 e 0 r) = x (ix2 e r) := by
  refine shapeCast_apply x h _ _ ?_
  rw [Shape.rowMajor_val_two, Shape.rowMajor_val_three]
  show e.val * n + r.val = (e.val * 1 + 0) * n + r.val
  simp

/-- The rows of a matrix as a row for each device. -/
theorem mat_at {n : ℕ} (x : (Each n).Idx → EReal) (h : (Each n).ShapeCasts (Mat n)) (e : Fin 8) (r : Fin n) :
    shapeCast (Mat n) x h (ix2 e r) = x (ix3 e 0 r) := by
  refine shapeCast_apply x h _ _ ?_
  rw [Shape.rowMajor_val_two, Shape.rowMajor_val_three]
  show (e.val * 1 + 0) * n + r.val = e.val * n + r.val
  simp

/-- The sum over the devices, as a row. -/
theorem sum_at {n : ℕ} (x : (Mat n).Idx → EReal) (hr : (Mat n).ReducesTo [0] (List1 n)) (hu : 0 < One.numel)
    (h : (List1 n).ShapeCasts (Flat n)) (r : Fin n) :
    shapeCast (Flat n) (Host.reduceAdd (F := Ideal) (φ := .f32) x (constant One .f32 0x00000000#32) hr hu) h (ix2 0 r)
      = ∑ e : Fin 8, x (ix2 e r) := by
  rw [flat_at]
  pointwise

/-- The nine weights of a device as lists: all but one are rows already. -/
def lists (b : (Flat 12288).Idx → EReal) (n₁ n₂ : (Flat 2048).Idx → EReal) (l : (List1 2048).Idx → EReal)
    (s t : (Flat 1024).Idx → EReal) (h : (Flat 128).Idx → EReal) (a d : (Flat 8).Idx → EReal) : Parts where
  bias r := b (ix2 0 r)
  norm1 r := n₁ (ix2 0 r)
  norm2 r := n₂ (ix2 0 r)
  close r := l (ix1 r)
  scale r := s (ix2 0 r)
  shift r := t (ix2 0 r)
  head r := h (ix2 0 r)
  rate := fill fun k => a (ix2 0 k)
  step := fill fun k => d (ix2 0 k)

/-- The nine gradients of one device as lists. -/
def grads (b : (Mat 12288).Idx → EReal) (n₁ n₂ l : (Mat 2048).Idx → EReal) (s t : (Mat 1024).Idx → EReal)
    (h : (Mat 128).Idx → EReal) (a d : (Mat 8).Idx → EReal) (e : Fin 8) : Parts where
  bias r := b (ix2 e r)
  norm1 r := n₁ (ix2 e r)
  norm2 r := n₂ (ix2 e r)
  close r := l (ix2 e r)
  scale r := s (ix2 e r)
  shift r := t (ix2 e r)
  head r := h (ix2 e r)
  rate := fill fun k => a (ix2 e k)
  step := fill fun k => d (ix2 e k)

/-- The weights laid side by side. -/
theorem lists_row {p0 : (Flat 12288).Idx → EReal} {p1 p2 p3 : (Flat 2048).Idx → EReal} {p4 p5 : (Flat 1024).Idx → EReal}
    {p6 p7 p8 : (Flat 128).Idx → EReal} {b : (Flat 12288).Idx → EReal} {n₁ n₂ : (Flat 2048).Idx → EReal} {l : (List1 2048).Idx → EReal}
    {s t : (Flat 1024).Idx → EReal} {h : (Flat 128).Idx → EReal} {a d : (Flat 8).Idx → EReal} {hl : (List1 2048).ShapeCasts (Flat 2048)}
    {hp : (Flat 8).Pads ![0, 0] ![0, 120] ![0, 0] (Flat 128)} {hu : 0 < One.numel} (e0 : p0 = b) (e1 : p1 = n₁) (e2 : p2 = n₂)
    (e3 : p3 = shapeCast (Flat 2048) l hl) (e4 : p4 = s) (e5 : p5 = t) (e6 : p6 = h)
    (e7 : p7 = pad (Flat 128) ![0, 0] ![0, 120] ![0, 0] a zero hp hu) (e8 : p8 = pad (Flat 128) ![0, 0] ![0, 120] ![0, 0] d zero hp hu)
    (hc) (j : Fin 20864) :
    concatenate (Flat 20864) 1 (nine Flat p0 p1 p2 p3 p4 p5 p6 p7 p8) hc (ix2 0 j) = (lists b n₁ n₂ l s t h a d).row j := by
  subst e0 e1 e2 e3 e4 e5 e6 e7 e8
  rw [flat_row]
  unfold lists
  simp only [flat_at, pad_flat _ _ zero_eq]

/-- The gradients laid side by side on each device. -/
theorem grads_row {p0 : (Each 12288).Idx → EReal} {p1 p2 p3 : (Each 2048).Idx → EReal} {p4 p5 : (Each 1024).Idx → EReal}
    {p6 p7 p8 : (Each 128).Idx → EReal} {b : (Mat 12288).Idx → EReal} {n₁ n₂ l : (Mat 2048).Idx → EReal} {s t : (Mat 1024).Idx → EReal}
    {h : (Mat 128).Idx → EReal} {a d : (Mat 8).Idx → EReal} {hb : (Mat 12288).ShapeCasts (Each 12288)}
    {hn : (Mat 2048).ShapeCasts (Each 2048)} {hs : (Mat 1024).ShapeCasts (Each 1024)} {hh : (Mat 128).ShapeCasts (Each 128)}
    {ha : (Mat 8).ShapeCasts (Each 8)} {hp : (Each 8).Pads ![0, 0, 0] ![0, 0, 120] ![0, 0, 0] (Each 128)} {hu : 0 < One.numel}
    (e0 : p0 = shapeCast (Each 12288) b hb) (e1 : p1 = shapeCast (Each 2048) n₁ hn) (e2 : p2 = shapeCast (Each 2048) n₂ hn)
    (e3 : p3 = shapeCast (Each 2048) l hn) (e4 : p4 = shapeCast (Each 1024) s hs) (e5 : p5 = shapeCast (Each 1024) t hs)
    (e6 : p6 = shapeCast (Each 128) h hh)
    (e7 : p7 = pad (Each 128) ![0, 0, 0] ![0, 0, 120] ![0, 0, 0] (shapeCast (Each 8) a ha) zero hp hu)
    (e8 : p8 = pad (Each 128) ![0, 0, 0] ![0, 0, 120] ![0, 0, 0] (shapeCast (Each 8) d ha) zero hp hu) (hc) (e : Fin 8) (j : Fin 20864) :
    concatenate (Each 20864) 2 (nine Each p0 p1 p2 p3 p4 p5 p6 p7 p8) hc (ix3 e 0 j) = (grads b n₁ n₂ l s t h a d e).row j := by
  subst e0 e1 e2 e3 e4 e5 e6 e7 e8
  rw [each_row]
  unfold grads
  simp only [each_at, pad_each _ _ zero_eq]

/-- The sum over the devices. -/
abbrev total {n : ℕ} (x : (Mat n).Idx → EReal) (hr : (Mat n).ReducesTo [0] (List1 n)) (hu : 0 < One.numel)
    (h : (List1 n).ShapeCasts (Flat n)) : (Flat n).Idx → EReal :=
  shapeCast (Flat n) (Host.reduceAdd (F := Ideal) (φ := .f32) x (constant One .f32 0x00000000#32) hr hu) h

/-- The sums over the devices laid side by side are the sum of the devices' rows. -/
theorem totals_row (b : (Mat 12288).Idx → EReal) (n₁ n₂ l : (Mat 2048).Idx → EReal) (s t : (Mat 1024).Idx → EReal)
    (h : (Mat 128).Idx → EReal) (a d : (Mat 8).Idx → EReal)
    (rb : (Mat 12288).ReducesTo [0] (List1 12288)) (rn : (Mat 2048).ReducesTo [0] (List1 2048))
    (rs : (Mat 1024).ReducesTo [0] (List1 1024)) (rh : (Mat 128).ReducesTo [0] (List1 128)) (ra : (Mat 8).ReducesTo [0] (List1 8))
    (hb : (List1 12288).ShapeCasts (Flat 12288)) (hn : (List1 2048).ShapeCasts (Flat 2048))
    (hs : (List1 1024).ShapeCasts (Flat 1024)) (hh : (List1 128).ShapeCasts (Flat 128)) (ha : (List1 8).ShapeCasts (Flat 8))
    (hp : (Flat 8).Pads ![0, 0] ![0, 120] ![0, 0] (Flat 128)) (hu : 0 < One.numel) (hc) (j : Fin 20864) :
    concatenate (Flat 20864) 1 (nine Flat (total b rb hu hb) (total n₁ rn hu hn) (total n₂ rn hu hn) (total l rn hu hn)
        (total s rs hu hs) (total t rs hu hs) (total h rh hu hh)
        (pad (Flat 128) ![0, 0] ![0, 120] ![0, 0] (total a ra hu ha) zero hp hu)
        (pad (Flat 128) ![0, 0] ![0, 120] ![0, 0] (total d ra hu ha) zero hp hu)) hc (ix2 0 j)
      = ∑ e, (grads b n₁ n₂ l s t h a d e).row j := by
  rw [flat_row, ← Parts.row_sum]
  unfold Parts.sum grads total
  simp only [sum_at, pad_flat _ _ zero_eq, fill_sum]

end Cert.Pack
-- ==== Proof.SmallRef.lean ====
/-
  What the reference of the optimiser step of the small weights computes.
-/
module

public import proofs.«01_k».proof.Defs
public import proofs.«01_k».proof.Proof.Gen.SmallReferenceIdeal
public import proofs.«01_k».proof.Proof.Gen.SmallReferenceIdeal.Run
public import Idealize.ShloMosaic.Lib.Pipeline.ValueKit
public import Idealize.ShloMosaic.Lib.Quiescent
public import proofs.«01_k».proof.Proof.Adam
public import proofs.«01_k».proof.Proof.Pack

@[expose] public section

set_option maxRecDepth 16384

noncomputable section

namespace Cert.SmallRef

open Idealize.ShloMosaic Idealize.ShloMosaic.TcCoe Idealize.SL.Sem
open Cert.SmallReferenceIdeal Cert.SmallReferenceIdeal.Gen Cert.Adam Cert.Pack

variable (m : (ℓ : Loc nD τ sig) → Buf (Elt Ideal) ℓ) (c : Dev nD)

/-- The summed gradients in a row. -/
def sums : S1x20864.Idx → EReal :=
  concatenate S1x20864 1 (Row.nine Row.Flat (total (m ((c : Thread nD τ).loc main_arg0)) reducesTo_S8x12288_S12288_d0 h_S_ shapeCasts_S12288_S1x12288)
    (total (m ((c : Thread nD τ).loc main_arg1)) reducesTo_S8x2048_S2048_d0 h_S_ shapeCasts_S2048_S1x2048)
    (total (m ((c : Thread nD τ).loc main_arg2)) reducesTo_S8x2048_S2048_d0 h_S_ shapeCasts_S2048_S1x2048)
    (total (m ((c : Thread nD τ).loc main_arg3)) reducesTo_S8x2048_S2048_d0 h_S_ shapeCasts_S2048_S1x2048)
    (total (m ((c : Thread nD τ).loc main_arg4)) reducesTo_S8x1024_S1024_d0 h_S_ shapeCasts_S1024_S1x1024)
    (total (m ((c : Thread nD τ).loc main_arg5)) reducesTo_S8x1024_S1024_d0 h_S_ shapeCasts_S1024_S1x1024)
    (total (m ((c : Thread nD τ).loc main_arg6)) reducesTo_S8x128_S128_d0 h_S_ shapeCasts_S128_S1x128)
    (pad S1x128 ![0, 0] ![0, 120] ![0, 0] (total (m ((c : Thread nD τ).loc main_arg7)) reducesTo_S8x8_S8_d0 h_S_ shapeCasts_S8_S1x8) zero pads_S1x8_S1x128_000_01200 h_S_)
    (pad S1x128 ![0, 0] ![0, 120] ![0, 0] (total (m ((c : Thread nD τ).loc main_arg8)) reducesTo_S8x8_S8_d0 h_S_ shapeCasts_S8_S1x8) zero pads_S1x8_S1x128_000_01200 h_S_))
    concatenates_S1x12288_S1x2048_S1x2048_S1x2048_S1x1024_S1x1024_S1x128_S1x128_S1x128_S1x20864_d1

/-- The weights in a row. -/
def weights : S1x20864.Idx → EReal :=
  concatenate S1x20864 1 (Row.nine Row.Flat (m ((c : Thread nD τ).loc main_arg9))
    (m ((c : Thread nD τ).loc main_arg10))
    (m ((c : Thread nD τ).loc main_arg11))
    (shapeCast S1x2048 (m ((c : Thread nD τ).loc main_arg12)) shapeCasts_S2048_S1x2048)
    (m ((c : Thread nD τ).loc main_arg13))
    (m ((c : Thread nD τ).loc main_arg14))
    (m ((c : Thread nD τ).loc main_arg15))
    (pad S1x128 ![0, 0] ![0, 120] ![0, 0] (m ((c : Thread nD τ).loc main_arg16)) zero pads_S1x8_S1x128_000_01200 h_S_)
    (pad S1x128 ![0, 0] ![0, 120] ![0, 0] (m ((c : Thread nD τ).loc main_arg17)) zero pads_S1x8_S1x128_000_01200 h_S_))
    concatenates_S1x12288_S1x2048_S1x2048_S1x2048_S1x1024_S1x1024_S1x128_S1x128_S1x128_S1x20864_d1

/-- The first moments in a row. -/
def firsts : S1x20864.Idx → EReal :=
  concatenate S1x20864 1 (Row.nine Row.Flat (m ((c : Thread nD τ).loc main_arg18))
    (m ((c : Thread nD τ).loc main_arg19))
    (m ((c : Thread nD τ).loc main_arg20))
    (shapeCast S1x2048 (m ((c : Thread nD τ).loc main_arg21)) shapeCasts_S2048_S1x2048)
    (m ((c : Thread nD τ).loc main_arg22))
    (m ((c : Thread nD τ).loc main_arg23))
    (m ((c : Thread nD τ).loc main_arg24))
    (pad S1x128 ![0, 0] ![0, 120] ![0, 0] (m ((c : Thread nD τ).loc main_arg25)) zero pads_S1x8_S1x128_000_01200 h_S_)
    (pad S1x128 ![0, 0] ![0, 120] ![0, 0] (m ((c : Thread nD τ).loc main_arg26)) zero pads_S1x8_S1x128_000_01200 h_S_))
    concatenates_S1x12288_S1x2048_S1x2048_S1x2048_S1x1024_S1x1024_S1x128_S1x128_S1x128_S1x20864_d1

/-- The second moments in a row. -/
def seconds : S1x20864.Idx → EReal :=
  concatenate S1x20864 1 (Row.nine Row.Flat (m ((c : Thread nD τ).loc main_arg27))
    (m ((c : Thread nD τ).loc main_arg28))
    (m ((c : Thread nD τ).loc main_arg29))
    (shapeCast S1x2048 (m ((c : Thread nD τ).loc main_arg30)) shapeCasts_S2048_S1x2048)
    (m ((c : Thread nD τ).loc main_arg31))
    (m ((c : Thread nD τ).loc main_arg32))
    (m ((c : Thread nD τ).loc main_arg33))
    (pad S1x128 ![0, 0] ![0, 120] ![0, 0] (m ((c : Thread nD τ).loc main_arg34)) zero pads_S1x8_S1x128_000_01200 h_S_)
    (pad S1x128 ![0, 0] ![0, 120] ![0, 0] (m ((c : Thread nD τ).loc main_arg35)) zero pads_S1x8_S1x128_000_01200 h_S_))
    concatenates_S1x12288_S1x2048_S1x2048_S1x2048_S1x1024_S1x1024_S1x128_S1x128_S1x128_S1x20864_d1

/-- The sums are those of the devices' rows. -/
theorem sums_at (j : Fin 20864) : sums m c (ix2 0 j) = ∑ e, (grads (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8)) e).row j :=
  totals_row _ _ _ _ _ _ _ _ _ _ _ _ _ _ _ _ _ _ _ _ _ _ j

/-- The weights, list after list. -/
theorem weights_at (j : Fin 20864) : weights m c (ix2 0 j) = (lists (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))).row j :=
  lists_row rfl rfl rfl rfl rfl rfl rfl (hp := pads_S1x8_S1x128_000_01200) (hu := h_S_) rfl rfl _ j

/-- The first moments, list after list. -/
theorem firsts_at (j : Fin 20864) : firsts m c (ix2 0 j) = (lists (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26))).row j :=
  lists_row rfl rfl rfl rfl rfl rfl rfl (hp := pads_S1x8_S1x128_000_01200) (hu := h_S_) rfl rfl _ j

/-- The second moments, list after list. -/
theorem seconds_at (j : Fin 20864) : seconds m c (ix2 0 j) = (lists (m ((c : Thread nD τ).loc main_arg27))
    (m ((c : Thread nD τ).loc main_arg28))
    (m ((c : Thread nD τ).loc main_arg29))
    (m ((c : Thread nD τ).loc main_arg30))
    (m ((c : Thread nD τ).loc main_arg31))
    (m ((c : Thread nD τ).loc main_arg32))
    (m ((c : Thread nD τ).loc main_arg33))
    (m ((c : Thread nD τ).loc main_arg34))
    (m ((c : Thread nD τ).loc main_arg35))).row j :=
  lists_row rfl rfl rfl rfl rfl rfl rfl (hp := pads_S1x8_S1x128_000_01200) (hu := h_S_) rfl rfl _ j

/-- The reference's changes, element by element. -/
theorem delta_eq : SmallReferenceIdeal.Value.res_main_v56 m c
    = fun y => delta (weights m c y) (sums m c y) (firsts m c y) (seconds m c y) := rfl

/-- The reference's new second moments, element by element. -/
theorem v_eq : SmallReferenceIdeal.Value.res_main_v43 m c = fun y => newV (sums m c y) (seconds m c y) := rfl

/-- The reference's new first moments, element by element. -/
theorem m_eq : addf (F := Ideal) (φ := .f32) (mulf (broadcastInDim S1x20864 ![] bcast_S_S1x20864 (constant S_ .f32 0x3F666666#32)) (firsts m c))
      (mulf (broadcastInDim S1x20864 ![] bcast_S_S1x20864 (constant S_ .f32 0x3DCCCCCD#32)) (sums m c))
    = fun y => newM (sums m c y) (firsts m c y) := rfl

/-- The reference runs, leaves its arguments alone and ends with every counter at zero. -/
theorem frame_reference : Cert.quiescent_SmallReferenceIdeal := fun m ρ _ =>
  (θ_run SmallReferenceIdeal.defs _ _).mono
    (fun r h => ⟨fun c => (h c).2.2.2.2, sem_eq_zero_of_no_sems (by decide) r.2⟩) (SmallReferenceIdeal.Value.run m ρ)

end Cert.SmallRef
-- ==== Proof.SmallEntry.lean ====
/-
  What the optimiser step of the small weights finds: rows made by the operations before it.
-/
module

public import proofs.«01_k».proof.Defs
public import proofs.«01_k».proof.Proof.Gen.SmallIdeal
public import proofs.«01_k».proof.Proof.Gen.SmallIdeal.Frame
public import proofs.«01_k».proof.Proof.Gen.SmallIdeal.Value
public import Idealize.ShloMosaic.Lib.Pipeline.ValueKit
public import Idealize.ShloMosaic.Lib.Quiescent
public import Idealize.ShloMosaic.Lib.Pointwise
public import proofs.«01_k».proof.Proof.Pack

@[expose] public section

set_option maxRecDepth 16384

noncomputable section

namespace Cert.Small

open Idealize.ShloMosaic Idealize.ShloMosaic.TcCoe Idealize.SL.Sem
open Cert.SmallIdeal Cert.SmallIdeal.Gen Cert.SmallIdeal.Value Cert.Pack

variable (m : (ℓ : Loc nD τ sig) → Buf (Elt Ideal) ℓ) (c : Dev nD)

/-- The gradients of one device. -/
def G (e : Fin 8) : Row.Parts :=
  grads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) e
/-- The weights. -/
def W : Row.Parts :=
  lists (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
/-- The first moments. -/
def M : Row.Parts :=
  lists (m ((c : Thread nD τ).loc main_arg18)) (m ((c : Thread nD τ).loc main_arg19)) (m ((c : Thread nD τ).loc main_arg20))
    (m ((c : Thread nD τ).loc main_arg21)) (m ((c : Thread nD τ).loc main_arg22)) (m ((c : Thread nD τ).loc main_arg23))
    (m ((c : Thread nD τ).loc main_arg24)) (m ((c : Thread nD τ).loc main_arg25)) (m ((c : Thread nD τ).loc main_arg26))
/-- The second moments. -/
def N : Row.Parts :=
  lists (m ((c : Thread nD τ).loc main_arg27)) (m ((c : Thread nD τ).loc main_arg28)) (m ((c : Thread nD τ).loc main_arg29))
    (m ((c : Thread nD τ).loc main_arg30)) (m ((c : Thread nD τ).loc main_arg31)) (m ((c : Thread nD τ).loc main_arg32))
    (m ((c : Thread nD τ).loc main_arg33)) (m ((c : Thread nD τ).loc main_arg34)) (m ((c : Thread nD τ).loc main_arg35))

/-- The operations before the call split in two: what the second part starts from can be left open. -/
theorem split (n : ℕ) : ∃ W : Valuation τ sig (Elt Ideal), ∀ b : Ref sig .tc, V m c b = StableHlo.after (List.drop n
    [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16].flatten) W b :=
  ⟨StableHlo.after (List.take n
    [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15, hostOps0_16].flatten) fun b => m (c, b), fun b => by
    rw [← StableHlo.after_append, List.take_append_drop]; rfl⟩

set_option maxHeartbeats 2000000 in
/-- The gradients laid side by side. -/
theorem cat_g : ∃ h, V m c main_v11 = concatenate S8x1x20864 2 (Row.nine Row.Each (V m c main_v0) (V m c main_v1) (V m c main_v2) (V m c main_v3) (V m c main_v4) (V m c main_v5) (V m c main_v6) (V m c main_v8) (V m c main_v10)) h := by
  refine ⟨concatenates_S8x1x12288_S8x1x2048_S8x1x2048_S8x1x2048_S8x1x1024_S8x1x1024_S8x1x128_S8x1x128_S8x1x128_S8x1x20864_d2, ?_⟩
  obtain ⟨W, hW⟩ := split m c 15
  rw [show V m c = _ from funext hW]
  rfl

set_option maxHeartbeats 2000000 in
/-- The weights laid side by side. -/
theorem cat_w : ∃ h, V m c main_v16 = concatenate S1x20864 1 (Row.nine Row.Flat (V m c main_arg9) (V m c main_arg10) (V m c main_arg11) (V m c main_v13) (V m c main_arg13) (V m c main_arg14) (V m c main_arg15) (V m c main_v14) (V m c main_v15)) h := by
  refine ⟨concatenates_S1x12288_S1x2048_S1x2048_S1x2048_S1x1024_S1x1024_S1x128_S1x128_S1x128_S1x20864_d1, ?_⟩
  obtain ⟨W, hW⟩ := split m c 24
  rw [show V m c = _ from funext hW]
  rfl

set_option maxHeartbeats 2000000 in
/-- The first moments laid side by side. -/
theorem cat_m : ∃ h, V m c main_v20 = concatenate S1x20864 1 (Row.nine Row.Flat (V m c main_arg18) (V m c main_arg19) (V m c main_arg20) (V m c main_v17) (V m c main_arg22) (V m c main_arg23) (V m c main_arg24) (V m c main_v18) (V m c main_v19)) h := by
  refine ⟨concatenates_S1x12288_S1x2048_S1x2048_S1x2048_S1x1024_S1x1024_S1x128_S1x128_S1x128_S1x20864_d1, ?_⟩
  obtain ⟨W, hW⟩ := split m c 32
  rw [show V m c = _ from funext hW]
  rfl

set_option maxHeartbeats 2000000 in
/-- The second moments laid side by side. -/
theorem cat_v : ∃ h, V m c main_v24 = concatenate S1x20864 1 (Row.nine Row.Flat (V m c main_arg27) (V m c main_arg28) (V m c main_arg29) (V m c main_v21) (V m c main_arg31) (V m c main_arg32) (V m c main_arg33) (V m c main_v22) (V m c main_v23)) h := by
  refine ⟨concatenates_S1x12288_S1x2048_S1x2048_S1x2048_S1x1024_S1x1024_S1x128_S1x128_S1x128_S1x20864_d1, ?_⟩
  obtain ⟨W, hW⟩ := split m c 40
  rw [show V m c = _ from funext hW]
  rfl

/-- The rows of the devices one below the other. -/
theorem mat_g : V m c main_v12 = shapeCast S8x20864 (V m c main_v11 : S8x1x20864.Idx → EReal) shapeCasts_S8x1x20864_S8x20864 := by
  obtain ⟨W, hW⟩ := split m c 16
  rw [show V m c = _ from funext hW]
  rfl

set_option maxHeartbeats 2000000 in
/-- The gradients as the call finds them. -/
theorem entry_g (e : Fin 8) (j : Fin 20864) : (V m c main_v12 : S8x20864.Idx → EReal) (ix2 e j) = (G m c e).row j := by
  obtain ⟨h, hg⟩ := cat_g m c
  refine (congrFun (mat_g m c) _).trans ((mat_at _ _ e j).trans ((congrFun hg _).trans ?_))
  exact grads_row (hp := pads_S8x1x8_S8x1x128_000_000_01200) (hu := h_S_) (by entry_read; rfl) (by entry_read; rfl) (by entry_read; rfl) (by entry_read; rfl) (by entry_read; rfl)
    (by entry_read; rfl) (by entry_read; rfl) (by entry_read; rfl) (by entry_read; rfl) h e j

set_option maxHeartbeats 2000000 in
/-- The weights as the call finds them. -/
theorem entry_w (j : Fin 20864) : (V m c main_v16 : S1x20864.Idx → EReal) (ix2 0 j) = (W m c).row j := by
  obtain ⟨h, hg⟩ := cat_w m c
  refine (congrFun hg _).trans ?_
  exact lists_row (hp := pads_S1x8_S1x128_000_01200) (hu := h_S_) (V_main_arg9 m c) (V_main_arg10 m c) (V_main_arg11 m c) (by entry_read; rfl) (V_main_arg13 m c) (V_main_arg14 m c) (V_main_arg15 m c)
    (by entry_read; rfl) (by entry_read; rfl) h j

set_option maxHeartbeats 2000000 in
/-- The first moments as the call finds them. -/
theorem entry_m (j : Fin 20864) : (V m c main_v20 : S1x20864.Idx → EReal) (ix2 0 j) = (M m c).row j := by
  obtain ⟨h, hg⟩ := cat_m m c
  refine (congrFun hg _).trans ?_
  exact lists_row (hp := pads_S1x8_S1x128_000_01200) (hu := h_S_) (V_main_arg18 m c) (V_main_arg19 m c) (V_main_arg20 m c) (by entry_read; rfl) (V_main_arg22 m c) (V_main_arg23 m c) (V_main_arg24 m c)
    (by entry_read; rfl) (by entry_read; rfl) h j

set_option maxHeartbeats 2000000 in
/-- The second moments as the call finds them. -/
theorem entry_v (j : Fin 20864) : (V m c main_v24 : S1x20864.Idx → EReal) (ix2 0 j) = (N m c).row j := by
  obtain ⟨h, hg⟩ := cat_v m c
  refine (congrFun hg _).trans ?_
  exact lists_row (hp := pads_S1x8_S1x128_000_01200) (hu := h_S_) (V_main_arg27 m c) (V_main_arg28 m c) (V_main_arg29 m c) (by entry_read; rfl) (V_main_arg31 m c) (V_main_arg32 m c) (V_main_arg33 m c)
    (by entry_read; rfl) (by entry_read; rfl) h j

end Cert.Small
-- ==== Proof.Small.lean ====
/-
  The optimiser step of the nine small weights, which lie side by side in one row.
-/
module

public import proofs.«01_k».proof.Defs
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallIdeal.Value
public import proofs.«01_k».proof.Proof.Gen.SmallReferenceIdeal
public import proofs.«01_k».proof.Proof.Gen.SmallReferenceIdeal.Run
public import Idealize.ShloMosaic.Lib.Pipeline.ValueKit
public import Idealize.ShloMosaic.Lib.Quiescent
public import Idealize.ShloMosaic.Lib.Pointwise
public import proofs.«01_k».proof.Proof.SmallPay
public import proofs.«01_k».proof.Proof.SmallRef
public import proofs.«01_k».proof.Proof.SmallEntry

@[expose] public section

set_option maxRecDepth 16384

noncomputable section

namespace Cert.Small

open Idealize.ShloMosaic Idealize.ShloMosaic.TcCoe Idealize.SL.Sem
open Cert.SmallIdeal Cert.SmallIdeal.Gen Cert.SmallIdeal.Value Cert.Adam Cert.Pack

/-- The blocks of the only grid point. -/
theorem idx_in : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] := by decide +kernel

variable (m : (ℓ : Loc nD τ sig) → Buf (Elt Ideal) ℓ) (c : Dev nD)

set_option maxHeartbeats 1000000 in
/-- The block of the gradients is the whole of them. -/
theorem iblk_g (t : Fin cfg0.N) (e : Fin 8) (j : Fin 20864) :
    (iblk m c 0 t : S8x20864.Idx → EReal) (ix2 e j) = (G m c e).row j := by
  have h : ((cfg0.win 0).blk t).view.emb (ix2 e j) = (ix2 e j : S8x20864.Idx) := by blk_ext [idx_in t]
  blk_simp [iblk]
  exact (congrArg _ h).trans (entry_g m c e j)
set_option maxHeartbeats 1000000 in
/-- The block of the weights is the whole of them. -/
theorem iblk_w (t : Fin cfg0.N) (j : Fin 20864) : (iblk m c 1 t : S1x20864.Idx → EReal) (ix2 0 j) = (W m c).row j := by
  have h : ((cfg0.win 1).blk t).view.emb (ix2 0 j) = (ix2 0 j : S1x20864.Idx) := by blk_ext [idx_in t]
  blk_simp [iblk]
  exact (congrArg _ h).trans (entry_w m c j)
set_option maxHeartbeats 1000000 in
/-- The block of the first moments is the whole of them. -/
theorem iblk_m (t : Fin cfg0.N) (j : Fin 20864) : (iblk m c 2 t : S1x20864.Idx → EReal) (ix2 0 j) = (M m c).row j := by
  have h : ((cfg0.win 2).blk t).view.emb (ix2 0 j) = (ix2 0 j : S1x20864.Idx) := by blk_ext [idx_in t]
  blk_simp [iblk]
  exact (congrArg _ h).trans (entry_m m c j)
set_option maxHeartbeats 1000000 in
/-- The block of the second moments is the whole of them. -/
theorem iblk_v (t : Fin cfg0.N) (j : Fin 20864) : (iblk m c 3 t : S1x20864.Idx → EReal) (ix2 0 j) = (N m c).row j := by
  have h : ((cfg0.win 3).blk t).view.emb (ix2 0 j) = (ix2 0 j : S1x20864.Idx) := by blk_ext [idx_in t]
  blk_simp [iblk]
  exact (congrArg _ h).trans (entry_v m c j)

/-- The summed gradients. -/
def Total : S1x20864.Idx → EReal := fun y => ∑ e, (G m c e).row (y 1)
/-- The change of the weights. -/
def Delta : S1x20864.Idx → EReal := fun y => delta ((W m c).row (y 1)) (Total m c y) ((M m c).row (y 1)) ((N m c).row (y 1))
/-- The new first moments. -/
def M' : S1x20864.Idx → EReal := fun y => newM (Total m c y) ((M m c).row (y 1))
/-- The new second moments. -/
def N' : S1x20864.Idx → EReal := fun y => newV (Total m c y) ((N m c).row (y 1))

/-- An index of a row. -/
theorem ix_row (y : S1x20864.Idx) : ∃ j : Fin 20864, y = ix2 0 j := by
  refine ⟨y 1, (eq_ix2 y).trans ?_⟩
  have h : y 0 = (0 : Fin 1) := Fin.ext (by have := (show Fin 1 from y 0).isLt; show (show Fin 1 from y 0).val = 0; omega)
  rw [h]

/-- The sum of the rows of the gradients. -/
theorem total_at (x : S8x20864.Idx → EReal) (h : ∀ e j, x (ix2 e j) = (G m c e).row j) (j : Fin 20864) :
    (∑ e : Fin 8, x (ix2 e j)) = Total m c (ix2 0 j) :=
  Finset.sum_congr rfl fun e _ => h e j

set_option maxHeartbeats 2000000 in
/-- The first result is the summed gradients. -/
theorem arr_grad : (dats m 0 c).arrAt 4 cfg0.N = Total m c := by
  refine (dats m 0 c).arrAt_eq_of_covers 4 _ (by decide +kernel) fun t hf y => ?_
  blk_simp
  rw [after0_4]
  revert y; intro (y : S1x20864.Idx)
  obtain ⟨j, rfl⟩ := ix_row y
  have e : ((cfg0.win 4).blk t).view.emb (ix2 0 j) = (ix2 0 j : S1x20864.Idx) := by blk_ext [idx_in t]
  refine Eq.trans ?_ (congrArg _ e.symm)
  frame_out
  exact (store_grad (iblk m c 0 t) (iblk m c 1 t) (iblk m c 2 t) (iblk m c 3 t) j).trans (total_at m c (iblk m c 0 t) (iblk_g m c t) j)

set_option maxHeartbeats 2000000 in
/-- The second result is the change of the weights. -/
theorem arr_delta : (dats m 0 c).arrAt 5 cfg0.N = Delta m c := by
  refine (dats m 0 c).arrAt_eq_of_covers 5 _ (by decide +kernel) fun t hf y => ?_
  blk_simp
  rw [after0_5]
  revert y; intro (y : S1x20864.Idx)
  obtain ⟨j, rfl⟩ := ix_row y
  have e : ((cfg0.win 5).blk t).view.emb (ix2 0 j) = (ix2 0 j : S1x20864.Idx) := by blk_ext [idx_in t]
  refine Eq.trans ?_ (congrArg _ e.symm)
  frame_out
  refine (store_delta (iblk m c 0 t) (iblk m c 1 t) (iblk m c 2 t) (iblk m c 3 t) j).trans ?_
  show _ = delta ((W m c).row j) (Total m c (ix2 0 j)) ((M m c).row j) ((N m c).row j)
  rw [← iblk_w m c t j, ← total_at m c (iblk m c 0 t) (iblk_g m c t) j, ← iblk_m m c t j, ← iblk_v m c t j]

set_option maxHeartbeats 2000000 in
/-- The third result is the new first moments. -/
theorem arr_m : (dats m 0 c).arrAt 6 cfg0.N = M' m c := by
  refine (dats m 0 c).arrAt_eq_of_covers 6 _ (by decide +kernel) fun t hf y => ?_
  blk_simp
  rw [after0_6]
  revert y; intro (y : S1x20864.Idx)
  obtain ⟨j, rfl⟩ := ix_row y
  have e : ((cfg0.win 6).blk t).view.emb (ix2 0 j) = (ix2 0 j : S1x20864.Idx) := by blk_ext [idx_in t]
  refine Eq.trans ?_ (congrArg _ e.symm)
  frame_out
  exact (store_m (iblk m c 0 t) (iblk m c 1 t) (iblk m c 2 t) (iblk m c 3 t) j).trans (congrArg₂ newM (total_at m c (iblk m c 0 t) (iblk_g m c t) j) (iblk_m m c t j))

set_option maxHeartbeats 2000000 in
/-- The fourth result is the new second moments. -/
theorem arr_v : (dats m 0 c).arrAt 7 cfg0.N = N' m c := by
  refine (dats m 0 c).arrAt_eq_of_covers 7 _ (by decide +kernel) fun t hf y => ?_
  blk_simp
  rw [after0_7]
  revert y; intro (y : S1x20864.Idx)
  obtain ⟨j, rfl⟩ := ix_row y
  have e : ((cfg0.win 7).blk t).view.emb (ix2 0 j) = (ix2 0 j : S1x20864.Idx) := by blk_ext [idx_in t]
  refine Eq.trans ?_ (congrArg _ e.symm)
  frame_out
  exact (store_v (iblk m c 0 t) (iblk m c 1 t) (iblk m c 2 t) (iblk m c 3 t) j).trans (congrArg₂ newV (total_at m c (iblk m c 0 t) (iblk_g m c t) j) (iblk_v m c t j))

/-- The reference runs, leaves its arguments alone and ends with every counter at zero. -/
theorem frame_reference : Cert.quiescent_SmallReferenceIdeal := SmallRef.frame_reference

set_option maxHeartbeats 2000000 in
/-- Over the real numbers the kernel and the reference compute the same sums, changes and moments. -/
theorem equal : Cert.algebraic_SmallIdeal_SmallReferenceIdeal := by
  intro m ρ m' ρ' _ hag
  refine ⟨fun c => Total m c, fun c => Delta m c, fun c => M' m c, fun c => N' m c, ?_, ?_⟩
  · refine (θ_run _ _ _).mono (fun r h c => ?_) (SmallIdeal.Value.run_blocks m ρ)
    obtain ⟨h0, h1, h2, h3, hargs⟩ := h c
    exact ⟨h0.trans (arr_grad m c), h1.trans (arr_delta m c), h2.trans (arr_m m c), h3.trans (arr_v m c), hargs⟩
  · refine (θ_run _ _ _).mono (fun r h c => ?_) (SmallReferenceIdeal.Value.run m' ρ')
    obtain ⟨h0, h1, h2, h3, hargs⟩ := h c
    obtain ⟨e0, e1, e2, e3, e4, e5, e6, e7, e8, e9, e10, e11, e12, e13, e14, e15, e16, e17,
      e18, e19, e20, e21, e22, e23, e24, e25, e26, e27, e28, e29, e30, e31, e32, e33, e34, e35⟩ := hag c
    have s (j : Fin 20864) : SmallRef.sums m' c (ix2 0 j) = Total m c (ix2 0 j) := by
      rw [SmallRef.sums_at, e0, e1, e2, e3, e4, e5, e6, e7, e8]; rfl
    have w (j : Fin 20864) : SmallRef.weights m' c (ix2 0 j) = (W m c).row j := by
      rw [SmallRef.weights_at, e9, e10, e11, e12, e13, e14, e15, e16, e17]; rfl
    have f (j : Fin 20864) : SmallRef.firsts m' c (ix2 0 j) = (M m c).row j := by
      rw [SmallRef.firsts_at, e18, e19, e20, e21, e22, e23, e24, e25, e26]; rfl
    have q (j : Fin 20864) : SmallRef.seconds m' c (ix2 0 j) = (N m c).row j := by
      rw [SmallRef.seconds_at, e27, e28, e29, e30, e31, e32, e33, e34, e35]; rfl
    refine ⟨h0.trans (funext fun y => ?_), (h1.trans (SmallRef.delta_eq m' c)).trans (funext fun y => ?_),
      (h2.trans (SmallRef.m_eq m' c)).trans (funext fun y => ?_), (h3.trans (SmallRef.v_eq m' c)).trans (funext fun y => ?_), hargs⟩
      <;> obtain ⟨j, rfl⟩ := ix_row y
    · exact s j
    · show delta _ _ _ _ = delta ((W m c).row j) (Total m c (ix2 0 j)) ((M m c).row j) ((N m c).row j)
      rw [s, w, f, q]
    · exact congrArg₂ newM (s j) (f j)
    · exact congrArg₂ newV (s j) (q j)

end Cert.Small
-- ==== Proof.lean ====
/-
  The proof of `Cert.Claim`: the kernels' frames are the generated ones, the references' frames and the equations over the
  real numbers come from `Proof.Equal` and from the module of each call.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Equal
public import Idealize.ShloMosaic.Adequacy
public import Idealize.ShloMosaic.Init
public import proofs.«01_k».proof.Proof.Up
public import proofs.«01_k».proof.Proof.UpDx
public import proofs.«01_k».proof.Proof.UpDw
public import proofs.«01_k».proof.Proof.Down
public import proofs.«01_k».proof.Proof.DownDx
public import proofs.«01_k».proof.Proof.DownDw
public import proofs.«01_k».proof.Proof.OutMm
public import proofs.«01_k».proof.Proof.OutDx
public import proofs.«01_k».proof.Proof.OutDw
public import proofs.«01_k».proof.Proof.Branch
public import proofs.«01_k».proof.Proof.BranchDx
public import proofs.«01_k».proof.Proof.BranchDw
public import proofs.«01_k».proof.Proof.In
public import proofs.«01_k».proof.Proof.InDx
public import proofs.«01_k».proof.Proof.InDw
public import proofs.«01_k».proof.Proof.Ada
public import proofs.«01_k».proof.Proof.Small

@[expose] public section

noncomputable section

namespace Cert.Proof

open Idealize.ShloMosaic Idealize.SL.Sem Cert.Kernel

/-- Every claim: the frames, that idealizing preserves the kernels, and the equations over the real numbers. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.UpDx.Gen.facts, Cert.UpDxIdeal.Gen.facts, Cert.UpDxReferenceIdeal.Gen.facts,
  Cert.UpDw.Gen.facts, Cert.UpDwIdeal.Gen.facts, Cert.UpDwReferenceIdeal.Gen.facts,
  Cert.Down.Gen.facts, Cert.DownIdeal.Gen.facts, Cert.DownReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.OutMm.Gen.facts, Cert.OutMmIdeal.Gen.facts, Cert.OutMmReferenceIdeal.Gen.facts,
  Cert.OutDx.Gen.facts, Cert.OutDxIdeal.Gen.facts, Cert.OutDxReferenceIdeal.Gen.facts,
  Cert.OutDw.Gen.facts, Cert.OutDwIdeal.Gen.facts, Cert.OutDwReferenceIdeal.Gen.facts,
  Cert.Branch.Gen.facts, Cert.BranchIdeal.Gen.facts, Cert.BranchReferenceIdeal.Gen.facts,
  Cert.BranchDx.Gen.facts, Cert.BranchDxIdeal.Gen.facts, Cert.BranchDxReferenceIdeal.Gen.facts,
  Cert.BranchDw.Gen.facts, Cert.BranchDwIdeal.Gen.facts, Cert.BranchDwReferenceIdeal.Gen.facts,
  Cert.In.Gen.facts, Cert.InIdeal.Gen.facts, Cert.InReferenceIdeal.Gen.facts,
  Cert.InDx.Gen.facts, Cert.InDxIdeal.Gen.facts, Cert.InDxReferenceIdeal.Gen.facts,
  Cert.InDw.Gen.facts, Cert.InDwIdeal.Gen.facts, Cert.InDwReferenceIdeal.Gen.facts,
  Cert.Ada.Gen.facts, Cert.AdaIdeal.Gen.facts, Cert.AdaReferenceIdeal.Gen.facts,
  Cert.Small.Gen.facts, Cert.SmallIdeal.Gen.facts, Cert.SmallReferenceIdeal.Gen.facts,
  Cert.Delta.Finite.facts, fun m ρ _ => Cert.Kernel.Gen.frame m ρ, fun m ρ _ => Cert.KernelIdeal.Gen.frame m ρ,
  fun m ρ _ => Cert.KernelIdeal.Gen.frame m ρ, Cert.Delta.frame_reference, fun m ρ _ => Cert.Delta.frame_reference m ρ trivial,
  fun m ρ _ => Cert.Up.Gen.frame m ρ, fun m ρ _ => Cert.UpIdeal.Gen.frame m ρ, Cert.Up.frame_reference,
  fun m ρ _ => Cert.UpDx.Gen.frame m ρ, fun m ρ _ => Cert.UpDxIdeal.Gen.frame m ρ, Cert.UpDx.frame_reference,
  fun m ρ _ => Cert.UpDw.Gen.frame m ρ, fun m ρ _ => Cert.UpDwIdeal.Gen.frame m ρ, Cert.UpDw.frame_reference,
  fun m ρ _ => Cert.Down.Gen.frame m ρ, fun m ρ _ => Cert.DownIdeal.Gen.frame m ρ, Cert.Down.frame_reference,
  fun m ρ _ => Cert.DownDx.Gen.frame m ρ, fun m ρ _ => Cert.DownDxIdeal.Gen.frame m ρ, Cert.DownDx.frame_reference,
  fun m ρ _ => Cert.DownDw.Gen.frame m ρ, fun m ρ _ => Cert.DownDwIdeal.Gen.frame m ρ, Cert.DownDw.frame_reference,
  fun m ρ _ => Cert.OutMm.Gen.frame m ρ, fun m ρ _ => Cert.OutMmIdeal.Gen.frame m ρ, Cert.OutMm.frame_reference,
  fun m ρ _ => Cert.OutDx.Gen.frame m ρ, fun m ρ _ => Cert.OutDxIdeal.Gen.frame m ρ, Cert.OutDx.frame_reference,
  fun m ρ _ => Cert.OutDw.Gen.frame m ρ, fun m ρ _ => Cert.OutDwIdeal.Gen.frame m ρ, Cert.OutDw.frame_reference,
  fun m ρ _ => Cert.Branch.Gen.frame m ρ, fun m ρ _ => Cert.BranchIdeal.Gen.frame m ρ, Cert.Branch.frame_reference,
  fun m ρ _ => Cert.BranchDx.Gen.frame m ρ, fun m ρ _ => Cert.BranchDxIdeal.Gen.frame m ρ, Cert.BranchDx.frame_reference,
  fun m ρ _ => Cert.BranchDw.Gen.frame m ρ, fun m ρ _ => Cert.BranchDwIdeal.Gen.frame m ρ, Cert.BranchDw.frame_reference,
  fun m ρ _ => Cert.In.Gen.frame m ρ, fun m ρ _ => Cert.InIdeal.Gen.frame m ρ, Cert.In.frame_reference,
  fun m ρ _ => Cert.InDx.Gen.frame m ρ, fun m ρ _ => Cert.InDxIdeal.Gen.frame m ρ, Cert.InDx.frame_reference,
  fun m ρ _ => Cert.InDw.Gen.frame m ρ, fun m ρ _ => Cert.InDwIdeal.Gen.frame m ρ, Cert.InDw.frame_reference,
  fun m ρ _ => Cert.Ada.Gen.frame m ρ, fun m ρ _ => Cert.AdaIdeal.Gen.frame m ρ, Cert.Ada.frame_reference,
  fun m ρ _ => Cert.Small.Gen.frame m ρ, fun m ρ _ => Cert.SmallIdeal.Gen.frame m ρ, Cert.Small.frame_reference,
  trivial, Cert.Delta.equal,
  trivial, Cert.Up.equal,
  trivial, Cert.UpDx.equal,
  trivial, Cert.UpDw.equal,
  trivial, Cert.Down.equal,
  trivial, Cert.DownDx.equal,
  trivial, Cert.DownDw.equal,
  trivial, Cert.OutMm.equal,
  trivial, Cert.OutDx.equal,
  trivial, Cert.OutDw.equal,
  trivial, Cert.Branch.equal,
  trivial, Cert.BranchDx.equal,
  trivial, Cert.BranchDw.equal,
  trivial, Cert.In.equal,
  trivial, Cert.InDx.equal,
  trivial, Cert.InDw.equal,
  trivial, Cert.Ada.equal,
  trivial, Cert.Small.equal⟩

end Cert.Proof

end
